-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v33)) (v2 : (c : Dev Cert.KernelIdeal.nD) → Buf (Elt Ideal) ((c.tc : Thread Cert.KernelIdeal.nD Cert.KernelIdeal.τ).loc Cert.KernelIdeal.main_v19_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v33) = v1 c
          ∧ r.2.mem ((c.tc : Thread Cert.KernelIdeal.nD Cert.KernelIdeal.τ).loc Cert.KernelIdeal.main_v19_0) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_v50) = v1 c
          ∧ r.2.mem ((c.tc : Thread Cert.ReferenceIdeal.nD Cert.ReferenceIdeal.τ).loc Cert.ReferenceIdeal.main_values) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
-- ==== Pre_finite_inputs.lean ====
abbrev S2x4096x512 : Shape := ⟨3, ![2, 4096, 512]⟩
abbrev S2x8192 : Shape := ⟨2, ![2, 8192]⟩
abbrev S512x512 : Shape := ⟨2, ![512, 512]⟩
abbrev S_ : Shape := ⟨0, ![]⟩

class Facts : Prop where
  bcast_S_S2x4096x512 : S_.BroadcastsInDim S2x4096x512 (![] : Fin 0 → Fin S2x4096x512.rank)
  reducesTo_S2x4096x512_S_d0_1_2 : S2x4096x512.ReducesTo [0, 1, 2] S_
  h_S_ : 0 < S_.numel
  bcast_S_S512x512 : S_.BroadcastsInDim S512x512 (![] : Fin 0 → Fin S512x512.rank)
  reducesTo_S512x512_S_d0_1 : S512x512.ReducesTo [0, 1] S_

variable [Facts]

def fn {F : FTy → Type} [FloatOps F] (main_arg0 : FVec F S2x4096x512 .f32) (main_arg1 : IVec S2x8192 32) (main_arg2 : FVec F S512x512 .f32) (main_arg3 : FVec F S_ .f32) : IVec S_ 1 :=
  let main_v0 : FVec F S2x4096x512 .f32 := Host.absf main_arg0
  let main_cst : FVec F S_ .f32 := constant S_ .f32 0x7F800000#32
  let main_v1 : FVec F S2x4096x512 .f32 := broadcastInDim S2x4096x512 ![] bcast_S_S2x4096x512 main_cst
  let main_v2 : IVec S2x4096x512 1 := cmpf .olt main_v0 main_v1
  let main_c : IVec S_ 1 := constantI S_ 1 1#1
  let main_v3 : IVec S_ 1 := (fun x v => Host.reduce IntOp.andi x v reducesTo_S2x4096x512_S_d0_1_2 h_S_) main_v2 main_c
  let main_v4 : FVec F S512x512 .f32 := Host.absf main_arg2
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  main_v8
-- ==== Kernel.lean ====
abbrev S2x4096x512 : Shape := ⟨3, ![2, 4096, 512]⟩
abbrev S2x8192 : Shape := ⟨2, ![2, 8192]⟩
abbrev S512x512 : Shape := ⟨2, ![512, 512]⟩
abbrev S_ : Shape := ⟨0, ![]⟩
abbrev S8192x512 : Shape := ⟨2, ![8192, 512]⟩
abbrev S1 : Shape := ⟨1, ![1]⟩
abbrev S2 : Shape := ⟨1, ![2]⟩
abbrev S1x1x1 : Shape := ⟨3, ![1, 1, 1]⟩
abbrev S2x4096x4096 : Shape := ⟨3, ![2, 4096, 4096]⟩
abbrev S1x1 : Shape := ⟨2, ![1, 1]⟩
abbrev S2x4096x16 : Shape := ⟨3, ![2, 4096, 16]⟩
abbrev S1x256x512 : Shape := ⟨3, ![1, 256, 512]⟩
abbrev S1x4096x512 : Shape := ⟨3, ![1, 4096, 512]⟩
abbrev S1x256x4096 : Shape := ⟨3, ![1, 256, 4096]⟩
abbrev S1x256x16 : Shape := ⟨3, ![1, 256, 16]⟩
abbrev S256x512 : Shape := ⟨2, ![256, 512]⟩
abbrev S4096x512 : Shape := ⟨2, ![4096, 512]⟩
abbrev S256x4096 : Shape := ⟨2, ![256, 4096]⟩
abbrev S256 : Shape := ⟨1, ![256]⟩
abbrev S4096 : Shape := ⟨1, ![4096]⟩
abbrev S256x1 : Shape := ⟨2, ![256, 1]⟩
abbrev S1x4096 : Shape := ⟨2, ![1, 4096]⟩
abbrev S256x16 : Shape := ⟨2, ![256, 16]⟩
abbrev S1x4096x1 : Shape := ⟨3, ![1, 4096, 1]⟩
abbrev S2x1x1 : Shape := ⟨3, ![2, 1, 1]⟩
abbrev S131072 : Shape := ⟨1, ![131072]⟩
abbrev S1x131072 : Shape := ⟨2, ![1, 131072]⟩
abbrev S2x131072 : Shape := ⟨2, ![2, 131072]⟩

abbrev nBuf : Space → Nat
  | .hbm => 317
  | .vmem => 15
  | .smem => 1
  | _ => 0

abbrev hbmTy0_0 (i : Nat) : BufTy := match i % 128 with
  | 0 => ⟨S2x4096x512, .f32⟩
  | 1 => ⟨S2x8192, .i32⟩
  | 2 => ⟨S512x512, .f32⟩
  | 3 => ⟨S_, .f32⟩
  | 4 => ⟨S8192x512, .f32⟩
  | 5 => ⟨S8192x512, .f32⟩
  | 6 => ⟨S2x4096x512, .f32⟩
  | 7 => ⟨S_, .i32⟩
  | 8 => ⟨S_, .i32⟩
  | 9 => ⟨S_, .i32⟩
  | 10 => ⟨S_, .i32⟩
  | 11 => ⟨S1, .i32⟩
  | 12 => ⟨S_, .i32⟩
  | 13 => ⟨S_, .i32⟩
  | 14 => ⟨S_, .i32⟩
  | 15 => ⟨S1, .i32⟩
  | 16 => ⟨S2, .i32⟩
  | 17 => ⟨S_, .f32⟩
  | 18 => ⟨S_, .f32⟩
  | 19 => ⟨S_, .f32⟩
  | 20 => ⟨S_, .f32⟩
  | 21 => ⟨S1x1x1, .f32⟩
  | 22 => ⟨S1x1x1, .f32⟩
  | 23 => ⟨S1, .i32⟩
  | 24 => ⟨S_, .i32⟩
  | 25 => ⟨S1, .i32⟩
  | 26 => ⟨S_, .i32⟩
  | 27 => ⟨S2x4096x4096, .i64⟩
  | 28 => ⟨S2x4096x4096, .i64⟩
  | 29 => ⟨S2x4096x4096, .i64⟩
  | 30 => ⟨S_, .i64⟩
  | 31 => ⟨S2x4096x4096, .i64⟩
  | 32 => ⟨S2x4096x4096, .i64⟩
  | 33 => ⟨S_, .i64⟩
  | 34 => ⟨S2x4096x4096, .i64⟩
  | 35 => ⟨S2x4096x4096, .i64⟩
  | 36 => ⟨S_, .i64⟩
  | 37 => ⟨S2x4096x4096, .i64⟩
  | 38 => ⟨S2x4096x4096, .i64⟩
  | 39 => ⟨S2x4096x4096, .i64⟩
  | 40 => ⟨S2x4096x4096, .i64⟩
  | 41 => ⟨S_, .i64⟩
  | 42 => ⟨S2x4096x4096, .i64⟩
  | 43 => ⟨S2x4096x4096, .i64⟩
  | 44 => ⟨S2x4096x4096, .i32⟩
  | 45 => ⟨S2x4096x4096, .i32⟩
  | 46 => ⟨S_, .i32⟩
  | 47 => ⟨S_, .i32⟩
  | 48 => ⟨S_, .i32⟩
  | 49 => ⟨S2x4096x4096, .i32⟩
  | 50 => ⟨S2x4096x4096, .i32⟩
  | 51 => ⟨S2x4096x4096, .i32⟩
  | 52 => ⟨S2x4096x4096, .i32⟩
  | 53 => ⟨S2x4096x4096, .i32⟩
  | 54 => ⟨S_, .i32⟩
  | 55 => ⟨S2x4096x4096, .i32⟩
  | 56 => ⟨S2x4096x4096, .i32⟩
  | 57 => ⟨S_, .i32⟩
  | 58 => ⟨S2x4096x4096, .i32⟩
  | 59 => ⟨S2x4096x4096, .i32⟩
  | 60 => ⟨S2x4096x4096, .i32⟩
  | 61 => ⟨S2x4096x4096, .i32⟩
  | 62 => ⟨S2x4096x4096, .i32⟩
  | 63 => ⟨S_, .i32⟩
  | 64 => ⟨S2x4096x4096, .i32⟩
  | 65 => ⟨S2x4096x4096, .i32⟩
  | 66 => ⟨S_, .i32⟩
  | 67 => ⟨S2x4096x4096, .i32⟩
  | 68 => ⟨S2x4096x4096, .i32⟩
  | 69 => ⟨S2x4096x4096, .i32⟩
  | 70 => ⟨S2x4096x4096, .i32⟩
  | 71 => ⟨S2x4096x4096, .i32⟩
  | 72 => ⟨S_, .i32⟩
  | 73 => ⟨S2x4096x4096, .i32⟩
  | 74 => ⟨S2x4096x4096, .i32⟩
  | 75 => ⟨S_, .i32⟩
  | 76 => ⟨S2x4096x4096, .i32⟩
  | 77 => ⟨S2x4096x4096, .i32⟩
  | 78 => ⟨S2x4096x4096, .i32⟩
  | 79 => ⟨S2x4096x4096, .i32⟩
  | 80 => ⟨S2x4096x4096, .i32⟩
  | 81 => ⟨S_, .i32⟩
  | 82 => ⟨S2x4096x4096, .i32⟩
  | 83 => ⟨S2x4096x4096, .i32⟩
  | 84 => ⟨S_, .i32⟩
  | 85 => ⟨S2x4096x4096, .i32⟩
  | 86 => ⟨S2x4096x4096, .i32⟩
  | 87 => ⟨S2x4096x4096, .i32⟩
  | 88 => ⟨S2x4096x4096, .i32⟩
  | 89 => ⟨S2x4096x4096, .i32⟩
  | 90 => ⟨S2x4096x4096, .i32⟩
  | 91 => ⟨S2x4096x4096, .i32⟩
  | 92 => ⟨S2x4096x4096, .i32⟩
  | 93 => ⟨S_, .i32⟩
  | 94 => ⟨S2x4096x4096, .i32⟩
  | 95 => ⟨S2x4096x4096, .i32⟩
  | 96 => ⟨S2x4096x4096, .i32⟩
  | 97 => ⟨S_, .i32⟩
  | 98 => ⟨S2x4096x4096, .i32⟩
  | 99 => ⟨S2x4096x4096, .i32⟩
  | 100 => ⟨S_, .i32⟩
  | 101 => ⟨S2x4096x4096, .i32⟩
  | 102 => ⟨S2x4096x4096, .i32⟩
  | 103 => ⟨S2x4096x4096, .i32⟩
  | 104 => ⟨S2x4096x4096, .i32⟩
  | 105 => ⟨S2x4096x4096, .i32⟩
  | 106 => ⟨S_, .i32⟩
  | 107 => ⟨S2x4096x4096, .i32⟩
  | 108 => ⟨S2x4096x4096, .i32⟩
  | 109 => ⟨S_, .i32⟩
  | 110 => ⟨S2x4096x4096, .i32⟩
  | 111 => ⟨S2x4096x4096, .i32⟩
  | 112 => ⟨S2x4096x4096, .i32⟩
  | 113 => ⟨S2x4096x4096, .i32⟩
  | 114 => ⟨S2x4096x4096, .i32⟩
  | 115 => ⟨S_, .i32⟩
  | 116 => ⟨S2x4096x4096, .i32⟩
  | 117 => ⟨S2x4096x4096, .i32⟩
  | 118 => ⟨S_, .i32⟩
  | 119 => ⟨S2x4096x4096, .i32⟩
  | 120 => ⟨S2x4096x4096, .i32⟩
  | 121 => ⟨S2x4096x4096, .i32⟩
  | 122 => ⟨S2x4096x4096, .i32⟩
  | 123 => ⟨S2x4096x4096, .i32⟩
  | 124 => ⟨S_, .i32⟩
  | 125 => ⟨S2x4096x4096, .i32⟩
  | 126 => ⟨S2x4096x4096, .i32⟩
  | 127 => ⟨S_, .i32⟩
  | _ => ⟨S2x4096x512, .f32⟩

abbrev hbmTy0_1 (i : Nat) : BufTy := match i % 128 with
  | 0 => ⟨S2x4096x4096, .i32⟩
  | 1 => ⟨S2x4096x4096, .i32⟩
  | 2 => ⟨S2x4096x4096, .i32⟩
  | 3 => ⟨S2x4096x4096, .i32⟩
  | 4 => ⟨S2x4096x4096, .i32⟩
  | 5 => ⟨S2x4096x4096, .i32⟩
  | 6 => ⟨S2x4096x4096, .i32⟩
  | 7 => ⟨S2x4096x4096, .i32⟩
  | 8 => ⟨S_, .i32⟩
  | 9 => ⟨S2x4096x4096, .i32⟩
  | 10 => ⟨S2x4096x4096, .i32⟩
  | 11 => ⟨S2x4096x4096, .i32⟩
  | 12 => ⟨S_, .i32⟩
  | 13 => ⟨S2x4096x4096, .i32⟩
  | 14 => ⟨S2x4096x4096, .i32⟩
  | 15 => ⟨S_, .i32⟩
  | 16 => ⟨S2x4096x4096, .i32⟩
  | 17 => ⟨S2x4096x4096, .i32⟩
  | 18 => ⟨S2x4096x4096, .i32⟩
  | 19 => ⟨S2x4096x4096, .i32⟩
  | 20 => ⟨S2x4096x4096, .i32⟩
  | 21 => ⟨S_, .i32⟩
  | 22 => ⟨S2x4096x4096, .i32⟩
  | 23 => ⟨S2x4096x4096, .i32⟩
  | 24 => ⟨S_, .i32⟩
  | 25 => ⟨S2x4096x4096, .i32⟩
  | 26 => ⟨S2x4096x4096, .i32⟩
  | 27 => ⟨S2x4096x4096, .i32⟩
  | 28 => ⟨S2x4096x4096, .i32⟩
  | 29 => ⟨S2x4096x4096, .i32⟩
  | 30 => ⟨S_, .i32⟩
  | 31 => ⟨S2x4096x4096, .i32⟩
  | 32 => ⟨S2x4096x4096, .i32⟩
  | 33 => ⟨S_, .i32⟩
  | 34 => ⟨S2x4096x4096, .i32⟩
  | 35 => ⟨S2x4096x4096, .i32⟩
  | 36 => ⟨S2x4096x4096, .i32⟩
  | 37 => ⟨S2x4096x4096, .i32⟩
  | 38 => ⟨S2x4096x4096, .i32⟩
  | 39 => ⟨S_, .i32⟩
  | 40 => ⟨S2x4096x4096, .i32⟩
  | 41 => ⟨S2x4096x4096, .i32⟩
  | 42 => ⟨S_, .i32⟩
  | 43 => ⟨S2x4096x4096, .i32⟩
  | 44 => ⟨S2x4096x4096, .i32⟩
  | 45 => ⟨S2x4096x4096, .i32⟩
  | 46 => ⟨S2x4096x4096, .i32⟩
  | 47 => ⟨S2x4096x4096, .i32⟩
  | 48 => ⟨S2x4096x4096, .i32⟩
  | 49 => ⟨S2x4096x4096, .i32⟩
  | 50 => ⟨S2x4096x4096, .i32⟩
  | 51 => ⟨S_, .i32⟩
  | 52 => ⟨S2x4096x4096, .i32⟩
  | 53 => ⟨S2x4096x4096, .i32⟩
  | 54 => ⟨S2x4096x4096, .i32⟩
  | 55 => ⟨S_, .i32⟩
  | 56 => ⟨S2x4096x4096, .i32⟩
  | 57 => ⟨S2x4096x4096, .i32⟩
  | 58 => ⟨S_, .i32⟩
  | 59 => ⟨S2x4096x4096, .i32⟩
  | 60 => ⟨S2x4096x4096, .i32⟩
  | 61 => ⟨S2x4096x4096, .i32⟩
  | 62 => ⟨S2x4096x4096, .i32⟩
  | 63 => ⟨S2x4096x4096, .i32⟩
  | 64 => ⟨S_, .i32⟩
  | 65 => ⟨S2x4096x4096, .i32⟩
  | 66 => ⟨S2x4096x4096, .i32⟩
  | 67 => ⟨S_, .i32⟩
  | 68 => ⟨S2x4096x4096, .i32⟩
  | 69 => ⟨S2x4096x4096, .i32⟩
  | 70 => ⟨S2x4096x4096, .i32⟩
  | 71 => ⟨S2x4096x4096, .i32⟩
  | 72 => ⟨S2x4096x4096, .i32⟩
  | 73 => ⟨S_, .i32⟩
  | 74 => ⟨S2x4096x4096, .i32⟩
  | 75 => ⟨S2x4096x4096, .i32⟩
  | 76 => ⟨S_, .i32⟩
  | 77 => ⟨S2x4096x4096, .i32⟩
  | 78 => ⟨S2x4096x4096, .i32⟩
  | 79 => ⟨S2x4096x4096, .i32⟩
  | 80 => ⟨S2x4096x4096, .i32⟩
  | 81 => ⟨S2x4096x4096, .i32⟩
  | 82 => ⟨S_, .i32⟩
  | 83 => ⟨S2x4096x4096, .i32⟩
  | 84 => ⟨S2x4096x4096, .i32⟩
  | 85 => ⟨S_, .i32⟩
  | 86 => ⟨S2x4096x4096, .i32⟩
  | 87 => ⟨S2x4096x4096, .i32⟩
  | 88 => ⟨S2x4096x4096, .i32⟩
  | 89 => ⟨S2x4096x4096, .i32⟩
  | 90 => ⟨S2x4096x4096, .i32⟩
  | 91 => ⟨S2x4096x4096, .i32⟩
  | 92 => ⟨S2x4096x4096, .i32⟩
  | 93 => ⟨S2x4096x4096, .i32⟩
  | 94 => ⟨S_, .i32⟩
  | 95 => ⟨S2x4096x4096, .i32⟩
  | 96 => ⟨S2x4096x4096, .i32⟩
  | 97 => ⟨S2x4096x4096, .i32⟩
  | 98 => ⟨S_, .i32⟩
  | 99 => ⟨S2x4096x4096, .i32⟩
  | 100 => ⟨S2x4096x4096, .i32⟩
  | 101 => ⟨S_, .i32⟩
  | 102 => ⟨S2x4096x4096, .i32⟩
  | 103 => ⟨S2x4096x4096, .i32⟩
  | 104 => ⟨S2x4096x4096, .i32⟩
  | 105 => ⟨S2x4096x4096, .i32⟩
  | 106 => ⟨S2x4096x4096, .i32⟩
  | 107 => ⟨S_, .i32⟩
  | 108 => ⟨S2x4096x4096, .i32⟩
  | 109 => ⟨S2x4096x4096, .i32⟩
  | 110 => ⟨S_, .i32⟩
  | 111 => ⟨S2x4096x4096, .i32⟩
  | 112 => ⟨S2x4096x4096, .i32⟩
  | 113 => ⟨S2x4096x4096, .i32⟩
  | 114 => ⟨S2x4096x4096, .i32⟩
  | 115 => ⟨S2x4096x4096, .i32⟩
  | 116 => ⟨S_, .i32⟩
  | 117 => ⟨S2x4096x4096, .i32⟩
  | 118 => ⟨S2x4096x4096, .i32⟩
  | 119 => ⟨S_, .i32⟩
  | 120 => ⟨S2x4096x4096, .i32⟩
  | 121 => ⟨S2x4096x4096, .i32⟩
  | 122 => ⟨S2x4096x4096, .i32⟩
  | 123 => ⟨S2x4096x4096, .i32⟩
  | 124 => ⟨S2x4096x4096, .i32⟩
  | 125 => ⟨S_, .i32⟩
  | 126 => ⟨S2x4096x4096, .i32⟩
  | 127 => ⟨S2x4096x4096, .i32⟩
  | _ => ⟨S2x4096x512, .f32⟩

abbrev hbmTy0_2 (i : Nat) : BufTy := match i % 128 with
  | 0 => ⟨S_, .i32⟩
  | 1 => ⟨S2x4096x4096, .i32⟩
  | 2 => ⟨S2x4096x4096, .i32⟩
  | 3 => ⟨S2x4096x4096, .i32⟩
  | 4 => ⟨S2x4096x4096, .i32⟩
  | 5 => ⟨S2x4096x4096, .i32⟩
  | 6 => ⟨S2x4096x4096, .i32⟩
  | 7 => ⟨S2x4096x4096, .i32⟩
  | 8 => ⟨S2x4096x4096, .i32⟩
  | 9 => ⟨S_, .i32⟩
  | 10 => ⟨S2x4096x4096, .i32⟩
  | 11 => ⟨S2x4096x4096, .i32⟩
  | 12 => ⟨S2x4096x4096, .i32⟩
  | 13 => ⟨S_, .i32⟩
  | 14 => ⟨S2x4096x4096, .i32⟩
  | 15 => ⟨S2x4096x4096, .i32⟩
  | 16 => ⟨S_, .i32⟩
  | 17 => ⟨S2x4096x4096, .i32⟩
  | 18 => ⟨S2x4096x4096, .i32⟩
  | 19 => ⟨S2x4096x4096, .f32⟩
  | 20 => ⟨S_, .f32⟩
  | 21 => ⟨S2x4096x4096, .f32⟩
  | 22 => ⟨S2x4096x4096, .f32⟩
  | 23 => ⟨S1x1x1, .f32⟩
  | 24 => ⟨S2x4096x4096, .f32⟩
  | 25 => ⟨S2x4096x4096, .f32⟩
  | 26 => ⟨S2x4096x4096, .f32⟩
  | 27 => ⟨S2x4096x4096, .f32⟩
  | 28 => ⟨S2x4096x4096, .f32⟩
  | 29 => ⟨S2x4096x4096, .f32⟩
  | 30 => ⟨S_, .f32⟩
  | 31 => ⟨S2x4096x4096, .f32⟩
  | 32 => ⟨S2x4096x4096, .f32⟩
  | 33 => ⟨S2x4096x4096, .f32⟩
  | 34 => ⟨S2x4096x4096, .f32⟩
  | 35 => ⟨S2x4096x4096, .f32⟩
  | 36 => ⟨S_, .f32⟩
  | 37 => ⟨S_, .f32⟩
  | 38 => ⟨S_, .f32⟩
  | 39 => ⟨S_, .f32⟩
  | 40 => ⟨S_, .f32⟩
  | 41 => ⟨S_, .f32⟩
  | 42 => ⟨S_, .f32⟩
  | 43 => ⟨S1x1, .f32⟩
  | 44 => ⟨S2x4096x16, .f32⟩
  | 45 => ⟨S2x4096x16, .i32⟩
  | 46 => ⟨S4096, .i32⟩
  | 47 => ⟨S1x4096x1, .i32⟩
  | 48 => ⟨S2x4096x16, .i32⟩
  | 49 => ⟨S2, .i32⟩
  | 50 => ⟨S_, .i32⟩
  | 51 => ⟨S2, .i32⟩
  | 52 => ⟨S2, .i32⟩
  | 53 => ⟨S2x1x1, .i32⟩
  | 54 => ⟨S2x4096x16, .i32⟩
  | 55 => ⟨S2x4096x16, .i32⟩
  | 56 => ⟨S131072, .i32⟩
  | 57 => ⟨S131072, .i32⟩
  | 58 => ⟨S1x131072, .i32⟩
  | 59 => ⟨S1x131072, .i32⟩
  | 60 => ⟨S2x131072, .i32⟩
  | _ => ⟨S2x4096x512, .f32⟩

abbrev hbmTy (i : Nat) : BufTy := match i / 128 with
  | 0 => hbmTy0_0 i
  | 1 => hbmTy0_1 i
  | 2 => hbmTy0_2 i
  | _ => ⟨S2x4096x512, .f32⟩

abbrev bufTy : (tb : Table) → Fin (tcTables nBuf tb) → BufTy
  | .hbm, ⟨i, _⟩ => hbmTy i
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S1x256x512, .f32⟩
  | .local _ .vmem, ⟨6, _⟩ => ⟨S1x256x512, .f32⟩
  | .local _ .vmem, ⟨7, _⟩ => ⟨S1x4096x512, .f32⟩
  | .local _ .vmem, ⟨8, _⟩ => ⟨S1x4096x512, .f32⟩
  | .local _ .vmem, ⟨9, _⟩ => ⟨S1x256x4096, .f32⟩
  | .local _ .vmem, ⟨10, _⟩ => ⟨S1x256x4096, .f32⟩
  | .local _ .vmem, ⟨11, _⟩ => ⟨S1x256x16, .f32⟩
  | .local _ .vmem, ⟨12, _⟩ => ⟨S1x256x16, .f32⟩
  | .local _ .vmem, ⟨13, _⟩ => ⟨S1x256x16, .i32⟩
  | .local _ .vmem, ⟨14, _⟩ => ⟨S1x256x16, .i32⟩
  | .local _ .smem, ⟨0, _⟩ => ⟨S1x1, .f32⟩
  | _, _ => ⟨S2x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .smem, ⟨0, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_cst_2 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_v9 : Ref sig .tc := ⟨.hbm, 28, rfl⟩
abbrev main_call0_v10 : Ref sig .tc := ⟨.hbm, 29, rfl⟩
abbrev main_call0_c : Ref sig .tc := ⟨.hbm, 30, rfl⟩
abbrev main_call0_v11 : Ref sig .tc := ⟨.hbm, 31, rfl⟩
abbrev main_call0_v12 : Ref sig .tc := ⟨.hbm, 32, rfl⟩
abbrev main_call0_c_0 : Ref sig .tc := ⟨.hbm, 33, rfl⟩
abbrev main_call0_v13 : Ref sig .tc := ⟨.hbm, 34, rfl⟩
abbrev main_call0_v14 : Ref sig .tc := ⟨.hbm, 35, rfl⟩
abbrev main_call0_c_1 : Ref sig .tc := ⟨.hbm, 36, rfl⟩
abbrev main_call0_v15 : Ref sig .tc := ⟨.hbm, 37, rfl⟩
abbrev main_call0_v16 : Ref sig .tc := ⟨.hbm, 38, rfl⟩
abbrev main_call0_v17 : Ref sig .tc := ⟨.hbm, 39, rfl⟩
abbrev main_call0_v18 : Ref sig .tc := ⟨.hbm, 40, rfl⟩
abbrev main_call0_c_2 : Ref sig .tc := ⟨.hbm, 41, rfl⟩
abbrev main_call0_v19 : Ref sig .tc := ⟨.hbm, 42, rfl⟩
abbrev main_call0_v20 : Ref sig .tc := ⟨.hbm, 43, rfl⟩
abbrev main_call0_v21 : Ref sig .tc := ⟨.hbm, 44, rfl⟩
abbrev main_call0_v22 : Ref sig .tc := ⟨.hbm, 45, rfl⟩
abbrev main_call0_call0_v0 : Ref sig .tc := ⟨.hbm, 46, rfl⟩
abbrev main_call0_call0_c : Ref sig .tc := ⟨.hbm, 47, rfl⟩
abbrev main_call0_call0_v1 : Ref sig .tc := ⟨.hbm, 48, rfl⟩
abbrev main_call0_call0_v2 : Ref sig .tc := ⟨.hbm, 49, rfl⟩
abbrev main_call0_call0_v3 : Ref sig .tc := ⟨.hbm, 50, rfl⟩
abbrev main_call0_call0_v4 : Ref sig .tc := ⟨.hbm, 51, rfl⟩
abbrev main_call0_call0_v5 : Ref sig .tc := ⟨.hbm, 52, rfl⟩
abbrev main_call0_call0_v6 : Ref sig .tc := ⟨.hbm, 53, rfl⟩
abbrev main_call0_call0_c_0 : Ref sig .tc := ⟨.hbm, 54, rfl⟩
abbrev main_call0_call0_v7 : Ref sig .tc := ⟨.hbm, 55, rfl⟩
abbrev main_call0_call0_v8 : Ref sig .tc := ⟨.hbm, 56, rfl⟩
abbrev main_call0_call0_c_1 : Ref sig .tc := ⟨.hbm, 57, rfl⟩
abbrev main_call0_call0_v9 : Ref sig .tc := ⟨.hbm, 58, rfl⟩
abbrev main_call0_call0_v10 : Ref sig .tc := ⟨.hbm, 59, rfl⟩
abbrev main_call0_call0_v11 : Ref sig .tc := ⟨.hbm, 60, rfl⟩
abbrev main_call0_call0_v12 : Ref sig .tc := ⟨.hbm, 61, rfl⟩
abbrev main_call0_call0_v13 : Ref sig .tc := ⟨.hbm, 62, rfl⟩
abbrev main_call0_call0_c_2 : Ref sig .tc := ⟨.hbm, 63, rfl⟩
abbrev main_call0_call0_v14 : Ref sig .tc := ⟨.hbm, 64, rfl⟩
abbrev main_call0_call0_v15 : Ref sig .tc := ⟨.hbm, 65, rfl⟩
abbrev main_call0_call0_c_3 : Ref sig .tc := ⟨.hbm, 66, rfl⟩
abbrev main_call0_call0_v16 : Ref sig .tc := ⟨.hbm, 67, rfl⟩
abbrev main_call0_call0_v17 : Ref sig .tc := ⟨.hbm, 68, rfl⟩
abbrev main_call0_call0_v18 : Ref sig .tc := ⟨.hbm, 69, rfl⟩
abbrev main_call0_call0_v19 : Ref sig .tc := ⟨.hbm, 70, rfl⟩
abbrev main_call0_call0_v20 : Ref sig .tc := ⟨.hbm, 71, rfl⟩
abbrev main_call0_call0_c_4 : Ref sig .tc := ⟨.hbm, 72, rfl⟩
abbrev main_call0_call0_v21 : Ref sig .tc := ⟨.hbm, 73, rfl⟩
abbrev main_call0_call0_v22 : Ref sig .tc := ⟨.hbm, 74, rfl⟩
abbrev main_call0_call0_c_5 : Ref sig .tc := ⟨.hbm, 75, rfl⟩
abbrev main_call0_call0_v23 : Ref sig .tc := ⟨.hbm, 76, rfl⟩
abbrev main_call0_call0_v24 : Ref sig .tc := ⟨.hbm, 77, rfl⟩
abbrev main_call0_call0_v25 : Ref sig .tc := ⟨.hbm, 78, rfl⟩
abbrev main_call0_call0_v26 : Ref sig .tc := ⟨.hbm, 79, rfl⟩
abbrev main_call0_call0_v27 : Ref sig .tc := ⟨.hbm, 80, rfl⟩
abbrev main_call0_call0_c_6 : Ref sig .tc := ⟨.hbm, 81, rfl⟩
abbrev main_call0_call0_v28 : Ref sig .tc := ⟨.hbm, 82, rfl⟩
abbrev main_call0_call0_v29 : Ref sig .tc := ⟨.hbm, 83, rfl⟩
abbrev main_call0_call0_c_7 : Ref sig .tc := ⟨.hbm, 84, rfl⟩
abbrev main_call0_call0_v30 : Ref sig .tc := ⟨.hbm, 85, rfl⟩
abbrev main_call0_call0_v31 : Ref sig .tc := ⟨.hbm, 86, rfl⟩
abbrev main_call0_call0_v32 : Ref sig .tc := ⟨.hbm, 87, rfl⟩
abbrev main_call0_call0_v33 : Ref sig .tc := ⟨.hbm, 88, rfl⟩
abbrev main_call0_call0_v34 : Ref sig .tc := ⟨.hbm, 89, rfl⟩
abbrev main_call0_call0_v35 : Ref sig .tc := ⟨.hbm, 90, rfl⟩
abbrev main_call0_call0_v36 : Ref sig .tc := ⟨.hbm, 91, rfl⟩
abbrev main_call0_call0_v37 : Ref sig .tc := ⟨.hbm, 92, rfl⟩
abbrev main_call0_call0_c_8 : Ref sig .tc := ⟨.hbm, 93, rfl⟩
abbrev main_call0_call0_v38 : Ref sig .tc := ⟨.hbm, 94, rfl⟩
abbrev main_call0_call0_v39 : Ref sig .tc := ⟨.hbm, 95, rfl⟩
abbrev main_call0_call0_v40 : Ref sig .tc := ⟨.hbm, 96, rfl⟩
abbrev main_call0_call0_c_9 : Ref sig .tc := ⟨.hbm, 97, rfl⟩
abbrev main_call0_call0_v41 : Ref sig .tc := ⟨.hbm, 98, rfl⟩
abbrev main_call0_call0_v42 : Ref sig .tc := ⟨.hbm, 99, rfl⟩
abbrev main_call0_call0_c_10 : Ref sig .tc := ⟨.hbm, 100, rfl⟩
abbrev main_call0_call0_v43 : Ref sig .tc := ⟨.hbm, 101, rfl⟩
abbrev main_call0_call0_v44 : Ref sig .tc := ⟨.hbm, 102, rfl⟩
abbrev main_call0_call0_v45 : Ref sig .tc := ⟨.hbm, 103, rfl⟩
abbrev main_call0_call0_v46 : Ref sig .tc := ⟨.hbm, 104, rfl⟩
abbrev main_call0_call0_v47 : Ref sig .tc := ⟨.hbm, 105, rfl⟩
abbrev main_call0_call0_c_11 : Ref sig .tc := ⟨.hbm, 106, rfl⟩
abbrev main_call0_call0_v48 : Ref sig .tc := ⟨.hbm, 107, rfl⟩
abbrev main_call0_call0_v49 : Ref sig .tc := ⟨.hbm, 108, rfl⟩
abbrev main_call0_call0_c_12 : Ref sig .tc := ⟨.hbm, 109, rfl⟩
abbrev main_call0_call0_v50 : Ref sig .tc := ⟨.hbm, 110, rfl⟩
abbrev main_call0_call0_v51 : Ref sig .tc := ⟨.hbm, 111, rfl⟩
abbrev main_call0_call0_v52 : Ref sig .tc := ⟨.hbm, 112, rfl⟩
abbrev main_call0_call0_v53 : Ref sig .tc := ⟨.hbm, 113, rfl⟩
abbrev main_call0_call0_v54 : Ref sig .tc := ⟨.hbm, 114, rfl⟩
abbrev main_call0_call0_c_13 : Ref sig .tc := ⟨.hbm, 115, rfl⟩
abbrev main_call0_call0_v55 : Ref sig .tc := ⟨.hbm, 116, rfl⟩
abbrev main_call0_call0_v56 : Ref sig .tc := ⟨.hbm, 117, rfl⟩
abbrev main_call0_call0_c_14 : Ref sig .tc := ⟨.hbm, 118, rfl⟩
abbrev main_call0_call0_v57 : Ref sig .tc := ⟨.hbm, 119, rfl⟩
abbrev main_call0_call0_v58 : Ref sig .tc := ⟨.hbm, 120, rfl⟩
abbrev main_call0_call0_v59 : Ref sig .tc := ⟨.hbm, 121, rfl⟩
abbrev main_call0_call0_v60 : Ref sig .tc := ⟨.hbm, 122, rfl⟩
abbrev main_call0_call0_v61 : Ref sig .tc := ⟨.hbm, 123, rfl⟩
abbrev main_call0_call0_c_15 : Ref sig .tc := ⟨.hbm, 124, rfl⟩
abbrev main_call0_call0_v62 : Ref sig .tc := ⟨.hbm, 125, rfl⟩
abbrev main_call0_call0_v63 : Ref sig .tc := ⟨.hbm, 126, rfl⟩
abbrev main_call0_call0_c_16 : Ref sig .tc := ⟨.hbm, 127, rfl⟩
abbrev main_call0_call0_v64 : Ref sig .tc := ⟨.hbm, 128, rfl⟩
abbrev main_call0_call0_v65 : Ref sig .tc := ⟨.hbm, 129, rfl⟩
abbrev main_call0_call0_v66 : Ref sig .tc := ⟨.hbm, 130, rfl⟩
abbrev main_call0_call0_v67 : Ref sig .tc := ⟨.hbm, 131, rfl⟩
abbrev main_call0_call0_v68 : Ref sig .tc := ⟨.hbm, 132, rfl⟩
abbrev main_call0_call0_v69 : Ref sig .tc := ⟨.hbm, 133, rfl⟩
abbrev main_call0_call0_v70 : Ref sig .tc := ⟨.hbm, 134, rfl⟩
abbrev main_call0_call0_v71 : Ref sig .tc := ⟨.hbm, 135, rfl⟩
abbrev main_call0_call0_c_17 : Ref sig .tc := ⟨.hbm, 136, rfl⟩
abbrev main_call0_call0_v72 : Ref sig .tc := ⟨.hbm, 137, rfl⟩
abbrev main_call0_call0_v73 : Ref sig .tc := ⟨.hbm, 138, rfl⟩
abbrev main_call0_call0_v74 : Ref sig .tc := ⟨.hbm, 139, rfl⟩
abbrev main_call0_call0_c_18 : Ref sig .tc := ⟨.hbm, 140, rfl⟩
abbrev main_call0_call0_v75 : Ref sig .tc := ⟨.hbm, 141, rfl⟩
abbrev main_call0_call0_v76 : Ref sig .tc := ⟨.hbm, 142, rfl⟩
abbrev main_call0_call0_c_19 : Ref sig .tc := ⟨.hbm, 143, rfl⟩
abbrev main_call0_call0_v77 : Ref sig .tc := ⟨.hbm, 144, rfl⟩
abbrev main_call0_call0_v78 : Ref sig .tc := ⟨.hbm, 145, rfl⟩
abbrev main_call0_call0_v79 : Ref sig .tc := ⟨.hbm, 146, rfl⟩
abbrev main_call0_call0_v80 : Ref sig .tc := ⟨.hbm, 147, rfl⟩
abbrev main_call0_call0_v81 : Ref sig .tc := ⟨.hbm, 148, rfl⟩
abbrev main_call0_call0_c_20 : Ref sig .tc := ⟨.hbm, 149, rfl⟩
abbrev main_call0_call0_v82 : Ref sig .tc := ⟨.hbm, 150, rfl⟩
abbrev main_call0_call0_v83 : Ref sig .tc := ⟨.hbm, 151, rfl⟩
abbrev main_call0_call0_c_21 : Ref sig .tc := ⟨.hbm, 152, rfl⟩
abbrev main_call0_call0_v84 : Ref sig .tc := ⟨.hbm, 153, rfl⟩
abbrev main_call0_call0_v85 : Ref sig .tc := ⟨.hbm, 154, rfl⟩
abbrev main_call0_call0_v86 : Ref sig .tc := ⟨.hbm, 155, rfl⟩
abbrev main_call0_call0_v87 : Ref sig .tc := ⟨.hbm, 156, rfl⟩
abbrev main_call0_call0_v88 : Ref sig .tc := ⟨.hbm, 157, rfl⟩
abbrev main_call0_call0_c_22 : Ref sig .tc := ⟨.hbm, 158, rfl⟩
abbrev main_call0_call0_v89 : Ref sig .tc := ⟨.hbm, 159, rfl⟩
abbrev main_call0_call0_v90 : Ref sig .tc := ⟨.hbm, 160, rfl⟩
abbrev main_call0_call0_c_23 : Ref sig .tc := ⟨.hbm, 161, rfl⟩
abbrev main_call0_call0_v91 : Ref sig .tc := ⟨.hbm, 162, rfl⟩
abbrev main_call0_call0_v92 : Ref sig .tc := ⟨.hbm, 163, rfl⟩
abbrev main_call0_call0_v93 : Ref sig .tc := ⟨.hbm, 164, rfl⟩
abbrev main_call0_call0_v94 : Ref sig .tc := ⟨.hbm, 165, rfl⟩
abbrev main_call0_call0_v95 : Ref sig .tc := ⟨.hbm, 166, rfl⟩
abbrev main_call0_call0_c_24 : Ref sig .tc := ⟨.hbm, 167, rfl⟩
abbrev main_call0_call0_v96 : Ref sig .tc := ⟨.hbm, 168, rfl⟩
abbrev main_call0_call0_v97 : Ref sig .tc := ⟨.hbm, 169, rfl⟩
abbrev main_call0_call0_c_25 : Ref sig .tc := ⟨.hbm, 170, rfl⟩
abbrev main_call0_call0_v98 : Ref sig .tc := ⟨.hbm, 171, rfl⟩
abbrev main_call0_call0_v99 : Ref sig .tc := ⟨.hbm, 172, rfl⟩
abbrev main_call0_call0_v100 : Ref sig .tc := ⟨.hbm, 173, rfl⟩
abbrev main_call0_call0_v101 : Ref sig .tc := ⟨.hbm, 174, rfl⟩
abbrev main_call0_call0_v102 : Ref sig .tc := ⟨.hbm, 175, rfl⟩
abbrev main_call0_call0_v103 : Ref sig .tc := ⟨.hbm, 176, rfl⟩
abbrev main_call0_call0_v104 : Ref sig .tc := ⟨.hbm, 177, rfl⟩
abbrev main_call0_call0_v105 : Ref sig .tc := ⟨.hbm, 178, rfl⟩
abbrev main_call0_call0_c_26 : Ref sig .tc := ⟨.hbm, 179, rfl⟩
abbrev main_call0_call0_v106 : Ref sig .tc := ⟨.hbm, 180, rfl⟩
abbrev main_call0_call0_v107 : Ref sig .tc := ⟨.hbm, 181, rfl⟩
abbrev main_call0_call0_v108 : Ref sig .tc := ⟨.hbm, 182, rfl⟩
abbrev main_call0_call0_c_27 : Ref sig .tc := ⟨.hbm, 183, rfl⟩
abbrev main_call0_call0_v109 : Ref sig .tc := ⟨.hbm, 184, rfl⟩
abbrev main_call0_call0_v110 : Ref sig .tc := ⟨.hbm, 185, rfl⟩
abbrev main_call0_call0_c_28 : Ref sig .tc := ⟨.hbm, 186, rfl⟩
abbrev main_call0_call0_v111 : Ref sig .tc := ⟨.hbm, 187, rfl⟩
abbrev main_call0_call0_v112 : Ref sig .tc := ⟨.hbm, 188, rfl⟩
abbrev main_call0_call0_v113 : Ref sig .tc := ⟨.hbm, 189, rfl⟩
abbrev main_call0_call0_v114 : Ref sig .tc := ⟨.hbm, 190, rfl⟩
abbrev main_call0_call0_v115 : Ref sig .tc := ⟨.hbm, 191, rfl⟩
abbrev main_call0_call0_c_29 : Ref sig .tc := ⟨.hbm, 192, rfl⟩
abbrev main_call0_call0_v116 : Ref sig .tc := ⟨.hbm, 193, rfl⟩
abbrev main_call0_call0_v117 : Ref sig .tc := ⟨.hbm, 194, rfl⟩
abbrev main_call0_call0_c_30 : Ref sig .tc := ⟨.hbm, 195, rfl⟩
abbrev main_call0_call0_v118 : Ref sig .tc := ⟨.hbm, 196, rfl⟩
abbrev main_call0_call0_v119 : Ref sig .tc := ⟨.hbm, 197, rfl⟩
abbrev main_call0_call0_v120 : Ref sig .tc := ⟨.hbm, 198, rfl⟩
abbrev main_call0_call0_v121 : Ref sig .tc := ⟨.hbm, 199, rfl⟩
abbrev main_call0_call0_v122 : Ref sig .tc := ⟨.hbm, 200, rfl⟩
abbrev main_call0_call0_c_31 : Ref sig .tc := ⟨.hbm, 201, rfl⟩
abbrev main_call0_call0_v123 : Ref sig .tc := ⟨.hbm, 202, rfl⟩
abbrev main_call0_call0_v124 : Ref sig .tc := ⟨.hbm, 203, rfl⟩
abbrev main_call0_call0_c_32 : Ref sig .tc := ⟨.hbm, 204, rfl⟩
abbrev main_call0_call0_v125 : Ref sig .tc := ⟨.hbm, 205, rfl⟩
abbrev main_call0_call0_v126 : Ref sig .tc := ⟨.hbm, 206, rfl⟩
abbrev main_call0_call0_v127 : Ref sig .tc := ⟨.hbm, 207, rfl⟩
abbrev main_call0_call0_v128 : Ref sig .tc := ⟨.hbm, 208, rfl⟩
abbrev main_call0_call0_v129 : Ref sig .tc := ⟨.hbm, 209, rfl⟩
abbrev main_call0_call0_c_33 : Ref sig .tc := ⟨.hbm, 210, rfl⟩
abbrev main_call0_call0_v130 : Ref sig .tc := ⟨.hbm, 211, rfl⟩
abbrev main_call0_call0_v131 : Ref sig .tc := ⟨.hbm, 212, rfl⟩
abbrev main_call0_call0_c_34 : Ref sig .tc := ⟨.hbm, 213, rfl⟩
abbrev main_call0_call0_v132 : Ref sig .tc := ⟨.hbm, 214, rfl⟩
abbrev main_call0_call0_v133 : Ref sig .tc := ⟨.hbm, 215, rfl⟩
abbrev main_call0_call0_v134 : Ref sig .tc := ⟨.hbm, 216, rfl⟩
abbrev main_call0_call0_v135 : Ref sig .tc := ⟨.hbm, 217, rfl⟩
abbrev main_call0_call0_v136 : Ref sig .tc := ⟨.hbm, 218, rfl⟩
abbrev main_call0_call0_v137 : Ref sig .tc := ⟨.hbm, 219, rfl⟩
abbrev main_call0_call0_v138 : Ref sig .tc := ⟨.hbm, 220, rfl⟩
abbrev main_call0_call0_v139 : Ref sig .tc := ⟨.hbm, 221, rfl⟩
abbrev main_call0_call0_c_35 : Ref sig .tc := ⟨.hbm, 222, rfl⟩
abbrev main_call0_call0_v140 : Ref sig .tc := ⟨.hbm, 223, rfl⟩
abbrev main_call0_call0_v141 : Ref sig .tc := ⟨.hbm, 224, rfl⟩
abbrev main_call0_call0_v142 : Ref sig .tc := ⟨.hbm, 225, rfl⟩
abbrev main_call0_call0_c_36 : Ref sig .tc := ⟨.hbm, 226, rfl⟩
abbrev main_call0_call0_v143 : Ref sig .tc := ⟨.hbm, 227, rfl⟩
abbrev main_call0_call0_v144 : Ref sig .tc := ⟨.hbm, 228, rfl⟩
abbrev main_call0_call0_c_37 : Ref sig .tc := ⟨.hbm, 229, rfl⟩
abbrev main_call0_call0_v145 : Ref sig .tc := ⟨.hbm, 230, rfl⟩
abbrev main_call0_call0_v146 : Ref sig .tc := ⟨.hbm, 231, rfl⟩
abbrev main_call0_call0_v147 : Ref sig .tc := ⟨.hbm, 232, rfl⟩
abbrev main_call0_call0_v148 : Ref sig .tc := ⟨.hbm, 233, rfl⟩
abbrev main_call0_call0_v149 : Ref sig .tc := ⟨.hbm, 234, rfl⟩
abbrev main_call0_call0_c_38 : Ref sig .tc := ⟨.hbm, 235, rfl⟩
abbrev main_call0_call0_v150 : Ref sig .tc := ⟨.hbm, 236, rfl⟩
abbrev main_call0_call0_v151 : Ref sig .tc := ⟨.hbm, 237, rfl⟩
abbrev main_call0_call0_c_39 : Ref sig .tc := ⟨.hbm, 238, rfl⟩
abbrev main_call0_call0_v152 : Ref sig .tc := ⟨.hbm, 239, rfl⟩
abbrev main_call0_call0_v153 : Ref sig .tc := ⟨.hbm, 240, rfl⟩
abbrev main_call0_call0_v154 : Ref sig .tc := ⟨.hbm, 241, rfl⟩
abbrev main_call0_call0_v155 : Ref sig .tc := ⟨.hbm, 242, rfl⟩
abbrev main_call0_call0_v156 : Ref sig .tc := ⟨.hbm, 243, rfl⟩
abbrev main_call0_call0_c_40 : Ref sig .tc := ⟨.hbm, 244, rfl⟩
abbrev main_call0_call0_v157 : Ref sig .tc := ⟨.hbm, 245, rfl⟩
abbrev main_call0_call0_v158 : Ref sig .tc := ⟨.hbm, 246, rfl⟩
abbrev main_call0_call0_c_41 : Ref sig .tc := ⟨.hbm, 247, rfl⟩
abbrev main_call0_call0_v159 : Ref sig .tc := ⟨.hbm, 248, rfl⟩
abbrev main_call0_call0_v160 : Ref sig .tc := ⟨.hbm, 249, rfl⟩
abbrev main_call0_call0_v161 : Ref sig .tc := ⟨.hbm, 250, rfl⟩
abbrev main_call0_call0_v162 : Ref sig .tc := ⟨.hbm, 251, rfl⟩
abbrev main_call0_call0_v163 : Ref sig .tc := ⟨.hbm, 252, rfl⟩
abbrev main_call0_call0_c_42 : Ref sig .tc := ⟨.hbm, 253, rfl⟩
abbrev main_call0_call0_v164 : Ref sig .tc := ⟨.hbm, 254, rfl⟩
abbrev main_call0_call0_v165 : Ref sig .tc := ⟨.hbm, 255, rfl⟩
abbrev main_call0_call0_c_43 : Ref sig .tc := ⟨.hbm, 256, rfl⟩
abbrev main_call0_call0_v166 : Ref sig .tc := ⟨.hbm, 257, rfl⟩
abbrev main_call0_call0_v167 : Ref sig .tc := ⟨.hbm, 258, rfl⟩
abbrev main_call0_call0_v168 : Ref sig .tc := ⟨.hbm, 259, rfl⟩
abbrev main_call0_call0_v169 : Ref sig .tc := ⟨.hbm, 260, rfl⟩
abbrev main_call0_call0_v170 : Ref sig .tc := ⟨.hbm, 261, rfl⟩
abbrev main_call0_v23_0 : Ref sig .tc := ⟨.hbm, 262, rfl⟩
abbrev main_call0_call0_v172 : Ref sig .tc := ⟨.hbm, 263, rfl⟩
abbrev main_call0_call0_v173 : Ref sig .tc := ⟨.hbm, 264, rfl⟩
abbrev main_call0_call0_c_44 : Ref sig .tc := ⟨.hbm, 265, rfl⟩
abbrev main_call0_call0_v174 : Ref sig .tc := ⟨.hbm, 266, rfl⟩
abbrev main_call0_v23_1 : Ref sig .tc := ⟨.hbm, 267, rfl⟩
abbrev main_call0_v24 : Ref sig .tc := ⟨.hbm, 268, rfl⟩
abbrev main_call0_c_3 : Ref sig .tc := ⟨.hbm, 269, rfl⟩
abbrev main_call0_v25 : Ref sig .tc := ⟨.hbm, 270, rfl⟩
abbrev main_call0_v26 : Ref sig .tc := ⟨.hbm, 271, rfl⟩
abbrev main_call0_c_4 : Ref sig .tc := ⟨.hbm, 272, rfl⟩
abbrev main_call0_v27 : Ref sig .tc := ⟨.hbm, 273, rfl⟩
abbrev main_call0_v28 : Ref sig .tc := ⟨.hbm, 274, rfl⟩
abbrev main_call0_v29 : Ref sig .tc := ⟨.hbm, 275, rfl⟩
abbrev main_call0_cst : Ref sig .tc := ⟨.hbm, 276, rfl⟩
abbrev main_call0_v30 : Ref sig .tc := ⟨.hbm, 277, rfl⟩
abbrev main_call0_v31 : Ref sig .tc := ⟨.hbm, 278, rfl⟩
abbrev main_call0_v32 : Ref sig .tc := ⟨.hbm, 279, rfl⟩
abbrev main_call0_v33 : Ref sig .tc := ⟨.hbm, 280, rfl⟩
abbrev main_call0_v34 : Ref sig .tc := ⟨.hbm, 281, rfl⟩
abbrev main_call0_v35 : Ref sig .tc := ⟨.hbm, 282, rfl⟩
abbrev main_call0_v36 : Ref sig .tc := ⟨.hbm, 283, rfl⟩
abbrev main_call0_v37 : Ref sig .tc := ⟨.hbm, 284, rfl⟩
abbrev main_v10 : Ref sig .tc := ⟨.hbm, 285, rfl⟩
abbrev main_cst_3 : Ref sig .tc := ⟨.hbm, 286, rfl⟩
abbrev main_v11 : Ref sig .tc := ⟨.hbm, 287, rfl⟩
abbrev main_v12 : Ref sig .tc := ⟨.hbm, 288, rfl⟩
abbrev main_v13 : Ref sig .tc := ⟨.hbm, 289, rfl⟩
abbrev main_v14 : Ref sig .tc := ⟨.hbm, 290, rfl⟩
abbrev main_v15 : Ref sig .tc := ⟨.hbm, 291, rfl⟩
abbrev main_cst_4 : Ref sig .tc := ⟨.hbm, 292, rfl⟩
abbrev main_cst_5 : Ref sig .tc := ⟨.hbm, 293, rfl⟩
abbrev main_call1_v0 : Ref sig .tc := ⟨.hbm, 294, rfl⟩
abbrev main_call1_v1 : Ref sig .tc := ⟨.hbm, 295, rfl⟩
abbrev main_call1_v2 : Ref sig .tc := ⟨.hbm, 296, rfl⟩
abbrev main_v16 : Ref sig .tc := ⟨.hbm, 297, rfl⟩
abbrev main_v17 : Ref sig .tc := ⟨.hbm, 298, rfl⟩
abbrev main_v18 : Ref sig .tc := ⟨.hbm, 299, rfl⟩
abbrev main_v19_0 : Ref sig .tc := ⟨.hbm, 300, rfl⟩
abbrev main_v19_1 : Ref sig .tc := ⟨.hbm, 301, rfl⟩
abbrev main_v20 : Ref sig .tc := ⟨.hbm, 302, rfl⟩
abbrev main_v21 : Ref sig .tc := ⟨.hbm, 303, rfl⟩
abbrev main_v22 : Ref sig .tc := ⟨.hbm, 304, rfl⟩
abbrev main_v23 : Ref sig .tc := ⟨.hbm, 305, rfl⟩
abbrev main_c_6 : Ref sig .tc := ⟨.hbm, 306, rfl⟩
abbrev main_v24 : Ref sig .tc := ⟨.hbm, 307, rfl⟩
abbrev main_v25 : Ref sig .tc := ⟨.hbm, 308, rfl⟩
abbrev main_v26 : Ref sig .tc := ⟨.hbm, 309, rfl⟩
abbrev main_v27 : Ref sig .tc := ⟨.hbm, 310, rfl⟩
abbrev main_v28 : Ref sig .tc := ⟨.hbm, 311, rfl⟩
abbrev main_v29 : Ref sig .tc := ⟨.hbm, 312, rfl⟩
abbrev main_v30 : Ref sig .tc := ⟨.hbm, 313, rfl⟩
abbrev main_v31 : Ref sig .tc := ⟨.hbm, 314, rfl⟩
abbrev main_v32 : Ref sig .tc := ⟨.hbm, 315, rfl⟩
abbrev main_v33 : Ref sig .tc := ⟨.hbm, 316, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg1_0 : Ref sig .tc := ⟨.vmem, 5, rfl⟩
abbrev cc1_stg1_1 : Ref sig .tc := ⟨.vmem, 6, rfl⟩
abbrev cc1_stg2_0 : Ref sig .tc := ⟨.vmem, 7, rfl⟩
abbrev cc1_stg2_1 : Ref sig .tc := ⟨.vmem, 8, rfl⟩
abbrev cc1_stg3_0 : Ref sig .tc := ⟨.vmem, 9, rfl⟩
abbrev cc1_stg3_1 : Ref sig .tc := ⟨.vmem, 10, rfl⟩
abbrev cc1_stg4_0 : Ref sig .tc := ⟨.vmem, 11, rfl⟩
abbrev cc1_stg4_1 : Ref sig .tc := ⟨.vmem, 12, rfl⟩
abbrev cc1_stg5_0 : Ref sig .tc := ⟨.vmem, 13, rfl⟩
abbrev cc1_stg5_1 : Ref sig .tc := ⟨.vmem, 14, rfl⟩
abbrev cc1_stg0_0 : Ref sig .tc := ⟨.smem, 0, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc1_sem4_1 : DmaSem sig := 13
abbrev cc1_sem5_0 : DmaSem sig := 14
abbrev cc1_sem5_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![2, 16], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 1 → Memref sig .tc .smem S1x1 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 2 → Memref sig .tc .vmem S1x256x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x4096x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x256x4096 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x256x16 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x256x16 .i32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]
-- ==== ReferenceIdeal.lean ====
abbrev S2x4096x512 : Shape := ⟨3, ![2, 4096, 512]⟩
abbrev S2x8192 : Shape := ⟨2, ![2, 8192]⟩
abbrev S512x512 : Shape := ⟨2, ![512, 512]⟩
abbrev S_ : Shape := ⟨0, ![]⟩
abbrev S8192x512 : Shape := ⟨2, ![8192, 512]⟩
abbrev S2x4096 : Shape := ⟨2, ![2, 4096]⟩
abbrev S2x4096x1 : Shape := ⟨3, ![2, 4096, 1]⟩
abbrev S2x1x4096 : Shape := ⟨3, ![2, 1, 4096]⟩
abbrev S2x4096x4096 : Shape := ⟨3, ![2, 4096, 4096]⟩
abbrev S1 : Shape := ⟨1, ![1]⟩
abbrev S2 : Shape := ⟨1, ![2]⟩
abbrev S1x1x1 : Shape := ⟨3, ![1, 1, 1]⟩
abbrev S2x4096x16 : Shape := ⟨3, ![2, 4096, 16]⟩
abbrev S4096 : Shape := ⟨1, ![4096]⟩
abbrev S1x4096x1 : Shape := ⟨3, ![1, 4096, 1]⟩
abbrev S2x1x1 : Shape := ⟨3, ![2, 1, 1]⟩
abbrev S131072 : Shape := ⟨1, ![131072]⟩
abbrev S1x131072 : Shape := ⟨2, ![1, 131072]⟩
abbrev S2x131072 : Shape := ⟨2, ![2, 131072]⟩

abbrev nBuf : Space → Nat
  | .hbm => 338
  | .vmem => 0
  | .smem => 0
  | _ => 0

abbrev hbmTy0_0 (i : Nat) : BufTy := match i % 128 with
  | 0 => ⟨S2x4096x512, .f32⟩
  | 1 => ⟨S2x8192, .i32⟩
  | 2 => ⟨S512x512, .f32⟩
  | 3 => ⟨S_, .f32⟩
  | 4 => ⟨S8192x512, .f32⟩
  | 5 => ⟨S8192x512, .f32⟩
  | 6 => ⟨S2x4096x512, .f32⟩
  | 7 => ⟨S2x4096x512, .f32⟩
  | 8 => ⟨S_, .f32⟩
  | 9 => ⟨S2x4096, .f32⟩
  | 10 => ⟨S2x4096x1, .f32⟩
  | 11 => ⟨S2x1x4096, .f32⟩
  | 12 => ⟨S2x4096x4096, .f32⟩
  | 13 => ⟨S2x4096x4096, .f32⟩
  | 14 => ⟨S2x4096x4096, .f32⟩
  | 15 => ⟨S2x4096x4096, .f32⟩
  | 16 => ⟨S_, .f32⟩
  | 17 => ⟨S2x4096x4096, .f32⟩
  | 18 => ⟨S2x4096x4096, .f32⟩
  | 19 => ⟨S2x4096x4096, .f32⟩
  | 20 => ⟨S_, .f32⟩
  | 21 => ⟨S2x4096x4096, .f32⟩
  | 22 => ⟨S2x4096x4096, .f32⟩
  | 23 => ⟨S_, .f32⟩
  | 24 => ⟨S_, .f32⟩
  | 25 => ⟨S_, .f32⟩
  | 26 => ⟨S_, .f32⟩
  | 27 => ⟨S_, .f32⟩
  | 28 => ⟨S_, .f32⟩
  | 29 => ⟨S_, .f32⟩
  | 30 => ⟨S2x4096x4096, .f32⟩
  | 31 => ⟨S2x4096x4096, .f32⟩
  | 32 => ⟨S_, .i32⟩
  | 33 => ⟨S_, .i32⟩
  | 34 => ⟨S_, .i32⟩
  | 35 => ⟨S_, .i32⟩
  | 36 => ⟨S1, .i32⟩
  | 37 => ⟨S_, .i32⟩
  | 38 => ⟨S_, .i32⟩
  | 39 => ⟨S_, .i32⟩
  | 40 => ⟨S1, .i32⟩
  | 41 => ⟨S2, .i32⟩
  | 42 => ⟨S_, .f32⟩
  | 43 => ⟨S_, .f32⟩
  | 44 => ⟨S_, .f32⟩
  | 45 => ⟨S_, .f32⟩
  | 46 => ⟨S1x1x1, .f32⟩
  | 47 => ⟨S1x1x1, .f32⟩
  | 48 => ⟨S1, .i32⟩
  | 49 => ⟨S_, .i32⟩
  | 50 => ⟨S1, .i32⟩
  | 51 => ⟨S_, .i32⟩
  | 52 => ⟨S2x4096x4096, .i64⟩
  | 53 => ⟨S2x4096x4096, .i64⟩
  | 54 => ⟨S2x4096x4096, .i64⟩
  | 55 => ⟨S_, .i64⟩
  | 56 => ⟨S2x4096x4096, .i64⟩
  | 57 => ⟨S2x4096x4096, .i64⟩
  | 58 => ⟨S_, .i64⟩
  | 59 => ⟨S2x4096x4096, .i64⟩
  | 60 => ⟨S2x4096x4096, .i64⟩
  | 61 => ⟨S_, .i64⟩
  | 62 => ⟨S2x4096x4096, .i64⟩
  | 63 => ⟨S2x4096x4096, .i64⟩
  | 64 => ⟨S2x4096x4096, .i64⟩
  | 65 => ⟨S2x4096x4096, .i64⟩
  | 66 => ⟨S_, .i64⟩
  | 67 => ⟨S2x4096x4096, .i64⟩
  | 68 => ⟨S2x4096x4096, .i64⟩
  | 69 => ⟨S2x4096x4096, .i32⟩
  | 70 => ⟨S2x4096x4096, .i32⟩
  | 71 => ⟨S_, .i32⟩
  | 72 => ⟨S_, .i32⟩
  | 73 => ⟨S_, .i32⟩
  | 74 => ⟨S2x4096x4096, .i32⟩
  | 75 => ⟨S2x4096x4096, .i32⟩
  | 76 => ⟨S2x4096x4096, .i32⟩
  | 77 => ⟨S2x4096x4096, .i32⟩
  | 78 => ⟨S2x4096x4096, .i32⟩
  | 79 => ⟨S_, .i32⟩
  | 80 => ⟨S2x4096x4096, .i32⟩
  | 81 => ⟨S2x4096x4096, .i32⟩
  | 82 => ⟨S_, .i32⟩
  | 83 => ⟨S2x4096x4096, .i32⟩
  | 84 => ⟨S2x4096x4096, .i32⟩
  | 85 => ⟨S2x4096x4096, .i32⟩
  | 86 => ⟨S2x4096x4096, .i32⟩
  | 87 => ⟨S2x4096x4096, .i32⟩
  | 88 => ⟨S_, .i32⟩
  | 89 => ⟨S2x4096x4096, .i32⟩
  | 90 => ⟨S2x4096x4096, .i32⟩
  | 91 => ⟨S_, .i32⟩
  | 92 => ⟨S2x4096x4096, .i32⟩
  | 93 => ⟨S2x4096x4096, .i32⟩
  | 94 => ⟨S2x4096x4096, .i32⟩
  | 95 => ⟨S2x4096x4096, .i32⟩
  | 96 => ⟨S2x4096x4096, .i32⟩
  | 97 => ⟨S_, .i32⟩
  | 98 => ⟨S2x4096x4096, .i32⟩
  | 99 => ⟨S2x4096x4096, .i32⟩
  | 100 => ⟨S_, .i32⟩
  | 101 => ⟨S2x4096x4096, .i32⟩
  | 102 => ⟨S2x4096x4096, .i32⟩
  | 103 => ⟨S2x4096x4096, .i32⟩
  | 104 => ⟨S2x4096x4096, .i32⟩
  | 105 => ⟨S2x4096x4096, .i32⟩
  | 106 => ⟨S_, .i32⟩
  | 107 => ⟨S2x4096x4096, .i32⟩
  | 108 => ⟨S2x4096x4096, .i32⟩
  | 109 => ⟨S_, .i32⟩
  | 110 => ⟨S2x4096x4096, .i32⟩
  | 111 => ⟨S2x4096x4096, .i32⟩
  | 112 => ⟨S2x4096x4096, .i32⟩
  | 113 => ⟨S2x4096x4096, .i32⟩
  | 114 => ⟨S2x4096x4096, .i32⟩
  | 115 => ⟨S2x4096x4096, .i32⟩
  | 116 => ⟨S2x4096x4096, .i32⟩
  | 117 => ⟨S2x4096x4096, .i32⟩
  | 118 => ⟨S_, .i32⟩
  | 119 => ⟨S2x4096x4096, .i32⟩
  | 120 => ⟨S2x4096x4096, .i32⟩
  | 121 => ⟨S2x4096x4096, .i32⟩
  | 122 => ⟨S_, .i32⟩
  | 123 => ⟨S2x4096x4096, .i32⟩
  | 124 => ⟨S2x4096x4096, .i32⟩
  | 125 => ⟨S_, .i32⟩
  | 126 => ⟨S2x4096x4096, .i32⟩
  | 127 => ⟨S2x4096x4096, .i32⟩
  | _ => ⟨S2x4096x512, .f32⟩

abbrev hbmTy0_1 (i : Nat) : BufTy := match i % 128 with
  | 0 => ⟨S2x4096x4096, .i32⟩
  | 1 => ⟨S2x4096x4096, .i32⟩
  | 2 => ⟨S2x4096x4096, .i32⟩
  | 3 => ⟨S_, .i32⟩
  | 4 => ⟨S2x4096x4096, .i32⟩
  | 5 => ⟨S2x4096x4096, .i32⟩
  | 6 => ⟨S_, .i32⟩
  | 7 => ⟨S2x4096x4096, .i32⟩
  | 8 => ⟨S2x4096x4096, .i32⟩
  | 9 => ⟨S2x4096x4096, .i32⟩
  | 10 => ⟨S2x4096x4096, .i32⟩
  | 11 => ⟨S2x4096x4096, .i32⟩
  | 12 => ⟨S_, .i32⟩
  | 13 => ⟨S2x4096x4096, .i32⟩
  | 14 => ⟨S2x4096x4096, .i32⟩
  | 15 => ⟨S_, .i32⟩
  | 16 => ⟨S2x4096x4096, .i32⟩
  | 17 => ⟨S2x4096x4096, .i32⟩
  | 18 => ⟨S2x4096x4096, .i32⟩
  | 19 => ⟨S2x4096x4096, .i32⟩
  | 20 => ⟨S2x4096x4096, .i32⟩
  | 21 => ⟨S_, .i32⟩
  | 22 => ⟨S2x4096x4096, .i32⟩
  | 23 => ⟨S2x4096x4096, .i32⟩
  | 24 => ⟨S_, .i32⟩
  | 25 => ⟨S2x4096x4096, .i32⟩
  | 26 => ⟨S2x4096x4096, .i32⟩
  | 27 => ⟨S2x4096x4096, .i32⟩
  | 28 => ⟨S2x4096x4096, .i32⟩
  | 29 => ⟨S2x4096x4096, .i32⟩
  | 30 => ⟨S2x4096x4096, .i32⟩
  | 31 => ⟨S2x4096x4096, .i32⟩
  | 32 => ⟨S2x4096x4096, .i32⟩
  | 33 => ⟨S_, .i32⟩
  | 34 => ⟨S2x4096x4096, .i32⟩
  | 35 => ⟨S2x4096x4096, .i32⟩
  | 36 => ⟨S2x4096x4096, .i32⟩
  | 37 => ⟨S_, .i32⟩
  | 38 => ⟨S2x4096x4096, .i32⟩
  | 39 => ⟨S2x4096x4096, .i32⟩
  | 40 => ⟨S_, .i32⟩
  | 41 => ⟨S2x4096x4096, .i32⟩
  | 42 => ⟨S2x4096x4096, .i32⟩
  | 43 => ⟨S2x4096x4096, .i32⟩
  | 44 => ⟨S2x4096x4096, .i32⟩
  | 45 => ⟨S2x4096x4096, .i32⟩
  | 46 => ⟨S_, .i32⟩
  | 47 => ⟨S2x4096x4096, .i32⟩
  | 48 => ⟨S2x4096x4096, .i32⟩
  | 49 => ⟨S_, .i32⟩
  | 50 => ⟨S2x4096x4096, .i32⟩
  | 51 => ⟨S2x4096x4096, .i32⟩
  | 52 => ⟨S2x4096x4096, .i32⟩
  | 53 => ⟨S2x4096x4096, .i32⟩
  | 54 => ⟨S2x4096x4096, .i32⟩
  | 55 => ⟨S_, .i32⟩
  | 56 => ⟨S2x4096x4096, .i32⟩
  | 57 => ⟨S2x4096x4096, .i32⟩
  | 58 => ⟨S_, .i32⟩
  | 59 => ⟨S2x4096x4096, .i32⟩
  | 60 => ⟨S2x4096x4096, .i32⟩
  | 61 => ⟨S2x4096x4096, .i32⟩
  | 62 => ⟨S2x4096x4096, .i32⟩
  | 63 => ⟨S2x4096x4096, .i32⟩
  | 64 => ⟨S_, .i32⟩
  | 65 => ⟨S2x4096x4096, .i32⟩
  | 66 => ⟨S2x4096x4096, .i32⟩
  | 67 => ⟨S_, .i32⟩
  | 68 => ⟨S2x4096x4096, .i32⟩
  | 69 => ⟨S2x4096x4096, .i32⟩
  | 70 => ⟨S2x4096x4096, .i32⟩
  | 71 => ⟨S2x4096x4096, .i32⟩
  | 72 => ⟨S2x4096x4096, .i32⟩
  | 73 => ⟨S2x4096x4096, .i32⟩
  | 74 => ⟨S2x4096x4096, .i32⟩
  | 75 => ⟨S2x4096x4096, .i32⟩
  | 76 => ⟨S_, .i32⟩
  | 77 => ⟨S2x4096x4096, .i32⟩
  | 78 => ⟨S2x4096x4096, .i32⟩
  | 79 => ⟨S2x4096x4096, .i32⟩
  | 80 => ⟨S_, .i32⟩
  | 81 => ⟨S2x4096x4096, .i32⟩
  | 82 => ⟨S2x4096x4096, .i32⟩
  | 83 => ⟨S_, .i32⟩
  | 84 => ⟨S2x4096x4096, .i32⟩
  | 85 => ⟨S2x4096x4096, .i32⟩
  | 86 => ⟨S2x4096x4096, .i32⟩
  | 87 => ⟨S2x4096x4096, .i32⟩
  | 88 => ⟨S2x4096x4096, .i32⟩
  | 89 => ⟨S_, .i32⟩
  | 90 => ⟨S2x4096x4096, .i32⟩
  | 91 => ⟨S2x4096x4096, .i32⟩
  | 92 => ⟨S_, .i32⟩
  | 93 => ⟨S2x4096x4096, .i32⟩
  | 94 => ⟨S2x4096x4096, .i32⟩
  | 95 => ⟨S2x4096x4096, .i32⟩
  | 96 => ⟨S2x4096x4096, .i32⟩
  | 97 => ⟨S2x4096x4096, .i32⟩
  | 98 => ⟨S_, .i32⟩
  | 99 => ⟨S2x4096x4096, .i32⟩
  | 100 => ⟨S2x4096x4096, .i32⟩
  | 101 => ⟨S_, .i32⟩
  | 102 => ⟨S2x4096x4096, .i32⟩
  | 103 => ⟨S2x4096x4096, .i32⟩
  | 104 => ⟨S2x4096x4096, .i32⟩
  | 105 => ⟨S2x4096x4096, .i32⟩
  | 106 => ⟨S2x4096x4096, .i32⟩
  | 107 => ⟨S_, .i32⟩
  | 108 => ⟨S2x4096x4096, .i32⟩
  | 109 => ⟨S2x4096x4096, .i32⟩
  | 110 => ⟨S_, .i32⟩
  | 111 => ⟨S2x4096x4096, .i32⟩
  | 112 => ⟨S2x4096x4096, .i32⟩
  | 113 => ⟨S2x4096x4096, .i32⟩
  | 114 => ⟨S2x4096x4096, .i32⟩
  | 115 => ⟨S2x4096x4096, .i32⟩
  | 116 => ⟨S2x4096x4096, .i32⟩
  | 117 => ⟨S2x4096x4096, .i32⟩
  | 118 => ⟨S2x4096x4096, .i32⟩
  | 119 => ⟨S_, .i32⟩
  | 120 => ⟨S2x4096x4096, .i32⟩
  | 121 => ⟨S2x4096x4096, .i32⟩
  | 122 => ⟨S2x4096x4096, .i32⟩
  | 123 => ⟨S_, .i32⟩
  | 124 => ⟨S2x4096x4096, .i32⟩
  | 125 => ⟨S2x4096x4096, .i32⟩
  | 126 => ⟨S_, .i32⟩
  | 127 => ⟨S2x4096x4096, .i32⟩
  | _ => ⟨S2x4096x512, .f32⟩

abbrev hbmTy0_2 (i : Nat) : BufTy := match i % 128 with
  | 0 => ⟨S2x4096x4096, .i32⟩
  | 1 => ⟨S2x4096x4096, .i32⟩
  | 2 => ⟨S2x4096x4096, .i32⟩
  | 3 => ⟨S2x4096x4096, .i32⟩
  | 4 => ⟨S_, .i32⟩
  | 5 => ⟨S2x4096x4096, .i32⟩
  | 6 => ⟨S2x4096x4096, .i32⟩
  | 7 => ⟨S_, .i32⟩
  | 8 => ⟨S2x4096x4096, .i32⟩
  | 9 => ⟨S2x4096x4096, .i32⟩
  | 10 => ⟨S2x4096x4096, .i32⟩
  | 11 => ⟨S2x4096x4096, .i32⟩
  | 12 => ⟨S2x4096x4096, .i32⟩
  | 13 => ⟨S_, .i32⟩
  | 14 => ⟨S2x4096x4096, .i32⟩
  | 15 => ⟨S2x4096x4096, .i32⟩
  | 16 => ⟨S_, .i32⟩
  | 17 => ⟨S2x4096x4096, .i32⟩
  | 18 => ⟨S2x4096x4096, .i32⟩
  | 19 => ⟨S2x4096x4096, .i32⟩
  | 20 => ⟨S2x4096x4096, .i32⟩
  | 21 => ⟨S2x4096x4096, .i32⟩
  | 22 => ⟨S_, .i32⟩
  | 23 => ⟨S2x4096x4096, .i32⟩
  | 24 => ⟨S2x4096x4096, .i32⟩
  | 25 => ⟨S_, .i32⟩
  | 26 => ⟨S2x4096x4096, .i32⟩
  | 27 => ⟨S2x4096x4096, .i32⟩
  | 28 => ⟨S2x4096x4096, .i32⟩
  | 29 => ⟨S2x4096x4096, .i32⟩
  | 30 => ⟨S2x4096x4096, .i32⟩
  | 31 => ⟨S2x4096x4096, .i32⟩
  | 32 => ⟨S2x4096x4096, .i32⟩
  | 33 => ⟨S2x4096x4096, .i32⟩
  | 34 => ⟨S_, .i32⟩
  | 35 => ⟨S2x4096x4096, .i32⟩
  | 36 => ⟨S2x4096x4096, .i32⟩
  | 37 => ⟨S2x4096x4096, .i32⟩
  | 38 => ⟨S_, .i32⟩
  | 39 => ⟨S2x4096x4096, .i32⟩
  | 40 => ⟨S2x4096x4096, .i32⟩
  | 41 => ⟨S_, .i32⟩
  | 42 => ⟨S2x4096x4096, .i32⟩
  | 43 => ⟨S2x4096x4096, .i32⟩
  | 44 => ⟨S2x4096x4096, .f32⟩
  | 45 => ⟨S_, .f32⟩
  | 46 => ⟨S2x4096x4096, .f32⟩
  | 47 => ⟨S2x4096x4096, .f32⟩
  | 48 => ⟨S1x1x1, .f32⟩
  | 49 => ⟨S2x4096x4096, .f32⟩
  | 50 => ⟨S2x4096x4096, .f32⟩
  | 51 => ⟨S2x4096x4096, .f32⟩
  | 52 => ⟨S2x4096x4096, .f32⟩
  | 53 => ⟨S2x4096x4096, .f32⟩
  | 54 => ⟨S2x4096x4096, .f32⟩
  | 55 => ⟨S_, .f32⟩
  | 56 => ⟨S2x4096x4096, .f32⟩
  | 57 => ⟨S2x4096x4096, .f32⟩
  | 58 => ⟨S2x4096x4096, .f32⟩
  | 59 => ⟨S2x4096x4096, .f32⟩
  | 60 => ⟨S2x4096x4096, .f32⟩
  | 61 => ⟨S2x4096x4096, .f32⟩
  | 62 => ⟨S2x4096x4096, .f32⟩
  | 63 => ⟨S2x4096x16, .f32⟩
  | 64 => ⟨S2x4096x16, .i32⟩
  | 65 => ⟨S4096, .i32⟩
  | 66 => ⟨S1x4096x1, .i32⟩
  | 67 => ⟨S2x4096x16, .i32⟩
  | 68 => ⟨S2, .i32⟩
  | 69 => ⟨S_, .i32⟩
  | 70 => ⟨S2, .i32⟩
  | 71 => ⟨S2, .i32⟩
  | 72 => ⟨S2x1x1, .i32⟩
  | 73 => ⟨S2x4096x16, .i32⟩
  | 74 => ⟨S2x4096x16, .i32⟩
  | 75 => ⟨S131072, .i32⟩
  | 76 => ⟨S2x4096x16, .i32⟩
  | 77 => ⟨S2x4096x16, .i32⟩
  | 78 => ⟨S131072, .i32⟩
  | 79 => ⟨S1x131072, .i32⟩
  | 80 => ⟨S1x131072, .i32⟩
  | 81 => ⟨S2x131072, .i32⟩
  | _ => ⟨S2x4096x512, .f32⟩

abbrev hbmTy (i : Nat) : BufTy := match i / 128 with
  | 0 => hbmTy0_0 i
  | 1 => hbmTy0_1 i
  | 2 => hbmTy0_2 i
  | _ => ⟨S2x4096x512, .f32⟩

abbrev bufTy : (tb : Table) → Fin (tcTables nBuf tb) → BufTy
  | .hbm, ⟨i, _⟩ => hbmTy i
  | _, _ => ⟨S2x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_cst_3 : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_c : Ref sig .tc := ⟨.hbm, 32, rfl⟩
abbrev main_c_4 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_5 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_6 : Ref sig .tc := ⟨.hbm, 42, rfl⟩
abbrev main_cst_7 : Ref sig .tc := ⟨.hbm, 43, rfl⟩
abbrev main_call1_v0 : Ref sig .tc := ⟨.hbm, 44, rfl⟩
abbrev main_call1_v1 : Ref sig .tc := ⟨.hbm, 45, rfl⟩
abbrev main_call1_v2 : Ref sig .tc := ⟨.hbm, 46, rfl⟩
abbrev main_call1_v3 : Ref sig .tc := ⟨.hbm, 47, rfl⟩
abbrev main_call1_v4 : Ref sig .tc := ⟨.hbm, 48, rfl⟩
abbrev main_call1_v5 : Ref sig .tc := ⟨.hbm, 49, rfl⟩
abbrev main_call1_v6 : Ref sig .tc := ⟨.hbm, 50, rfl⟩
abbrev main_call1_v7 : Ref sig .tc := ⟨.hbm, 51, rfl⟩
abbrev main_call1_v8 : Ref sig .tc := ⟨.hbm, 52, rfl⟩
abbrev main_call1_v9 : Ref sig .tc := ⟨.hbm, 53, rfl⟩
abbrev main_call1_v10 : Ref sig .tc := ⟨.hbm, 54, rfl⟩
abbrev main_call1_c : Ref sig .tc := ⟨.hbm, 55, rfl⟩
abbrev main_call1_v11 : Ref sig .tc := ⟨.hbm, 56, rfl⟩
abbrev main_call1_v12 : Ref sig .tc := ⟨.hbm, 57, rfl⟩
abbrev main_call1_c_0 : Ref sig .tc := ⟨.hbm, 58, rfl⟩
abbrev main_call1_v13 : Ref sig .tc := ⟨.hbm, 59, rfl⟩
abbrev main_call1_v14 : Ref sig .tc := ⟨.hbm, 60, rfl⟩
abbrev main_call1_c_1 : Ref sig .tc := ⟨.hbm, 61, rfl⟩
abbrev main_call1_v15 : Ref sig .tc := ⟨.hbm, 62, rfl⟩
abbrev main_call1_v16 : Ref sig .tc := ⟨.hbm, 63, rfl⟩
abbrev main_call1_v17 : Ref sig .tc := ⟨.hbm, 64, rfl⟩
abbrev main_call1_v18 : Ref sig .tc := ⟨.hbm, 65, rfl⟩
abbrev main_call1_c_2 : Ref sig .tc := ⟨.hbm, 66, rfl⟩
abbrev main_call1_v19 : Ref sig .tc := ⟨.hbm, 67, rfl⟩
abbrev main_call1_v20 : Ref sig .tc := ⟨.hbm, 68, rfl⟩
abbrev main_call1_v21 : Ref sig .tc := ⟨.hbm, 69, rfl⟩
abbrev main_call1_v22 : Ref sig .tc := ⟨.hbm, 70, rfl⟩
abbrev main_call1_call0_v0 : Ref sig .tc := ⟨.hbm, 71, rfl⟩
abbrev main_call1_call0_c : Ref sig .tc := ⟨.hbm, 72, rfl⟩
abbrev main_call1_call0_v1 : Ref sig .tc := ⟨.hbm, 73, rfl⟩
abbrev main_call1_call0_v2 : Ref sig .tc := ⟨.hbm, 74, rfl⟩
abbrev main_call1_call0_v3 : Ref sig .tc := ⟨.hbm, 75, rfl⟩
abbrev main_call1_call0_v4 : Ref sig .tc := ⟨.hbm, 76, rfl⟩
abbrev main_call1_call0_v5 : Ref sig .tc := ⟨.hbm, 77, rfl⟩
abbrev main_call1_call0_v6 : Ref sig .tc := ⟨.hbm, 78, rfl⟩
abbrev main_call1_call0_c_0 : Ref sig .tc := ⟨.hbm, 79, rfl⟩
abbrev main_call1_call0_v7 : Ref sig .tc := ⟨.hbm, 80, rfl⟩
abbrev main_call1_call0_v8 : Ref sig .tc := ⟨.hbm, 81, rfl⟩
abbrev main_call1_call0_c_1 : Ref sig .tc := ⟨.hbm, 82, rfl⟩
abbrev main_call1_call0_v9 : Ref sig .tc := ⟨.hbm, 83, rfl⟩
abbrev main_call1_call0_v10 : Ref sig .tc := ⟨.hbm, 84, rfl⟩
abbrev main_call1_call0_v11 : Ref sig .tc := ⟨.hbm, 85, rfl⟩
abbrev main_call1_call0_v12 : Ref sig .tc := ⟨.hbm, 86, rfl⟩
abbrev main_call1_call0_v13 : Ref sig .tc := ⟨.hbm, 87, rfl⟩
abbrev main_call1_call0_c_2 : Ref sig .tc := ⟨.hbm, 88, rfl⟩
abbrev main_call1_call0_v14 : Ref sig .tc := ⟨.hbm, 89, rfl⟩
abbrev main_call1_call0_v15 : Ref sig .tc := ⟨.hbm, 90, rfl⟩
abbrev main_call1_call0_c_3 : Ref sig .tc := ⟨.hbm, 91, rfl⟩
abbrev main_call1_call0_v16 : Ref sig .tc := ⟨.hbm, 92, rfl⟩
abbrev main_call1_call0_v17 : Ref sig .tc := ⟨.hbm, 93, rfl⟩
abbrev main_call1_call0_v18 : Ref sig .tc := ⟨.hbm, 94, rfl⟩
abbrev main_call1_call0_v19 : Ref sig .tc := ⟨.hbm, 95, rfl⟩
abbrev main_call1_call0_v20 : Ref sig .tc := ⟨.hbm, 96, rfl⟩
abbrev main_call1_call0_c_4 : Ref sig .tc := ⟨.hbm, 97, rfl⟩
abbrev main_call1_call0_v21 : Ref sig .tc := ⟨.hbm, 98, rfl⟩
abbrev main_call1_call0_v22 : Ref sig .tc := ⟨.hbm, 99, rfl⟩
abbrev main_call1_call0_c_5 : Ref sig .tc := ⟨.hbm, 100, rfl⟩
abbrev main_call1_call0_v23 : Ref sig .tc := ⟨.hbm, 101, rfl⟩
abbrev main_call1_call0_v24 : Ref sig .tc := ⟨.hbm, 102, rfl⟩
abbrev main_call1_call0_v25 : Ref sig .tc := ⟨.hbm, 103, rfl⟩
abbrev main_call1_call0_v26 : Ref sig .tc := ⟨.hbm, 104, rfl⟩
abbrev main_call1_call0_v27 : Ref sig .tc := ⟨.hbm, 105, rfl⟩
abbrev main_call1_call0_c_6 : Ref sig .tc := ⟨.hbm, 106, rfl⟩
abbrev main_call1_call0_v28 : Ref sig .tc := ⟨.hbm, 107, rfl⟩
abbrev main_call1_call0_v29 : Ref sig .tc := ⟨.hbm, 108, rfl⟩
abbrev main_call1_call0_c_7 : Ref sig .tc := ⟨.hbm, 109, rfl⟩
abbrev main_call1_call0_v30 : Ref sig .tc := ⟨.hbm, 110, rfl⟩
abbrev main_call1_call0_v31 : Ref sig .tc := ⟨.hbm, 111, rfl⟩
abbrev main_call1_call0_v32 : Ref sig .tc := ⟨.hbm, 112, rfl⟩
abbrev main_call1_call0_v33 : Ref sig .tc := ⟨.hbm, 113, rfl⟩
abbrev main_call1_call0_v34 : Ref sig .tc := ⟨.hbm, 114, rfl⟩
abbrev main_call1_call0_v35 : Ref sig .tc := ⟨.hbm, 115, rfl⟩
abbrev main_call1_call0_v36 : Ref sig .tc := ⟨.hbm, 116, rfl⟩
abbrev main_call1_call0_v37 : Ref sig .tc := ⟨.hbm, 117, rfl⟩
abbrev main_call1_call0_c_8 : Ref sig .tc := ⟨.hbm, 118, rfl⟩
abbrev main_call1_call0_v38 : Ref sig .tc := ⟨.hbm, 119, rfl⟩
abbrev main_call1_call0_v39 : Ref sig .tc := ⟨.hbm, 120, rfl⟩
abbrev main_call1_call0_v40 : Ref sig .tc := ⟨.hbm, 121, rfl⟩
abbrev main_call1_call0_c_9 : Ref sig .tc := ⟨.hbm, 122, rfl⟩
abbrev main_call1_call0_v41 : Ref sig .tc := ⟨.hbm, 123, rfl⟩
abbrev main_call1_call0_v42 : Ref sig .tc := ⟨.hbm, 124, rfl⟩
abbrev main_call1_call0_c_10 : Ref sig .tc := ⟨.hbm, 125, rfl⟩
abbrev main_call1_call0_v43 : Ref sig .tc := ⟨.hbm, 126, rfl⟩
abbrev main_call1_call0_v44 : Ref sig .tc := ⟨.hbm, 127, rfl⟩
abbrev main_call1_call0_v45 : Ref sig .tc := ⟨.hbm, 128, rfl⟩
abbrev main_call1_call0_v46 : Ref sig .tc := ⟨.hbm, 129, rfl⟩
abbrev main_call1_call0_v47 : Ref sig .tc := ⟨.hbm, 130, rfl⟩
abbrev main_call1_call0_c_11 : Ref sig .tc := ⟨.hbm, 131, rfl⟩
abbrev main_call1_call0_v48 : Ref sig .tc := ⟨.hbm, 132, rfl⟩
abbrev main_call1_call0_v49 : Ref sig .tc := ⟨.hbm, 133, rfl⟩
abbrev main_call1_call0_c_12 : Ref sig .tc := ⟨.hbm, 134, rfl⟩
abbrev main_call1_call0_v50 : Ref sig .tc := ⟨.hbm, 135, rfl⟩
abbrev main_call1_call0_v51 : Ref sig .tc := ⟨.hbm, 136, rfl⟩
abbrev main_call1_call0_v52 : Ref sig .tc := ⟨.hbm, 137, rfl⟩
abbrev main_call1_call0_v53 : Ref sig .tc := ⟨.hbm, 138, rfl⟩
abbrev main_call1_call0_v54 : Ref sig .tc := ⟨.hbm, 139, rfl⟩
abbrev main_call1_call0_c_13 : Ref sig .tc := ⟨.hbm, 140, rfl⟩
abbrev main_call1_call0_v55 : Ref sig .tc := ⟨.hbm, 141, rfl⟩
abbrev main_call1_call0_v56 : Ref sig .tc := ⟨.hbm, 142, rfl⟩
abbrev main_call1_call0_c_14 : Ref sig .tc := ⟨.hbm, 143, rfl⟩
abbrev main_call1_call0_v57 : Ref sig .tc := ⟨.hbm, 144, rfl⟩
abbrev main_call1_call0_v58 : Ref sig .tc := ⟨.hbm, 145, rfl⟩
abbrev main_call1_call0_v59 : Ref sig .tc := ⟨.hbm, 146, rfl⟩
abbrev main_call1_call0_v60 : Ref sig .tc := ⟨.hbm, 147, rfl⟩
abbrev main_call1_call0_v61 : Ref sig .tc := ⟨.hbm, 148, rfl⟩
abbrev main_call1_call0_c_15 : Ref sig .tc := ⟨.hbm, 149, rfl⟩
abbrev main_call1_call0_v62 : Ref sig .tc := ⟨.hbm, 150, rfl⟩
abbrev main_call1_call0_v63 : Ref sig .tc := ⟨.hbm, 151, rfl⟩
abbrev main_call1_call0_c_16 : Ref sig .tc := ⟨.hbm, 152, rfl⟩
abbrev main_call1_call0_v64 : Ref sig .tc := ⟨.hbm, 153, rfl⟩
abbrev main_call1_call0_v65 : Ref sig .tc := ⟨.hbm, 154, rfl⟩
abbrev main_call1_call0_v66 : Ref sig .tc := ⟨.hbm, 155, rfl⟩
abbrev main_call1_call0_v67 : Ref sig .tc := ⟨.hbm, 156, rfl⟩
abbrev main_call1_call0_v68 : Ref sig .tc := ⟨.hbm, 157, rfl⟩
abbrev main_call1_call0_v69 : Ref sig .tc := ⟨.hbm, 158, rfl⟩
abbrev main_call1_call0_v70 : Ref sig .tc := ⟨.hbm, 159, rfl⟩
abbrev main_call1_call0_v71 : Ref sig .tc := ⟨.hbm, 160, rfl⟩
abbrev main_call1_call0_c_17 : Ref sig .tc := ⟨.hbm, 161, rfl⟩
abbrev main_call1_call0_v72 : Ref sig .tc := ⟨.hbm, 162, rfl⟩
abbrev main_call1_call0_v73 : Ref sig .tc := ⟨.hbm, 163, rfl⟩
abbrev main_call1_call0_v74 : Ref sig .tc := ⟨.hbm, 164, rfl⟩
abbrev main_call1_call0_c_18 : Ref sig .tc := ⟨.hbm, 165, rfl⟩
abbrev main_call1_call0_v75 : Ref sig .tc := ⟨.hbm, 166, rfl⟩
abbrev main_call1_call0_v76 : Ref sig .tc := ⟨.hbm, 167, rfl⟩
abbrev main_call1_call0_c_19 : Ref sig .tc := ⟨.hbm, 168, rfl⟩
abbrev main_call1_call0_v77 : Ref sig .tc := ⟨.hbm, 169, rfl⟩
abbrev main_call1_call0_v78 : Ref sig .tc := ⟨.hbm, 170, rfl⟩
abbrev main_call1_call0_v79 : Ref sig .tc := ⟨.hbm, 171, rfl⟩
abbrev main_call1_call0_v80 : Ref sig .tc := ⟨.hbm, 172, rfl⟩
abbrev main_call1_call0_v81 : Ref sig .tc := ⟨.hbm, 173, rfl⟩
abbrev main_call1_call0_c_20 : Ref sig .tc := ⟨.hbm, 174, rfl⟩
abbrev main_call1_call0_v82 : Ref sig .tc := ⟨.hbm, 175, rfl⟩
abbrev main_call1_call0_v83 : Ref sig .tc := ⟨.hbm, 176, rfl⟩
abbrev main_call1_call0_c_21 : Ref sig .tc := ⟨.hbm, 177, rfl⟩
abbrev main_call1_call0_v84 : Ref sig .tc := ⟨.hbm, 178, rfl⟩
abbrev main_call1_call0_v85 : Ref sig .tc := ⟨.hbm, 179, rfl⟩
abbrev main_call1_call0_v86 : Ref sig .tc := ⟨.hbm, 180, rfl⟩
abbrev main_call1_call0_v87 : Ref sig .tc := ⟨.hbm, 181, rfl⟩
abbrev main_call1_call0_v88 : Ref sig .tc := ⟨.hbm, 182, rfl⟩
abbrev main_call1_call0_c_22 : Ref sig .tc := ⟨.hbm, 183, rfl⟩
abbrev main_call1_call0_v89 : Ref sig .tc := ⟨.hbm, 184, rfl⟩
abbrev main_call1_call0_v90 : Ref sig .tc := ⟨.hbm, 185, rfl⟩
abbrev main_call1_call0_c_23 : Ref sig .tc := ⟨.hbm, 186, rfl⟩
abbrev main_call1_call0_v91 : Ref sig .tc := ⟨.hbm, 187, rfl⟩
abbrev main_call1_call0_v92 : Ref sig .tc := ⟨.hbm, 188, rfl⟩
abbrev main_call1_call0_v93 : Ref sig .tc := ⟨.hbm, 189, rfl⟩
abbrev main_call1_call0_v94 : Ref sig .tc := ⟨.hbm, 190, rfl⟩
abbrev main_call1_call0_v95 : Ref sig .tc := ⟨.hbm, 191, rfl⟩
abbrev main_call1_call0_c_24 : Ref sig .tc := ⟨.hbm, 192, rfl⟩
abbrev main_call1_call0_v96 : Ref sig .tc := ⟨.hbm, 193, rfl⟩
abbrev main_call1_call0_v97 : Ref sig .tc := ⟨.hbm, 194, rfl⟩
abbrev main_call1_call0_c_25 : Ref sig .tc := ⟨.hbm, 195, rfl⟩
abbrev main_call1_call0_v98 : Ref sig .tc := ⟨.hbm, 196, rfl⟩
abbrev main_call1_call0_v99 : Ref sig .tc := ⟨.hbm, 197, rfl⟩
abbrev main_call1_call0_v100 : Ref sig .tc := ⟨.hbm, 198, rfl⟩
abbrev main_call1_call0_v101 : Ref sig .tc := ⟨.hbm, 199, rfl⟩
abbrev main_call1_call0_v102 : Ref sig .tc := ⟨.hbm, 200, rfl⟩
abbrev main_call1_call0_v103 : Ref sig .tc := ⟨.hbm, 201, rfl⟩
abbrev main_call1_call0_v104 : Ref sig .tc := ⟨.hbm, 202, rfl⟩
abbrev main_call1_call0_v105 : Ref sig .tc := ⟨.hbm, 203, rfl⟩
abbrev main_call1_call0_c_26 : Ref sig .tc := ⟨.hbm, 204, rfl⟩
abbrev main_call1_call0_v106 : Ref sig .tc := ⟨.hbm, 205, rfl⟩
abbrev main_call1_call0_v107 : Ref sig .tc := ⟨.hbm, 206, rfl⟩
abbrev main_call1_call0_v108 : Ref sig .tc := ⟨.hbm, 207, rfl⟩
abbrev main_call1_call0_c_27 : Ref sig .tc := ⟨.hbm, 208, rfl⟩
abbrev main_call1_call0_v109 : Ref sig .tc := ⟨.hbm, 209, rfl⟩
abbrev main_call1_call0_v110 : Ref sig .tc := ⟨.hbm, 210, rfl⟩
abbrev main_call1_call0_c_28 : Ref sig .tc := ⟨.hbm, 211, rfl⟩
abbrev main_call1_call0_v111 : Ref sig .tc := ⟨.hbm, 212, rfl⟩
abbrev main_call1_call0_v112 : Ref sig .tc := ⟨.hbm, 213, rfl⟩
abbrev main_call1_call0_v113 : Ref sig .tc := ⟨.hbm, 214, rfl⟩
abbrev main_call1_call0_v114 : Ref sig .tc := ⟨.hbm, 215, rfl⟩
abbrev main_call1_call0_v115 : Ref sig .tc := ⟨.hbm, 216, rfl⟩
abbrev main_call1_call0_c_29 : Ref sig .tc := ⟨.hbm, 217, rfl⟩
abbrev main_call1_call0_v116 : Ref sig .tc := ⟨.hbm, 218, rfl⟩
abbrev main_call1_call0_v117 : Ref sig .tc := ⟨.hbm, 219, rfl⟩
abbrev main_call1_call0_c_30 : Ref sig .tc := ⟨.hbm, 220, rfl⟩
abbrev main_call1_call0_v118 : Ref sig .tc := ⟨.hbm, 221, rfl⟩
abbrev main_call1_call0_v119 : Ref sig .tc := ⟨.hbm, 222, rfl⟩
abbrev main_call1_call0_v120 : Ref sig .tc := ⟨.hbm, 223, rfl⟩
abbrev main_call1_call0_v121 : Ref sig .tc := ⟨.hbm, 224, rfl⟩
abbrev main_call1_call0_v122 : Ref sig .tc := ⟨.hbm, 225, rfl⟩
abbrev main_call1_call0_c_31 : Ref sig .tc := ⟨.hbm, 226, rfl⟩
abbrev main_call1_call0_v123 : Ref sig .tc := ⟨.hbm, 227, rfl⟩
abbrev main_call1_call0_v124 : Ref sig .tc := ⟨.hbm, 228, rfl⟩
abbrev main_call1_call0_c_32 : Ref sig .tc := ⟨.hbm, 229, rfl⟩
abbrev main_call1_call0_v125 : Ref sig .tc := ⟨.hbm, 230, rfl⟩
abbrev main_call1_call0_v126 : Ref sig .tc := ⟨.hbm, 231, rfl⟩
abbrev main_call1_call0_v127 : Ref sig .tc := ⟨.hbm, 232, rfl⟩
abbrev main_call1_call0_v128 : Ref sig .tc := ⟨.hbm, 233, rfl⟩
abbrev main_call1_call0_v129 : Ref sig .tc := ⟨.hbm, 234, rfl⟩
abbrev main_call1_call0_c_33 : Ref sig .tc := ⟨.hbm, 235, rfl⟩
abbrev main_call1_call0_v130 : Ref sig .tc := ⟨.hbm, 236, rfl⟩
abbrev main_call1_call0_v131 : Ref sig .tc := ⟨.hbm, 237, rfl⟩
abbrev main_call1_call0_c_34 : Ref sig .tc := ⟨.hbm, 238, rfl⟩
abbrev main_call1_call0_v132 : Ref sig .tc := ⟨.hbm, 239, rfl⟩
abbrev main_call1_call0_v133 : Ref sig .tc := ⟨.hbm, 240, rfl⟩
abbrev main_call1_call0_v134 : Ref sig .tc := ⟨.hbm, 241, rfl⟩
abbrev main_call1_call0_v135 : Ref sig .tc := ⟨.hbm, 242, rfl⟩
abbrev main_call1_call0_v136 : Ref sig .tc := ⟨.hbm, 243, rfl⟩
abbrev main_call1_call0_v137 : Ref sig .tc := ⟨.hbm, 244, rfl⟩
abbrev main_call1_call0_v138 : Ref sig .tc := ⟨.hbm, 245, rfl⟩
abbrev main_call1_call0_v139 : Ref sig .tc := ⟨.hbm, 246, rfl⟩
abbrev main_call1_call0_c_35 : Ref sig .tc := ⟨.hbm, 247, rfl⟩
abbrev main_call1_call0_v140 : Ref sig .tc := ⟨.hbm, 248, rfl⟩
abbrev main_call1_call0_v141 : Ref sig .tc := ⟨.hbm, 249, rfl⟩
abbrev main_call1_call0_v142 : Ref sig .tc := ⟨.hbm, 250, rfl⟩
abbrev main_call1_call0_c_36 : Ref sig .tc := ⟨.hbm, 251, rfl⟩
abbrev main_call1_call0_v143 : Ref sig .tc := ⟨.hbm, 252, rfl⟩
abbrev main_call1_call0_v144 : Ref sig .tc := ⟨.hbm, 253, rfl⟩
abbrev main_call1_call0_c_37 : Ref sig .tc := ⟨.hbm, 254, rfl⟩
abbrev main_call1_call0_v145 : Ref sig .tc := ⟨.hbm, 255, rfl⟩
abbrev main_call1_call0_v146 : Ref sig .tc := ⟨.hbm, 256, rfl⟩
abbrev main_call1_call0_v147 : Ref sig .tc := ⟨.hbm, 257, rfl⟩
abbrev main_call1_call0_v148 : Ref sig .tc := ⟨.hbm, 258, rfl⟩
abbrev main_call1_call0_v149 : Ref sig .tc := ⟨.hbm, 259, rfl⟩
abbrev main_call1_call0_c_38 : Ref sig .tc := ⟨.hbm, 260, rfl⟩
abbrev main_call1_call0_v150 : Ref sig .tc := ⟨.hbm, 261, rfl⟩
abbrev main_call1_call0_v151 : Ref sig .tc := ⟨.hbm, 262, rfl⟩
abbrev main_call1_call0_c_39 : Ref sig .tc := ⟨.hbm, 263, rfl⟩
abbrev main_call1_call0_v152 : Ref sig .tc := ⟨.hbm, 264, rfl⟩
abbrev main_call1_call0_v153 : Ref sig .tc := ⟨.hbm, 265, rfl⟩
abbrev main_call1_call0_v154 : Ref sig .tc := ⟨.hbm, 266, rfl⟩
abbrev main_call1_call0_v155 : Ref sig .tc := ⟨.hbm, 267, rfl⟩
abbrev main_call1_call0_v156 : Ref sig .tc := ⟨.hbm, 268, rfl⟩
abbrev main_call1_call0_c_40 : Ref sig .tc := ⟨.hbm, 269, rfl⟩
abbrev main_call1_call0_v157 : Ref sig .tc := ⟨.hbm, 270, rfl⟩
abbrev main_call1_call0_v158 : Ref sig .tc := ⟨.hbm, 271, rfl⟩
abbrev main_call1_call0_c_41 : Ref sig .tc := ⟨.hbm, 272, rfl⟩
abbrev main_call1_call0_v159 : Ref sig .tc := ⟨.hbm, 273, rfl⟩
abbrev main_call1_call0_v160 : Ref sig .tc := ⟨.hbm, 274, rfl⟩
abbrev main_call1_call0_v161 : Ref sig .tc := ⟨.hbm, 275, rfl⟩
abbrev main_call1_call0_v162 : Ref sig .tc := ⟨.hbm, 276, rfl⟩
abbrev main_call1_call0_v163 : Ref sig .tc := ⟨.hbm, 277, rfl⟩
abbrev main_call1_call0_c_42 : Ref sig .tc := ⟨.hbm, 278, rfl⟩
abbrev main_call1_call0_v164 : Ref sig .tc := ⟨.hbm, 279, rfl⟩
abbrev main_call1_call0_v165 : Ref sig .tc := ⟨.hbm, 280, rfl⟩
abbrev main_call1_call0_c_43 : Ref sig .tc := ⟨.hbm, 281, rfl⟩
abbrev main_call1_call0_v166 : Ref sig .tc := ⟨.hbm, 282, rfl⟩
abbrev main_call1_call0_v167 : Ref sig .tc := ⟨.hbm, 283, rfl⟩
abbrev main_call1_call0_v168 : Ref sig .tc := ⟨.hbm, 284, rfl⟩
abbrev main_call1_call0_v169 : Ref sig .tc := ⟨.hbm, 285, rfl⟩
abbrev main_call1_call0_v170 : Ref sig .tc := ⟨.hbm, 286, rfl⟩
abbrev main_call1_v23_0 : Ref sig .tc := ⟨.hbm, 287, rfl⟩
abbrev main_call1_call0_v172 : Ref sig .tc := ⟨.hbm, 288, rfl⟩
abbrev main_call1_call0_v173 : Ref sig .tc := ⟨.hbm, 289, rfl⟩
abbrev main_call1_call0_c_44 : Ref sig .tc := ⟨.hbm, 290, rfl⟩
abbrev main_call1_call0_v174 : Ref sig .tc := ⟨.hbm, 291, rfl⟩
abbrev main_call1_v23_1 : Ref sig .tc := ⟨.hbm, 292, rfl⟩
abbrev main_call1_v24 : Ref sig .tc := ⟨.hbm, 293, rfl⟩
abbrev main_call1_c_3 : Ref sig .tc := ⟨.hbm, 294, rfl⟩
abbrev main_call1_v25 : Ref sig .tc := ⟨.hbm, 295, rfl⟩
abbrev main_call1_v26 : Ref sig .tc := ⟨.hbm, 296, rfl⟩
abbrev main_call1_c_4 : Ref sig .tc := ⟨.hbm, 297, rfl⟩
abbrev main_call1_v27 : Ref sig .tc := ⟨.hbm, 298, rfl⟩
abbrev main_call1_v28 : Ref sig .tc := ⟨.hbm, 299, rfl⟩
abbrev main_call1_v29 : Ref sig .tc := ⟨.hbm, 300, rfl⟩
abbrev main_call1_cst : Ref sig .tc := ⟨.hbm, 301, rfl⟩
abbrev main_call1_v30 : Ref sig .tc := ⟨.hbm, 302, rfl⟩
abbrev main_call1_v31 : Ref sig .tc := ⟨.hbm, 303, rfl⟩
abbrev main_call1_v32 : Ref sig .tc := ⟨.hbm, 304, rfl⟩
abbrev main_call1_v33 : Ref sig .tc := ⟨.hbm, 305, rfl⟩
abbrev main_call1_v34 : Ref sig .tc := ⟨.hbm, 306, rfl⟩
abbrev main_call1_v35 : Ref sig .tc := ⟨.hbm, 307, rfl⟩
abbrev main_call1_v36 : Ref sig .tc := ⟨.hbm, 308, rfl⟩
abbrev main_call1_v37 : Ref sig .tc := ⟨.hbm, 309, rfl⟩
abbrev main_v27 : Ref sig .tc := ⟨.hbm, 310, rfl⟩
abbrev main_cst_8 : Ref sig .tc := ⟨.hbm, 311, rfl⟩
abbrev main_v28 : Ref sig .tc := ⟨.hbm, 312, rfl⟩
abbrev main_v29 : Ref sig .tc := ⟨.hbm, 313, rfl⟩
abbrev main_v30 : Ref sig .tc := ⟨.hbm, 314, rfl⟩
abbrev main_v31 : Ref sig .tc := ⟨.hbm, 315, rfl⟩
abbrev main_v32 : Ref sig .tc := ⟨.hbm, 316, rfl⟩
abbrev main_v33 : Ref sig .tc := ⟨.hbm, 317, rfl⟩
abbrev main_v34 : Ref sig .tc := ⟨.hbm, 318, rfl⟩
abbrev main_values : Ref sig .tc := ⟨.hbm, 319, rfl⟩
abbrev main_indices : Ref sig .tc := ⟨.hbm, 320, rfl⟩
abbrev main_v35 : Ref sig .tc := ⟨.hbm, 321, rfl⟩
abbrev main_v36 : Ref sig .tc := ⟨.hbm, 322, rfl⟩
abbrev main_v37 : Ref sig .tc := ⟨.hbm, 323, rfl⟩
abbrev main_v38 : Ref sig .tc := ⟨.hbm, 324, rfl⟩
abbrev main_c_9 : Ref sig .tc := ⟨.hbm, 325, rfl⟩
abbrev main_v39 : Ref sig .tc := ⟨.hbm, 326, rfl⟩
abbrev main_v40 : Ref sig .tc := ⟨.hbm, 327, rfl⟩
abbrev main_v41 : Ref sig .tc := ⟨.hbm, 328, rfl⟩
abbrev main_v42 : Ref sig .tc := ⟨.hbm, 329, rfl⟩
abbrev main_v43 : Ref sig .tc := ⟨.hbm, 330, rfl⟩
abbrev main_v44 : Ref sig .tc := ⟨.hbm, 331, rfl⟩
abbrev main_v45 : Ref sig .tc := ⟨.hbm, 332, rfl⟩
abbrev main_v46 : Ref sig .tc := ⟨.hbm, 333, rfl⟩
abbrev main_v47 : Ref sig .tc := ⟨.hbm, 334, rfl⟩
abbrev main_v48 : Ref sig .tc := ⟨.hbm, 335, rfl⟩
abbrev main_v49 : Ref sig .tc := ⟨.hbm, 336, rfl⟩
abbrev main_v50 : Ref sig .tc := ⟨.hbm, 337, rfl⟩

abbrev nD : Nat := 1
abbrev τ : Topo := Topo.v7x

variable {F : FTy → Type} [FloatOps F]
-- ==== Proof.Ssa.lean ====
/- Straight-line host operations in single-assignment form.

   A list of host operations in which every operation writes one buffer, later in the buffer table than everything
   it reads and everything written before it, leaves a valuation that satisfies every operation's equation at once
   (`Ssa.fix`). Two programs whose equations agree therefore agree buffer by buffer (`lock0` … `lockR`). -/
module

public import Idealize.ShloMosaic.Lib.StableHlo.Run

@[expose] public section

namespace Cert.Proof

open Idealize.ShloMosaic Idealize.ShloMosaic.TcCoe

variable {τ : Topo} {sig : RefSig} {Val : EltTy → Type}

/-- A reference's place in its memory space's table of buffers. -/
abbrev pos (r : Ref sig .tc) : ℕ := r.idx.val

/-- The operation writes `y` alone, with a value that depends on the buffers `R` alone, touches TensorCore buffers only
    and leaves nothing unspecified. -/
structure Reads (op : HloOp τ sig Val) (y : Ref sig .tc) (R : List (Ref sig .tc)) : Prop where
  writes : op.writes = {Proc.devRef .tc y}
  value : ∀ V W : Valuation τ sig Val, (∀ q ∈ R, V (Proc.devRef .tc q) = W (Proc.devRef .tc q)) →
    op.result V (Proc.devRef .tc y) = op.result W (Proc.devRef .tc y)
  bufs : op.bufs ⊆ StableHlo.tcRefs τ sig
  fresh : op.fresh = ∅

/-- A constant reads nothing. -/
theorem reads_nullary (y : Ref sig .tc) (v : y.ty.Contents Val) (hy) :
    Reads (StableHlo.nullary (τ := τ) y v hy) y [] :=
  ⟨rfl, fun V W _ => by rw [StableHlo.nullary_result, StableHlo.nullary_result], StableHlo.nullary_bufs_sub .., rfl⟩

/-- A one-operand operation reads its operand. -/
theorem reads_unary (x y : Ref sig .tc) (f : x.ty.Contents Val → y.ty.Contents Val) (hx hy) :
    Reads (StableHlo.unary (τ := τ) x y f hx hy) y [x] :=
  ⟨rfl, fun V W h => by rw [StableHlo.unary_result, StableHlo.unary_result, h x (by simp)], StableHlo.unary_bufs_sub .., rfl⟩

/-- A two-operand operation reads its operands. -/
theorem reads_binary (a b y : Ref sig .tc) (f : a.ty.Contents Val → b.ty.Contents Val → y.ty.Contents Val) (ha hb hy) :
    Reads (StableHlo.binary (τ := τ) a b y f ha hb hy) y [a, b] :=
  ⟨rfl, fun V W h => by rw [StableHlo.binary_result, StableHlo.binary_result, h a (by simp), h b (by simp)],
    StableHlo.binary_bufs_sub .., rfl⟩

/-- A reshape reads its operand. -/
theorem reads_reshape (x y : Ref sig .tc) (he hn hx hy) :
    Reads (StableHlo.reshape (τ := τ) (Val := Val) x y he hn hx hy) y [x] :=
  ⟨rfl, fun V W h => by rw [StableHlo.reshape_result, StableHlo.reshape_result, h x (by simp)],
    StableHlo.reshape_bufs_sub .., rfl⟩

/-- Single-assignment form, every result in the table's places `n` up to `m`, in increasing order. -/
inductive Ssa : ℕ → List (HloOp τ sig Val) → ℕ → Prop
  | nil (n : ℕ) : Ssa n [] n
  | nullary {n m : ℕ} {ops : List (HloOp τ sig Val)} (y : Ref sig .tc) (v : y.ty.Contents Val) (hy)
      (hn : n ≤ pos y) (t : Ssa (pos y + 1) ops m) : Ssa n (StableHlo.nullary (τ := τ) y v hy :: ops) m
  | unary {n m : ℕ} {ops : List (HloOp τ sig Val)} (x y : Ref sig .tc) (f : x.ty.Contents Val → y.ty.Contents Val) (hx hy)
      (hn : n ≤ pos y ∧ pos x < pos y) (t : Ssa (pos y + 1) ops m) : Ssa n (StableHlo.unary (τ := τ) x y f hx hy :: ops) m
  | binary {n m : ℕ} {ops : List (HloOp τ sig Val)} (a b y : Ref sig .tc)
      (f : a.ty.Contents Val → b.ty.Contents Val → y.ty.Contents Val) (ha hb hy)
      (hn : n ≤ pos y ∧ pos a < pos y ∧ pos b < pos y) (t : Ssa (pos y + 1) ops m) :
      Ssa n (StableHlo.binary (τ := τ) a b y f ha hb hy :: ops) m
  | reshape {n m : ℕ} {ops : List (HloOp τ sig Val)} (x y : Ref sig .tc) (he hs hx hy)
      (hn : n ≤ pos y ∧ pos x < pos y) (t : Ssa (pos y + 1) ops m) :
      Ssa n (StableHlo.reshape (τ := τ) (Val := Val) x y he hs hx hy :: ops) m
  | gap {n n' m : ℕ} {ops : List (HloOp τ sig Val)} (h : n ≤ n') (t : Ssa n' ops m) : Ssa n ops m

namespace Ssa

/-- One induction for the facts below: a list in the form is a chain of `Reads` steps. -/
theorem ind {P : ℕ → List (HloOp τ sig Val) → Prop} (h0 : ∀ n, P n [])
    (hc : ∀ n op ops y R, Reads op y R → n ≤ pos y → (∀ q ∈ R, pos q < pos y) → P (pos y + 1) ops → P n (op :: ops))
    (hg : ∀ n n' ops, n ≤ n' → P n' ops → P n ops)
    {n m : ℕ} {ops : List (HloOp τ sig Val)} (h : Ssa n ops m) : P n ops := by
  induction h with
  | nil n => exact h0 n
  | nullary y v hy hn _ ih => exact hc _ _ _ y [] (reads_nullary ..) hn (by simp) ih
  | unary x y f hx hy hn _ ih => exact hc _ _ _ y [x] (reads_unary ..) hn.1 (by simpa using hn.2) ih
  | binary a b y f ha hb hy hn _ ih => exact hc _ _ _ y [a, b] (reads_binary ..) hn.1 (by simpa using hn.2) ih
  | reshape x y he hs hx hy hn _ ih => exact hc _ _ _ y [x] (reads_reshape ..) hn.1 (by simpa using hn.2) ih
  | gap h _ ih => exact hg _ _ _ h ih

/-- Two lists in the form, one after the other, are in the form. -/
theorem append {n m k : ℕ} {l l' : List (HloOp τ sig Val)} (h : Ssa n l m) (h' : Ssa m l' k) : Ssa n (l ++ l') k := by
  induction h with
  | nil n => exact h'
  | nullary y v hy hn _ ih => exact .nullary y v hy hn (ih h')
  | unary x y f hx hy hn _ ih => exact .unary x y f hx hy hn (ih h')
  | binary a b y f ha hb hy hn _ ih => exact .binary a b y f ha hb hy hn (ih h')
  | reshape x y he hs hx hy hn _ ih => exact .reshape x y he hs hx hy hn (ih h')
  | gap h _ ih => exact .gap h (ih h')

/-- A list in the form touches the main memory only. -/
theorem bufs {n m : ℕ} {ops : List (HloOp τ sig Val)} (h : Ssa n ops m) : ∀ op ∈ ops, op.bufs ⊆ StableHlo.tcRefs τ sig := by
  refine ind (P := fun _ ops => ∀ op ∈ ops, op.bufs ⊆ StableHlo.tcRefs τ sig) (by simp) ?_ (fun _ _ _ _ h => h) h
  intro n op ops y R hr _ _ ih
  simpa using ⟨hr.bufs, ih⟩

/-- A list in the form makes no buffer of its own. -/
theorem fresh {n m : ℕ} {ops : List (HloOp τ sig Val)} (h : Ssa n ops m) : ∀ op ∈ ops, op.fresh = ∅ := by
  refine ind (P := fun _ ops => ∀ op ∈ ops, op.fresh = ∅) (by simp) ?_ (fun _ _ _ _ h => h) h
  intro n op ops y R hr _ _ ih
  simpa using ⟨hr.fresh, ih⟩

/-- A buffer before the first one written keeps its contents. -/
theorem keeps {n m : ℕ} {ops : List (HloOp τ sig Val)} (h : Ssa n ops m) :
    ∀ (V : Valuation τ sig Val) (q : Ref sig .tc), pos q < n →
      StableHlo.after ops V (Proc.devRef .tc q) = V (Proc.devRef .tc q) := by
  refine ind (P := fun n ops => ∀ (V : Valuation τ sig Val) (q : Ref sig .tc), pos q < n →
      StableHlo.after ops V (Proc.devRef .tc q) = V (Proc.devRef .tc q)) (fun _ _ _ _ => rfl) ?_
      (fun _ _ _ hle h V q hq => h V q (hq.trans_le hle)) h
  intro n op ops y R hr hn _ ih V q hq
  have hqy : pos q < pos y := hq.trans_le hn
  exact (ih (op.result V) q (hqy.trans (Nat.lt_succ_self _))).trans
    (StableHlo.result_of_writes_ne op V y q hr.writes (fun e => by rw [e] at hqy; exact lt_irrefl _ hqy))

/-- What a list in the form leaves satisfies each of its operations' equations. -/
theorem fix {n m : ℕ} {ops : List (HloOp τ sig Val)} (h : Ssa n ops m) :
    ∀ (V : Valuation τ sig Val), ∀ op ∈ ops, op.result (StableHlo.after ops V) = StableHlo.after ops V := by
  have key : (∀ (V : Valuation τ sig Val) (q : Ref sig .tc), pos q < n →
      StableHlo.after ops V (Proc.devRef .tc q) = V (Proc.devRef .tc q)) ∧
      ∀ (V : Valuation τ sig Val), ∀ op ∈ ops, op.result (StableHlo.after ops V) = StableHlo.after ops V := by
    refine ind (P := fun n ops => (∀ (V : Valuation τ sig Val) (q : Ref sig .tc), pos q < n →
      StableHlo.after ops V (Proc.devRef .tc q) = V (Proc.devRef .tc q)) ∧
      ∀ (V : Valuation τ sig Val), ∀ op ∈ ops, op.result (StableHlo.after ops V) = StableHlo.after ops V)
      (fun _ => ⟨fun _ _ _ => rfl, fun _ _ h => absurd h (by simp)⟩) ?_
      (fun _ _ _ hle h => ⟨fun V q hq => h.1 V q (hq.trans_le hle), h.2⟩) h
    intro n op ops y R hr hn hR ih
    refine ⟨fun V q hq => ?_, fun V op' hop => ?_⟩
    · have hqy : pos q < pos y := hq.trans_le hn
      exact (ih.1 (op.result V) q (hqy.trans (Nat.lt_succ_self _))).trans
        (StableHlo.result_of_writes_ne op V y q hr.writes (fun e => by rw [e] at hqy; exact lt_irrefl _ hqy))
    · rcases List.mem_cons.mp hop with rfl | hop
      · funext b
        by_cases hb : b = Proc.devRef .tc y
        · subst hb
          refine (hr.value _ V fun q hq => ?_).trans (ih.1 (op'.result V) y (Nat.lt_succ_self _)).symm
          have hqy := hR q hq
          exact (ih.1 (op'.result V) q (hqy.trans (Nat.lt_succ_self _))).trans
            (StableHlo.result_of_writes_ne op' V y q hr.writes (fun e => by rw [e] at hqy; exact lt_irrefl _ hqy))
        · exact op'.result_of_not_mem _ (by rw [hr.writes, Finset.mem_singleton]; exact hb)
      · exact ih.2 (op.result V) op' hop
  exact key.2

end Ssa

/-! ## Reading a valuation at a value's type -/

/-- What the valuation holds at a typed reference, as contents of that type. -/
abbrev rd {T : BufTy} (V : Valuation τ sig Val) (t : StableHlo.TRef sig T) : T.Contents Val :=
  t.ofBuf (V (Proc.devRef .tc t.ref))

/-- Storing contents and reading them back gives them. -/
theorem ofBuf_toBuf {T : BufTy} (t : StableHlo.TRef sig T) (v : T.Contents Val) : t.ofBuf (t.toBuf v) = v := by
  obtain ⟨r, rfl, _, _⟩ := t; rfl

variable {T Ta Tb Ty : BufTy}

/-- A constant's equation, read at its type. -/
theorem rd_nullary {V : Valuation τ sig Val} {y : StableHlo.TRef sig Ty} {v : Ty.Contents Val}
    (h : (StableHlo.TRef.nullary (τ := τ) y v).result V = V) : rd V y = v := by
  have := congrFun h (Proc.devRef .tc y.ref)
  rw [StableHlo.nullary_result] at this
  rw [rd, ← this, ofBuf_toBuf]

/-- A one-operand operation's equation, read at its types. -/
theorem rd_unary {V : Valuation τ sig Val} {x : StableHlo.TRef sig Ta} {y : StableHlo.TRef sig Ty}
    {f : Ta.Contents Val → Ty.Contents Val}
    (h : (StableHlo.TRef.unary (τ := τ) x y f).result V = V) : rd V y = f (rd V x) := by
  have := congrFun h (Proc.devRef .tc y.ref)
  rw [StableHlo.unary_result] at this
  rw [rd, ← this, ofBuf_toBuf]

/-- A two-operand operation's equation, read at its types. -/
theorem rd_binary {V : Valuation τ sig Val} {a : StableHlo.TRef sig Ta} {b : StableHlo.TRef sig Tb} {y : StableHlo.TRef sig Ty}
    {f : Ta.Contents Val → Tb.Contents Val → Ty.Contents Val}
    (h : (StableHlo.TRef.binary (τ := τ) a b y f).result V = V) : rd V y = f (rd V a) (rd V b) := by
  have := congrFun h (Proc.devRef .tc y.ref)
  rw [StableHlo.binary_result] at this
  rw [rd, ← this, ofBuf_toBuf]

/-- A reshape's equation, read at its types. -/
theorem rd_reshape' {Tx : BufTy} {V : Valuation τ sig Val} {x : StableHlo.TRef sig Tx} {y : StableHlo.TRef sig Ty}
    {he : Tx.elt = Ty.elt} {hn : Tx.shape.ShapeCasts Ty.shape}
    (h : (StableHlo.TRef.reshape (τ := τ) (Val := Val) x y he hn).result V = V) :
    rd V y = fun i => he ▸ shapeCast Ty.shape (rd V x) hn i := by
  have := congrFun h (Proc.devRef .tc y.ref)
  rw [StableHlo.reshape_result] at this
  rw [rd, ← this]
  clear this h
  obtain ⟨rx, rfl, _, _⟩ := x
  obtain ⟨ry, rfl, _, _⟩ := y
  rfl

/-- A reshape's equation between arrays of one element type. -/
theorem rd_reshape {e : EltTy} {s s' : Shape} {V : Valuation τ sig Val} {x : StableHlo.TRef sig ⟨s, e⟩} {y : StableHlo.TRef sig ⟨s', e⟩}
    {hn : s.ShapeCasts s'}
    (h : (StableHlo.TRef.reshape (τ := τ) (Val := Val) x y rfl hn).result V = V) : rd V y = shapeCast s' (rd V x) hn :=
  rd_reshape' h

/-! ## Two programs in step: equal operands give equal results -/

variable {τ' : Topo} {sig' : RefSig} {V : Valuation τ sig Val} {W : Valuation τ' sig' Val}

/-- Equal constants. -/
theorem lock0 {y : StableHlo.TRef sig Ty} {y' : StableHlo.TRef sig' Ty} (v : Ty.Contents Val)
    (h : (StableHlo.TRef.nullary (τ := τ) y v).result V = V) (h' : (StableHlo.TRef.nullary (τ := τ') y' v).result W = W) :
    rd V y = rd W y' := (rd_nullary h).trans (rd_nullary h').symm

/-- A one-operand operation of equal operands. -/
theorem lock1 {x : StableHlo.TRef sig Ta} {y : StableHlo.TRef sig Ty} {x' : StableHlo.TRef sig' Ta} {y' : StableHlo.TRef sig' Ty}
    (f : Ta.Contents Val → Ty.Contents Val)
    (h : (StableHlo.TRef.unary (τ := τ) x y f).result V = V) (h' : (StableHlo.TRef.unary (τ := τ') x' y' f).result W = W)
    (hx : rd V x = rd W x') : rd V y = rd W y' := (rd_unary h).trans ((congrArg f hx).trans (rd_unary h').symm)

/-- A two-operand operation of equal operands. -/
theorem lock2 {a : StableHlo.TRef sig Ta} {b : StableHlo.TRef sig Tb} {y : StableHlo.TRef sig Ty}
    {a' : StableHlo.TRef sig' Ta} {b' : StableHlo.TRef sig' Tb} {y' : StableHlo.TRef sig' Ty}
    (f : Ta.Contents Val → Tb.Contents Val → Ty.Contents Val)
    (h : (StableHlo.TRef.binary (τ := τ) a b y f).result V = V) (h' : (StableHlo.TRef.binary (τ := τ') a' b' y' f).result W = W)
    (ha : rd V a = rd W a') (hb : rd V b = rd W b') : rd V y = rd W y' :=
  (rd_binary h).trans ((congrArg₂ f ha hb).trans (rd_binary h').symm)

/-- A reshape of equal operands. -/
theorem lockR {e : EltTy} {s s' : Shape} {x : StableHlo.TRef sig ⟨s, e⟩} {y : StableHlo.TRef sig ⟨s', e⟩}
    {x' : StableHlo.TRef sig' ⟨s, e⟩} {y' : StableHlo.TRef sig' ⟨s', e⟩} (hn : s.ShapeCasts s')
    (h : (StableHlo.TRef.reshape (τ := τ) (Val := Val) x y rfl hn).result V = V)
    (h' : (StableHlo.TRef.reshape (τ := τ') (Val := Val) x' y' rfl hn).result W = W)
    (hx : rd V x = rd W x') : rd V y = rd W y' := (rd_reshape h).trans ((congrArg (shapeCast s' · hn) hx).trans (rd_reshape h').symm)

end Cert.Proof

end
-- ==== Proof.RefOps.lean ====
/- The reference program as one list of host operations, its called functions' operations written in place: the
   program runs the list (`main_eq`), and the list is in single-assignment form (`ssa`). -/
module

public import proofs.«01_k».proof.Defs
public import proofs.«01_k».proof.Proof.Gen.ReferenceIdeal
public import proofs.«01_k».proof.Proof.Ssa
public import Idealize.ShloMosaic.Lib.Pipeline.Regions

@[expose] public section

set_option maxRecDepth 4000

noncomputable section

namespace Cert.Proof.Ref

open Idealize.ShloMosaic Idealize.ShloMosaic.TcCoe Idealize.SL.Sem
open Idealize.ShloMosaic.StableHlo (TRef)
open Cert.ReferenceIdeal Cert.ReferenceIdeal.Facts₀

variable {F : FTy → Type} [FloatOps F]

set_option maxHeartbeats 4000000 in
/-- The reference's operations 1 … 56, in order. -/
abbrev ops0 : List (HloOp τ sig (Elt F)) :=
  [ TRef.reshape (.of main_arg0 : TRef sig ⟨S2x4096x512, .f32⟩) (.of main_v0 : TRef sig ⟨S8192x512, .f32⟩) rfl shapeCasts_S2x4096x512_S8192x512,
    TRef.binary (.of main_v0 : TRef sig ⟨S8192x512, .f32⟩) (.of main_arg2 : TRef sig ⟨S512x512, .f32⟩) (.of main_v1 : TRef sig ⟨S8192x512, .f32⟩) (fun l r => Host.dotGeneral dot_S8192x512_S512x512_S8192x512_1_0_0_1_n_n none l r),
    TRef.reshape (.of main_v1 : TRef sig ⟨S8192x512, .f32⟩) (.of main_v2 : TRef sig ⟨S2x4096x512, .f32⟩) rfl shapeCasts_S8192x512_S2x4096x512,
    TRef.binary (.of main_v2 : TRef sig ⟨S2x4096x512, .f32⟩) (.of main_v2 : TRef sig ⟨S2x4096x512, .f32⟩) (.of main_v3 : TRef sig ⟨S2x4096x512, .f32⟩) mulf,
    TRef.nullary (.of main_cst : TRef sig ⟨S_, .f32⟩) (constant S_ .f32 0x00000000#32),
    TRef.binary (.of main_v3 : TRef sig ⟨S2x4096x512, .f32⟩) (.of main_cst : TRef sig ⟨S_, .f32⟩) (.of main_v4 : TRef sig ⟨S2x4096, .f32⟩) (fun x v => Host.reduceAdd x v reducesTo_S2x4096x512_S2x4096_d2 h_S_),
    TRef.unary (.of main_v4 : TRef sig ⟨S2x4096, .f32⟩) (.of main_v5 : TRef sig ⟨S2x4096x1, .f32⟩) (broadcastInDim S2x4096x1 ![0, 1] bcast_S2x4096_S2x4096x1_0_1),
    TRef.unary (.of main_v4 : TRef sig ⟨S2x4096, .f32⟩) (.of main_v6 : TRef sig ⟨S2x1x4096, .f32⟩) (broadcastInDim S2x1x4096 ![0, 2] bcast_S2x4096_S2x1x4096_0_2),
    TRef.unary (.of main_v5 : TRef sig ⟨S2x4096x1, .f32⟩) (.of main_v7 : TRef sig ⟨S2x4096x4096, .f32⟩) (broadcastInDim S2x4096x4096 ![0, 1, 2] bcast_S2x4096x1_S2x4096x4096_0_1_2),
    TRef.unary (.of main_v6 : TRef sig ⟨S2x1x4096, .f32⟩) (.of main_v8 : TRef sig ⟨S2x4096x4096, .f32⟩) (broadcastInDim S2x4096x4096 ![0, 1, 2] bcast_S2x1x4096_S2x4096x4096_0_1_2),
    TRef.binary (.of main_v7 : TRef sig ⟨S2x4096x4096, .f32⟩) (.of main_v8 : TRef sig ⟨S2x4096x4096, .f32⟩) (.of main_v9 : TRef sig ⟨S2x4096x4096, .f32⟩) addf,
    TRef.binary (.of main_v2 : TRef sig ⟨S2x4096x512, .f32⟩) (.of main_v2 : TRef sig ⟨S2x4096x512, .f32⟩) (.of main_v10 : TRef sig ⟨S2x4096x4096, .f32⟩) (fun l r => Host.dotGeneral dot_S2x4096x512_S2x4096x512_S2x4096x4096_2_2_1_1_0_0 none l r),
    TRef.nullary (.of main_cst_0 : TRef sig ⟨S_, .f32⟩) (constant S_ .f32 0x40000000#32),
    TRef.unary (.of main_cst_0 : TRef sig ⟨S_, .f32⟩) (.of main_v11 : TRef sig ⟨S2x4096x4096, .f32⟩) (broadcastInDim S2x4096x4096 ![] bcast_S_S2x4096x4096),
    TRef.binary (.of main_v11 : TRef sig ⟨S2x4096x4096, .f32⟩) (.of main_v10 : TRef sig ⟨S2x4096x4096, .f32⟩) (.of main_v12 : TRef sig ⟨S2x4096x4096, .f32⟩) mulf,
    TRef.binary (.of main_v9 : TRef sig ⟨S2x4096x4096, .f32⟩) (.of main_v12 : TRef sig ⟨S2x4096x4096, .f32⟩) (.of main_v13 : TRef sig ⟨S2x4096x4096, .f32⟩) subf,
    TRef.nullary (.of main_cst_1 : TRef sig ⟨S_, .f32⟩) (constant S_ .f32 0x00000000#32),
    TRef.unary (.of main_cst_1 : TRef sig ⟨S_, .f32⟩) (.of main_v14 : TRef sig ⟨S2x4096x4096, .f32⟩) (broadcastInDim S2x4096x4096 ![] bcast_S_S2x4096x4096),
    TRef.binary (.of main_v13 : TRef sig ⟨S2x4096x4096, .f32⟩) (.of main_v14 : TRef sig ⟨S2x4096x4096, .f32⟩) (.of main_v15 : TRef sig ⟨S2x4096x4096, .f32⟩) maximumf,
    TRef.nullary (.of main_cst_2 : TRef sig ⟨S_, .f32⟩) (constant S_ .f32 0xC0A00000#32),
    TRef.nullary (.of main_cst_3 : TRef sig ⟨S_, .f32⟩) (constant S_ .f32 0x40A00000#32),
    TRef.unary (.of main_cst_2 : TRef sig ⟨S_, .f32⟩) (.of main_call0_v0 : TRef sig ⟨S_, .f32⟩) id,
    TRef.binary (.of main_call0_v0 : TRef sig ⟨S_, .f32⟩) (.of main_arg3 : TRef sig ⟨S_, .f32⟩) (.of main_call0_v1 : TRef sig ⟨S_, .f32⟩) maximumf,
    TRef.unary (.of main_cst_3 : TRef sig ⟨S_, .f32⟩) (.of main_call0_v2 : TRef sig ⟨S_, .f32⟩) id,
    TRef.binary (.of main_call0_v2 : TRef sig ⟨S_, .f32⟩) (.of main_call0_v1 : TRef sig ⟨S_, .f32⟩) (.of main_v16 : TRef sig ⟨S_, .f32⟩) minimumf,
    TRef.unary (.of main_v16 : TRef sig ⟨S_, .f32⟩) (.of main_v17 : TRef sig ⟨S_, .f32⟩) Host.exp,
    TRef.unary (.of main_v17 : TRef sig ⟨S_, .f32⟩) (.of main_v18 : TRef sig ⟨S2x4096x4096, .f32⟩) (broadcastInDim S2x4096x4096 ![] bcast_S_S2x4096x4096),
    TRef.binary (.of main_v15 : TRef sig ⟨S2x4096x4096, .f32⟩) (.of main_v18 : TRef sig ⟨S2x4096x4096, .f32⟩) (.of main_v19 : TRef sig ⟨S2x4096x4096, .f32⟩) mulf,
    TRef.nullary (.of main_c : TRef sig ⟨S_, .i32⟩) (constantI S_ 32 1#32),
    TRef.nullary (.of main_c_4 : TRef sig ⟨S_, .i32⟩) (constantI S_ 32 32#32),
    TRef.binary (.of main_c : TRef sig ⟨S_, .i32⟩) (.of main_c_4 : TRef sig ⟨S_, .i32⟩) (.of main_v20 : TRef sig ⟨S_, .i32⟩) Host.shrui,
    TRef.unary (.of main_v20 : TRef sig ⟨S_, .i32⟩) (.of main_v21 : TRef sig ⟨S_, .i32⟩) id,
    TRef.unary (.of main_v21 : TRef sig ⟨S_, .i32⟩) (.of main_v22 : TRef sig ⟨S1, .i32⟩) (broadcastInDim S1 ![] bcast_S_S1),
    TRef.nullary (.of main_c_5 : TRef sig ⟨S_, .i32⟩) (constantI S_ 32 4294967295#32),
    TRef.binary (.of main_c : TRef sig ⟨S_, .i32⟩) (.of main_c_5 : TRef sig ⟨S_, .i32⟩) (.of main_v23 : TRef sig ⟨S_, .i32⟩) andi,
    TRef.unary (.of main_v23 : TRef sig ⟨S_, .i32⟩) (.of main_v24 : TRef sig ⟨S_, .i32⟩) id,
    TRef.unary (.of main_v24 : TRef sig ⟨S_, .i32⟩) (.of main_v25 : TRef sig ⟨S1, .i32⟩) (broadcastInDim S1 ![] bcast_S_S1),
    TRef.binary (.of main_v22 : TRef sig ⟨S1, .i32⟩) (.of main_v25 : TRef sig ⟨S1, .i32⟩) (.of main_v26 : TRef sig ⟨S2, .i32⟩) (fun a b => concatenate S2 0 [⟨S1, a⟩, ⟨S1, b⟩] concatenates_S1_S1_S2_d0),
    TRef.nullary (.of main_cst_6 : TRef sig ⟨S_, .f32⟩) (constant S_ .f32 0x00000000#32),
    TRef.nullary (.of main_cst_7 : TRef sig ⟨S_, .f32⟩) (constant S_ .f32 0x3F800000#32),
    TRef.unary (.of main_cst_6 : TRef sig ⟨S_, .f32⟩) (.of main_call1_v0 : TRef sig ⟨S_, .f32⟩) id,
    TRef.unary (.of main_cst_7 : TRef sig ⟨S_, .f32⟩) (.of main_call1_v1 : TRef sig ⟨S_, .f32⟩) id,
    TRef.unary (.of main_call1_v0 : TRef sig ⟨S_, .f32⟩) (.of main_call1_v2 : TRef sig ⟨S1x1x1, .f32⟩) (broadcastInDim S1x1x1 ![] bcast_S_S1x1x1),
    TRef.unary (.of main_call1_v1 : TRef sig ⟨S_, .f32⟩) (.of main_call1_v3 : TRef sig ⟨S1x1x1, .f32⟩) (broadcastInDim S1x1x1 ![] bcast_S_S1x1x1),
    TRef.unary (.of main_v26 : TRef sig ⟨S2, .i32⟩) (.of main_call1_v4 : TRef sig ⟨S1, .i32⟩) (extractStridedSlice S1 ![0] · slices_S2_S1_0),
    TRef.reshape (.of main_call1_v4 : TRef sig ⟨S1, .i32⟩) (.of main_call1_v5 : TRef sig ⟨S_, .i32⟩) rfl shapeCasts_S1_S_,
    TRef.unary (.of main_v26 : TRef sig ⟨S2, .i32⟩) (.of main_call1_v6 : TRef sig ⟨S1, .i32⟩) (extractStridedSlice S1 ![1] · slices_S2_S1_1),
    TRef.reshape (.of main_call1_v6 : TRef sig ⟨S1, .i32⟩) (.of main_call1_v7 : TRef sig ⟨S_, .i32⟩) rfl shapeCasts_S1_S_,
    TRef.nullary (.of main_call1_v8 : TRef sig ⟨S2x4096x4096, .i64⟩) (iotaInDim S2x4096x4096 64 0),
    TRef.nullary (.of main_call1_v9 : TRef sig ⟨S2x4096x4096, .i64⟩) (iotaInDim S2x4096x4096 64 1),
    TRef.nullary (.of main_call1_v10 : TRef sig ⟨S2x4096x4096, .i64⟩) (iotaInDim S2x4096x4096 64 2),
    TRef.nullary (.of main_call1_c : TRef sig ⟨S_, .i64⟩) (constantI S_ 64 16777216#64),
    TRef.unary (.of main_call1_c : TRef sig ⟨S_, .i64⟩) (.of main_call1_v11 : TRef sig ⟨S2x4096x4096, .i64⟩) (broadcastInDim S2x4096x4096 ![] bcast_S_S2x4096x4096),
    TRef.binary (.of main_call1_v11 : TRef sig ⟨S2x4096x4096, .i64⟩) (.of main_call1_v8 : TRef sig ⟨S2x4096x4096, .i64⟩) (.of main_call1_v12 : TRef sig ⟨S2x4096x4096, .i64⟩) muli,
    TRef.nullary (.of main_call1_c_0 : TRef sig ⟨S_, .i64⟩) (constantI S_ 64 4096#64),
    TRef.unary (.of main_call1_c_0 : TRef sig ⟨S_, .i64⟩) (.of main_call1_v13 : TRef sig ⟨S2x4096x4096, .i64⟩) (broadcastInDim S2x4096x4096 ![] bcast_S_S2x4096x4096) ]

set_option maxHeartbeats 4000000 in
theorem ssa0 : Ssa 4 (ops0 (F := F)) 60 := by
  refine .reshape _ _ _ _ _ _ (by decide) ?_
  refine .binary _ _ _ _ _ _ _ (by decide) ?_
  refine .reshape _ _ _ _ _ _ (by decide) ?_
  refine .binary _ _ _ _ _ _ _ (by decide) ?_
  refine .nullary _ _ _ (by decide) ?_
  refine .binary _ _ _ _ _ _ _ (by decide) ?_
  refine .unary _ _ _ _ _ (by decide) ?_
  refine .unary _ _ _ _ _ (by decide) ?_
  refine .unary _ _ _ _ _ (by decide) ?_
  refine .unary _ _ _ _ _ (by decide) ?_
  refine .binary _ _ _ _ _ _ _ (by decide) ?_
  refine .binary _ _ _ _ _ _ _ (by decide) ?_
  refine .nullary _ _ _ (by decide) ?_
  refine .unary _ _ _ _ _ (by decide) ?_
  refine .binary _ _ _ _ _ _ _ (by decide) ?_
  refine .binary _ _ _ _ _ _ _ (by decide) ?_
  refine .nullary _ _ _ (by decide) ?_
  refine .unary _ _ _ _ _ (by decide) ?_
  refine .binary _ _ _ _ _ _ _ (by decide) ?_
  refine .nullary _ _ _ (by decide) ?_
  refine .nullary _ _ _ (by decide) ?_
  refine .unary _ _ _ _ _ (by decide) ?_
  refine .binary _ _ _ _ _ _ _ (by decide) ?_
  refine .unary _ _ _ _ _ (by decide) ?_
  refine .binary _ _ _ _ _ _ _ (by decide) ?_
  refine .unary _ _ _ _ _ (by decide) ?_
  refine .unary _ _ _ _ _ (by decide) ?_
  refine .binary _ _ _ _ _ _ _ (by decide) ?_
  refine .nullary _ _ _ (by decide) ?_
  refine .nullary _ _ _ (by decide) ?_
  refine .binary _ _ _ _ _ _ _ (by decide) ?_
  refine .unary _ _ _ _ _ (by decide) ?_
  refine .unary _ _ _ _ _ (by decide) ?_
  refine .nullary _ _ _ (by decide) ?_
  refine .binary _ _ _ _ _ _ _ (by decide) ?_
  refine .unary _ _ _ _ _ (by decide) ?_
  refine .unary _ _ _ _ _ (by decide) ?_
  refine .binary _ _ _ _ _ _ _ (by decide) ?_
  refine .nullary _ _ _ (by decide) ?_
  refine .nullary _ _ _ (by decide) ?_
  refine .unary _ _ _ _ _ (by decide) ?_
  refine .unary _ _ _ _ _ (by decide) ?_
  refine .unary _ _ _ _ _ (by decide) ?_
  refine .unary _ _ _ _ _ (by decide) ?_
  refine .unary _ _ _ _ _ (by decide) ?_
  refine .reshape _ _ _ _ _ _ (by decide) ?_
  refine .unary _ _ _ _ _ (by decide) ?_
  refine .reshape _ _ _ _ _ _ (by decide) ?_
  refine .nullary _ _ _ (by decide) ?_
  refine .nullary _ _ _ (by decide) ?_
  refine .nullary _ _ _ (by decide) ?_
  refine .nullary _ _ _ (by decide) ?_
  refine .unary _ _ _ _ _ (by decide) ?_
  refine .binary _ _ _ _ _ _ _ (by decide) ?_
  refine .nullary _ _ _ (by decide) ?_
  refine .unary _ _ _ _ _ (by decide) ?_
  exact .nil _

set_option maxHeartbeats 4000000 in
/-- The reference's operations 57 … 112, in order. -/
abbrev ops1 : List (HloOp τ sig (Elt F)) :=
  [ TRef.binary (.of main_call1_v13 : TRef sig ⟨S2x4096x4096, .i64⟩) (.of main_call1_v9 : TRef sig ⟨S2x4096x4096, .i64⟩) (.of main_call1_v14 : TRef sig ⟨S2x4096x4096, .i64⟩) muli,
    TRef.nullary (.of main_call1_c_1 : TRef sig ⟨S_, .i64⟩) (constantI S_ 64 1#64),
    TRef.unary (.of main_call1_c_1 : TRef sig ⟨S_, .i64⟩) (.of main_call1_v15 : TRef sig ⟨S2x4096x4096, .i64⟩) (broadcastInDim S2x4096x4096 ![] bcast_S_S2x4096x4096),
    TRef.binary (.of main_call1_v15 : TRef sig ⟨S2x4096x4096, .i64⟩) (.of main_call1_v10 : TRef sig ⟨S2x4096x4096, .i64⟩) (.of main_call1_v16 : TRef sig ⟨S2x4096x4096, .i64⟩) muli,
    TRef.binary (.of main_call1_v12 : TRef sig ⟨S2x4096x4096, .i64⟩) (.of main_call1_v14 : TRef sig ⟨S2x4096x4096, .i64⟩) (.of main_call1_v17 : TRef sig ⟨S2x4096x4096, .i64⟩) addi,
    TRef.binary (.of main_call1_v17 : TRef sig ⟨S2x4096x4096, .i64⟩) (.of main_call1_v16 : TRef sig ⟨S2x4096x4096, .i64⟩) (.of main_call1_v18 : TRef sig ⟨S2x4096x4096, .i64⟩) addi,
    TRef.nullary (.of main_call1_c_2 : TRef sig ⟨S_, .i64⟩) (constantI S_ 64 32#64),
    TRef.unary (.of main_call1_c_2 : TRef sig ⟨S_, .i64⟩) (.of main_call1_v19 : TRef sig ⟨S2x4096x4096, .i64⟩) (broadcastInDim S2x4096x4096 ![] bcast_S_S2x4096x4096),
    TRef.binary (.of main_call1_v18 : TRef sig ⟨S2x4096x4096, .i64⟩) (.of main_call1_v19 : TRef sig ⟨S2x4096x4096, .i64⟩) (.of main_call1_v20 : TRef sig ⟨S2x4096x4096, .i64⟩) Host.shrui,
    TRef.unary (.of main_call1_v18 : TRef sig ⟨S2x4096x4096, .i64⟩) (.of main_call1_v21 : TRef sig ⟨S2x4096x4096, .i32⟩) (trunci 32 · natLt_32_64),
    TRef.unary (.of main_call1_v20 : TRef sig ⟨S2x4096x4096, .i64⟩) (.of main_call1_v22 : TRef sig ⟨S2x4096x4096, .i32⟩) (trunci 32 · natLt_32_64),
    TRef.binary (.of main_call1_v5 : TRef sig ⟨S_, .i32⟩) (.of main_call1_v7 : TRef sig ⟨S_, .i32⟩) (.of main_call1_call0_v0 : TRef sig ⟨S_, .i32⟩) xori,
    TRef.nullary (.of main_call1_call0_c : TRef sig ⟨S_, .i32⟩) (constantI S_ 32 466688986#32),
    TRef.binary (.of main_call1_call0_v0 : TRef sig ⟨S_, .i32⟩) (.of main_call1_call0_c : TRef sig ⟨S_, .i32⟩) (.of main_call1_call0_v1 : TRef sig ⟨S_, .i32⟩) xori,
    TRef.unary (.of main_call1_v5 : TRef sig ⟨S_, .i32⟩) (.of main_call1_call0_v2 : TRef sig ⟨S2x4096x4096, .i32⟩) (broadcastInDim S2x4096x4096 ![] bcast_S_S2x4096x4096),
    TRef.binary (.of main_call1_v22 : TRef sig ⟨S2x4096x4096, .i32⟩) (.of main_call1_call0_v2 : TRef sig ⟨S2x4096x4096, .i32⟩) (.of main_call1_call0_v3 : TRef sig ⟨S2x4096x4096, .i32⟩) addi,
    TRef.unary (.of main_call1_v7 : TRef sig ⟨S_, .i32⟩) (.of main_call1_call0_v4 : TRef sig ⟨S2x4096x4096, .i32⟩) (broadcastInDim S2x4096x4096 ![] bcast_S_S2x4096x4096),
    TRef.binary (.of main_call1_v21 : TRef sig ⟨S2x4096x4096, .i32⟩) (.of main_call1_call0_v4 : TRef sig ⟨S2x4096x4096, .i32⟩) (.of main_call1_call0_v5 : TRef sig ⟨S2x4096x4096, .i32⟩) addi,
    TRef.binary (.of main_call1_call0_v3 : TRef sig ⟨S2x4096x4096, .i32⟩) (.of main_call1_call0_v5 : TRef sig ⟨S2x4096x4096, .i32⟩) (.of main_call1_call0_v6 : TRef sig ⟨S2x4096x4096, .i32⟩) addi,
    TRef.nullary (.of main_call1_call0_c_0 : TRef sig ⟨S_, .i32⟩) (constantI S_ 32 13#32),
    TRef.unary (.of main_call1_call0_c_0 : TRef sig ⟨S_, .i32⟩) (.of main_call1_call0_v7 : TRef sig ⟨S2x4096x4096, .i32⟩) (broadcastInDim S2x4096x4096 ![] bcast_S_S2x4096x4096),
    TRef.binary (.of main_call1_call0_v5 : TRef sig ⟨S2x4096x4096, .i32⟩) (.of main_call1_call0_v7 : TRef sig ⟨S2x4096x4096, .i32⟩) (.of main_call1_call0_v8 : TRef sig ⟨S2x4096x4096, .i32⟩) Host.shli,
    TRef.nullary (.of main_call1_call0_c_1 : TRef sig ⟨S_, .i32⟩) (constantI S_ 32 19#32),
    TRef.unary (.of main_call1_call0_c_1 : TRef sig ⟨S_, .i32⟩) (.of main_call1_call0_v9 : TRef sig ⟨S2x4096x4096, .i32⟩) (broadcastInDim S2x4096x4096 ![] bcast_S_S2x4096x4096),
    TRef.binary (.of main_call1_call0_v5 : TRef sig ⟨S2x4096x4096, .i32⟩) (.of main_call1_call0_v9 : TRef sig ⟨S2x4096x4096, .i32⟩) (.of main_call1_call0_v10 : TRef sig ⟨S2x4096x4096, .i32⟩) Host.shrui,
    TRef.binary (.of main_call1_call0_v8 : TRef sig ⟨S2x4096x4096, .i32⟩) (.of main_call1_call0_v10 : TRef sig ⟨S2x4096x4096, .i32⟩) (.of main_call1_call0_v11 : TRef sig ⟨S2x4096x4096, .i32⟩) ori,
    TRef.binary (.of main_call1_call0_v6 : TRef sig ⟨S2x4096x4096, .i32⟩) (.of main_call1_call0_v11 : TRef sig ⟨S2x4096x4096, .i32⟩) (.of main_call1_call0_v12 : TRef sig ⟨S2x4096x4096, .i32⟩) xori,
    TRef.binary (.of main_call1_call0_v6 : TRef sig ⟨S2x4096x4096, .i32⟩) (.of main_call1_call0_v12 : TRef sig ⟨S2x4096x4096, .i32⟩) (.of main_call1_call0_v13 : TRef sig ⟨S2x4096x4096, .i32⟩) addi,
    TRef.nullary (.of main_call1_call0_c_2 : TRef sig ⟨S_, .i32⟩) (constantI S_ 32 15#32),
    TRef.unary (.of main_call1_call0_c_2 : TRef sig ⟨S_, .i32⟩) (.of main_call1_call0_v14 : TRef sig ⟨S2x4096x4096, .i32⟩) (broadcastInDim S2x4096x4096 ![] bcast_S_S2x4096x4096),
    TRef.binary (.of main_call1_call0_v12 : TRef sig ⟨S2x4096x4096, .i32⟩) (.of main_call1_call0_v14 : TRef sig ⟨S2x4096x4096, .i32⟩) (.of main_call1_call0_v15 : TRef sig ⟨S2x4096x4096, .i32⟩) Host.shli,
    TRef.nullary (.of main_call1_call0_c_3 : TRef sig ⟨S_, .i32⟩) (constantI S_ 32 17#32),
    TRef.unary (.of main_call1_call0_c_3 : TRef sig ⟨S_, .i32⟩) (.of main_call1_call0_v16 : TRef sig ⟨S2x4096x4096, .i32⟩) (broadcastInDim S2x4096x4096 ![] bcast_S_S2x4096x4096),
    TRef.binary (.of main_call1_call0_v12 : TRef sig ⟨S2x4096x4096, .i32⟩) (.of main_call1_call0_v16 : TRef sig ⟨S2x4096x4096, .i32⟩) (.of main_call1_call0_v17 : TRef sig ⟨S2x4096x4096, .i32⟩) Host.shrui,
    TRef.binary (.of main_call1_call0_v15 : TRef sig ⟨S2x4096x4096, .i32⟩) (.of main_call1_call0_v17 : TRef sig ⟨S2x4096x4096, .i32⟩) (.of main_call1_call0_v18 : TRef sig ⟨S2x4096x4096, .i32⟩) ori,
    TRef.binary (.of main_call1_call0_v13 : TRef sig ⟨S2x4096x4096, .i32⟩) (.of main_call1_call0_v18 : TRef sig ⟨S2x4096x4096, .i32⟩) (.of main_call1_call0_v19 : TRef sig ⟨S2x4096x4096, .i32⟩) xori,
    TRef.binary (.of main_call1_call0_v13 : TRef sig ⟨S2x4096x4096, .i32⟩) (.of main_call1_call0_v19 : TRef sig ⟨S2x4096x4096, .i32⟩) (.of main_call1_call0_v20 : TRef sig ⟨S2x4096x4096, .i32⟩) addi,
    TRef.nullary (.of main_call1_call0_c_4 : TRef sig ⟨S_, .i32⟩) (constantI S_ 32 26#32),
    TRef.unary (.of main_call1_call0_c_4 : TRef sig ⟨S_, .i32⟩) (.of main_call1_call0_v21 : TRef sig ⟨S2x4096x4096, .i32⟩) (broadcastInDim S2x4096x4096 ![] bcast_S_S2x4096x4096),
    TRef.binary (.of main_call1_call0_v19 : TRef sig ⟨S2x4096x4096, .i32⟩) (.of main_call1_call0_v21 : TRef sig ⟨S2x4096x4096, .i32⟩) (.of main_call1_call0_v22 : TRef sig ⟨S2x4096x4096, .i32⟩) Host.shli,
    TRef.nullary (.of main_call1_call0_c_5 : TRef sig ⟨S_, .i32⟩) (constantI S_ 32 6#32),
    TRef.unary (.of main_call1_call0_c_5 : TRef sig ⟨S_, .i32⟩) (.of main_call1_call0_v23 : TRef sig ⟨S2x4096x4096, .i32⟩) (broadcastInDim S2x4096x4096 ![] bcast_S_S2x4096x4096),
    TRef.binary (.of main_call1_call0_v19 : TRef sig ⟨S2x4096x4096, .i32⟩) (.of main_call1_call0_v23 : TRef sig ⟨S2x4096x4096, .i32⟩) (.of main_call1_call0_v24 : TRef sig ⟨S2x4096x4096, .i32⟩) Host.shrui,
    TRef.binary (.of main_call1_call0_v22 : TRef sig ⟨S2x4096x4096, .i32⟩) (.of main_call1_call0_v24 : TRef sig ⟨S2x4096x4096, .i32⟩) (.of main_call1_call0_v25 : TRef sig ⟨S2x4096x4096, .i32⟩) ori,
    TRef.binary (.of main_call1_call0_v20 : TRef sig ⟨S2x4096x4096, .i32⟩) (.of main_call1_call0_v25 : TRef sig ⟨S2x4096x4096, .i32⟩) (.of main_call1_call0_v26 : TRef sig ⟨S2x4096x4096, .i32⟩) xori,
    TRef.binary (.of main_call1_call0_v20 : TRef sig ⟨S2x4096x4096, .i32⟩) (.of main_call1_call0_v26 : TRef sig ⟨S2x4096x4096, .i32⟩) (.of main_call1_call0_v27 : TRef sig ⟨S2x4096x4096, .i32⟩) addi,
    TRef.nullary (.of main_call1_call0_c_6 : TRef sig ⟨S_, .i32⟩) (constantI S_ 32 6#32),
    TRef.unary (.of main_call1_call0_c_6 : TRef sig ⟨S_, .i32⟩) (.of main_call1_call0_v28 : TRef sig ⟨S2x4096x4096, .i32⟩) (broadcastInDim S2x4096x4096 ![] bcast_S_S2x4096x4096),
    TRef.binary (.of main_call1_call0_v26 : TRef sig ⟨S2x4096x4096, .i32⟩) (.of main_call1_call0_v28 : TRef sig ⟨S2x4096x4096, .i32⟩) (.of main_call1_call0_v29 : TRef sig ⟨S2x4096x4096, .i32⟩) Host.shli,
    TRef.nullary (.of main_call1_call0_c_7 : TRef sig ⟨S_, .i32⟩) (constantI S_ 32 26#32),
    TRef.unary (.of main_call1_call0_c_7 : TRef sig ⟨S_, .i32⟩) (.of main_call1_call0_v30 : TRef sig ⟨S2x4096x4096, .i32⟩) (broadcastInDim S2x4096x4096 ![] bcast_S_S2x4096x4096),
    TRef.binary (.of main_call1_call0_v26 : TRef sig ⟨S2x4096x4096, .i32⟩) (.of main_call1_call0_v30 : TRef sig ⟨S2x4096x4096, .i32⟩) (.of main_call1_call0_v31 : TRef sig ⟨S2x4096x4096, .i32⟩) Host.shrui,
    TRef.binary (.of main_call1_call0_v29 : TRef sig ⟨S2x4096x4096, .i32⟩) (.of main_call1_call0_v31 : TRef sig ⟨S2x4096x4096, .i32⟩) (.of main_call1_call0_v32 : TRef sig ⟨S2x4096x4096, .i32⟩) ori,
    TRef.binary (.of main_call1_call0_v27 : TRef sig ⟨S2x4096x4096, .i32⟩) (.of main_call1_call0_v32 : TRef sig ⟨S2x4096x4096, .i32⟩) (.of main_call1_call0_v33 : TRef sig ⟨S2x4096x4096, .i32⟩) xori,
    TRef.unary (.of main_call1_v7 : TRef sig ⟨S_, .i32⟩) (.of main_call1_call0_v34 : TRef sig ⟨S2x4096x4096, .i32⟩) (broadcastInDim S2x4096x4096 ![] bcast_S_S2x4096x4096),
    TRef.binary (.of main_call1_call0_v27 : TRef sig ⟨S2x4096x4096, .i32⟩) (.of main_call1_call0_v34 : TRef sig ⟨S2x4096x4096, .i32⟩) (.of main_call1_call0_v35 : TRef sig ⟨S2x4096x4096, .i32⟩) addi ]

set_option maxHeartbeats 4000000 in
theorem ssa1 : Ssa 60 (ops1 (F := F)) 116 := by
  refine .binary _ _ _ _ _ _ _ (by decide) ?_
  refine .nullary _ _ _ (by decide) ?_
  refine .unary _ _ _ _ _ (by decide) ?_
  refine .binary _ _ _ _ _ _ _ (by decide) ?_
  refine .binary _ _ _ _ _ _ _ (by decide) ?_
  refine .binary _ _ _ _ _ _ _ (by decide) ?_
  refine .nullary _ _ _ (by decide) ?_
  refine .unary _ _ _ _ _ (by decide) ?_
  refine .binary _ _ _ _ _ _ _ (by decide) ?_
  refine .unary _ _ _ _ _ (by decide) ?_
  refine .unary _ _ _ _ _ (by decide) ?_
  refine .binary _ _ _ _ _ _ _ (by decide) ?_
  refine .nullary _ _ _ (by decide) ?_
  refine .binary _ _ _ _ _ _ _ (by decide) ?_
  refine .unary _ _ _ _ _ (by decide) ?_
  refine .binary _ _ _ _ _ _ _ (by decide) ?_
  refine .unary _ _ _ _ _ (by decide) ?_
  refine .binary _ _ _ _ _ _ _ (by decide) ?_
  refine .binary _ _ _ _ _ _ _ (by decide) ?_
  refine .nullary _ _ _ (by decide) ?_
  refine .unary _ _ _ _ _ (by decide) ?_
  refine .binary _ _ _ _ _ _ _ (by decide) ?_
  refine .nullary _ _ _ (by decide) ?_
  refine .unary _ _ _ _ _ (by decide) ?_
  refine .binary _ _ _ _ _ _ _ (by decide) ?_
  refine .binary _ _ _ _ _ _ _ (by decide) ?_
  refine .binary _ _ _ _ _ _ _ (by decide) ?_
  refine .binary _ _ _ _ _ _ _ (by decide) ?_
  refine .nullary _ _ _ (by decide) ?_
  refine .unary _ _ _ _ _ (by decide) ?_
  refine .binary _ _ _ _ _ _ _ (by decide) ?_
  refine .nullary _ _ _ (by decide) ?_
  refine .unary _ _ _ _ _ (by decide) ?_
  refine .binary _ _ _ _ _ _ _ (by decide) ?_
  refine .binary _ _ _ _ _ _ _ (by decide) ?_
  refine .binary _ _ _ _ _ _ _ (by decide) ?_
  refine .binary _ _ _ _ _ _ _ (by decide) ?_
  refine .nullary _ _ _ (by decide) ?_
  refine .unary _ _ _ _ _ (by decide) ?_
  refine .binary _ _ _ _ _ _ _ (by decide) ?_
  refine .nullary _ _ _ (by decide) ?_
  refine .unary _ _ _ _ _ (by decide) ?_
  refine .binary _ _ _ _ _ _ _ (by decide) ?_
  refine .binary _ _ _ _ _ _ _ (by decide) ?_
  refine .binary _ _ _ _ _ _ _ (by decide) ?_
  refine .binary _ _ _ _ _ _ _ (by decide) ?_
  refine .nullary _ _ _ (by decide) ?_
  refine .unary _ _ _ _ _ (by decide) ?_
  refine .binary _ _ _ _ _ _ _ (by decide) ?_
  refine .nullary _ _ _ (by decide) ?_
  refine .unary _ _ _ _ _ (by decide) ?_
  refine .binary _ _ _ _ _ _ _ (by decide) ?_
  refine .binary _ _ _ _ _ _ _ (by decide) ?_
  refine .binary _ _ _ _ _ _ _ (by decide) ?_
  refine .unary _ _ _ _ _ (by decide) ?_
  refine .binary _ _ _ _ _ _ _ (by decide) ?_
  exact .nil _

set_option maxHeartbeats 4000000 in
/-- The reference's operations 113 … 168, in order. -/
abbrev ops2 : List (HloOp τ sig (Elt F)) :=
  [ TRef.unary (.of main_call1_call0_v1 : TRef sig ⟨S_, .i32⟩) (.of main_call1_call0_v36 : TRef sig ⟨S2x4096x4096, .i32⟩) (broadcastInDim S2x4096x4096 ![] bcast_S_S2x4096x4096),
    TRef.binary (.of main_call1_call0_v33 : TRef sig ⟨S2x4096x4096, .i32⟩) (.of main_call1_call0_v36 : TRef sig ⟨S2x4096x4096, .i32⟩) (.of main_call1_call0_v37 : TRef sig ⟨S2x4096x4096, .i32⟩) addi,
    TRef.nullary (.of main_call1_call0_c_8 : TRef sig ⟨S_, .i32⟩) (constantI S_ 32 1#32),
    TRef.unary (.of main_call1_call0_c_8 : TRef sig ⟨S_, .i32⟩) (.of main_call1_call0_v38 : TRef sig ⟨S2x4096x4096, .i32⟩) (broadcastInDim S2x4096x4096 ![] bcast_S_S2x4096x4096),
    TRef.binary (.of main_call1_call0_v37 : TRef sig ⟨S2x4096x4096, .i32⟩) (.of main_call1_call0_v38 : TRef sig ⟨S2x4096x4096, .i32⟩) (.of main_call1_call0_v39 : TRef sig ⟨S2x4096x4096, .i32⟩) addi,
    TRef.binary (.of main_call1_call0_v35 : TRef sig ⟨S2x4096x4096, .i32⟩) (.of main_call1_call0_v39 : TRef sig ⟨S2x4096x4096, .i32⟩) (.of main_call1_call0_v40 : TRef sig ⟨S2x4096x4096, .i32⟩) addi,
    TRef.nullary (.of main_call1_call0_c_9 : TRef sig ⟨S_, .i32⟩) (constantI S_ 32 17#32),
    TRef.unary (.of main_call1_call0_c_9 : TRef sig ⟨S_, .i32⟩) (.of main_call1_call0_v41 : TRef sig ⟨S2x4096x4096, .i32⟩) (broadcastInDim S2x4096x4096 ![] bcast_S_S2x4096x4096),
    TRef.binary (.of main_call1_call0_v39 : TRef sig ⟨S2x4096x4096, .i32⟩) (.of main_call1_call0_v41 : TRef sig ⟨S2x4096x4096, .i32⟩) (.of main_call1_call0_v42 : TRef sig ⟨S2x4096x4096, .i32⟩) Host.shli,
    TRef.nullary (.of main_call1_call0_c_10 : TRef sig ⟨S_, .i32⟩) (constantI S_ 32 15#32),
    TRef.unary (.of main_call1_call0_c_10 : TRef sig ⟨S_, .i32⟩) (.of main_call1_call0_v43 : TRef sig ⟨S2x4096x4096, .i32⟩) (broadcastInDim S2x4096x4096 ![] bcast_S_S2x4096x4096),
    TRef.binary (.of main_call1_call0_v39 : TRef sig ⟨S2x4096x4096, .i32⟩) (.of main_call1_call0_v43 : TRef sig ⟨S2x4096x4096, .i32⟩) (.of main_call1_call0_v44 : TRef sig ⟨S2x4096x4096, .i32⟩) Host.shrui,
    TRef.binary (.of main_call1_call0_v42 : TRef sig ⟨S2x4096x4096, .i32⟩) (.of main_call1_call0_v44 : TRef sig ⟨S2x4096x4096, .i32⟩) (.of main_call1_call0_v45 : TRef sig ⟨S2x4096x4096, .i32⟩) ori,
    TRef.binary (.of main_call1_call0_v40 : TRef sig ⟨S2x4096x4096, .i32⟩) (.of main_call1_call0_v45 : TRef sig ⟨S2x4096x4096, .i32⟩) (.of main_call1_call0_v46 : TRef sig ⟨S2x4096x4096, .i32⟩) xori,
    TRef.binary (.of main_call1_call0_v40 : TRef sig ⟨S2x4096x4096, .i32⟩) (.of main_call1_call0_v46 : TRef sig ⟨S2x4096x4096, .i32⟩) (.of main_call1_call0_v47 : TRef sig ⟨S2x4096x4096, .i32⟩) addi,
    TRef.nullary (.of main_call1_call0_c_11 : TRef sig ⟨S_, .i32⟩) (constantI S_ 32 29#32),
    TRef.unary (.of main_call1_call0_c_11 : TRef sig ⟨S_, .i32⟩) (.of main_call1_call0_v48 : TRef sig ⟨S2x4096x4096, .i32⟩) (broadcastInDim S2x4096x4096 ![] bcast_S_S2x4096x4096),
    TRef.binary (.of main_call1_call0_v46 : TRef sig ⟨S2x4096x4096, .i32⟩) (.of main_call1_call0_v48 : TRef sig ⟨S2x4096x4096, .i32⟩) (.of main_call1_call0_v49 : TRef sig ⟨S2x4096x4096, .i32⟩) Host.shli,
    TRef.nullary (.of main_call1_call0_c_12 : TRef sig ⟨S_, .i32⟩) (constantI S_ 32 3#32),
    TRef.unary (.of main_call1_call0_c_12 : TRef sig ⟨S_, .i32⟩) (.of main_call1_call0_v50 : TRef sig ⟨S2x4096x4096, .i32⟩) (broadcastInDim S2x4096x4096 ![] bcast_S_S2x4096x4096),
    TRef.binary (.of main_call1_call0_v46 : TRef sig ⟨S2x4096x4096, .i32⟩) (.of main_call1_call0_v50 : TRef sig ⟨S2x4096x4096, .i32⟩) (.of main_call1_call0_v51 : TRef sig ⟨S2x4096x4096, .i32⟩) Host.shrui,
    TRef.binary (.of main_call1_call0_v49 : TRef sig ⟨S2x4096x4096, .i32⟩) (.of main_call1_call0_v51 : TRef sig ⟨S2x4096x4096, .i32⟩) (.of main_call1_call0_v52 : TRef sig ⟨S2x4096x4096, .i32⟩) ori,
    TRef.binary (.of main_call1_call0_v47 : TRef sig ⟨S2x4096x4096, .i32⟩) (.of main_call1_call0_v52 : TRef sig ⟨S2x4096x4096, .i32⟩) (.of main_call1_call0_v53 : TRef sig ⟨S2x4096x4096, .i32⟩) xori,
    TRef.binary (.of main_call1_call0_v47 : TRef sig ⟨S2x4096x4096, .i32⟩) (.of main_call1_call0_v53 : TRef sig ⟨S2x4096x4096, .i32⟩) (.of main_call1_call0_v54 : TRef sig ⟨S2x4096x4096, .i32⟩) addi,
    TRef.nullary (.of main_call1_call0_c_13 : TRef sig ⟨S_, .i32⟩) (constantI S_ 32 16#32),
    TRef.unary (.of main_call1_call0_c_13 : TRef sig ⟨S_, .i32⟩) (.of main_call1_call0_v55 : TRef sig ⟨S2x4096x4096, .i32⟩) (broadcastInDim S2x4096x4096 ![] bcast_S_S2x4096x4096),
    TRef.binary (.of main_call1_call0_v53 : TRef sig ⟨S2x4096x4096, .i32⟩) (.of main_call1_call0_v55 : TRef sig ⟨S2x4096x4096, .i32⟩) (.of main_call1_call0_v56 : TRef sig ⟨S2x4096x4096, .i32⟩) Host.shli,
    TRef.nullary (.of main_call1_call0_c_14 : TRef sig ⟨S_, .i32⟩) (constantI S_ 32 16#32),
    TRef.unary (.of main_call1_call0_c_14 : TRef sig ⟨S_, .i32⟩) (.of main_call1_call0_v57 : TRef sig ⟨S2x4096x4096, .i32⟩) (broadcastInDim S2x4096x4096 ![] bcast_S_S2x4096x4096),
    TRef.binary (.of main_call1_call0_v53 : TRef sig ⟨S2x4096x4096, .i32⟩) (.of main_call1_call0_v57 : TRef sig ⟨S2x4096x4096, .i32⟩) (.of main_call1_call0_v58 : TRef sig ⟨S2x4096x4096, .i32⟩) Host.shrui,
    TRef.binary (.of main_call1_call0_v56 : TRef sig ⟨S2x4096x4096, .i32⟩) (.of main_call1_call0_v58 : TRef sig ⟨S2x4096x4096, .i32⟩) (.of main_call1_call0_v59 : TRef sig ⟨S2x4096x4096, .i32⟩) ori,
    TRef.binary (.of main_call1_call0_v54 : TRef sig ⟨S2x4096x4096, .i32⟩) (.of main_call1_call0_v59 : TRef sig ⟨S2x4096x4096, .i32⟩) (.of main_call1_call0_v60 : TRef sig ⟨S2x4096x4096, .i32⟩) xori,
    TRef.binary (.of main_call1_call0_v54 : TRef sig ⟨S2x4096x4096, .i32⟩) (.of main_call1_call0_v60 : TRef sig ⟨S2x4096x4096, .i32⟩) (.of main_call1_call0_v61 : TRef sig ⟨S2x4096x4096, .i32⟩) addi,
    TRef.nullary (.of main_call1_call0_c_15 : TRef sig ⟨S_, .i32⟩) (constantI S_ 32 24#32),
    TRef.unary (.of main_call1_call0_c_15 : TRef sig ⟨S_, .i32⟩) (.of main_call1_call0_v62 : TRef sig ⟨S2x4096x4096, .i32⟩) (broadcastInDim S2x4096x4096 ![] bcast_S_S2x4096x4096),
    TRef.binary (.of main_call1_call0_v60 : TRef sig ⟨S2x4096x4096, .i32⟩) (.of main_call1_call0_v62 : TRef sig ⟨S2x4096x4096, .i32⟩) (.of main_call1_call0_v63 : TRef sig ⟨S2x4096x4096, .i32⟩) Host.shli,
    TRef.nullary (.of main_call1_call0_c_16 : TRef sig ⟨S_, .i32⟩) (constantI S_ 32 8#32),
    TRef.unary (.of main_call1_call0_c_16 : TRef sig ⟨S_, .i32⟩) (.of main_call1_call0_v64 : TRef sig ⟨S2x4096x4096, .i32⟩) (broadcastInDim S2x4096x4096 ![] bcast_S_S2x4096x4096),
    TRef.binary (.of main_call1_call0_v60 : TRef sig ⟨S2x4096x4096, .i32⟩) (.of main_call1_call0_v64 : TRef sig ⟨S2x4096x4096, .i32⟩) (.of main_call1_call0_v65 : TRef sig ⟨S2x4096x4096, .i32⟩) Host.shrui,
    TRef.binary (.of main_call1_call0_v63 : TRef sig ⟨S2x4096x4096, .i32⟩) (.of main_call1_call0_v65 : TRef sig ⟨S2x4096x4096, .i32⟩) (.of main_call1_call0_v66 : TRef sig ⟨S2x4096x4096, .i32⟩) ori,
    TRef.binary (.of main_call1_call0_v61 : TRef sig ⟨S2x4096x4096, .i32⟩) (.of main_call1_call0_v66 : TRef sig ⟨S2x4096x4096, .i32⟩) (.of main_call1_call0_v67 : TRef sig ⟨S2x4096x4096, .i32⟩) xori,
    TRef.unary (.of main_call1_call0_v1 : TRef sig ⟨S_, .i32⟩) (.of main_call1_call0_v68 : TRef sig ⟨S2x4096x4096, .i32⟩) (broadcastInDim S2x4096x4096 ![] bcast_S_S2x4096x4096),
    TRef.binary (.of main_call1_call0_v61 : TRef sig ⟨S2x4096x4096, .i32⟩) (.of main_call1_call0_v68 : TRef sig ⟨S2x4096x4096, .i32⟩) (.of main_call1_call0_v69 : TRef sig ⟨S2x4096x4096, .i32⟩) addi,
    TRef.unary (.of main_call1_v5 : TRef sig ⟨S_, .i32⟩) (.of main_call1_call0_v70 : TRef sig ⟨S2x4096x4096, .i32⟩) (broadcastInDim S2x4096x4096 ![] bcast_S_S2x4096x4096),
    TRef.binary (.of main_call1_call0_v67 : TRef sig ⟨S2x4096x4096, .i32⟩) (.of main_call1_call0_v70 : TRef sig ⟨S2x4096x4096, .i32⟩) (.of main_call1_call0_v71 : TRef sig ⟨S2x4096x4096, .i32⟩) addi,
    TRef.nullary (.of main_call1_call0_c_17 : TRef sig ⟨S_, .i32⟩) (constantI S_ 32 2#32),
    TRef.unary (.of main_call1_call0_c_17 : TRef sig ⟨S_, .i32⟩) (.of main_call1_call0_v72 : TRef sig ⟨S2x4096x4096, .i32⟩) (broadcastInDim S2x4096x4096 ![] bcast_S_S2x4096x4096),
    TRef.binary (.of main_call1_call0_v71 : TRef sig ⟨S2x4096x4096, .i32⟩) (.of main_call1_call0_v72 : TRef sig ⟨S2x4096x4096, .i32⟩) (.of main_call1_call0_v73 : TRef sig ⟨S2x4096x4096, .i32⟩) addi,
    TRef.binary (.of main_call1_call0_v69 : TRef sig ⟨S2x4096x4096, .i32⟩) (.of main_call1_call0_v73 : TRef sig ⟨S2x4096x4096, .i32⟩) (.of main_call1_call0_v74 : TRef sig ⟨S2x4096x4096, .i32⟩) addi,
    TRef.nullary (.of main_call1_call0_c_18 : TRef sig ⟨S_, .i32⟩) (constantI S_ 32 13#32),
    TRef.unary (.of main_call1_call0_c_18 : TRef sig ⟨S_, .i32⟩) (.of main_call1_call0_v75 : TRef sig ⟨S2x4096x4096, .i32⟩) (broadcastInDim S2x4096x4096 ![] bcast_S_S2x4096x4096),
    TRef.binary (.of main_call1_call0_v73 : TRef sig ⟨S2x4096x4096, .i32⟩) (.of main_call1_call0_v75 : TRef sig ⟨S2x4096x4096, .i32⟩) (.of main_call1_call0_v76 : TRef sig ⟨S2x4096x4096, .i32⟩) Host.shli,
    TRef.nullary (.of main_call1_call0_c_19 : TRef sig ⟨S_, .i32⟩) (constantI S_ 32 19#32),
    TRef.unary (.of main_call1_call0_c_19 : TRef sig ⟨S_, .i32⟩) (.of main_call1_call0_v77 : TRef sig ⟨S2x4096x4096, .i32⟩) (broadcastInDim S2x4096x4096 ![] bcast_S_S2x4096x4096),
    TRef.binary (.of main_call1_call0_v73 : TRef sig ⟨S2x4096x4096, .i32⟩) (.of main_call1_call0_v77 : TRef sig ⟨S2x4096x4096, .i32⟩) (.of main_call1_call0_v78 : TRef sig ⟨S2x4096x4096, .i32⟩) Host.shrui,
    TRef.binary (.of main_call1_call0_v76 : TRef sig ⟨S2x4096x4096, .i32⟩) (.of main_call1_call0_v78 : TRef sig ⟨S2x4096x4096, .i32⟩) (.of main_call1_call0_v79 : TRef sig ⟨S2x4096x4096, .i32⟩) ori ]

set_option maxHeartbeats 4000000 in
theorem ssa2 : Ssa 116 (ops2 (F := F)) 172 := by
  refine .unary _ _ _ _ _ (by decide) ?_
  refine .binary _ _ _ _ _ _ _ (by decide) ?_
  refine .nullary _ _ _ (by decide) ?_
  refine .unary _ _ _ _ _ (by decide) ?_
  refine .binary _ _ _ _ _ _ _ (by decide) ?_
  refine .binary _ _ _ _ _ _ _ (by decide) ?_
  refine .nullary _ _ _ (by decide) ?_
  refine .unary _ _ _ _ _ (by decide) ?_
  refine .binary _ _ _ _ _ _ _ (by decide) ?_
  refine .nullary _ _ _ (by decide) ?_
  refine .unary _ _ _ _ _ (by decide) ?_
  refine .binary _ _ _ _ _ _ _ (by decide) ?_
  refine .binary _ _ _ _ _ _ _ (by decide) ?_
  refine .binary _ _ _ _ _ _ _ (by decide) ?_
  refine .binary _ _ _ _ _ _ _ (by decide) ?_
  refine .nullary _ _ _ (by decide) ?_
  refine .unary _ _ _ _ _ (by decide) ?_
  refine .binary _ _ _ _ _ _ _ (by decide) ?_
  refine .nullary _ _ _ (by decide) ?_
  refine .unary _ _ _ _ _ (by decide) ?_
  refine .binary _ _ _ _ _ _ _ (by decide) ?_
  refine .binary _ _ _ _ _ _ _ (by decide) ?_
  refine .binary _ _ _ _ _ _ _ (by decide) ?_
  refine .binary _ _ _ _ _ _ _ (by decide) ?_
  refine .nullary _ _ _ (by decide) ?_
  refine .unary _ _ _ _ _ (by decide) ?_
  refine .binary _ _ _ _ _ _ _ (by decide) ?_
  refine .nullary _ _ _ (by decide) ?_
  refine .unary _ _ _ _ _ (by decide) ?_
  refine .binary _ _ _ _ _ _ _ (by decide) ?_
  refine .binary _ _ _ _ _ _ _ (by decide) ?_
  refine .binary _ _ _ _ _ _ _ (by decide) ?_
  refine .binary _ _ _ _ _ _ _ (by decide) ?_
  refine .nullary _ _ _ (by decide) ?_
  refine .unary _ _ _ _ _ (by decide) ?_
  refine .binary _ _ _ _ _ _ _ (by decide) ?_
  refine .nullary _ _ _ (by decide) ?_
  refine .unary _ _ _ _ _ (by decide) ?_
  refine .binary _ _ _ _ _ _ _ (by decide) ?_
  refine .binary _ _ _ _ _ _ _ (by decide) ?_
  refine .binary _ _ _ _ _ _ _ (by decide) ?_
  refine .unary _ _ _ _ _ (by decide) ?_
  refine .binary _ _ _ _ _ _ _ (by decide) ?_
  refine .unary _ _ _ _ _ (by decide) ?_
  refine .binary _ _ _ _ _ _ _ (by decide) ?_
  refine .nullary _ _ _ (by decide) ?_
  refine .unary _ _ _ _ _ (by decide) ?_
  refine .binary _ _ _ _ _ _ _ (by decide) ?_
  refine .binary _ _ _ _ _ _ _ (by decide) ?_
  refine .nullary _ _ _ (by decide) ?_
  refine .unary _ _ _ _ _ (by decide) ?_
  refine .binary _ _ _ _ _ _ _ (by decide) ?_
  refine .nullary _ _ _ (by decide) ?_
  refine .unary _ _ _ _ _ (by decide) ?_
  refine .binary _ _ _ _ _ _ _ (by decide) ?_
  refine .binary _ _ _ _ _ _ _ (by decide) ?_
  exact .nil _

set_option maxHeartbeats 4000000 in
/-- The reference's operations 169 … 224, in order. -/
abbrev ops3 : List (HloOp τ sig (Elt F)) :=
  [ TRef.binary (.of main_call1_call0_v74 : TRef sig ⟨S2x4096x4096, .i32⟩) (.of main_call1_call0_v79 : TRef sig ⟨S2x4096x4096, .i32⟩) (.of main_call1_call0_v80 : TRef sig ⟨S2x4096x4096, .i32⟩) xori,
    TRef.binary (.of main_call1_call0_v74 : TRef sig ⟨S2x4096x4096, .i32⟩) (.of main_call1_call0_v80 : TRef sig ⟨S2x4096x4096, .i32⟩) (.of main_call1_call0_v81 : TRef sig ⟨S2x4096x4096, .i32⟩) addi,
    TRef.nullary (.of main_call1_call0_c_20 : TRef sig ⟨S_, .i32⟩) (constantI S_ 32 15#32),
    TRef.unary (.of main_call1_call0_c_20 : TRef sig ⟨S_, .i32⟩) (.of main_call1_call0_v82 : TRef sig ⟨S2x4096x4096, .i32⟩) (broadcastInDim S2x4096x4096 ![] bcast_S_S2x4096x4096),
    TRef.binary (.of main_call1_call0_v80 : TRef sig ⟨S2x4096x4096, .i32⟩) (.of main_call1_call0_v82 : TRef sig ⟨S2x4096x4096, .i32⟩) (.of main_call1_call0_v83 : TRef sig ⟨S2x4096x4096, .i32⟩) Host.shli,
    TRef.nullary (.of main_call1_call0_c_21 : TRef sig ⟨S_, .i32⟩) (constantI S_ 32 17#32),
    TRef.unary (.of main_call1_call0_c_21 : TRef sig ⟨S_, .i32⟩) (.of main_call1_call0_v84 : TRef sig ⟨S2x4096x4096, .i32⟩) (broadcastInDim S2x4096x4096 ![] bcast_S_S2x4096x4096),
    TRef.binary (.of main_call1_call0_v80 : TRef sig ⟨S2x4096x4096, .i32⟩) (.of main_call1_call0_v84 : TRef sig ⟨S2x4096x4096, .i32⟩) (.of main_call1_call0_v85 : TRef sig ⟨S2x4096x4096, .i32⟩) Host.shrui,
    TRef.binary (.of main_call1_call0_v83 : TRef sig ⟨S2x4096x4096, .i32⟩) (.of main_call1_call0_v85 : TRef sig ⟨S2x4096x4096, .i32⟩) (.of main_call1_call0_v86 : TRef sig ⟨S2x4096x4096, .i32⟩) ori,
    TRef.binary (.of main_call1_call0_v81 : TRef sig ⟨S2x4096x4096, .i32⟩) (.of main_call1_call0_v86 : TRef sig ⟨S2x4096x4096, .i32⟩) (.of main_call1_call0_v87 : TRef sig ⟨S2x4096x4096, .i32⟩) xori,
    TRef.binary (.of main_call1_call0_v81 : TRef sig ⟨S2x4096x4096, .i32⟩) (.of main_call1_call0_v87 : TRef sig ⟨S2x4096x4096, .i32⟩) (.of main_call1_call0_v88 : TRef sig ⟨S2x4096x4096, .i32⟩) addi,
    TRef.nullary (.of main_call1_call0_c_22 : TRef sig ⟨S_, .i32⟩) (constantI S_ 32 26#32),
    TRef.unary (.of main_call1_call0_c_22 : TRef sig ⟨S_, .i32⟩) (.of main_call1_call0_v89 : TRef sig ⟨S2x4096x4096, .i32⟩) (broadcastInDim S2x4096x4096 ![] bcast_S_S2x4096x4096),
    TRef.binary (.of main_call1_call0_v87 : TRef sig ⟨S2x4096x4096, .i32⟩) (.of main_call1_call0_v89 : TRef sig ⟨S2x4096x4096, .i32⟩) (.of main_call1_call0_v90 : TRef sig ⟨S2x4096x4096, .i32⟩) Host.shli,
    TRef.nullary (.of main_call1_call0_c_23 : TRef sig ⟨S_, .i32⟩) (constantI S_ 32 6#32),
    TRef.unary (.of main_call1_call0_c_23 : TRef sig ⟨S_, .i32⟩) (.of main_call1_call0_v91 : TRef sig ⟨S2x4096x4096, .i32⟩) (broadcastInDim S2x4096x4096 ![] bcast_S_S2x4096x4096),
    TRef.binary (.of main_call1_call0_v87 : TRef sig ⟨S2x4096x4096, .i32⟩) (.of main_call1_call0_v91 : TRef sig ⟨S2x4096x4096, .i32⟩) (.of main_call1_call0_v92 : TRef sig ⟨S2x4096x4096, .i32⟩) Host.shrui,
    TRef.binary (.of main_call1_call0_v90 : TRef sig ⟨S2x4096x4096, .i32⟩) (.of main_call1_call0_v92 : TRef sig ⟨S2x4096x4096, .i32⟩) (.of main_call1_call0_v93 : TRef sig ⟨S2x4096x4096, .i32⟩) ori,
    TRef.binary (.of main_call1_call0_v88 : TRef sig ⟨S2x4096x4096, .i32⟩) (.of main_call1_call0_v93 : TRef sig ⟨S2x4096x4096, .i32⟩) (.of main_call1_call0_v94 : TRef sig ⟨S2x4096x4096, .i32⟩) xori,
    TRef.binary (.of main_call1_call0_v88 : TRef sig ⟨S2x4096x4096, .i32⟩) (.of main_call1_call0_v94 : TRef sig ⟨S2x4096x4096, .i32⟩) (.of main_call1_call0_v95 : TRef sig ⟨S2x4096x4096, .i32⟩) addi,
    TRef.nullary (.of main_call1_call0_c_24 : TRef sig ⟨S_, .i32⟩) (constantI S_ 32 6#32),
    TRef.unary (.of main_call1_call0_c_24 : TRef sig ⟨S_, .i32⟩) (.of main_call1_call0_v96 : TRef sig ⟨S2x4096x4096, .i32⟩) (broadcastInDim S2x4096x4096 ![] bcast_S_S2x4096x4096),
    TRef.binary (.of main_call1_call0_v94 : TRef sig ⟨S2x4096x4096, .i32⟩) (.of main_call1_call0_v96 : TRef sig ⟨S2x4096x4096, .i32⟩) (.of main_call1_call0_v97 : TRef sig ⟨S2x4096x4096, .i32⟩) Host.shli,
    TRef.nullary (.of main_call1_call0_c_25 : TRef sig ⟨S_, .i32⟩) (constantI S_ 32 26#32),
    TRef.unary (.of main_call1_call0_c_25 : TRef sig ⟨S_, .i32⟩) (.of main_call1_call0_v98 : TRef sig ⟨S2x4096x4096, .i32⟩) (broadcastInDim S2x4096x4096 ![] bcast_S_S2x4096x4096),
    TRef.binary (.of main_call1_call0_v94 : TRef sig ⟨S2x4096x4096, .i32⟩) (.of main_call1_call0_v98 : TRef sig ⟨S2x4096x4096, .i32⟩) (.of main_call1_call0_v99 : TRef sig ⟨S2x4096x4096, .i32⟩) Host.shrui,
    TRef.binary (.of main_call1_call0_v97 : TRef sig ⟨S2x4096x4096, .i32⟩) (.of main_call1_call0_v99 : TRef sig ⟨S2x4096x4096, .i32⟩) (.of main_call1_call0_v100 : TRef sig ⟨S2x4096x4096, .i32⟩) ori,
    TRef.binary (.of main_call1_call0_v95 : TRef sig ⟨S2x4096x4096, .i32⟩) (.of main_call1_call0_v100 : TRef sig ⟨S2x4096x4096, .i32⟩) (.of main_call1_call0_v101 : TRef sig ⟨S2x4096x4096, .i32⟩) xori,
    TRef.unary (.of main_call1_v5 : TRef sig ⟨S_, .i32⟩) (.of main_call1_call0_v102 : TRef sig ⟨S2x4096x4096, .i32⟩) (broadcastInDim S2x4096x4096 ![] bcast_S_S2x4096x4096),
    TRef.binary (.of main_call1_call0_v95 : TRef sig ⟨S2x4096x4096, .i32⟩) (.of main_call1_call0_v102 : TRef sig ⟨S2x4096x4096, .i32⟩) (.of main_call1_call0_v103 : TRef sig ⟨S2x4096x4096, .i32⟩) addi,
    TRef.unary (.of main_call1_v7 : TRef sig ⟨S_, .i32⟩) (.of main_call1_call0_v104 : TRef sig ⟨S2x4096x4096, .i32⟩) (broadcastInDim S2x4096x4096 ![] bcast_S_S2x4096x4096),
    TRef.binary (.of main_call1_call0_v101 : TRef sig ⟨S2x4096x4096, .i32⟩) (.of main_call1_call0_v104 : TRef sig ⟨S2x4096x4096, .i32⟩) (.of main_call1_call0_v105 : TRef sig ⟨S2x4096x4096, .i32⟩) addi,
    TRef.nullary (.of main_call1_call0_c_26 : TRef sig ⟨S_, .i32⟩) (constantI S_ 32 3#32),
    TRef.unary (.of main_call1_call0_c_26 : TRef sig ⟨S_, .i32⟩) (.of main_call1_call0_v106 : TRef sig ⟨S2x4096x4096, .i32⟩) (broadcastInDim S2x4096x4096 ![] bcast_S_S2x4096x4096),
    TRef.binary (.of main_call1_call0_v105 : TRef sig ⟨S2x4096x4096, .i32⟩) (.of main_call1_call0_v106 : TRef sig ⟨S2x4096x4096, .i32⟩) (.of main_call1_call0_v107 : TRef sig ⟨S2x4096x4096, .i32⟩) addi,
    TRef.binary (.of main_call1_call0_v103 : TRef sig ⟨S2x4096x4096, .i32⟩) (.of main_call1_call0_v107 : TRef sig ⟨S2x4096x4096, .i32⟩) (.of main_call1_call0_v108 : TRef sig ⟨S2x4096x4096, .i32⟩) addi,
    TRef.nullary (.of main_call1_call0_c_27 : TRef sig ⟨S_, .i32⟩) (constantI S_ 32 17#32),
    TRef.unary (.of main_call1_call0_c_27 : TRef sig ⟨S_, .i32⟩) (.of main_call1_call0_v109 : TRef sig ⟨S2x4096x4096, .i32⟩) (broadcastInDim S2x4096x4096 ![] bcast_S_S2x4096x4096),
    TRef.binary (.of main_call1_call0_v107 : TRef sig ⟨S2x4096x4096, .i32⟩) (.of main_call1_call0_v109 : TRef sig ⟨S2x4096x4096, .i32⟩) (.of main_call1_call0_v110 : TRef sig ⟨S2x4096x4096, .i32⟩) Host.shli,
    TRef.nullary (.of main_call1_call0_c_28 : TRef sig ⟨S_, .i32⟩) (constantI S_ 32 15#32),
    TRef.unary (.of main_call1_call0_c_28 : TRef sig ⟨S_, .i32⟩) (.of main_call1_call0_v111 : TRef sig ⟨S2x4096x4096, .i32⟩) (broadcastInDim S2x4096x4096 ![] bcast_S_S2x4096x4096),
    TRef.binary (.of main_call1_call0_v107 : TRef sig ⟨S2x4096x4096, .i32⟩) (.of main_call1_call0_v111 : TRef sig ⟨S2x4096x4096, .i32⟩) (.of main_call1_call0_v112 : TRef sig ⟨S2x4096x4096, .i32⟩) Host.shrui,
    TRef.binary (.of main_call1_call0_v110 : TRef sig ⟨S2x4096x4096, .i32⟩) (.of main_call1_call0_v112 : TRef sig ⟨S2x4096x4096, .i32⟩) (.of main_call1_call0_v113 : TRef sig ⟨S2x4096x4096, .i32⟩) ori,
    TRef.binary (.of main_call1_call0_v108 : TRef sig ⟨S2x4096x4096, .i32⟩) (.of main_call1_call0_v113 : TRef sig ⟨S2x4096x4096, .i32⟩) (.of main_call1_call0_v114 : TRef sig ⟨S2x4096x4096, .i32⟩) xori,
    TRef.binary (.of main_call1_call0_v108 : TRef sig ⟨S2x4096x4096, .i32⟩) (.of main_call1_call0_v114 : TRef sig ⟨S2x4096x4096, .i32⟩) (.of main_call1_call0_v115 : TRef sig ⟨S2x4096x4096, .i32⟩) addi,
    TRef.nullary (.of main_call1_call0_c_29 : TRef sig ⟨S_, .i32⟩) (constantI S_ 32 29#32),
    TRef.unary (.of main_call1_call0_c_29 : TRef sig ⟨S_, .i32⟩) (.of main_call1_call0_v116 : TRef sig ⟨S2x4096x4096, .i32⟩) (broadcastInDim S2x4096x4096 ![] bcast_S_S2x4096x4096),
    TRef.binary (.of main_call1_call0_v114 : TRef sig ⟨S2x4096x4096, .i32⟩) (.of main_call1_call0_v116 : TRef sig ⟨S2x4096x4096, .i32⟩) (.of main_call1_call0_v117 : TRef sig ⟨S2x4096x4096, .i32⟩) Host.shli,
    TRef.nullary (.of main_call1_call0_c_30 : TRef sig ⟨S_, .i32⟩) (constantI S_ 32 3#32),
    TRef.unary (.of main_call1_call0_c_30 : TRef sig ⟨S_, .i32⟩) (.of main_call1_call0_v118 : TRef sig ⟨S2x4096x4096, .i32⟩) (broadcastInDim S2x4096x4096 ![] bcast_S_S2x4096x4096),
    TRef.binary (.of main_call1_call0_v114 : TRef sig ⟨S2x4096x4096, .i32⟩) (.of main_call1_call0_v118 : TRef sig ⟨S2x4096x4096, .i32⟩) (.of main_call1_call0_v119 : TRef sig ⟨S2x4096x4096, .i32⟩) Host.shrui,
    TRef.binary (.of main_call1_call0_v117 : TRef sig ⟨S2x4096x4096, .i32⟩) (.of main_call1_call0_v119 : TRef sig ⟨S2x4096x4096, .i32⟩) (.of main_call1_call0_v120 : TRef sig ⟨S2x4096x4096, .i32⟩) ori,
    TRef.binary (.of main_call1_call0_v115 : TRef sig ⟨S2x4096x4096, .i32⟩) (.of main_call1_call0_v120 : TRef sig ⟨S2x4096x4096, .i32⟩) (.of main_call1_call0_v121 : TRef sig ⟨S2x4096x4096, .i32⟩) xori,
    TRef.binary (.of main_call1_call0_v115 : TRef sig ⟨S2x4096x4096, .i32⟩) (.of main_call1_call0_v121 : TRef sig ⟨S2x4096x4096, .i32⟩) (.of main_call1_call0_v122 : TRef sig ⟨S2x4096x4096, .i32⟩) addi,
    TRef.nullary (.of main_call1_call0_c_31 : TRef sig ⟨S_, .i32⟩) (constantI S_ 32 16#32),
    TRef.unary (.of main_call1_call0_c_31 : TRef sig ⟨S_, .i32⟩) (.of main_call1_call0_v123 : TRef sig ⟨S2x4096x4096, .i32⟩) (broadcastInDim S2x4096x4096 ![] bcast_S_S2x4096x4096) ]

set_option maxHeartbeats 4000000 in
theorem ssa3 : Ssa 172 (ops3 (F := F)) 228 := by
  refine .binary _ _ _ _ _ _ _ (by decide) ?_
  refine .binary _ _ _ _ _ _ _ (by decide) ?_
  refine .nullary _ _ _ (by decide) ?_
  refine .unary _ _ _ _ _ (by decide) ?_
  refine .binary _ _ _ _ _ _ _ (by decide) ?_
  refine .nullary _ _ _ (by decide) ?_
  refine .unary _ _ _ _ _ (by decide) ?_
  refine .binary _ _ _ _ _ _ _ (by decide) ?_
  refine .binary _ _ _ _ _ _ _ (by decide) ?_
  refine .binary _ _ _ _ _ _ _ (by decide) ?_
  refine .binary _ _ _ _ _ _ _ (by decide) ?_
  refine .nullary _ _ _ (by decide) ?_
  refine .unary _ _ _ _ _ (by decide) ?_
  refine .binary _ _ _ _ _ _ _ (by decide) ?_
  refine .nullary _ _ _ (by decide) ?_
  refine .unary _ _ _ _ _ (by decide) ?_
  refine .binary _ _ _ _ _ _ _ (by decide) ?_
  refine .binary _ _ _ _ _ _ _ (by decide) ?_
  refine .binary _ _ _ _ _ _ _ (by decide) ?_
  refine .binary _ _ _ _ _ _ _ (by decide) ?_
  refine .nullary _ _ _ (by decide) ?_
  refine .unary _ _ _ _ _ (by decide) ?_
  refine .binary _ _ _ _ _ _ _ (by decide) ?_
  refine .nullary _ _ _ (by decide) ?_
  refine .unary _ _ _ _ _ (by decide) ?_
  refine .binary _ _ _ _ _ _ _ (by decide) ?_
  refine .binary _ _ _ _ _ _ _ (by decide) ?_
  refine .binary _ _ _ _ _ _ _ (by decide) ?_
  refine .unary _ _ _ _ _ (by decide) ?_
  refine .binary _ _ _ _ _ _ _ (by decide) ?_
  refine .unary _ _ _ _ _ (by decide) ?_
  refine .binary _ _ _ _ _ _ _ (by decide) ?_
  refine .nullary _ _ _ (by decide) ?_
  refine .unary _ _ _ _ _ (by decide) ?_
  refine .binary _ _ _ _ _ _ _ (by decide) ?_
  refine .binary _ _ _ _ _ _ _ (by decide) ?_
  refine .nullary _ _ _ (by decide) ?_
  refine .unary _ _ _ _ _ (by decide) ?_
  refine .binary _ _ _ _ _ _ _ (by decide) ?_
  refine .nullary _ _ _ (by decide) ?_
  refine .unary _ _ _ _ _ (by decide) ?_
  refine .binary _ _ _ _ _ _ _ (by decide) ?_
  refine .binary _ _ _ _ _ _ _ (by decide) ?_
  refine .binary _ _ _ _ _ _ _ (by decide) ?_
  refine .binary _ _ _ _ _ _ _ (by decide) ?_
  refine .nullary _ _ _ (by decide) ?_
  refine .unary _ _ _ _ _ (by decide) ?_
  refine .binary _ _ _ _ _ _ _ (by decide) ?_
  refine .nullary _ _ _ (by decide) ?_
  refine .unary _ _ _ _ _ (by decide) ?_
  refine .binary _ _ _ _ _ _ _ (by decide) ?_
  refine .binary _ _ _ _ _ _ _ (by decide) ?_
  refine .binary _ _ _ _ _ _ _ (by decide) ?_
  refine .binary _ _ _ _ _ _ _ (by decide) ?_
  refine .nullary _ _ _ (by decide) ?_
  refine .unary _ _ _ _ _ (by decide) ?_
  exact .nil _

set_option maxHeartbeats 4000000 in
/-- The reference's operations 225 … 280, in order. -/
abbrev ops4 : List (HloOp τ sig (Elt F)) :=
  [ TRef.binary (.of main_call1_call0_v121 : TRef sig ⟨S2x4096x4096, .i32⟩) (.of main_call1_call0_v123 : TRef sig ⟨S2x4096x4096, .i32⟩) (.of main_call1_call0_v124 : TRef sig ⟨S2x4096x4096, .i32⟩) Host.shli,
    TRef.nullary (.of main_call1_call0_c_32 : TRef sig ⟨S_, .i32⟩) (constantI S_ 32 16#32),
    TRef.unary (.of main_call1_call0_c_32 : TRef sig ⟨S_, .i32⟩) (.of main_call1_call0_v125 : TRef sig ⟨S2x4096x4096, .i32⟩) (broadcastInDim S2x4096x4096 ![] bcast_S_S2x4096x4096),
    TRef.binary (.of main_call1_call0_v121 : TRef sig ⟨S2x4096x4096, .i32⟩) (.of main_call1_call0_v125 : TRef sig ⟨S2x4096x4096, .i32⟩) (.of main_call1_call0_v126 : TRef sig ⟨S2x4096x4096, .i32⟩) Host.shrui,
    TRef.binary (.of main_call1_call0_v124 : TRef sig ⟨S2x4096x4096, .i32⟩) (.of main_call1_call0_v126 : TRef sig ⟨S2x4096x4096, .i32⟩) (.of main_call1_call0_v127 : TRef sig ⟨S2x4096x4096, .i32⟩) ori,
    TRef.binary (.of main_call1_call0_v122 : TRef sig ⟨S2x4096x4096, .i32⟩) (.of main_call1_call0_v127 : TRef sig ⟨S2x4096x4096, .i32⟩) (.of main_call1_call0_v128 : TRef sig ⟨S2x4096x4096, .i32⟩) xori,
    TRef.binary (.of main_call1_call0_v122 : TRef sig ⟨S2x4096x4096, .i32⟩) (.of main_call1_call0_v128 : TRef sig ⟨S2x4096x4096, .i32⟩) (.of main_call1_call0_v129 : TRef sig ⟨S2x4096x4096, .i32⟩) addi,
    TRef.nullary (.of main_call1_call0_c_33 : TRef sig ⟨S_, .i32⟩) (constantI S_ 32 24#32),
    TRef.unary (.of main_call1_call0_c_33 : TRef sig ⟨S_, .i32⟩) (.of main_call1_call0_v130 : TRef sig ⟨S2x4096x4096, .i32⟩) (broadcastInDim S2x4096x4096 ![] bcast_S_S2x4096x4096),
    TRef.binary (.of main_call1_call0_v128 : TRef sig ⟨S2x4096x4096, .i32⟩) (.of main_call1_call0_v130 : TRef sig ⟨S2x4096x4096, .i32⟩) (.of main_call1_call0_v131 : TRef sig ⟨S2x4096x4096, .i32⟩) Host.shli,
    TRef.nullary (.of main_call1_call0_c_34 : TRef sig ⟨S_, .i32⟩) (constantI S_ 32 8#32),
    TRef.unary (.of main_call1_call0_c_34 : TRef sig ⟨S_, .i32⟩) (.of main_call1_call0_v132 : TRef sig ⟨S2x4096x4096, .i32⟩) (broadcastInDim S2x4096x4096 ![] bcast_S_S2x4096x4096),
    TRef.binary (.of main_call1_call0_v128 : TRef sig ⟨S2x4096x4096, .i32⟩) (.of main_call1_call0_v132 : TRef sig ⟨S2x4096x4096, .i32⟩) (.of main_call1_call0_v133 : TRef sig ⟨S2x4096x4096, .i32⟩) Host.shrui,
    TRef.binary (.of main_call1_call0_v131 : TRef sig ⟨S2x4096x4096, .i32⟩) (.of main_call1_call0_v133 : TRef sig ⟨S2x4096x4096, .i32⟩) (.of main_call1_call0_v134 : TRef sig ⟨S2x4096x4096, .i32⟩) ori,
    TRef.binary (.of main_call1_call0_v129 : TRef sig ⟨S2x4096x4096, .i32⟩) (.of main_call1_call0_v134 : TRef sig ⟨S2x4096x4096, .i32⟩) (.of main_call1_call0_v135 : TRef sig ⟨S2x4096x4096, .i32⟩) xori,
    TRef.unary (.of main_call1_v7 : TRef sig ⟨S_, .i32⟩) (.of main_call1_call0_v136 : TRef sig ⟨S2x4096x4096, .i32⟩) (broadcastInDim S2x4096x4096 ![] bcast_S_S2x4096x4096),
    TRef.binary (.of main_call1_call0_v129 : TRef sig ⟨S2x4096x4096, .i32⟩) (.of main_call1_call0_v136 : TRef sig ⟨S2x4096x4096, .i32⟩) (.of main_call1_call0_v137 : TRef sig ⟨S2x4096x4096, .i32⟩) addi,
    TRef.unary (.of main_call1_call0_v1 : TRef sig ⟨S_, .i32⟩) (.of main_call1_call0_v138 : TRef sig ⟨S2x4096x4096, .i32⟩) (broadcastInDim S2x4096x4096 ![] bcast_S_S2x4096x4096),
    TRef.binary (.of main_call1_call0_v135 : TRef sig ⟨S2x4096x4096, .i32⟩) (.of main_call1_call0_v138 : TRef sig ⟨S2x4096x4096, .i32⟩) (.of main_call1_call0_v139 : TRef sig ⟨S2x4096x4096, .i32⟩) addi,
    TRef.nullary (.of main_call1_call0_c_35 : TRef sig ⟨S_, .i32⟩) (constantI S_ 32 4#32),
    TRef.unary (.of main_call1_call0_c_35 : TRef sig ⟨S_, .i32⟩) (.of main_call1_call0_v140 : TRef sig ⟨S2x4096x4096, .i32⟩) (broadcastInDim S2x4096x4096 ![] bcast_S_S2x4096x4096),
    TRef.binary (.of main_call1_call0_v139 : TRef sig ⟨S2x4096x4096, .i32⟩) (.of main_call1_call0_v140 : TRef sig ⟨S2x4096x4096, .i32⟩) (.of main_call1_call0_v141 : TRef sig ⟨S2x4096x4096, .i32⟩) addi,
    TRef.binary (.of main_call1_call0_v137 : TRef sig ⟨S2x4096x4096, .i32⟩) (.of main_call1_call0_v141 : TRef sig ⟨S2x4096x4096, .i32⟩) (.of main_call1_call0_v142 : TRef sig ⟨S2x4096x4096, .i32⟩) addi,
    TRef.nullary (.of main_call1_call0_c_36 : TRef sig ⟨S_, .i32⟩) (constantI S_ 32 13#32),
    TRef.unary (.of main_call1_call0_c_36 : TRef sig ⟨S_, .i32⟩) (.of main_call1_call0_v143 : TRef sig ⟨S2x4096x4096, .i32⟩) (broadcastInDim S2x4096x4096 ![] bcast_S_S2x4096x4096),
    TRef.binary (.of main_call1_call0_v141 : TRef sig ⟨S2x4096x4096, .i32⟩) (.of main_call1_call0_v143 : TRef sig ⟨S2x4096x4096, .i32⟩) (.of main_call1_call0_v144 : TRef sig ⟨S2x4096x4096, .i32⟩) Host.shli,
    TRef.nullary (.of main_call1_call0_c_37 : TRef sig ⟨S_, .i32⟩) (constantI S_ 32 19#32),
    TRef.unary (.of main_call1_call0_c_37 : TRef sig ⟨S_, .i32⟩) (.of main_call1_call0_v145 : TRef sig ⟨S2x4096x4096, .i32⟩) (broadcastInDim S2x4096x4096 ![] bcast_S_S2x4096x4096),
    TRef.binary (.of main_call1_call0_v141 : TRef sig ⟨S2x4096x4096, .i32⟩) (.of main_call1_call0_v145 : TRef sig ⟨S2x4096x4096, .i32⟩) (.of main_call1_call0_v146 : TRef sig ⟨S2x4096x4096, .i32⟩) Host.shrui,
    TRef.binary (.of main_call1_call0_v144 : TRef sig ⟨S2x4096x4096, .i32⟩) (.of main_call1_call0_v146 : TRef sig ⟨S2x4096x4096, .i32⟩) (.of main_call1_call0_v147 : TRef sig ⟨S2x4096x4096, .i32⟩) ori,
    TRef.binary (.of main_call1_call0_v142 : TRef sig ⟨S2x4096x4096, .i32⟩) (.of main_call1_call0_v147 : TRef sig ⟨S2x4096x4096, .i32⟩) (.of main_call1_call0_v148 : TRef sig ⟨S2x4096x4096, .i32⟩) xori,
    TRef.binary (.of main_call1_call0_v142 : TRef sig ⟨S2x4096x4096, .i32⟩) (.of main_call1_call0_v148 : TRef sig ⟨S2x4096x4096, .i32⟩) (.of main_call1_call0_v149 : TRef sig ⟨S2x4096x4096, .i32⟩) addi,
    TRef.nullary (.of main_call1_call0_c_38 : TRef sig ⟨S_, .i32⟩) (constantI S_ 32 15#32),
    TRef.unary (.of main_call1_call0_c_38 : TRef sig ⟨S_, .i32⟩) (.of main_call1_call0_v150 : TRef sig ⟨S2x4096x4096, .i32⟩) (broadcastInDim S2x4096x4096 ![] bcast_S_S2x4096x4096),
    TRef.binary (.of main_call1_call0_v148 : TRef sig ⟨S2x4096x4096, .i32⟩) (.of main_call1_call0_v150 : TRef sig ⟨S2x4096x4096, .i32⟩) (.of main_call1_call0_v151 : TRef sig ⟨S2x4096x4096, .i32⟩) Host.shli,
    TRef.nullary (.of main_call1_call0_c_39 : TRef sig ⟨S_, .i32⟩) (constantI S_ 32 17#32),
    TRef.unary (.of main_call1_call0_c_39 : TRef sig ⟨S_, .i32⟩) (.of main_call1_call0_v152 : TRef sig ⟨S2x4096x4096, .i32⟩) (broadcastInDim S2x4096x4096 ![] bcast_S_S2x4096x4096),
    TRef.binary (.of main_call1_call0_v148 : TRef sig ⟨S2x4096x4096, .i32⟩) (.of main_call1_call0_v152 : TRef sig ⟨S2x4096x4096, .i32⟩) (.of main_call1_call0_v153 : TRef sig ⟨S2x4096x4096, .i32⟩) Host.shrui,
    TRef.binary (.of main_call1_call0_v151 : TRef sig ⟨S2x4096x4096, .i32⟩) (.of main_call1_call0_v153 : TRef sig ⟨S2x4096x4096, .i32⟩) (.of main_call1_call0_v154 : TRef sig ⟨S2x4096x4096, .i32⟩) ori,
    TRef.binary (.of main_call1_call0_v149 : TRef sig ⟨S2x4096x4096, .i32⟩) (.of main_call1_call0_v154 : TRef sig ⟨S2x4096x4096, .i32⟩) (.of main_call1_call0_v155 : TRef sig ⟨S2x4096x4096, .i32⟩) xori,
    TRef.binary (.of main_call1_call0_v149 : TRef sig ⟨S2x4096x4096, .i32⟩) (.of main_call1_call0_v155 : TRef sig ⟨S2x4096x4096, .i32⟩) (.of main_call1_call0_v156 : TRef sig ⟨S2x4096x4096, .i32⟩) addi,
    TRef.nullary (.of main_call1_call0_c_40 : TRef sig ⟨S_, .i32⟩) (constantI S_ 32 26#32),
    TRef.unary (.of main_call1_call0_c_40 : TRef sig ⟨S_, .i32⟩) (.of main_call1_call0_v157 : TRef sig ⟨S2x4096x4096, .i32⟩) (broadcastInDim S2x4096x4096 ![] bcast_S_S2x4096x4096),
    TRef.binary (.of main_call1_call0_v155 : TRef sig ⟨S2x4096x4096, .i32⟩) (.of main_call1_call0_v157 : TRef sig ⟨S2x4096x4096, .i32⟩) (.of main_call1_call0_v158 : TRef sig ⟨S2x4096x4096, .i32⟩) Host.shli,
    TRef.nullary (.of main_call1_call0_c_41 : TRef sig ⟨S_, .i32⟩) (constantI S_ 32 6#32),
    TRef.unary (.of main_call1_call0_c_41 : TRef sig ⟨S_, .i32⟩) (.of main_call1_call0_v159 : TRef sig ⟨S2x4096x4096, .i32⟩) (broadcastInDim S2x4096x4096 ![] bcast_S_S2x4096x4096),
    TRef.binary (.of main_call1_call0_v155 : TRef sig ⟨S2x4096x4096, .i32⟩) (.of main_call1_call0_v159 : TRef sig ⟨S2x4096x4096, .i32⟩) (.of main_call1_call0_v160 : TRef sig ⟨S2x4096x4096, .i32⟩) Host.shrui,
    TRef.binary (.of main_call1_call0_v158 : TRef sig ⟨S2x4096x4096, .i32⟩) (.of main_call1_call0_v160 : TRef sig ⟨S2x4096x4096, .i32⟩) (.of main_call1_call0_v161 : TRef sig ⟨S2x4096x4096, .i32⟩) ori,
    TRef.binary (.of main_call1_call0_v156 : TRef sig ⟨S2x4096x4096, .i32⟩) (.of main_call1_call0_v161 : TRef sig ⟨S2x4096x4096, .i32⟩) (.of main_call1_call0_v162 : TRef sig ⟨S2x4096x4096, .i32⟩) xori,
    TRef.binary (.of main_call1_call0_v156 : TRef sig ⟨S2x4096x4096, .i32⟩) (.of main_call1_call0_v162 : TRef sig ⟨S2x4096x4096, .i32⟩) (.of main_call1_call0_v163 : TRef sig ⟨S2x4096x4096, .i32⟩) addi,
    TRef.nullary (.of main_call1_call0_c_42 : TRef sig ⟨S_, .i32⟩) (constantI S_ 32 6#32),
    TRef.unary (.of main_call1_call0_c_42 : TRef sig ⟨S_, .i32⟩) (.of main_call1_call0_v164 : TRef sig ⟨S2x4096x4096, .i32⟩) (broadcastInDim S2x4096x4096 ![] bcast_S_S2x4096x4096),
    TRef.binary (.of main_call1_call0_v162 : TRef sig ⟨S2x4096x4096, .i32⟩) (.of main_call1_call0_v164 : TRef sig ⟨S2x4096x4096, .i32⟩) (.of main_call1_call0_v165 : TRef sig ⟨S2x4096x4096, .i32⟩) Host.shli,
    TRef.nullary (.of main_call1_call0_c_43 : TRef sig ⟨S_, .i32⟩) (constantI S_ 32 26#32),
    TRef.unary (.of main_call1_call0_c_43 : TRef sig ⟨S_, .i32⟩) (.of main_call1_call0_v166 : TRef sig ⟨S2x4096x4096, .i32⟩) (broadcastInDim S2x4096x4096 ![] bcast_S_S2x4096x4096),
    TRef.binary (.of main_call1_call0_v162 : TRef sig ⟨S2x4096x4096, .i32⟩) (.of main_call1_call0_v166 : TRef sig ⟨S2x4096x4096, .i32⟩) (.of main_call1_call0_v167 : TRef sig ⟨S2x4096x4096, .i32⟩) Host.shrui ]

set_option maxHeartbeats 4000000 in
theorem ssa4 : Ssa 228 (ops4 (F := F)) 284 := by
  refine .binary _ _ _ _ _ _ _ (by decide) ?_
  refine .nullary _ _ _ (by decide) ?_
  refine .unary _ _ _ _ _ (by decide) ?_
  refine .binary _ _ _ _ _ _ _ (by decide) ?_
  refine .binary _ _ _ _ _ _ _ (by decide) ?_
  refine .binary _ _ _ _ _ _ _ (by decide) ?_
  refine .binary _ _ _ _ _ _ _ (by decide) ?_
  refine .nullary _ _ _ (by decide) ?_
  refine .unary _ _ _ _ _ (by decide) ?_
  refine .binary _ _ _ _ _ _ _ (by decide) ?_
  refine .nullary _ _ _ (by decide) ?_
  refine .unary _ _ _ _ _ (by decide) ?_
  refine .binary _ _ _ _ _ _ _ (by decide) ?_
  refine .binary _ _ _ _ _ _ _ (by decide) ?_
  refine .binary _ _ _ _ _ _ _ (by decide) ?_
  refine .unary _ _ _ _ _ (by decide) ?_
  refine .binary _ _ _ _ _ _ _ (by decide) ?_
  refine .unary _ _ _ _ _ (by decide) ?_
  refine .binary _ _ _ _ _ _ _ (by decide) ?_
  refine .nullary _ _ _ (by decide) ?_
  refine .unary _ _ _ _ _ (by decide) ?_
  refine .binary _ _ _ _ _ _ _ (by decide) ?_
  refine .binary _ _ _ _ _ _ _ (by decide) ?_
  refine .nullary _ _ _ (by decide) ?_
  refine .unary _ _ _ _ _ (by decide) ?_
  refine .binary _ _ _ _ _ _ _ (by decide) ?_
  refine .nullary _ _ _ (by decide) ?_
  refine .unary _ _ _ _ _ (by decide) ?_
  refine .binary _ _ _ _ _ _ _ (by decide) ?_
  refine .binary _ _ _ _ _ _ _ (by decide) ?_
  refine .binary _ _ _ _ _ _ _ (by decide) ?_
  refine .binary _ _ _ _ _ _ _ (by decide) ?_
  refine .nullary _ _ _ (by decide) ?_
  refine .unary _ _ _ _ _ (by decide) ?_
  refine .binary _ _ _ _ _ _ _ (by decide) ?_
  refine .nullary _ _ _ (by decide) ?_
  refine .unary _ _ _ _ _ (by decide) ?_
  refine .binary _ _ _ _ _ _ _ (by decide) ?_
  refine .binary _ _ _ _ _ _ _ (by decide) ?_
  refine .binary _ _ _ _ _ _ _ (by decide) ?_
  refine .binary _ _ _ _ _ _ _ (by decide) ?_
  refine .nullary _ _ _ (by decide) ?_
  refine .unary _ _ _ _ _ (by decide) ?_
  refine .binary _ _ _ _ _ _ _ (by decide) ?_
  refine .nullary _ _ _ (by decide) ?_
  refine .unary _ _ _ _ _ (by decide) ?_
  refine .binary _ _ _ _ _ _ _ (by decide) ?_
  refine .binary _ _ _ _ _ _ _ (by decide) ?_
  refine .binary _ _ _ _ _ _ _ (by decide) ?_
  refine .binary _ _ _ _ _ _ _ (by decide) ?_
  refine .nullary _ _ _ (by decide) ?_
  refine .unary _ _ _ _ _ (by decide) ?_
  refine .binary _ _ _ _ _ _ _ (by decide) ?_
  refine .nullary _ _ _ (by decide) ?_
  refine .unary _ _ _ _ _ (by decide) ?_
  refine .binary _ _ _ _ _ _ _ (by decide) ?_
  exact .nil _

set_option maxHeartbeats 4000000 in
/-- The reference's operations 281 … 334, in order. -/
abbrev ops5 : List (HloOp τ sig (Elt F)) :=
  [ TRef.binary (.of main_call1_call0_v165 : TRef sig ⟨S2x4096x4096, .i32⟩) (.of main_call1_call0_v167 : TRef sig ⟨S2x4096x4096, .i32⟩) (.of main_call1_call0_v168 : TRef sig ⟨S2x4096x4096, .i32⟩) ori,
    TRef.binary (.of main_call1_call0_v163 : TRef sig ⟨S2x4096x4096, .i32⟩) (.of main_call1_call0_v168 : TRef sig ⟨S2x4096x4096, .i32⟩) (.of main_call1_call0_v169 : TRef sig ⟨S2x4096x4096, .i32⟩) xori,
    TRef.unary (.of main_call1_call0_v1 : TRef sig ⟨S_, .i32⟩) (.of main_call1_call0_v170 : TRef sig ⟨S2x4096x4096, .i32⟩) (broadcastInDim S2x4096x4096 ![] bcast_S_S2x4096x4096),
    TRef.binary (.of main_call1_call0_v163 : TRef sig ⟨S2x4096x4096, .i32⟩) (.of main_call1_call0_v170 : TRef sig ⟨S2x4096x4096, .i32⟩) (.of main_call1_v23_0 : TRef sig ⟨S2x4096x4096, .i32⟩) addi,
    TRef.unary (.of main_call1_v5 : TRef sig ⟨S_, .i32⟩) (.of main_call1_call0_v172 : TRef sig ⟨S2x4096x4096, .i32⟩) (broadcastInDim S2x4096x4096 ![] bcast_S_S2x4096x4096),
    TRef.binary (.of main_call1_call0_v169 : TRef sig ⟨S2x4096x4096, .i32⟩) (.of main_call1_call0_v172 : TRef sig ⟨S2x4096x4096, .i32⟩) (.of main_call1_call0_v173 : TRef sig ⟨S2x4096x4096, .i32⟩) addi,
    TRef.nullary (.of main_call1_call0_c_44 : TRef sig ⟨S_, .i32⟩) (constantI S_ 32 5#32),
    TRef.unary (.of main_call1_call0_c_44 : TRef sig ⟨S_, .i32⟩) (.of main_call1_call0_v174 : TRef sig ⟨S2x4096x4096, .i32⟩) (broadcastInDim S2x4096x4096 ![] bcast_S_S2x4096x4096),
    TRef.binary (.of main_call1_call0_v173 : TRef sig ⟨S2x4096x4096, .i32⟩) (.of main_call1_call0_v174 : TRef sig ⟨S2x4096x4096, .i32⟩) (.of main_call1_v23_1 : TRef sig ⟨S2x4096x4096, .i32⟩) addi,
    TRef.binary (.of main_call1_v23_0 : TRef sig ⟨S2x4096x4096, .i32⟩) (.of main_call1_v23_1 : TRef sig ⟨S2x4096x4096, .i32⟩) (.of main_call1_v24 : TRef sig ⟨S2x4096x4096, .i32⟩) xori,
    TRef.nullary (.of main_call1_c_3 : TRef sig ⟨S_, .i32⟩) (constantI S_ 32 9#32),
    TRef.unary (.of main_call1_c_3 : TRef sig ⟨S_, .i32⟩) (.of main_call1_v25 : TRef sig ⟨S2x4096x4096, .i32⟩) (broadcastInDim S2x4096x4096 ![] bcast_S_S2x4096x4096),
    TRef.binary (.of main_call1_v24 : TRef sig ⟨S2x4096x4096, .i32⟩) (.of main_call1_v25 : TRef sig ⟨S2x4096x4096, .i32⟩) (.of main_call1_v26 : TRef sig ⟨S2x4096x4096, .i32⟩) Host.shrui,
    TRef.nullary (.of main_call1_c_4 : TRef sig ⟨S_, .i32⟩) (constantI S_ 32 1065353216#32),
    TRef.unary (.of main_call1_c_4 : TRef sig ⟨S_, .i32⟩) (.of main_call1_v27 : TRef sig ⟨S2x4096x4096, .i32⟩) (broadcastInDim S2x4096x4096 ![] bcast_S_S2x4096x4096),
    TRef.binary (.of main_call1_v26 : TRef sig ⟨S2x4096x4096, .i32⟩) (.of main_call1_v27 : TRef sig ⟨S2x4096x4096, .i32⟩) (.of main_call1_v28 : TRef sig ⟨S2x4096x4096, .i32⟩) ori,
    TRef.unary (.of main_call1_v28 : TRef sig ⟨S2x4096x4096, .i32⟩) (.of main_call1_v29 : TRef sig ⟨S2x4096x4096, .f32⟩) (bitcastToFloat .f32),
    TRef.nullary (.of main_call1_cst : TRef sig ⟨S_, .f32⟩) (constant S_ .f32 0x3F800000#32),
    TRef.unary (.of main_call1_cst : TRef sig ⟨S_, .f32⟩) (.of main_call1_v30 : TRef sig ⟨S2x4096x4096, .f32⟩) (broadcastInDim S2x4096x4096 ![] bcast_S_S2x4096x4096),
    TRef.binary (.of main_call1_v29 : TRef sig ⟨S2x4096x4096, .f32⟩) (.of main_call1_v30 : TRef sig ⟨S2x4096x4096, .f32⟩) (.of main_call1_v31 : TRef sig ⟨S2x4096x4096, .f32⟩) subf,
    TRef.binary (.of main_call1_v3 : TRef sig ⟨S1x1x1, .f32⟩) (.of main_call1_v2 : TRef sig ⟨S1x1x1, .f32⟩) (.of main_call1_v32 : TRef sig ⟨S1x1x1, .f32⟩) subf,
    TRef.unary (.of main_call1_v32 : TRef sig ⟨S1x1x1, .f32⟩) (.of main_call1_v33 : TRef sig ⟨S2x4096x4096, .f32⟩) (broadcastInDim S2x4096x4096 ![0, 1, 2] bcast_S1x1x1_S2x4096x4096_0_1_2),
    TRef.binary (.of main_call1_v31 : TRef sig ⟨S2x4096x4096, .f32⟩) (.of main_call1_v33 : TRef sig ⟨S2x4096x4096, .f32⟩) (.of main_call1_v34 : TRef sig ⟨S2x4096x4096, .f32⟩) mulf,
    TRef.unary (.of main_call1_v2 : TRef sig ⟨S1x1x1, .f32⟩) (.of main_call1_v35 : TRef sig ⟨S2x4096x4096, .f32⟩) (broadcastInDim S2x4096x4096 ![0, 1, 2] bcast_S1x1x1_S2x4096x4096_0_1_2),
    TRef.binary (.of main_call1_v34 : TRef sig ⟨S2x4096x4096, .f32⟩) (.of main_call1_v35 : TRef sig ⟨S2x4096x4096, .f32⟩) (.of main_call1_v36 : TRef sig ⟨S2x4096x4096, .f32⟩) addf,
    TRef.unary (.of main_call1_v2 : TRef sig ⟨S1x1x1, .f32⟩) (.of main_call1_v37 : TRef sig ⟨S2x4096x4096, .f32⟩) (broadcastInDim S2x4096x4096 ![0, 1, 2] bcast_S1x1x1_S2x4096x4096_0_1_2),
    TRef.binary (.of main_call1_v37 : TRef sig ⟨S2x4096x4096, .f32⟩) (.of main_call1_v36 : TRef sig ⟨S2x4096x4096, .f32⟩) (.of main_v27 : TRef sig ⟨S2x4096x4096, .f32⟩) maximumf,
    TRef.nullary (.of main_cst_8 : TRef sig ⟨S_, .f32⟩) (constant S_ .f32 0x322BCC77#32),
    TRef.unary (.of main_cst_8 : TRef sig ⟨S_, .f32⟩) (.of main_v28 : TRef sig ⟨S2x4096x4096, .f32⟩) (broadcastInDim S2x4096x4096 ![] bcast_S_S2x4096x4096),
    TRef.binary (.of main_v27 : TRef sig ⟨S2x4096x4096, .f32⟩) (.of main_v28 : TRef sig ⟨S2x4096x4096, .f32⟩) (.of main_v29 : TRef sig ⟨S2x4096x4096, .f32⟩) addf,
    TRef.unary (.of main_v29 : TRef sig ⟨S2x4096x4096, .f32⟩) (.of main_v30 : TRef sig ⟨S2x4096x4096, .f32⟩) Host.log,
    TRef.unary (.of main_v30 : TRef sig ⟨S2x4096x4096, .f32⟩) (.of main_v31 : TRef sig ⟨S2x4096x4096, .f32⟩) Host.negf,
    TRef.unary (.of main_v31 : TRef sig ⟨S2x4096x4096, .f32⟩) (.of main_v32 : TRef sig ⟨S2x4096x4096, .f32⟩) Host.log,
    TRef.binary (.of main_v19 : TRef sig ⟨S2x4096x4096, .f32⟩) (.of main_v32 : TRef sig ⟨S2x4096x4096, .f32⟩) (.of main_v33 : TRef sig ⟨S2x4096x4096, .f32⟩) subf,
    TRef.unary (.of main_v33 : TRef sig ⟨S2x4096x4096, .f32⟩) (.of main_v34 : TRef sig ⟨S2x4096x4096, .f32⟩) Host.negf,
    TRef.unary (.of main_v34 : TRef sig ⟨S2x4096x4096, .f32⟩) (.of main_values : TRef sig ⟨S2x4096x16, .f32⟩) (fun x => (Host.topK S2x4096x16 2 (FloatOps.cmpfTotal .gt) x sliceFits_S2x4096x4096_S2x4096x16).1),
    TRef.unary (.of main_v34 : TRef sig ⟨S2x4096x4096, .f32⟩) (.of main_indices : TRef sig ⟨S2x4096x16, .i32⟩) (fun x => (Host.topK S2x4096x16 2 (FloatOps.cmpfTotal .gt) x sliceFits_S2x4096x4096_S2x4096x16).2),
    TRef.nullary (.of main_v35 : TRef sig ⟨S4096, .i32⟩) (iotaInDim S4096 32 0),
    TRef.unary (.of main_v35 : TRef sig ⟨S4096, .i32⟩) (.of main_v36 : TRef sig ⟨S1x4096x1, .i32⟩) (broadcastInDim S1x4096x1 ![1] bcast_S4096_S1x4096x1_1),
    TRef.unary (.of main_v36 : TRef sig ⟨S1x4096x1, .i32⟩) (.of main_v37 : TRef sig ⟨S2x4096x16, .i32⟩) (broadcastInDim S2x4096x16 ![0, 1, 2] bcast_S1x4096x1_S2x4096x16_0_1_2),
    TRef.nullary (.of main_v38 : TRef sig ⟨S2, .i32⟩) (iotaInDim S2 32 0),
    TRef.nullary (.of main_c_9 : TRef sig ⟨S_, .i32⟩) (constantI S_ 32 4096#32),
    TRef.unary (.of main_c_9 : TRef sig ⟨S_, .i32⟩) (.of main_v39 : TRef sig ⟨S2, .i32⟩) (broadcastInDim S2 ![] bcast_S_S2),
    TRef.binary (.of main_v38 : TRef sig ⟨S2, .i32⟩) (.of main_v39 : TRef sig ⟨S2, .i32⟩) (.of main_v40 : TRef sig ⟨S2, .i32⟩) muli,
    TRef.unary (.of main_v40 : TRef sig ⟨S2, .i32⟩) (.of main_v41 : TRef sig ⟨S2x1x1, .i32⟩) (broadcastInDim S2x1x1 ![0] bcast_S2_S2x1x1_0),
    TRef.unary (.of main_v41 : TRef sig ⟨S2x1x1, .i32⟩) (.of main_v42 : TRef sig ⟨S2x4096x16, .i32⟩) (broadcastInDim S2x4096x16 ![0, 1, 2] bcast_S2x1x1_S2x4096x16_0_1_2),
    TRef.binary (.of main_v37 : TRef sig ⟨S2x4096x16, .i32⟩) (.of main_v42 : TRef sig ⟨S2x4096x16, .i32⟩) (.of main_v43 : TRef sig ⟨S2x4096x16, .i32⟩) addi,
    TRef.reshape (.of main_v43 : TRef sig ⟨S2x4096x16, .i32⟩) (.of main_v44 : TRef sig ⟨S131072, .i32⟩) rfl shapeCasts_S2x4096x16_S131072,
    TRef.unary (.of main_v41 : TRef sig ⟨S2x1x1, .i32⟩) (.of main_v45 : TRef sig ⟨S2x4096x16, .i32⟩) (broadcastInDim S2x4096x16 ![0, 1, 2] bcast_S2x1x1_S2x4096x16_0_1_2),
    TRef.binary (.of main_indices : TRef sig ⟨S2x4096x16, .i32⟩) (.of main_v45 : TRef sig ⟨S2x4096x16, .i32⟩) (.of main_v46 : TRef sig ⟨S2x4096x16, .i32⟩) addi,
    TRef.reshape (.of main_v46 : TRef sig ⟨S2x4096x16, .i32⟩) (.of main_v47 : TRef sig ⟨S131072, .i32⟩) rfl shapeCasts_S2x4096x16_S131072,
    TRef.unary (.of main_v44 : TRef sig ⟨S131072, .i32⟩) (.of main_v48 : TRef sig ⟨S1x131072, .i32⟩) (broadcastInDim S1x131072 ![1] bcast_S131072_S1x131072_1),
    TRef.unary (.of main_v47 : TRef sig ⟨S131072, .i32⟩) (.of main_v49 : TRef sig ⟨S1x131072, .i32⟩) (broadcastInDim S1x131072 ![1] bcast_S131072_S1x131072_1),
    TRef.binary (.of main_v48 : TRef sig ⟨S1x131072, .i32⟩) (.of main_v49 : TRef sig ⟨S1x131072, .i32⟩) (.of main_v50 : TRef sig ⟨S2x131072, .i32⟩) (fun a b => concatenate S2x131072 0 [⟨S1x131072, a⟩, ⟨S1x131072, b⟩] concatenates_S1x131072_S1x131072_S2x131072_d0) ]

set_option maxHeartbeats 4000000 in
theorem ssa5 : Ssa 284 (ops5 (F := F)) 338 := by
  refine .binary _ _ _ _ _ _ _ (by decide) ?_
  refine .binary _ _ _ _ _ _ _ (by decide) ?_
  refine .unary _ _ _ _ _ (by decide) ?_
  refine .binary _ _ _ _ _ _ _ (by decide) ?_
  refine .unary _ _ _ _ _ (by decide) ?_
  refine .binary _ _ _ _ _ _ _ (by decide) ?_
  refine .nullary _ _ _ (by decide) ?_
  refine .unary _ _ _ _ _ (by decide) ?_
  refine .binary _ _ _ _ _ _ _ (by decide) ?_
  refine .binary _ _ _ _ _ _ _ (by decide) ?_
  refine .nullary _ _ _ (by decide) ?_
  refine .unary _ _ _ _ _ (by decide) ?_
  refine .binary _ _ _ _ _ _ _ (by decide) ?_
  refine .nullary _ _ _ (by decide) ?_
  refine .unary _ _ _ _ _ (by decide) ?_
  refine .binary _ _ _ _ _ _ _ (by decide) ?_
  refine .unary _ _ _ _ _ (by decide) ?_
  refine .nullary _ _ _ (by decide) ?_
  refine .unary _ _ _ _ _ (by decide) ?_
  refine .binary _ _ _ _ _ _ _ (by decide) ?_
  refine .binary _ _ _ _ _ _ _ (by decide) ?_
  refine .unary _ _ _ _ _ (by decide) ?_
  refine .binary _ _ _ _ _ _ _ (by decide) ?_
  refine .unary _ _ _ _ _ (by decide) ?_
  refine .binary _ _ _ _ _ _ _ (by decide) ?_
  refine .unary _ _ _ _ _ (by decide) ?_
  refine .binary _ _ _ _ _ _ _ (by decide) ?_
  refine .nullary _ _ _ (by decide) ?_
  refine .unary _ _ _ _ _ (by decide) ?_
  refine .binary _ _ _ _ _ _ _ (by decide) ?_
  refine .unary _ _ _ _ _ (by decide) ?_
  refine .unary _ _ _ _ _ (by decide) ?_
  refine .unary _ _ _ _ _ (by decide) ?_
  refine .binary _ _ _ _ _ _ _ (by decide) ?_
  refine .unary _ _ _ _ _ (by decide) ?_
  refine .unary _ _ _ _ _ (by decide) ?_
  refine .unary _ _ _ _ _ (by decide) ?_
  refine .nullary _ _ _ (by decide) ?_
  refine .unary _ _ _ _ _ (by decide) ?_
  refine .unary _ _ _ _ _ (by decide) ?_
  refine .nullary _ _ _ (by decide) ?_
  refine .nullary _ _ _ (by decide) ?_
  refine .unary _ _ _ _ _ (by decide) ?_
  refine .binary _ _ _ _ _ _ _ (by decide) ?_
  refine .unary _ _ _ _ _ (by decide) ?_
  refine .unary _ _ _ _ _ (by decide) ?_
  refine .binary _ _ _ _ _ _ _ (by decide) ?_
  refine .reshape _ _ _ _ _ _ (by decide) ?_
  refine .unary _ _ _ _ _ (by decide) ?_
  refine .binary _ _ _ _ _ _ _ (by decide) ?_
  refine .reshape _ _ _ _ _ _ (by decide) ?_
  refine .unary _ _ _ _ _ (by decide) ?_
  refine .unary _ _ _ _ _ (by decide) ?_
  refine .binary _ _ _ _ _ _ _ (by decide) ?_
  exact .nil _

/-- Every operation of the reference, in order. -/
abbrev ops : List (HloOp τ sig (Elt F)) :=
  ops0 ++ (ops1 ++ (ops2 ++ (ops3 ++ (ops4 ++ (ops5)))))

/-- The reference's operations are in single-assignment form, past the four arguments. -/
theorem ssa : Ssa 4 (ops (F := F)) 338 :=
  ssa0.append (ssa1.append (ssa2.append (ssa3.append (ssa4.append (ssa5)))))

set_option maxHeartbeats 40000000 in
/-- The reference runs its operations in order. -/
theorem main_eq (d : Dev nD) : main (F := F) d = StableHlo.seq ops := by
  chain_rfl

end Cert.Proof.Ref

end
-- ==== Proof.RefRun.lean ====
/- The reference's run: it ends with what its operations leave, its arguments unchanged. -/
module

public import proofs.«01_k».proof.Proof.RefOps
public import Idealize.ShloMosaic.Adequacy
public import Idealize.ShloMosaic.Lib.StableHlo.RunHlo
public import Idealize.ShloMosaic.Lib.Quiescent

@[expose] public section

noncomputable section

namespace Cert.Proof.Ref

open Idealize.ShloMosaic Idealize.ShloMosaic.TcCoe Idealize.SL.Sem
open Cert.ReferenceIdeal

/-- What the reference leaves on device `d`, from memory `m`. -/
def fin (m : (ℓ : Loc nD τ sig) → Buf (Elt Ideal) ℓ) (d : Dev nD) : Valuation τ sig (Elt Ideal) :=
  StableHlo.after (ops (F := Ideal)) (StableHlo.launchContents m d)

/-- It satisfies every operation's equation. -/
theorem fin_fix (m : (ℓ : Loc nD τ sig) → Buf (Elt Ideal) ℓ) (d : Dev nD) :
    ∀ op ∈ ops (F := Ideal), op.result (fin m d) = fin m d := ssa.fix _

/-- It holds the arguments as they were. -/
theorem fin_arg (m : (ℓ : Loc nD τ sig) → Buf (Elt Ideal) ℓ) (d : Dev nD) (q : Ref sig .tc) (hq : pos q < 4) :
    fin m d (Proc.devRef .tc q) = m ((d.tc : Thread nD τ).loc q) := ssa.keeps _ q hq

/-- The reference runs and leaves `fin`. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r =>
      ∀ (d : Dev nD) (b : Ref sig .tc), r.2.mem ((d.tc : Thread nD τ).loc b) = fin m d (Proc.devRef .tc b) :=
  StableHlo.run_seq (by decide) (by decide) defs main (fun _ => ops) main_eq
    (fun _ => List.forall_iff_forall_mem.mpr ssa.bufs) m ρ (fun _ => ssa.fresh)

/-- The reference ends with its arguments unchanged and every semaphore at rest. -/
theorem frame (m : (ℓ : Loc nD τ sig) → Buf (Elt Ideal) ℓ) (ρ : Dev nD → PrngReg) :
    θ_run (defs (F := Ideal)) (onTc (τ := τ) (main (F := Ideal))) ⟨m, fun _ => 0, ρ⟩ fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3))
      ∧ r.2.sem = fun _ => 0 :=
  (θ_run _ _ _).mono (fun r h => ⟨fun c => ⟨(h c _).trans (fin_arg m c _ (by decide)), (h c _).trans (fin_arg m c _ (by decide)),
    (h c _).trans (fin_arg m c _ (by decide)), (h c _).trans (fin_arg m c _ (by decide))⟩,
    sem_eq_zero_of_no_sems (by decide) r.2⟩) (run m ρ)

end Cert.Proof.Ref

end
-- ==== Proof.KerOps.lean ====
/- The kernel program's host operations between its regions and after them are in single-assignment form. -/
module

public import proofs.«01_k».proof.Proof.Ssa
public import proofs.«01_k».proof.Proof.Gen.KernelIdeal.Launch

@[expose] public section

set_option maxRecDepth 4000

noncomputable section

namespace Cert.Proof.Ker

open Idealize.ShloMosaic Idealize.ShloMosaic.TcCoe Idealize.SL.Sem
open Cert.KernelIdeal Cert.KernelIdeal.Gen

variable {F : FTy → Type} [FloatOps F]

set_option maxHeartbeats 4000000 in
theorem ssa_hostOps1 : Ssa 6 (hostOps1 (F := F)) 19 := by
  refine .reshape _ _ _ _ _ _ (by decide) ?_
  refine .nullary _ _ _ (by decide) ?_
  refine .nullary _ _ _ (by decide) ?_
  refine .binary _ _ _ _ _ _ _ (by decide) ?_
  refine .unary _ _ _ _ _ (by decide) ?_
  refine .unary _ _ _ _ _ (by decide) ?_
  refine .nullary _ _ _ (by decide) ?_
  refine .binary _ _ _ _ _ _ _ (by decide) ?_
  refine .unary _ _ _ _ _ (by decide) ?_
  refine .unary _ _ _ _ _ (by decide) ?_
  refine .binary _ _ _ _ _ _ _ (by decide) ?_
  refine .nullary _ _ _ (by decide) ?_
  refine .nullary _ _ _ (by decide) ?_
  exact .nil _

set_option maxHeartbeats 4000000 in
theorem ssa_hostOps1_1 : Ssa 19 (hostOps1_1 (F := F)) 286 := by
  refine .unary _ _ _ _ _ (by decide) ?_
  refine .unary _ _ _ _ _ (by decide) ?_
  refine .unary _ _ _ _ _ (by decide) ?_
  refine .unary _ _ _ _ _ (by decide) ?_
  refine .unary _ _ _ _ _ (by decide) ?_
  refine .reshape _ _ _ _ _ _ (by decide) ?_
  refine .unary _ _ _ _ _ (by decide) ?_
  refine .reshape _ _ _ _ _ _ (by decide) ?_
  refine .nullary _ _ _ (by decide) ?_
  refine .nullary _ _ _ (by decide) ?_
  refine .nullary _ _ _ (by decide) ?_
  refine .nullary _ _ _ (by decide) ?_
  refine .unary _ _ _ _ _ (by decide) ?_
  refine .binary _ _ _ _ _ _ _ (by decide) ?_
  refine .nullary _ _ _ (by decide) ?_
  refine .unary _ _ _ _ _ (by decide) ?_
  refine .binary _ _ _ _ _ _ _ (by decide) ?_
  refine .nullary _ _ _ (by decide) ?_
  refine .unary _ _ _ _ _ (by decide) ?_
  refine .binary _ _ _ _ _ _ _ (by decide) ?_
  refine .binary _ _ _ _ _ _ _ (by decide) ?_
  refine .binary _ _ _ _ _ _ _ (by decide) ?_
  refine .nullary _ _ _ (by decide) ?_
  refine .unary _ _ _ _ _ (by decide) ?_
  refine .binary _ _ _ _ _ _ _ (by decide) ?_
  refine .unary _ _ _ _ _ (by decide) ?_
  refine .unary _ _ _ _ _ (by decide) ?_
  refine .binary _ _ _ _ _ _ _ (by decide) ?_
  refine .nullary _ _ _ (by decide) ?_
  refine .binary _ _ _ _ _ _ _ (by decide) ?_
  refine .unary _ _ _ _ _ (by decide) ?_
  refine .binary _ _ _ _ _ _ _ (by decide) ?_
  refine .unary _ _ _ _ _ (by decide) ?_
  refine .binary _ _ _ _ _ _ _ (by decide) ?_
  refine .binary _ _ _ _ _ _ _ (by decide) ?_
  refine .nullary _ _ _ (by decide) ?_
  refine .unary _ _ _ _ _ (by decide) ?_
  refine .binary _ _ _ _ _ _ _ (by decide) ?_
  refine .nullary _ _ _ (by decide) ?_
  refine .unary _ _ _ _ _ (by decide) ?_
  refine .binary _ _ _ _ _ _ _ (by decide) ?_
  refine .binary _ _ _ _ _ _ _ (by decide) ?_
  refine .binary _ _ _ _ _ _ _ (by decide) ?_
  refine .binary _ _ _ _ _ _ _ (by decide) ?_
  refine .nullary _ _ _ (by decide) ?_
  refine .unary _ _ _ _ _ (by decide) ?_
  refine .binary _ _ _ _ _ _ _ (by decide) ?_
  refine .nullary _ _ _ (by decide) ?_
  refine .unary _ _ _ _ _ (by decide) ?_
  refine .binary _ _ _ _ _ _ _ (by decide) ?_
  refine .binary _ _ _ _ _ _ _ (by decide) ?_
  refine .binary _ _ _ _ _ _ _ (by decide) ?_
  refine .binary _ _ _ _ _ _ _ (by decide) ?_
  refine .nullary _ _ _ (by decide) ?_
  refine .unary _ _ _ _ _ (by decide) ?_
  refine .binary _ _ _ _ _ _ _ (by decide) ?_
  refine .nullary _ _ _ (by decide) ?_
  refine .unary _ _ _ _ _ (by decide) ?_
  refine .binary _ _ _ _ _ _ _ (by decide) ?_
  refine .binary _ _ _ _ _ _ _ (by decide) ?_
  refine .binary _ _ _ _ _ _ _ (by decide) ?_
  refine .binary _ _ _ _ _ _ _ (by decide) ?_
  refine .nullary _ _ _ (by decide) ?_
  refine .unary _ _ _ _ _ (by decide) ?_
  refine .binary _ _ _ _ _ _ _ (by decide) ?_
  refine .nullary _ _ _ (by decide) ?_
  refine .unary _ _ _ _ _ (by decide) ?_
  refine .binary _ _ _ _ _ _ _ (by decide) ?_
  refine .binary _ _ _ _ _ _ _ (by decide) ?_
  refine .binary _ _ _ _ _ _ _ (by decide) ?_
  refine .unary _ _ _ _ _ (by decide) ?_
  refine .binary _ _ _ _ _ _ _ (by decide) ?_
  refine .unary _ _ _ _ _ (by decide) ?_
  refine .binary _ _ _ _ _ _ _ (by decide) ?_
  refine .nullary _ _ _ (by decide) ?_
  refine .unary _ _ _ _ _ (by decide) ?_
  refine .binary _ _ _ _ _ _ _ (by decide) ?_
  refine .binary _ _ _ _ _ _ _ (by decide) ?_
  refine .nullary _ _ _ (by decide) ?_
  refine .unary _ _ _ _ _ (by decide) ?_
  refine .binary _ _ _ _ _ _ _ (by decide) ?_
  refine .nullary _ _ _ (by decide) ?_
  refine .unary _ _ _ _ _ (by decide) ?_
  refine .binary _ _ _ _ _ _ _ (by decide) ?_
  refine .binary _ _ _ _ _ _ _ (by decide) ?_
  refine .binary _ _ _ _ _ _ _ (by decide) ?_
  refine .binary _ _ _ _ _ _ _ (by decide) ?_
  refine .nullary _ _ _ (by decide) ?_
  refine .unary _ _ _ _ _ (by decide) ?_
  refine .binary _ _ _ _ _ _ _ (by decide) ?_
  refine .nullary _ _ _ (by decide) ?_
  refine .unary _ _ _ _ _ (by decide) ?_
  refine .binary _ _ _ _ _ _ _ (by decide) ?_
  refine .binary _ _ _ _ _ _ _ (by decide) ?_
  refine .binary _ _ _ _ _ _ _ (by decide) ?_
  refine .binary _ _ _ _ _ _ _ (by decide) ?_
  refine .nullary _ _ _ (by decide) ?_
  refine .unary _ _ _ _ _ (by decide) ?_
  refine .binary _ _ _ _ _ _ _ (by decide) ?_
  refine .nullary _ _ _ (by decide) ?_
  refine .unary _ _ _ _ _ (by decide) ?_
  refine .binary _ _ _ _ _ _ _ (by decide) ?_
  refine .binary _ _ _ _ _ _ _ (by decide) ?_
  refine .binary _ _ _ _ _ _ _ (by decide) ?_
  refine .binary _ _ _ _ _ _ _ (by decide) ?_
  refine .nullary _ _ _ (by decide) ?_
  refine .unary _ _ _ _ _ (by decide) ?_
  refine .binary _ _ _ _ _ _ _ (by decide) ?_
  refine .nullary _ _ _ (by decide) ?_
  refine .unary _ _ _ _ _ (by decide) ?_
  refine .binary _ _ _ _ _ _ _ (by decide) ?_
  refine .binary _ _ _ _ _ _ _ (by decide) ?_
  refine .binary _ _ _ _ _ _ _ (by decide) ?_
  refine .unary _ _ _ _ _ (by decide) ?_
  refine .binary _ _ _ _ _ _ _ (by decide) ?_
  refine .unary _ _ _ _ _ (by decide) ?_
  refine .binary _ _ _ _ _ _ _ (by decide) ?_
  refine .nullary _ _ _ (by decide) ?_
  refine .unary _ _ _ _ _ (by decide) ?_
  refine .binary _ _ _ _ _ _ _ (by decide) ?_
  refine .binary _ _ _ _ _ _ _ (by decide) ?_
  refine .nullary _ _ _ (by decide) ?_
  refine .unary _ _ _ _ _ (by decide) ?_
  refine .binary _ _ _ _ _ _ _ (by decide) ?_
  refine .nullary _ _ _ (by decide) ?_
  refine .unary _ _ _ _ _ (by decide) ?_
  refine .binary _ _ _ _ _ _ _ (by decide) ?_
  refine .binary _ _ _ _ _ _ _ (by decide) ?_
  refine .binary _ _ _ _ _ _ _ (by decide) ?_
  refine .binary _ _ _ _ _ _ _ (by decide) ?_
  refine .nullary _ _ _ (by decide) ?_
  refine .unary _ _ _ _ _ (by decide) ?_
  refine .binary _ _ _ _ _ _ _ (by decide) ?_
  refine .nullary _ _ _ (by decide) ?_
  refine .unary _ _ _ _ _ (by decide) ?_
  refine .binary _ _ _ _ _ _ _ (by decide) ?_
  refine .binary _ _ _ _ _ _ _ (by decide) ?_
  refine .binary _ _ _ _ _ _ _ (by decide) ?_
  refine .binary _ _ _ _ _ _ _ (by decide) ?_
  refine .nullary _ _ _ (by decide) ?_
  refine .unary _ _ _ _ _ (by decide) ?_
  refine .binary _ _ _ _ _ _ _ (by decide) ?_
  refine .nullary _ _ _ (by decide) ?_
  refine .unary _ _ _ _ _ (by decide) ?_
  refine .binary _ _ _ _ _ _ _ (by decide) ?_
  refine .binary _ _ _ _ _ _ _ (by decide) ?_
  refine .binary _ _ _ _ _ _ _ (by decide) ?_
  refine .binary _ _ _ _ _ _ _ (by decide) ?_
  refine .nullary _ _ _ (by decide) ?_
  refine .unary _ _ _ _ _ (by decide) ?_
  refine .binary _ _ _ _ _ _ _ (by decide) ?_
  refine .nullary _ _ _ (by decide) ?_
  refine .unary _ _ _ _ _ (by decide) ?_
  refine .binary _ _ _ _ _ _ _ (by decide) ?_
  refine .binary _ _ _ _ _ _ _ (by decide) ?_
  refine .binary _ _ _ _ _ _ _ (by decide) ?_
  refine .unary _ _ _ _ _ (by decide) ?_
  refine .binary _ _ _ _ _ _ _ (by decide) ?_
  refine .unary _ _ _ _ _ (by decide) ?_
  refine .binary _ _ _ _ _ _ _ (by decide) ?_
  refine .nullary _ _ _ (by decide) ?_
  refine .unary _ _ _ _ _ (by decide) ?_
  refine .binary _ _ _ _ _ _ _ (by decide) ?_
  refine .binary _ _ _ _ _ _ _ (by decide) ?_
  refine .nullary _ _ _ (by decide) ?_
  refine .unary _ _ _ _ _ (by decide) ?_
  refine .binary _ _ _ _ _ _ _ (by decide) ?_
  refine .nullary _ _ _ (by decide) ?_
  refine .unary _ _ _ _ _ (by decide) ?_
  refine .binary _ _ _ _ _ _ _ (by decide) ?_
  refine .binary _ _ _ _ _ _ _ (by decide) ?_
  refine .binary _ _ _ _ _ _ _ (by decide) ?_
  refine .binary _ _ _ _ _ _ _ (by decide) ?_
  refine .nullary _ _ _ (by decide) ?_
  refine .unary _ _ _ _ _ (by decide) ?_
  refine .binary _ _ _ _ _ _ _ (by decide) ?_
  refine .nullary _ _ _ (by decide) ?_
  refine .unary _ _ _ _ _ (by decide) ?_
  refine .binary _ _ _ _ _ _ _ (by decide) ?_
  refine .binary _ _ _ _ _ _ _ (by decide) ?_
  refine .binary _ _ _ _ _ _ _ (by decide) ?_
  refine .binary _ _ _ _ _ _ _ (by decide) ?_
  refine .nullary _ _ _ (by decide) ?_
  refine .unary _ _ _ _ _ (by decide) ?_
  refine .binary _ _ _ _ _ _ _ (by decide) ?_
  refine .nullary _ _ _ (by decide) ?_
  refine .unary _ _ _ _ _ (by decide) ?_
  refine .binary _ _ _ _ _ _ _ (by decide) ?_
  refine .binary _ _ _ _ _ _ _ (by decide) ?_
  refine .binary _ _ _ _ _ _ _ (by decide) ?_
  refine .binary _ _ _ _ _ _ _ (by decide) ?_
  refine .nullary _ _ _ (by decide) ?_
  refine .unary _ _ _ _ _ (by decide) ?_
  refine .binary _ _ _ _ _ _ _ (by decide) ?_
  refine .nullary _ _ _ (by decide) ?_
  refine .unary _ _ _ _ _ (by decide) ?_
  refine .binary _ _ _ _ _ _ _ (by decide) ?_
  refine .binary _ _ _ _ _ _ _ (by decide) ?_
  refine .binary _ _ _ _ _ _ _ (by decide) ?_
  refine .unary _ _ _ _ _ (by decide) ?_
  refine .binary _ _ _ _ _ _ _ (by decide) ?_
  refine .unary _ _ _ _ _ (by decide) ?_
  refine .binary _ _ _ _ _ _ _ (by decide) ?_
  refine .nullary _ _ _ (by decide) ?_
  refine .unary _ _ _ _ _ (by decide) ?_
  refine .binary _ _ _ _ _ _ _ (by decide) ?_
  refine .binary _ _ _ _ _ _ _ (by decide) ?_
  refine .nullary _ _ _ (by decide) ?_
  refine .unary _ _ _ _ _ (by decide) ?_
  refine .binary _ _ _ _ _ _ _ (by decide) ?_
  refine .nullary _ _ _ (by decide) ?_
  refine .unary _ _ _ _ _ (by decide) ?_
  refine .binary _ _ _ _ _ _ _ (by decide) ?_
  refine .binary _ _ _ _ _ _ _ (by decide) ?_
  refine .binary _ _ _ _ _ _ _ (by decide) ?_
  refine .binary _ _ _ _ _ _ _ (by decide) ?_
  refine .nullary _ _ _ (by decide) ?_
  refine .unary _ _ _ _ _ (by decide) ?_
  refine .binary _ _ _ _ _ _ _ (by decide) ?_
  refine .nullary _ _ _ (by decide) ?_
  refine .unary _ _ _ _ _ (by decide) ?_
  refine .binary _ _ _ _ _ _ _ (by decide) ?_
  refine .binary _ _ _ _ _ _ _ (by decide) ?_
  refine .binary _ _ _ _ _ _ _ (by decide) ?_
  refine .binary _ _ _ _ _ _ _ (by decide) ?_
  refine .nullary _ _ _ (by decide) ?_
  refine .unary _ _ _ _ _ (by decide) ?_
  refine .binary _ _ _ _ _ _ _ (by decide) ?_
  refine .nullary _ _ _ (by decide) ?_
  refine .unary _ _ _ _ _ (by decide) ?_
  refine .binary _ _ _ _ _ _ _ (by decide) ?_
  refine .binary _ _ _ _ _ _ _ (by decide) ?_
  refine .binary _ _ _ _ _ _ _ (by decide) ?_
  refine .binary _ _ _ _ _ _ _ (by decide) ?_
  refine .nullary _ _ _ (by decide) ?_
  refine .unary _ _ _ _ _ (by decide) ?_
  refine .binary _ _ _ _ _ _ _ (by decide) ?_
  refine .nullary _ _ _ (by decide) ?_
  refine .unary _ _ _ _ _ (by decide) ?_
  refine .binary _ _ _ _ _ _ _ (by decide) ?_
  refine .binary _ _ _ _ _ _ _ (by decide) ?_
  refine .binary _ _ _ _ _ _ _ (by decide) ?_
  refine .unary _ _ _ _ _ (by decide) ?_
  refine .binary _ _ _ _ _ _ _ (by decide) ?_
  refine .unary _ _ _ _ _ (by decide) ?_
  refine .binary _ _ _ _ _ _ _ (by decide) ?_
  refine .nullary _ _ _ (by decide) ?_
  refine .unary _ _ _ _ _ (by decide) ?_
  refine .binary _ _ _ _ _ _ _ (by decide) ?_
  refine .binary _ _ _ _ _ _ _ (by decide) ?_
  refine .nullary _ _ _ (by decide) ?_
  refine .unary _ _ _ _ _ (by decide) ?_
  refine .binary _ _ _ _ _ _ _ (by decide) ?_
  refine .nullary _ _ _ (by decide) ?_
  refine .unary _ _ _ _ _ (by decide) ?_
  refine .binary _ _ _ _ _ _ _ (by decide) ?_
  refine .unary _ _ _ _ _ (by decide) ?_
  refine .nullary _ _ _ (by decide) ?_
  refine .unary _ _ _ _ _ (by decide) ?_
  refine .binary _ _ _ _ _ _ _ (by decide) ?_
  refine .binary _ _ _ _ _ _ _ (by decide) ?_
  refine .unary _ _ _ _ _ (by decide) ?_
  refine .binary _ _ _ _ _ _ _ (by decide) ?_
  refine .unary _ _ _ _ _ (by decide) ?_
  refine .binary _ _ _ _ _ _ _ (by decide) ?_
  refine .unary _ _ _ _ _ (by decide) ?_
  refine .binary _ _ _ _ _ _ _ (by decide) ?_
  exact .nil _

set_option maxHeartbeats 4000000 in
theorem ssa_hostOps1_2 : Ssa 286 (hostOps1_2 (F := F)) 294 := by
  refine .nullary _ _ _ (by decide) ?_
  refine .unary _ _ _ _ _ (by decide) ?_
  refine .binary _ _ _ _ _ _ _ (by decide) ?_
  refine .unary _ _ _ _ _ (by decide) ?_
  refine .unary _ _ _ _ _ (by decide) ?_
  refine .unary _ _ _ _ _ (by decide) ?_
  refine .nullary _ _ _ (by decide) ?_
  refine .nullary _ _ _ (by decide) ?_
  exact .nil _

set_option maxHeartbeats 4000000 in
theorem ssa_hostOps1_3 : Ssa 294 (hostOps1_3 (F := F)) 298 := by
  refine .unary _ _ _ _ _ (by decide) ?_
  refine .binary _ _ _ _ _ _ _ (by decide) ?_
  refine .unary _ _ _ _ _ (by decide) ?_
  refine .binary _ _ _ _ _ _ _ (by decide) ?_
  exact .nil _

set_option maxHeartbeats 4000000 in
theorem ssa_hostOps1_4 : Ssa 298 (hostOps1_4 (F := F)) 300 := by
  refine .unary _ _ _ _ _ (by decide) ?_
  refine .reshape _ _ _ _ _ _ (by decide) ?_
  exact .nil _

set_option maxHeartbeats 4000000 in
theorem ssa_hostOps2 : Ssa 302 (hostOps2 (F := F)) 317 := by
  refine .nullary _ _ _ (by decide) ?_
  refine .unary _ _ _ _ _ (by decide) ?_
  refine .unary _ _ _ _ _ (by decide) ?_
  refine .nullary _ _ _ (by decide) ?_
  refine .nullary _ _ _ (by decide) ?_
  refine .unary _ _ _ _ _ (by decide) ?_
  refine .binary _ _ _ _ _ _ _ (by decide) ?_
  refine .unary _ _ _ _ _ (by decide) ?_
  refine .unary _ _ _ _ _ (by decide) ?_
  refine .binary _ _ _ _ _ _ _ (by decide) ?_
  refine .reshape _ _ _ _ _ _ (by decide) ?_
  refine .reshape _ _ _ _ _ _ (by decide) ?_
  refine .unary _ _ _ _ _ (by decide) ?_
  refine .unary _ _ _ _ _ (by decide) ?_
  refine .binary _ _ _ _ _ _ _ (by decide) ?_
  exact .nil _

end Cert.Proof.Ker

end
-- ==== Proof.Lock.lean ====
/- The kernel program and the reference compute the same noise, key and scale: their host operations for these are
   the same, one for one, so their values agree buffer by buffer. -/
module

public import proofs.«01_k».proof.Proof.RefOps
public import proofs.«01_k».proof.Proof.Gen.KernelIdeal.Launch

@[expose] public section

set_option maxRecDepth 4000

noncomputable section

namespace Cert.Proof.Lock

open Idealize.ShloMosaic Idealize.ShloMosaic.TcCoe Idealize.SL.Sem
open Idealize.ShloMosaic.StableHlo (TRef)
open Cert.KernelIdeal Cert.KernelIdeal.Facts₀
open Cert.KernelIdeal.Gen (hostOps1 hostOps1_1 hostOps1_2 hostOps1_3 hostOps1_4)

variable {F : FTy → Type} [FloatOps F]

namespace R
export Cert.ReferenceIdeal (sig τ main_arg3 main_c main_c_4 main_c_5 main_call0_v0 main_call0_v1 main_call0_v2 main_call1_c main_call1_c_0 main_call1_c_1 main_call1_c_2 main_call1_c_3 main_call1_c_4 main_call1_call0_c main_call1_call0_c_0 main_call1_call0_c_1 main_call1_call0_c_10 main_call1_call0_c_11 main_call1_call0_c_12 main_call1_call0_c_13 main_call1_call0_c_14 main_call1_call0_c_15 main_call1_call0_c_16 main_call1_call0_c_17 main_call1_call0_c_18 main_call1_call0_c_19 main_call1_call0_c_2 main_call1_call0_c_20 main_call1_call0_c_21 main_call1_call0_c_22 main_call1_call0_c_23 main_call1_call0_c_24 main_call1_call0_c_25 main_call1_call0_c_26 main_call1_call0_c_27 main_call1_call0_c_28 main_call1_call0_c_29 main_call1_call0_c_3 main_call1_call0_c_30 main_call1_call0_c_31 main_call1_call0_c_32 main_call1_call0_c_33 main_call1_call0_c_34 main_call1_call0_c_35 main_call1_call0_c_36 main_call1_call0_c_37 main_call1_call0_c_38 main_call1_call0_c_39 main_call1_call0_c_4 main_call1_call0_c_40 main_call1_call0_c_41 main_call1_call0_c_42 main_call1_call0_c_43 main_call1_call0_c_44 main_call1_call0_c_5 main_call1_call0_c_6 main_call1_call0_c_7 main_call1_call0_c_8 main_call1_call0_c_9 main_call1_call0_v0 main_call1_call0_v1 main_call1_call0_v10 main_call1_call0_v100 main_call1_call0_v101 main_call1_call0_v102 main_call1_call0_v103 main_call1_call0_v104 main_call1_call0_v105 main_call1_call0_v106 main_call1_call0_v107 main_call1_call0_v108 main_call1_call0_v109 main_call1_call0_v11 main_call1_call0_v110 main_call1_call0_v111 main_call1_call0_v112 main_call1_call0_v113 main_call1_call0_v114 main_call1_call0_v115 main_call1_call0_v116 main_call1_call0_v117 main_call1_call0_v118 main_call1_call0_v119 main_call1_call0_v12 main_call1_call0_v120 main_call1_call0_v121 main_call1_call0_v122 main_call1_call0_v123 main_call1_call0_v124 main_call1_call0_v125 main_call1_call0_v126 main_call1_call0_v127 main_call1_call0_v128 main_call1_call0_v129 main_call1_call0_v13 main_call1_call0_v130 main_call1_call0_v131 main_call1_call0_v132 main_call1_call0_v133 main_call1_call0_v134 main_call1_call0_v135 main_call1_call0_v136 main_call1_call0_v137 main_call1_call0_v138 main_call1_call0_v139 main_call1_call0_v14 main_call1_call0_v140 main_call1_call0_v141 main_call1_call0_v142 main_call1_call0_v143 main_call1_call0_v144 main_call1_call0_v145 main_call1_call0_v146 main_call1_call0_v147 main_call1_call0_v148 main_call1_call0_v149 main_call1_call0_v15 main_call1_call0_v150 main_call1_call0_v151 main_call1_call0_v152 main_call1_call0_v153 main_call1_call0_v154 main_call1_call0_v155 main_call1_call0_v156 main_call1_call0_v157 main_call1_call0_v158 main_call1_call0_v159 main_call1_call0_v16 main_call1_call0_v160 main_call1_call0_v161 main_call1_call0_v162 main_call1_call0_v163 main_call1_call0_v164 main_call1_call0_v165 main_call1_call0_v166 main_call1_call0_v167 main_call1_call0_v168 main_call1_call0_v169 main_call1_call0_v17 main_call1_call0_v170 main_call1_call0_v172 main_call1_call0_v173 main_call1_call0_v174 main_call1_call0_v18 main_call1_call0_v19 main_call1_call0_v2 main_call1_call0_v20 main_call1_call0_v21 main_call1_call0_v22 main_call1_call0_v23 main_call1_call0_v24 main_call1_call0_v25 main_call1_call0_v26 main_call1_call0_v27 main_call1_call0_v28 main_call1_call0_v29 main_call1_call0_v3 main_call1_call0_v30 main_call1_call0_v31 main_call1_call0_v32 main_call1_call0_v33 main_call1_call0_v34 main_call1_call0_v35 main_call1_call0_v36 main_call1_call0_v37 main_call1_call0_v38 main_call1_call0_v39 main_call1_call0_v4 main_call1_call0_v40 main_call1_call0_v41 main_call1_call0_v42 main_call1_call0_v43 main_call1_call0_v44 main_call1_call0_v45 main_call1_call0_v46 main_call1_call0_v47 main_call1_call0_v48 main_call1_call0_v49 main_call1_call0_v5 main_call1_call0_v50 main_call1_call0_v51 main_call1_call0_v52 main_call1_call0_v53 main_call1_call0_v54 main_call1_call0_v55 main_call1_call0_v56 main_call1_call0_v57 main_call1_call0_v58 main_call1_call0_v59 main_call1_call0_v6 main_call1_call0_v60 main_call1_call0_v61 main_call1_call0_v62 main_call1_call0_v63 main_call1_call0_v64 main_call1_call0_v65 main_call1_call0_v66 main_call1_call0_v67 main_call1_call0_v68 main_call1_call0_v69 main_call1_call0_v7 main_call1_call0_v70 main_call1_call0_v71 main_call1_call0_v72 main_call1_call0_v73 main_call1_call0_v74 main_call1_call0_v75 main_call1_call0_v76 main_call1_call0_v77 main_call1_call0_v78 main_call1_call0_v79 main_call1_call0_v8 main_call1_call0_v80 main_call1_call0_v81 main_call1_call0_v82 main_call1_call0_v83 main_call1_call0_v84 main_call1_call0_v85 main_call1_call0_v86 main_call1_call0_v87 main_call1_call0_v88 main_call1_call0_v89 main_call1_call0_v9 main_call1_call0_v90 main_call1_call0_v91 main_call1_call0_v92 main_call1_call0_v93 main_call1_call0_v94 main_call1_call0_v95 main_call1_call0_v96 main_call1_call0_v97 main_call1_call0_v98 main_call1_call0_v99 main_call1_cst main_call1_v0 main_call1_v1 main_call1_v10 main_call1_v11 main_call1_v12 main_call1_v13 main_call1_v14 main_call1_v15 main_call1_v16 main_call1_v17 main_call1_v18 main_call1_v19 main_call1_v2 main_call1_v20 main_call1_v21 main_call1_v22 main_call1_v23_0 main_call1_v23_1 main_call1_v24 main_call1_v25 main_call1_v26 main_call1_v27 main_call1_v28 main_call1_v29 main_call1_v3 main_call1_v30 main_call1_v31 main_call1_v32 main_call1_v33 main_call1_v34 main_call1_v35 main_call1_v36 main_call1_v37 main_call1_v4 main_call1_v5 main_call1_v6 main_call1_v7 main_call1_v8 main_call1_v9 main_cst_2 main_cst_3 main_cst_6 main_cst_7 main_cst_8 main_v16 main_v17 main_v20 main_v21 main_v22 main_v23 main_v24 main_v25 main_v26 main_v27 main_v28 main_v29 main_v30 main_v31 main_v32)
end R

/-- Valuations of the two programs that satisfy every host operation's equation, the kernel's between its two
    regions, and agree on the temperature. -/
structure Step (V : Valuation τ sig (Elt F)) (W : Valuation R.τ R.sig (Elt F)) : Prop where

  hostOps1 : ∀ op ∈ KernelIdeal.Gen.hostOps1 (F := F), op.result V = V
  hostOps1_1 : ∀ op ∈ KernelIdeal.Gen.hostOps1_1 (F := F), op.result V = V
  hostOps1_2 : ∀ op ∈ KernelIdeal.Gen.hostOps1_2 (F := F), op.result V = V
  hostOps1_3 : ∀ op ∈ KernelIdeal.Gen.hostOps1_3 (F := F), op.result V = V
  hostOps1_4 : ∀ op ∈ KernelIdeal.Gen.hostOps1_4 (F := F), op.result V = V
  ops0 : ∀ op ∈ Ref.ops0 (F := F), op.result W = W
  ops1 : ∀ op ∈ Ref.ops1 (F := F), op.result W = W
  ops2 : ∀ op ∈ Ref.ops2 (F := F), op.result W = W
  ops3 : ∀ op ∈ Ref.ops3 (F := F), op.result W = W
  ops4 : ∀ op ∈ Ref.ops4 (F := F), op.result W = W
  ops5 : ∀ op ∈ Ref.ops5 (F := F), op.result W = W
  arg3 : rd V (.of main_arg3 : TRef sig ⟨S_, .f32⟩) = rd W (.of R.main_arg3 : TRef R.sig ⟨S_, .f32⟩)

/-- A list's element by its place. -/
theorem at_ {α : Type*} {l : List α} {a : α} (i : ℕ) (h : l[i]? = some a) : a ∈ l := List.mem_of_getElem? h

variable {V : Valuation τ sig (Elt F)} {W : Valuation R.τ R.sig (Elt F)}

/-- The kernel program's `main_c` is the reference's `main_c`. -/
theorem s_c (h : Step V W) : rd V (.of main_c : TRef sig ⟨S_, .i32⟩) = rd W (.of R.main_c : TRef R.sig ⟨S_, .i32⟩) :=
  lock0 (Ty := ⟨S_, .i32⟩) (Val := Elt F) (constantI S_ 32 1#32) (h.hostOps1 _ (at_ 1 rfl)) (h.ops0 _ (at_ 28 rfl))

/-- The kernel program's `main_c_0` is the reference's `main_c_4`. -/
theorem s_c_0 (h : Step V W) : rd V (.of main_c_0 : TRef sig ⟨S_, .i32⟩) = rd W (.of R.main_c_4 : TRef R.sig ⟨S_, .i32⟩) :=
  lock0 (Ty := ⟨S_, .i32⟩) (Val := Elt F) (constantI S_ 32 32#32) (h.hostOps1 _ (at_ 2 rfl)) (h.ops0 _ (at_ 29 rfl))

/-- The kernel program's `main_v3` is the reference's `main_v20`. -/
theorem s_v3 (h : Step V W) : rd V (.of main_v3 : TRef sig ⟨S_, .i32⟩) = rd W (.of R.main_v20 : TRef R.sig ⟨S_, .i32⟩) :=
  lock2 (Ta := ⟨S_, .i32⟩) (Tb := ⟨S_, .i32⟩) (Ty := ⟨S_, .i32⟩) Host.shrui (h.hostOps1 _ (at_ 3 rfl)) (h.ops0 _ (at_ 30 rfl)) (s_c h) (s_c_0 h)

/-- The kernel program's `main_v4` is the reference's `main_v21`. -/
theorem s_v4 (h : Step V W) : rd V (.of main_v4 : TRef sig ⟨S_, .i32⟩) = rd W (.of R.main_v21 : TRef R.sig ⟨S_, .i32⟩) :=
  lock1 (Ta := ⟨S_, .i32⟩) (Ty := ⟨S_, .i32⟩) id (h.hostOps1 _ (at_ 4 rfl)) (h.ops0 _ (at_ 31 rfl)) (s_v3 h)

/-- The kernel program's `main_v5` is the reference's `main_v22`. -/
theorem s_v5 (h : Step V W) : rd V (.of main_v5 : TRef sig ⟨S1, .i32⟩) = rd W (.of R.main_v22 : TRef R.sig ⟨S1, .i32⟩) :=
  lock1 (Ta := ⟨S_, .i32⟩) (Ty := ⟨S1, .i32⟩) (broadcastInDim S1 ![] bcast_S_S1) (h.hostOps1 _ (at_ 5 rfl)) (h.ops0 _ (at_ 32 rfl)) (s_v4 h)

/-- The kernel program's `main_c_1` is the reference's `main_c_5`. -/
theorem s_c_1 (h : Step V W) : rd V (.of main_c_1 : TRef sig ⟨S_, .i32⟩) = rd W (.of R.main_c_5 : TRef R.sig ⟨S_, .i32⟩) :=
  lock0 (Ty := ⟨S_, .i32⟩) (Val := Elt F) (constantI S_ 32 4294967295#32) (h.hostOps1 _ (at_ 6 rfl)) (h.ops0 _ (at_ 33 rfl))

/-- The kernel program's `main_v6` is the reference's `main_v23`. -/
theorem s_v6 (h : Step V W) : rd V (.of main_v6 : TRef sig ⟨S_, .i32⟩) = rd W (.of R.main_v23 : TRef R.sig ⟨S_, .i32⟩) :=
  lock2 (Ta := ⟨S_, .i32⟩) (Tb := ⟨S_, .i32⟩) (Ty := ⟨S_, .i32⟩) andi (h.hostOps1 _ (at_ 7 rfl)) (h.ops0 _ (at_ 34 rfl)) (s_c h) (s_c_1 h)

/-- The kernel program's `main_v7` is the reference's `main_v24`. -/
theorem s_v7 (h : Step V W) : rd V (.of main_v7 : TRef sig ⟨S_, .i32⟩) = rd W (.of R.main_v24 : TRef R.sig ⟨S_, .i32⟩) :=
  lock1 (Ta := ⟨S_, .i32⟩) (Ty := ⟨S_, .i32⟩) id (h.hostOps1 _ (at_ 8 rfl)) (h.ops0 _ (at_ 35 rfl)) (s_v6 h)

/-- The kernel program's `main_v8` is the reference's `main_v25`. -/
theorem s_v8 (h : Step V W) : rd V (.of main_v8 : TRef sig ⟨S1, .i32⟩) = rd W (.of R.main_v25 : TRef R.sig ⟨S1, .i32⟩) :=
  lock1 (Ta := ⟨S_, .i32⟩) (Ty := ⟨S1, .i32⟩) (broadcastInDim S1 ![] bcast_S_S1) (h.hostOps1 _ (at_ 9 rfl)) (h.ops0 _ (at_ 36 rfl)) (s_v7 h)

/-- The kernel program's `main_v9` is the reference's `main_v26`. -/
theorem s_v9 (h : Step V W) : rd V (.of main_v9 : TRef sig ⟨S2, .i32⟩) = rd W (.of R.main_v26 : TRef R.sig ⟨S2, .i32⟩) :=
  lock2 (Ta := ⟨S1, .i32⟩) (Tb := ⟨S1, .i32⟩) (Ty := ⟨S2, .i32⟩) (fun a b => concatenate S2 0 [⟨S1, a⟩, ⟨S1, b⟩] concatenates_S1_S1_S2_d0) (h.hostOps1 _ (at_ 10 rfl)) (h.ops0 _ (at_ 37 rfl)) (s_v5 h) (s_v8 h)

/-- The kernel program's `main_cst` is the reference's `main_cst_6`. -/
theorem s_cst (h : Step V W) : rd V (.of main_cst : TRef sig ⟨S_, .f32⟩) = rd W (.of R.main_cst_6 : TRef R.sig ⟨S_, .f32⟩) :=
  lock0 (Ty := ⟨S_, .f32⟩) (Val := Elt F) (constant S_ .f32 0x00000000#32) (h.hostOps1 _ (at_ 11 rfl)) (h.ops0 _ (at_ 38 rfl))

/-- The kernel program's `main_cst_2` is the reference's `main_cst_7`. -/
theorem s_cst_2 (h : Step V W) : rd V (.of main_cst_2 : TRef sig ⟨S_, .f32⟩) = rd W (.of R.main_cst_7 : TRef R.sig ⟨S_, .f32⟩) :=
  lock0 (Ty := ⟨S_, .f32⟩) (Val := Elt F) (constant S_ .f32 0x3F800000#32) (h.hostOps1 _ (at_ 12 rfl)) (h.ops0 _ (at_ 39 rfl))

/-- The kernel program's `main_call0_v0` is the reference's `main_call1_v0`. -/
theorem s_call0_v0 (h : Step V W) : rd V (.of main_call0_v0 : TRef sig ⟨S_, .f32⟩) = rd W (.of R.main_call1_v0 : TRef R.sig ⟨S_, .f32⟩) :=
  lock1 (Ta := ⟨S_, .f32⟩) (Ty := ⟨S_, .f32⟩) id (h.hostOps1_1 _ (at_ 0 rfl)) (h.ops0 _ (at_ 40 rfl)) (s_cst h)

/-- The kernel program's `main_call0_v1` is the reference's `main_call1_v1`. -/
theorem s_call0_v1 (h : Step V W) : rd V (.of main_call0_v1 : TRef sig ⟨S_, .f32⟩) = rd W (.of R.main_call1_v1 : TRef R.sig ⟨S_, .f32⟩) :=
  lock1 (Ta := ⟨S_, .f32⟩) (Ty := ⟨S_, .f32⟩) id (h.hostOps1_1 _ (at_ 1 rfl)) (h.ops0 _ (at_ 41 rfl)) (s_cst_2 h)

/-- The kernel program's `main_call0_v2` is the reference's `main_call1_v2`. -/
theorem s_call0_v2 (h : Step V W) : rd V (.of main_call0_v2 : TRef sig ⟨S1x1x1, .f32⟩) = rd W (.of R.main_call1_v2 : TRef R.sig ⟨S1x1x1, .f32⟩) :=
  lock1 (Ta := ⟨S_, .f32⟩) (Ty := ⟨S1x1x1, .f32⟩) (broadcastInDim S1x1x1 ![] bcast_S_S1x1x1) (h.hostOps1_1 _ (at_ 2 rfl)) (h.ops0 _ (at_ 42 rfl)) (s_call0_v0 h)

/-- The kernel program's `main_call0_v3` is the reference's `main_call1_v3`. -/
theorem s_call0_v3 (h : Step V W) : rd V (.of main_call0_v3 : TRef sig ⟨S1x1x1, .f32⟩) = rd W (.of R.main_call1_v3 : TRef R.sig ⟨S1x1x1, .f32⟩) :=
  lock1 (Ta := ⟨S_, .f32⟩) (Ty := ⟨S1x1x1, .f32⟩) (broadcastInDim S1x1x1 ![] bcast_S_S1x1x1) (h.hostOps1_1 _ (at_ 3 rfl)) (h.ops0 _ (at_ 43 rfl)) (s_call0_v1 h)

/-- The kernel program's `main_call0_v4` is the reference's `main_call1_v4`. -/
theorem s_call0_v4 (h : Step V W) : rd V (.of main_call0_v4 : TRef sig ⟨S1, .i32⟩) = rd W (.of R.main_call1_v4 : TRef R.sig ⟨S1, .i32⟩) :=
  lock1 (Ta := ⟨S2, .i32⟩) (Ty := ⟨S1, .i32⟩) (extractStridedSlice S1 ![0] · slices_S2_S1_0) (h.hostOps1_1 _ (at_ 4 rfl)) (h.ops0 _ (at_ 44 rfl)) (s_v9 h)

/-- The kernel program's `main_call0_v5` is the reference's `main_call1_v5`. -/
theorem s_call0_v5 (h : Step V W) : rd V (.of main_call0_v5 : TRef sig ⟨S_, .i32⟩) = rd W (.of R.main_call1_v5 : TRef R.sig ⟨S_, .i32⟩) :=
  lockR  shapeCasts_S1_S_ (h.hostOps1_1 _ (at_ 5 rfl)) (h.ops0 _ (at_ 45 rfl)) (s_call0_v4 h)

/-- The kernel program's `main_call0_v6` is the reference's `main_call1_v6`. -/
theorem s_call0_v6 (h : Step V W) : rd V (.of main_call0_v6 : TRef sig ⟨S1, .i32⟩) = rd W (.of R.main_call1_v6 : TRef R.sig ⟨S1, .i32⟩) :=
  lock1 (Ta := ⟨S2, .i32⟩) (Ty := ⟨S1, .i32⟩) (extractStridedSlice S1 ![1] · slices_S2_S1_1) (h.hostOps1_1 _ (at_ 6 rfl)) (h.ops0 _ (at_ 46 rfl)) (s_v9 h)

/-- The kernel program's `main_call0_v7` is the reference's `main_call1_v7`. -/
theorem s_call0_v7 (h : Step V W) : rd V (.of main_call0_v7 : TRef sig ⟨S_, .i32⟩) = rd W (.of R.main_call1_v7 : TRef R.sig ⟨S_, .i32⟩) :=
  lockR  shapeCasts_S1_S_ (h.hostOps1_1 _ (at_ 7 rfl)) (h.ops0 _ (at_ 47 rfl)) (s_call0_v6 h)

/-- The kernel program's `main_call0_v8` is the reference's `main_call1_v8`. -/
theorem s_call0_v8 (h : Step V W) : rd V (.of main_call0_v8 : TRef sig ⟨S2x4096x4096, .i64⟩) = rd W (.of R.main_call1_v8 : TRef R.sig ⟨S2x4096x4096, .i64⟩) :=
  lock0 (Ty := ⟨S2x4096x4096, .i64⟩) (Val := Elt F) (iotaInDim S2x4096x4096 64 0) (h.hostOps1_1 _ (at_ 8 rfl)) (h.ops0 _ (at_ 48 rfl))

/-- The kernel program's `main_call0_v9` is the reference's `main_call1_v9`. -/
theorem s_call0_v9 (h : Step V W) : rd V (.of main_call0_v9 : TRef sig ⟨S2x4096x4096, .i64⟩) = rd W (.of R.main_call1_v9 : TRef R.sig ⟨S2x4096x4096, .i64⟩) :=
  lock0 (Ty := ⟨S2x4096x4096, .i64⟩) (Val := Elt F) (iotaInDim S2x4096x4096 64 1) (h.hostOps1_1 _ (at_ 9 rfl)) (h.ops0 _ (at_ 49 rfl))

/-- The kernel program's `main_call0_v10` is the reference's `main_call1_v10`. -/
theorem s_call0_v10 (h : Step V W) : rd V (.of main_call0_v10 : TRef sig ⟨S2x4096x4096, .i64⟩) = rd W (.of R.main_call1_v10 : TRef R.sig ⟨S2x4096x4096, .i64⟩) :=
  lock0 (Ty := ⟨S2x4096x4096, .i64⟩) (Val := Elt F) (iotaInDim S2x4096x4096 64 2) (h.hostOps1_1 _ (at_ 10 rfl)) (h.ops0 _ (at_ 50 rfl))

/-- The kernel program's `main_call0_c` is the reference's `main_call1_c`. -/
theorem s_call0_c (h : Step V W) : rd V (.of main_call0_c : TRef sig ⟨S_, .i64⟩) = rd W (.of R.main_call1_c : TRef R.sig ⟨S_, .i64⟩) :=
  lock0 (Ty := ⟨S_, .i64⟩) (Val := Elt F) (constantI S_ 64 16777216#64) (h.hostOps1_1 _ (at_ 11 rfl)) (h.ops0 _ (at_ 51 rfl))

/-- The kernel program's `main_call0_v11` is the reference's `main_call1_v11`. -/
theorem s_call0_v11 (h : Step V W) : rd V (.of main_call0_v11 : TRef sig ⟨S2x4096x4096, .i64⟩) = rd W (.of R.main_call1_v11 : TRef R.sig ⟨S2x4096x4096, .i64⟩) :=
  lock1 (Ta := ⟨S_, .i64⟩) (Ty := ⟨S2x4096x4096, .i64⟩) (broadcastInDim S2x4096x4096 ![] bcast_S_S2x4096x4096) (h.hostOps1_1 _ (at_ 12 rfl)) (h.ops0 _ (at_ 52 rfl)) (s_call0_c h)

/-- The kernel program's `main_call0_v12` is the reference's `main_call1_v12`. -/
theorem s_call0_v12 (h : Step V W) : rd V (.of main_call0_v12 : TRef sig ⟨S2x4096x4096, .i64⟩) = rd W (.of R.main_call1_v12 : TRef R.sig ⟨S2x4096x4096, .i64⟩) :=
  lock2 (Ta := ⟨S2x4096x4096, .i64⟩) (Tb := ⟨S2x4096x4096, .i64⟩) (Ty := ⟨S2x4096x4096, .i64⟩) muli (h.hostOps1_1 _ (at_ 13 rfl)) (h.ops0 _ (at_ 53 rfl)) (s_call0_v11 h) (s_call0_v8 h)

/-- The kernel program's `main_call0_c_0` is the reference's `main_call1_c_0`. -/
theorem s_call0_c_0 (h : Step V W) : rd V (.of main_call0_c_0 : TRef sig ⟨S_, .i64⟩) = rd W (.of R.main_call1_c_0 : TRef R.sig ⟨S_, .i64⟩) :=
  lock0 (Ty := ⟨S_, .i64⟩) (Val := Elt F) (constantI S_ 64 4096#64) (h.hostOps1_1 _ (at_ 14 rfl)) (h.ops0 _ (at_ 54 rfl))

/-- The kernel program's `main_call0_v13` is the reference's `main_call1_v13`. -/
theorem s_call0_v13 (h : Step V W) : rd V (.of main_call0_v13 : TRef sig ⟨S2x4096x4096, .i64⟩) = rd W (.of R.main_call1_v13 : TRef R.sig ⟨S2x4096x4096, .i64⟩) :=
  lock1 (Ta := ⟨S_, .i64⟩) (Ty := ⟨S2x4096x4096, .i64⟩) (broadcastInDim S2x4096x4096 ![] bcast_S_S2x4096x4096) (h.hostOps1_1 _ (at_ 15 rfl)) (h.ops0 _ (at_ 55 rfl)) (s_call0_c_0 h)

/-- The kernel program's `main_call0_v14` is the reference's `main_call1_v14`. -/
theorem s_call0_v14 (h : Step V W) : rd V (.of main_call0_v14 : TRef sig ⟨S2x4096x4096, .i64⟩) = rd W (.of R.main_call1_v14 : TRef R.sig ⟨S2x4096x4096, .i64⟩) :=
  lock2 (Ta := ⟨S2x4096x4096, .i64⟩) (Tb := ⟨S2x4096x4096, .i64⟩) (Ty := ⟨S2x4096x4096, .i64⟩) muli (h.hostOps1_1 _ (at_ 16 rfl)) (h.ops1 _ (at_ 0 rfl)) (s_call0_v13 h) (s_call0_v9 h)

/-- The kernel program's `main_call0_c_1` is the reference's `main_call1_c_1`. -/
theorem s_call0_c_1 (h : Step V W) : rd V (.of main_call0_c_1 : TRef sig ⟨S_, .i64⟩) = rd W (.of R.main_call1_c_1 : TRef R.sig ⟨S_, .i64⟩) :=
  lock0 (Ty := ⟨S_, .i64⟩) (Val := Elt F) (constantI S_ 64 1#64) (h.hostOps1_1 _ (at_ 17 rfl)) (h.ops1 _ (at_ 1 rfl))

/-- The kernel program's `main_call0_v15` is the reference's `main_call1_v15`. -/
theorem s_call0_v15 (h : Step V W) : rd V (.of main_call0_v15 : TRef sig ⟨S2x4096x4096, .i64⟩) = rd W (.of R.main_call1_v15 : TRef R.sig ⟨S2x4096x4096, .i64⟩) :=
  lock1 (Ta := ⟨S_, .i64⟩) (Ty := ⟨S2x4096x4096, .i64⟩) (broadcastInDim S2x4096x4096 ![] bcast_S_S2x4096x4096) (h.hostOps1_1 _ (at_ 18 rfl)) (h.ops1 _ (at_ 2 rfl)) (s_call0_c_1 h)

/-- The kernel program's `main_call0_v16` is the reference's `main_call1_v16`. -/
theorem s_call0_v16 (h : Step V W) : rd V (.of main_call0_v16 : TRef sig ⟨S2x4096x4096, .i64⟩) = rd W (.of R.main_call1_v16 : TRef R.sig ⟨S2x4096x4096, .i64⟩) :=
  lock2 (Ta := ⟨S2x4096x4096, .i64⟩) (Tb := ⟨S2x4096x4096, .i64⟩) (Ty := ⟨S2x4096x4096, .i64⟩) muli (h.hostOps1_1 _ (at_ 19 rfl)) (h.ops1 _ (at_ 3 rfl)) (s_call0_v15 h) (s_call0_v10 h)

/-- The kernel program's `main_call0_v17` is the reference's `main_call1_v17`. -/
theorem s_call0_v17 (h : Step V W) : rd V (.of main_call0_v17 : TRef sig ⟨S2x4096x4096, .i64⟩) = rd W (.of R.main_call1_v17 : TRef R.sig ⟨S2x4096x4096, .i64⟩) :=
  lock2 (Ta := ⟨S2x4096x4096, .i64⟩) (Tb := ⟨S2x4096x4096, .i64⟩) (Ty := ⟨S2x4096x4096, .i64⟩) addi (h.hostOps1_1 _ (at_ 20 rfl)) (h.ops1 _ (at_ 4 rfl)) (s_call0_v12 h) (s_call0_v14 h)

/-- The kernel program's `main_call0_v18` is the reference's `main_call1_v18`. -/
theorem s_call0_v18 (h : Step V W) : rd V (.of main_call0_v18 : TRef sig ⟨S2x4096x4096, .i64⟩) = rd W (.of R.main_call1_v18 : TRef R.sig ⟨S2x4096x4096, .i64⟩) :=
  lock2 (Ta := ⟨S2x4096x4096, .i64⟩) (Tb := ⟨S2x4096x4096, .i64⟩) (Ty := ⟨S2x4096x4096, .i64⟩) addi (h.hostOps1_1 _ (at_ 21 rfl)) (h.ops1 _ (at_ 5 rfl)) (s_call0_v17 h) (s_call0_v16 h)

/-- The kernel program's `main_call0_c_2` is the reference's `main_call1_c_2`. -/
theorem s_call0_c_2 (h : Step V W) : rd V (.of main_call0_c_2 : TRef sig ⟨S_, .i64⟩) = rd W (.of R.main_call1_c_2 : TRef R.sig ⟨S_, .i64⟩) :=
  lock0 (Ty := ⟨S_, .i64⟩) (Val := Elt F) (constantI S_ 64 32#64) (h.hostOps1_1 _ (at_ 22 rfl)) (h.ops1 _ (at_ 6 rfl))

/-- The kernel program's `main_call0_v19` is the reference's `main_call1_v19`. -/
theorem s_call0_v19 (h : Step V W) : rd V (.of main_call0_v19 : TRef sig ⟨S2x4096x4096, .i64⟩) = rd W (.of R.main_call1_v19 : TRef R.sig ⟨S2x4096x4096, .i64⟩) :=
  lock1 (Ta := ⟨S_, .i64⟩) (Ty := ⟨S2x4096x4096, .i64⟩) (broadcastInDim S2x4096x4096 ![] bcast_S_S2x4096x4096) (h.hostOps1_1 _ (at_ 23 rfl)) (h.ops1 _ (at_ 7 rfl)) (s_call0_c_2 h)

/-- The kernel program's `main_call0_v20` is the reference's `main_call1_v20`. -/
theorem s_call0_v20 (h : Step V W) : rd V (.of main_call0_v20 : TRef sig ⟨S2x4096x4096, .i64⟩) = rd W (.of R.main_call1_v20 : TRef R.sig ⟨S2x4096x4096, .i64⟩) :=
  lock2 (Ta := ⟨S2x4096x4096, .i64⟩) (Tb := ⟨S2x4096x4096, .i64⟩) (Ty := ⟨S2x4096x4096, .i64⟩) Host.shrui (h.hostOps1_1 _ (at_ 24 rfl)) (h.ops1 _ (at_ 8 rfl)) (s_call0_v18 h) (s_call0_v19 h)

/-- The kernel program's `main_call0_v21` is the reference's `main_call1_v21`. -/
theorem s_call0_v21 (h : Step V W) : rd V (.of main_call0_v21 : TRef sig ⟨S2x4096x4096, .i32⟩) = rd W (.of R.main_call1_v21 : TRef R.sig ⟨S2x4096x4096, .i32⟩) :=
  lock1 (Ta := ⟨S2x4096x4096, .i64⟩) (Ty := ⟨S2x4096x4096, .i32⟩) (trunci 32 · natLt_32_64) (h.hostOps1_1 _ (at_ 25 rfl)) (h.ops1 _ (at_ 9 rfl)) (s_call0_v18 h)

/-- The kernel program's `main_call0_v22` is the reference's `main_call1_v22`. -/
theorem s_call0_v22 (h : Step V W) : rd V (.of main_call0_v22 : TRef sig ⟨S2x4096x4096, .i32⟩) = rd W (.of R.main_call1_v22 : TRef R.sig ⟨S2x4096x4096, .i32⟩) :=
  lock1 (Ta := ⟨S2x4096x4096, .i64⟩) (Ty := ⟨S2x4096x4096, .i32⟩) (trunci 32 · natLt_32_64) (h.hostOps1_1 _ (at_ 26 rfl)) (h.ops1 _ (at_ 10 rfl)) (s_call0_v20 h)

/-- The kernel program's `main_call0_call0_v0` is the reference's `main_call1_call0_v0`. -/
theorem s_call0_call0_v0 (h : Step V W) : rd V (.of main_call0_call0_v0 : TRef sig ⟨S_, .i32⟩) = rd W (.of R.main_call1_call0_v0 : TRef R.sig ⟨S_, .i32⟩) :=
  lock2 (Ta := ⟨S_, .i32⟩) (Tb := ⟨S_, .i32⟩) (Ty := ⟨S_, .i32⟩) xori (h.hostOps1_1 _ (at_ 27 rfl)) (h.ops1 _ (at_ 11 rfl)) (s_call0_v5 h) (s_call0_v7 h)

/-- The kernel program's `main_call0_call0_c` is the reference's `main_call1_call0_c`. -/
theorem s_call0_call0_c (h : Step V W) : rd V (.of main_call0_call0_c : TRef sig ⟨S_, .i32⟩) = rd W (.of R.main_call1_call0_c : TRef R.sig ⟨S_, .i32⟩) :=
  lock0 (Ty := ⟨S_, .i32⟩) (Val := Elt F) (constantI S_ 32 466688986#32) (h.hostOps1_1 _ (at_ 28 rfl)) (h.ops1 _ (at_ 12 rfl))

/-- The kernel program's `main_call0_call0_v1` is the reference's `main_call1_call0_v1`. -/
theorem s_call0_call0_v1 (h : Step V W) : rd V (.of main_call0_call0_v1 : TRef sig ⟨S_, .i32⟩) = rd W (.of R.main_call1_call0_v1 : TRef R.sig ⟨S_, .i32⟩) :=
  lock2 (Ta := ⟨S_, .i32⟩) (Tb := ⟨S_, .i32⟩) (Ty := ⟨S_, .i32⟩) xori (h.hostOps1_1 _ (at_ 29 rfl)) (h.ops1 _ (at_ 13 rfl)) (s_call0_call0_v0 h) (s_call0_call0_c h)

/-- The kernel program's `main_call0_call0_v2` is the reference's `main_call1_call0_v2`. -/
theorem s_call0_call0_v2 (h : Step V W) : rd V (.of main_call0_call0_v2 : TRef sig ⟨S2x4096x4096, .i32⟩) = rd W (.of R.main_call1_call0_v2 : TRef R.sig ⟨S2x4096x4096, .i32⟩) :=
  lock1 (Ta := ⟨S_, .i32⟩) (Ty := ⟨S2x4096x4096, .i32⟩) (broadcastInDim S2x4096x4096 ![] bcast_S_S2x4096x4096) (h.hostOps1_1 _ (at_ 30 rfl)) (h.ops1 _ (at_ 14 rfl)) (s_call0_v5 h)

/-- The kernel program's `main_call0_call0_v3` is the reference's `main_call1_call0_v3`. -/
theorem s_call0_call0_v3 (h : Step V W) : rd V (.of main_call0_call0_v3 : TRef sig ⟨S2x4096x4096, .i32⟩) = rd W (.of R.main_call1_call0_v3 : TRef R.sig ⟨S2x4096x4096, .i32⟩) :=
  lock2 (Ta := ⟨S2x4096x4096, .i32⟩) (Tb := ⟨S2x4096x4096, .i32⟩) (Ty := ⟨S2x4096x4096, .i32⟩) addi (h.hostOps1_1 _ (at_ 31 rfl)) (h.ops1 _ (at_ 15 rfl)) (s_call0_v22 h) (s_call0_call0_v2 h)

/-- The kernel program's `main_call0_call0_v4` is the reference's `main_call1_call0_v4`. -/
theorem s_call0_call0_v4 (h : Step V W) : rd V (.of main_call0_call0_v4 : TRef sig ⟨S2x4096x4096, .i32⟩) = rd W (.of R.main_call1_call0_v4 : TRef R.sig ⟨S2x4096x4096, .i32⟩) :=
  lock1 (Ta := ⟨S_, .i32⟩) (Ty := ⟨S2x4096x4096, .i32⟩) (broadcastInDim S2x4096x4096 ![] bcast_S_S2x4096x4096) (h.hostOps1_1 _ (at_ 32 rfl)) (h.ops1 _ (at_ 16 rfl)) (s_call0_v7 h)

/-- The kernel program's `main_call0_call0_v5` is the reference's `main_call1_call0_v5`. -/
theorem s_call0_call0_v5 (h : Step V W) : rd V (.of main_call0_call0_v5 : TRef sig ⟨S2x4096x4096, .i32⟩) = rd W (.of R.main_call1_call0_v5 : TRef R.sig ⟨S2x4096x4096, .i32⟩) :=
  lock2 (Ta := ⟨S2x4096x4096, .i32⟩) (Tb := ⟨S2x4096x4096, .i32⟩) (Ty := ⟨S2x4096x4096, .i32⟩) addi (h.hostOps1_1 _ (at_ 33 rfl)) (h.ops1 _ (at_ 17 rfl)) (s_call0_v21 h) (s_call0_call0_v4 h)

/-- The kernel program's `main_call0_call0_v6` is the reference's `main_call1_call0_v6`. -/
theorem s_call0_call0_v6 (h : Step V W) : rd V (.of main_call0_call0_v6 : TRef sig ⟨S2x4096x4096, .i32⟩) = rd W (.of R.main_call1_call0_v6 : TRef R.sig ⟨S2x4096x4096, .i32⟩) :=
  lock2 (Ta := ⟨S2x4096x4096, .i32⟩) (Tb := ⟨S2x4096x4096, .i32⟩) (Ty := ⟨S2x4096x4096, .i32⟩) addi (h.hostOps1_1 _ (at_ 34 rfl)) (h.ops1 _ (at_ 18 rfl)) (s_call0_call0_v3 h) (s_call0_call0_v5 h)

/-- The kernel program's `main_call0_call0_c_0` is the reference's `main_call1_call0_c_0`. -/
theorem s_call0_call0_c_0 (h : Step V W) : rd V (.of main_call0_call0_c_0 : TRef sig ⟨S_, .i32⟩) = rd W (.of R.main_call1_call0_c_0 : TRef R.sig ⟨S_, .i32⟩) :=
  lock0 (Ty := ⟨S_, .i32⟩) (Val := Elt F) (constantI S_ 32 13#32) (h.hostOps1_1 _ (at_ 35 rfl)) (h.ops1 _ (at_ 19 rfl))

/-- The kernel program's `main_call0_call0_v7` is the reference's `main_call1_call0_v7`. -/
theorem s_call0_call0_v7 (h : Step V W) : rd V (.of main_call0_call0_v7 : TRef sig ⟨S2x4096x4096, .i32⟩) = rd W (.of R.main_call1_call0_v7 : TRef R.sig ⟨S2x4096x4096, .i32⟩) :=
  lock1 (Ta := ⟨S_, .i32⟩) (Ty := ⟨S2x4096x4096, .i32⟩) (broadcastInDim S2x4096x4096 ![] bcast_S_S2x4096x4096) (h.hostOps1_1 _ (at_ 36 rfl)) (h.ops1 _ (at_ 20 rfl)) (s_call0_call0_c_0 h)

/-- The kernel program's `main_call0_call0_v8` is the reference's `main_call1_call0_v8`. -/
theorem s_call0_call0_v8 (h : Step V W) : rd V (.of main_call0_call0_v8 : TRef sig ⟨S2x4096x4096, .i32⟩) = rd W (.of R.main_call1_call0_v8 : TRef R.sig ⟨S2x4096x4096, .i32⟩) :=
  lock2 (Ta := ⟨S2x4096x4096, .i32⟩) (Tb := ⟨S2x4096x4096, .i32⟩) (Ty := ⟨S2x4096x4096, .i32⟩) Host.shli (h.hostOps1_1 _ (at_ 37 rfl)) (h.ops1 _ (at_ 21 rfl)) (s_call0_call0_v5 h) (s_call0_call0_v7 h)

/-- The kernel program's `main_call0_call0_c_1` is the reference's `main_call1_call0_c_1`. -/
theorem s_call0_call0_c_1 (h : Step V W) : rd V (.of main_call0_call0_c_1 : TRef sig ⟨S_, .i32⟩) = rd W (.of R.main_call1_call0_c_1 : TRef R.sig ⟨S_, .i32⟩) :=
  lock0 (Ty := ⟨S_, .i32⟩) (Val := Elt F) (constantI S_ 32 19#32) (h.hostOps1_1 _ (at_ 38 rfl)) (h.ops1 _ (at_ 22 rfl))

/-- The kernel program's `main_call0_call0_v9` is the reference's `main_call1_call0_v9`. -/
theorem s_call0_call0_v9 (h : Step V W) : rd V (.of main_call0_call0_v9 : TRef sig ⟨S2x4096x4096, .i32⟩) = rd W (.of R.main_call1_call0_v9 : TRef R.sig ⟨S2x4096x4096, .i32⟩) :=
  lock1 (Ta := ⟨S_, .i32⟩) (Ty := ⟨S2x4096x4096, .i32⟩) (broadcastInDim S2x4096x4096 ![] bcast_S_S2x4096x4096) (h.hostOps1_1 _ (at_ 39 rfl)) (h.ops1 _ (at_ 23 rfl)) (s_call0_call0_c_1 h)

/-- The kernel program's `main_call0_call0_v10` is the reference's `main_call1_call0_v10`. -/
theorem s_call0_call0_v10 (h : Step V W) : rd V (.of main_call0_call0_v10 : TRef sig ⟨S2x4096x4096, .i32⟩) = rd W (.of R.main_call1_call0_v10 : TRef R.sig ⟨S2x4096x4096, .i32⟩) :=
  lock2 (Ta := ⟨S2x4096x4096, .i32⟩) (Tb := ⟨S2x4096x4096, .i32⟩) (Ty := ⟨S2x4096x4096, .i32⟩) Host.shrui (h.hostOps1_1 _ (at_ 40 rfl)) (h.ops1 _ (at_ 24 rfl)) (s_call0_call0_v5 h) (s_call0_call0_v9 h)

/-- The kernel program's `main_call0_call0_v11` is the reference's `main_call1_call0_v11`. -/
theorem s_call0_call0_v11 (h : Step V W) : rd V (.of main_call0_call0_v11 : TRef sig ⟨S2x4096x4096, .i32⟩) = rd W (.of R.main_call1_call0_v11 : TRef R.sig ⟨S2x4096x4096, .i32⟩) :=
  lock2 (Ta := ⟨S2x4096x4096, .i32⟩) (Tb := ⟨S2x4096x4096, .i32⟩) (Ty := ⟨S2x4096x4096, .i32⟩) ori (h.hostOps1_1 _ (at_ 41 rfl)) (h.ops1 _ (at_ 25 rfl)) (s_call0_call0_v8 h) (s_call0_call0_v10 h)

/-- The kernel program's `main_call0_call0_v12` is the reference's `main_call1_call0_v12`. -/
theorem s_call0_call0_v12 (h : Step V W) : rd V (.of main_call0_call0_v12 : TRef sig ⟨S2x4096x4096, .i32⟩) = rd W (.of R.main_call1_call0_v12 : TRef R.sig ⟨S2x4096x4096, .i32⟩) :=
  lock2 (Ta := ⟨S2x4096x4096, .i32⟩) (Tb := ⟨S2x4096x4096, .i32⟩) (Ty := ⟨S2x4096x4096, .i32⟩) xori (h.hostOps1_1 _ (at_ 42 rfl)) (h.ops1 _ (at_ 26 rfl)) (s_call0_call0_v6 h) (s_call0_call0_v11 h)

/-- The kernel program's `main_call0_call0_v13` is the reference's `main_call1_call0_v13`. -/
theorem s_call0_call0_v13 (h : Step V W) : rd V (.of main_call0_call0_v13 : TRef sig ⟨S2x4096x4096, .i32⟩) = rd W (.of R.main_call1_call0_v13 : TRef R.sig ⟨S2x4096x4096, .i32⟩) :=
  lock2 (Ta := ⟨S2x4096x4096, .i32⟩) (Tb := ⟨S2x4096x4096, .i32⟩) (Ty := ⟨S2x4096x4096, .i32⟩) addi (h.hostOps1_1 _ (at_ 43 rfl)) (h.ops1 _ (at_ 27 rfl)) (s_call0_call0_v6 h) (s_call0_call0_v12 h)

/-- The kernel program's `main_call0_call0_c_2` is the reference's `main_call1_call0_c_2`. -/
theorem s_call0_call0_c_2 (h : Step V W) : rd V (.of main_call0_call0_c_2 : TRef sig ⟨S_, .i32⟩) = rd W (.of R.main_call1_call0_c_2 : TRef R.sig ⟨S_, .i32⟩) :=
  lock0 (Ty := ⟨S_, .i32⟩) (Val := Elt F) (constantI S_ 32 15#32) (h.hostOps1_1 _ (at_ 44 rfl)) (h.ops1 _ (at_ 28 rfl))

/-- The kernel program's `main_call0_call0_v14` is the reference's `main_call1_call0_v14`. -/
theorem s_call0_call0_v14 (h : Step V W) : rd V (.of main_call0_call0_v14 : TRef sig ⟨S2x4096x4096, .i32⟩) = rd W (.of R.main_call1_call0_v14 : TRef R.sig ⟨S2x4096x4096, .i32⟩) :=
  lock1 (Ta := ⟨S_, .i32⟩) (Ty := ⟨S2x4096x4096, .i32⟩) (broadcastInDim S2x4096x4096 ![] bcast_S_S2x4096x4096) (h.hostOps1_1 _ (at_ 45 rfl)) (h.ops1 _ (at_ 29 rfl)) (s_call0_call0_c_2 h)

/-- The kernel program's `main_call0_call0_v15` is the reference's `main_call1_call0_v15`. -/
theorem s_call0_call0_v15 (h : Step V W) : rd V (.of main_call0_call0_v15 : TRef sig ⟨S2x4096x4096, .i32⟩) = rd W (.of R.main_call1_call0_v15 : TRef R.sig ⟨S2x4096x4096, .i32⟩) :=
  lock2 (Ta := ⟨S2x4096x4096, .i32⟩) (Tb := ⟨S2x4096x4096, .i32⟩) (Ty := ⟨S2x4096x4096, .i32⟩) Host.shli (h.hostOps1_1 _ (at_ 46 rfl)) (h.ops1 _ (at_ 30 rfl)) (s_call0_call0_v12 h) (s_call0_call0_v14 h)

/-- The kernel program's `main_call0_call0_c_3` is the reference's `main_call1_call0_c_3`. -/
theorem s_call0_call0_c_3 (h : Step V W) : rd V (.of main_call0_call0_c_3 : TRef sig ⟨S_, .i32⟩) = rd W (.of R.main_call1_call0_c_3 : TRef R.sig ⟨S_, .i32⟩) :=
  lock0 (Ty := ⟨S_, .i32⟩) (Val := Elt F) (constantI S_ 32 17#32) (h.hostOps1_1 _ (at_ 47 rfl)) (h.ops1 _ (at_ 31 rfl))

/-- The kernel program's `main_call0_call0_v16` is the reference's `main_call1_call0_v16`. -/
theorem s_call0_call0_v16 (h : Step V W) : rd V (.of main_call0_call0_v16 : TRef sig ⟨S2x4096x4096, .i32⟩) = rd W (.of R.main_call1_call0_v16 : TRef R.sig ⟨S2x4096x4096, .i32⟩) :=
  lock1 (Ta := ⟨S_, .i32⟩) (Ty := ⟨S2x4096x4096, .i32⟩) (broadcastInDim S2x4096x4096 ![] bcast_S_S2x4096x4096) (h.hostOps1_1 _ (at_ 48 rfl)) (h.ops1 _ (at_ 32 rfl)) (s_call0_call0_c_3 h)

/-- The kernel program's `main_call0_call0_v17` is the reference's `main_call1_call0_v17`. -/
theorem s_call0_call0_v17 (h : Step V W) : rd V (.of main_call0_call0_v17 : TRef sig ⟨S2x4096x4096, .i32⟩) = rd W (.of R.main_call1_call0_v17 : TRef R.sig ⟨S2x4096x4096, .i32⟩) :=
  lock2 (Ta := ⟨S2x4096x4096, .i32⟩) (Tb := ⟨S2x4096x4096, .i32⟩) (Ty := ⟨S2x4096x4096, .i32⟩) Host.shrui (h.hostOps1_1 _ (at_ 49 rfl)) (h.ops1 _ (at_ 33 rfl)) (s_call0_call0_v12 h) (s_call0_call0_v16 h)

/-- The kernel program's `main_call0_call0_v18` is the reference's `main_call1_call0_v18`. -/
theorem s_call0_call0_v18 (h : Step V W) : rd V (.of main_call0_call0_v18 : TRef sig ⟨S2x4096x4096, .i32⟩) = rd W (.of R.main_call1_call0_v18 : TRef R.sig ⟨S2x4096x4096, .i32⟩) :=
  lock2 (Ta := ⟨S2x4096x4096, .i32⟩) (Tb := ⟨S2x4096x4096, .i32⟩) (Ty := ⟨S2x4096x4096, .i32⟩) ori (h.hostOps1_1 _ (at_ 50 rfl)) (h.ops1 _ (at_ 34 rfl)) (s_call0_call0_v15 h) (s_call0_call0_v17 h)

/-- The kernel program's `main_call0_call0_v19` is the reference's `main_call1_call0_v19`. -/
theorem s_call0_call0_v19 (h : Step V W) : rd V (.of main_call0_call0_v19 : TRef sig ⟨S2x4096x4096, .i32⟩) = rd W (.of R.main_call1_call0_v19 : TRef R.sig ⟨S2x4096x4096, .i32⟩) :=
  lock2 (Ta := ⟨S2x4096x4096, .i32⟩) (Tb := ⟨S2x4096x4096, .i32⟩) (Ty := ⟨S2x4096x4096, .i32⟩) xori (h.hostOps1_1 _ (at_ 51 rfl)) (h.ops1 _ (at_ 35 rfl)) (s_call0_call0_v13 h) (s_call0_call0_v18 h)

/-- The kernel program's `main_call0_call0_v20` is the reference's `main_call1_call0_v20`. -/
theorem s_call0_call0_v20 (h : Step V W) : rd V (.of main_call0_call0_v20 : TRef sig ⟨S2x4096x4096, .i32⟩) = rd W (.of R.main_call1_call0_v20 : TRef R.sig ⟨S2x4096x4096, .i32⟩) :=
  lock2 (Ta := ⟨S2x4096x4096, .i32⟩) (Tb := ⟨S2x4096x4096, .i32⟩) (Ty := ⟨S2x4096x4096, .i32⟩) addi (h.hostOps1_1 _ (at_ 52 rfl)) (h.ops1 _ (at_ 36 rfl)) (s_call0_call0_v13 h) (s_call0_call0_v19 h)

/-- The kernel program's `main_call0_call0_c_4` is the reference's `main_call1_call0_c_4`. -/
theorem s_call0_call0_c_4 (h : Step V W) : rd V (.of main_call0_call0_c_4 : TRef sig ⟨S_, .i32⟩) = rd W (.of R.main_call1_call0_c_4 : TRef R.sig ⟨S_, .i32⟩) :=
  lock0 (Ty := ⟨S_, .i32⟩) (Val := Elt F) (constantI S_ 32 26#32) (h.hostOps1_1 _ (at_ 53 rfl)) (h.ops1 _ (at_ 37 rfl))

/-- The kernel program's `main_call0_call0_v21` is the reference's `main_call1_call0_v21`. -/
theorem s_call0_call0_v21 (h : Step V W) : rd V (.of main_call0_call0_v21 : TRef sig ⟨S2x4096x4096, .i32⟩) = rd W (.of R.main_call1_call0_v21 : TRef R.sig ⟨S2x4096x4096, .i32⟩) :=
  lock1 (Ta := ⟨S_, .i32⟩) (Ty := ⟨S2x4096x4096, .i32⟩) (broadcastInDim S2x4096x4096 ![] bcast_S_S2x4096x4096) (h.hostOps1_1 _ (at_ 54 rfl)) (h.ops1 _ (at_ 38 rfl)) (s_call0_call0_c_4 h)

/-- The kernel program's `main_call0_call0_v22` is the reference's `main_call1_call0_v22`. -/
theorem s_call0_call0_v22 (h : Step V W) : rd V (.of main_call0_call0_v22 : TRef sig ⟨S2x4096x4096, .i32⟩) = rd W (.of R.main_call1_call0_v22 : TRef R.sig ⟨S2x4096x4096, .i32⟩) :=
  lock2 (Ta := ⟨S2x4096x4096, .i32⟩) (Tb := ⟨S2x4096x4096, .i32⟩) (Ty := ⟨S2x4096x4096, .i32⟩) Host.shli (h.hostOps1_1 _ (at_ 55 rfl)) (h.ops1 _ (at_ 39 rfl)) (s_call0_call0_v19 h) (s_call0_call0_v21 h)

/-- The kernel program's `main_call0_call0_c_5` is the reference's `main_call1_call0_c_5`. -/
theorem s_call0_call0_c_5 (h : Step V W) : rd V (.of main_call0_call0_c_5 : TRef sig ⟨S_, .i32⟩) = rd W (.of R.main_call1_call0_c_5 : TRef R.sig ⟨S_, .i32⟩) :=
  lock0 (Ty := ⟨S_, .i32⟩) (Val := Elt F) (constantI S_ 32 6#32) (h.hostOps1_1 _ (at_ 56 rfl)) (h.ops1 _ (at_ 40 rfl))

/-- The kernel program's `main_call0_call0_v23` is the reference's `main_call1_call0_v23`. -/
theorem s_call0_call0_v23 (h : Step V W) : rd V (.of main_call0_call0_v23 : TRef sig ⟨S2x4096x4096, .i32⟩) = rd W (.of R.main_call1_call0_v23 : TRef R.sig ⟨S2x4096x4096, .i32⟩) :=
  lock1 (Ta := ⟨S_, .i32⟩) (Ty := ⟨S2x4096x4096, .i32⟩) (broadcastInDim S2x4096x4096 ![] bcast_S_S2x4096x4096) (h.hostOps1_1 _ (at_ 57 rfl)) (h.ops1 _ (at_ 41 rfl)) (s_call0_call0_c_5 h)

/-- The kernel program's `main_call0_call0_v24` is the reference's `main_call1_call0_v24`. -/
theorem s_call0_call0_v24 (h : Step V W) : rd V (.of main_call0_call0_v24 : TRef sig ⟨S2x4096x4096, .i32⟩) = rd W (.of R.main_call1_call0_v24 : TRef R.sig ⟨S2x4096x4096, .i32⟩) :=
  lock2 (Ta := ⟨S2x4096x4096, .i32⟩) (Tb := ⟨S2x4096x4096, .i32⟩) (Ty := ⟨S2x4096x4096, .i32⟩) Host.shrui (h.hostOps1_1 _ (at_ 58 rfl)) (h.ops1 _ (at_ 42 rfl)) (s_call0_call0_v19 h) (s_call0_call0_v23 h)

/-- The kernel program's `main_call0_call0_v25` is the reference's `main_call1_call0_v25`. -/
theorem s_call0_call0_v25 (h : Step V W) : rd V (.of main_call0_call0_v25 : TRef sig ⟨S2x4096x4096, .i32⟩) = rd W (.of R.main_call1_call0_v25 : TRef R.sig ⟨S2x4096x4096, .i32⟩) :=
  lock2 (Ta := ⟨S2x4096x4096, .i32⟩) (Tb := ⟨S2x4096x4096, .i32⟩) (Ty := ⟨S2x4096x4096, .i32⟩) ori (h.hostOps1_1 _ (at_ 59 rfl)) (h.ops1 _ (at_ 43 rfl)) (s_call0_call0_v22 h) (s_call0_call0_v24 h)

/-- The kernel program's `main_call0_call0_v26` is the reference's `main_call1_call0_v26`. -/
theorem s_call0_call0_v26 (h : Step V W) : rd V (.of main_call0_call0_v26 : TRef sig ⟨S2x4096x4096, .i32⟩) = rd W (.of R.main_call1_call0_v26 : TRef R.sig ⟨S2x4096x4096, .i32⟩) :=
  lock2 (Ta := ⟨S2x4096x4096, .i32⟩) (Tb := ⟨S2x4096x4096, .i32⟩) (Ty := ⟨S2x4096x4096, .i32⟩) xori (h.hostOps1_1 _ (at_ 60 rfl)) (h.ops1 _ (at_ 44 rfl)) (s_call0_call0_v20 h) (s_call0_call0_v25 h)

/-- The kernel program's `main_call0_call0_v27` is the reference's `main_call1_call0_v27`. -/
theorem s_call0_call0_v27 (h : Step V W) : rd V (.of main_call0_call0_v27 : TRef sig ⟨S2x4096x4096, .i32⟩) = rd W (.of R.main_call1_call0_v27 : TRef R.sig ⟨S2x4096x4096, .i32⟩) :=
  lock2 (Ta := ⟨S2x4096x4096, .i32⟩) (Tb := ⟨S2x4096x4096, .i32⟩) (Ty := ⟨S2x4096x4096, .i32⟩) addi (h.hostOps1_1 _ (at_ 61 rfl)) (h.ops1 _ (at_ 45 rfl)) (s_call0_call0_v20 h) (s_call0_call0_v26 h)

/-- The kernel program's `main_call0_call0_c_6` is the reference's `main_call1_call0_c_6`. -/
theorem s_call0_call0_c_6 (h : Step V W) : rd V (.of main_call0_call0_c_6 : TRef sig ⟨S_, .i32⟩) = rd W (.of R.main_call1_call0_c_6 : TRef R.sig ⟨S_, .i32⟩) :=
  lock0 (Ty := ⟨S_, .i32⟩) (Val := Elt F) (constantI S_ 32 6#32) (h.hostOps1_1 _ (at_ 62 rfl)) (h.ops1 _ (at_ 46 rfl))

/-- The kernel program's `main_call0_call0_v28` is the reference's `main_call1_call0_v28`. -/
theorem s_call0_call0_v28 (h : Step V W) : rd V (.of main_call0_call0_v28 : TRef sig ⟨S2x4096x4096, .i32⟩) = rd W (.of R.main_call1_call0_v28 : TRef R.sig ⟨S2x4096x4096, .i32⟩) :=
  lock1 (Ta := ⟨S_, .i32⟩) (Ty := ⟨S2x4096x4096, .i32⟩) (broadcastInDim S2x4096x4096 ![] bcast_S_S2x4096x4096) (h.hostOps1_1 _ (at_ 63 rfl)) (h.ops1 _ (at_ 47 rfl)) (s_call0_call0_c_6 h)

/-- The kernel program's `main_call0_call0_v29` is the reference's `main_call1_call0_v29`. -/
theorem s_call0_call0_v29 (h : Step V W) : rd V (.of main_call0_call0_v29 : TRef sig ⟨S2x4096x4096, .i32⟩) = rd W (.of R.main_call1_call0_v29 : TRef R.sig ⟨S2x4096x4096, .i32⟩) :=
  lock2 (Ta := ⟨S2x4096x4096, .i32⟩) (Tb := ⟨S2x4096x4096, .i32⟩) (Ty := ⟨S2x4096x4096, .i32⟩) Host.shli (h.hostOps1_1 _ (at_ 64 rfl)) (h.ops1 _ (at_ 48 rfl)) (s_call0_call0_v26 h) (s_call0_call0_v28 h)

/-- The kernel program's `main_call0_call0_c_7` is the reference's `main_call1_call0_c_7`. -/
theorem s_call0_call0_c_7 (h : Step V W) : rd V (.of main_call0_call0_c_7 : TRef sig ⟨S_, .i32⟩) = rd W (.of R.main_call1_call0_c_7 : TRef R.sig ⟨S_, .i32⟩) :=
  lock0 (Ty := ⟨S_, .i32⟩) (Val := Elt F) (constantI S_ 32 26#32) (h.hostOps1_1 _ (at_ 65 rfl)) (h.ops1 _ (at_ 49 rfl))

/-- The kernel program's `main_call0_call0_v30` is the reference's `main_call1_call0_v30`. -/
theorem s_call0_call0_v30 (h : Step V W) : rd V (.of main_call0_call0_v30 : TRef sig ⟨S2x4096x4096, .i32⟩) = rd W (.of R.main_call1_call0_v30 : TRef R.sig ⟨S2x4096x4096, .i32⟩) :=
  lock1 (Ta := ⟨S_, .i32⟩) (Ty := ⟨S2x4096x4096, .i32⟩) (broadcastInDim S2x4096x4096 ![] bcast_S_S2x4096x4096) (h.hostOps1_1 _ (at_ 66 rfl)) (h.ops1 _ (at_ 50 rfl)) (s_call0_call0_c_7 h)

/-- The kernel program's `main_call0_call0_v31` is the reference's `main_call1_call0_v31`. -/
theorem s_call0_call0_v31 (h : Step V W) : rd V (.of main_call0_call0_v31 : TRef sig ⟨S2x4096x4096, .i32⟩) = rd W (.of R.main_call1_call0_v31 : TRef R.sig ⟨S2x4096x4096, .i32⟩) :=
  lock2 (Ta := ⟨S2x4096x4096, .i32⟩) (Tb := ⟨S2x4096x4096, .i32⟩) (Ty := ⟨S2x4096x4096, .i32⟩) Host.shrui (h.hostOps1_1 _ (at_ 67 rfl)) (h.ops1 _ (at_ 51 rfl)) (s_call0_call0_v26 h) (s_call0_call0_v30 h)

/-- The kernel program's `main_call0_call0_v32` is the reference's `main_call1_call0_v32`. -/
theorem s_call0_call0_v32 (h : Step V W) : rd V (.of main_call0_call0_v32 : TRef sig ⟨S2x4096x4096, .i32⟩) = rd W (.of R.main_call1_call0_v32 : TRef R.sig ⟨S2x4096x4096, .i32⟩) :=
  lock2 (Ta := ⟨S2x4096x4096, .i32⟩) (Tb := ⟨S2x4096x4096, .i32⟩) (Ty := ⟨S2x4096x4096, .i32⟩) ori (h.hostOps1_1 _ (at_ 68 rfl)) (h.ops1 _ (at_ 52 rfl)) (s_call0_call0_v29 h) (s_call0_call0_v31 h)

/-- The kernel program's `main_call0_call0_v33` is the reference's `main_call1_call0_v33`. -/
theorem s_call0_call0_v33 (h : Step V W) : rd V (.of main_call0_call0_v33 : TRef sig ⟨S2x4096x4096, .i32⟩) = rd W (.of R.main_call1_call0_v33 : TRef R.sig ⟨S2x4096x4096, .i32⟩) :=
  lock2 (Ta := ⟨S2x4096x4096, .i32⟩) (Tb := ⟨S2x4096x4096, .i32⟩) (Ty := ⟨S2x4096x4096, .i32⟩) xori (h.hostOps1_1 _ (at_ 69 rfl)) (h.ops1 _ (at_ 53 rfl)) (s_call0_call0_v27 h) (s_call0_call0_v32 h)

/-- The kernel program's `main_call0_call0_v34` is the reference's `main_call1_call0_v34`. -/
theorem s_call0_call0_v34 (h : Step V W) : rd V (.of main_call0_call0_v34 : TRef sig ⟨S2x4096x4096, .i32⟩) = rd W (.of R.main_call1_call0_v34 : TRef R.sig ⟨S2x4096x4096, .i32⟩) :=
  lock1 (Ta := ⟨S_, .i32⟩) (Ty := ⟨S2x4096x4096, .i32⟩) (broadcastInDim S2x4096x4096 ![] bcast_S_S2x4096x4096) (h.hostOps1_1 _ (at_ 70 rfl)) (h.ops1 _ (at_ 54 rfl)) (s_call0_v7 h)

/-- The kernel program's `main_call0_call0_v35` is the reference's `main_call1_call0_v35`. -/
theorem s_call0_call0_v35 (h : Step V W) : rd V (.of main_call0_call0_v35 : TRef sig ⟨S2x4096x4096, .i32⟩) = rd W (.of R.main_call1_call0_v35 : TRef R.sig ⟨S2x4096x4096, .i32⟩) :=
  lock2 (Ta := ⟨S2x4096x4096, .i32⟩) (Tb := ⟨S2x4096x4096, .i32⟩) (Ty := ⟨S2x4096x4096, .i32⟩) addi (h.hostOps1_1 _ (at_ 71 rfl)) (h.ops1 _ (at_ 55 rfl)) (s_call0_call0_v27 h) (s_call0_call0_v34 h)

/-- The kernel program's `main_call0_call0_v36` is the reference's `main_call1_call0_v36`. -/
theorem s_call0_call0_v36 (h : Step V W) : rd V (.of main_call0_call0_v36 : TRef sig ⟨S2x4096x4096, .i32⟩) = rd W (.of R.main_call1_call0_v36 : TRef R.sig ⟨S2x4096x4096, .i32⟩) :=
  lock1 (Ta := ⟨S_, .i32⟩) (Ty := ⟨S2x4096x4096, .i32⟩) (broadcastInDim S2x4096x4096 ![] bcast_S_S2x4096x4096) (h.hostOps1_1 _ (at_ 72 rfl)) (h.ops2 _ (at_ 0 rfl)) (s_call0_call0_v1 h)

/-- The kernel program's `main_call0_call0_v37` is the reference's `main_call1_call0_v37`. -/
theorem s_call0_call0_v37 (h : Step V W) : rd V (.of main_call0_call0_v37 : TRef sig ⟨S2x4096x4096, .i32⟩) = rd W (.of R.main_call1_call0_v37 : TRef R.sig ⟨S2x4096x4096, .i32⟩) :=
  lock2 (Ta := ⟨S2x4096x4096, .i32⟩) (Tb := ⟨S2x4096x4096, .i32⟩) (Ty := ⟨S2x4096x4096, .i32⟩) addi (h.hostOps1_1 _ (at_ 73 rfl)) (h.ops2 _ (at_ 1 rfl)) (s_call0_call0_v33 h) (s_call0_call0_v36 h)

/-- The kernel program's `main_call0_call0_c_8` is the reference's `main_call1_call0_c_8`. -/
theorem s_call0_call0_c_8 (h : Step V W) : rd V (.of main_call0_call0_c_8 : TRef sig ⟨S_, .i32⟩) = rd W (.of R.main_call1_call0_c_8 : TRef R.sig ⟨S_, .i32⟩) :=
  lock0 (Ty := ⟨S_, .i32⟩) (Val := Elt F) (constantI S_ 32 1#32) (h.hostOps1_1 _ (at_ 74 rfl)) (h.ops2 _ (at_ 2 rfl))

/-- The kernel program's `main_call0_call0_v38` is the reference's `main_call1_call0_v38`. -/
theorem s_call0_call0_v38 (h : Step V W) : rd V (.of main_call0_call0_v38 : TRef sig ⟨S2x4096x4096, .i32⟩) = rd W (.of R.main_call1_call0_v38 : TRef R.sig ⟨S2x4096x4096, .i32⟩) :=
  lock1 (Ta := ⟨S_, .i32⟩) (Ty := ⟨S2x4096x4096, .i32⟩) (broadcastInDim S2x4096x4096 ![] bcast_S_S2x4096x4096) (h.hostOps1_1 _ (at_ 75 rfl)) (h.ops2 _ (at_ 3 rfl)) (s_call0_call0_c_8 h)

/-- The kernel program's `main_call0_call0_v39` is the reference's `main_call1_call0_v39`. -/
theorem s_call0_call0_v39 (h : Step V W) : rd V (.of main_call0_call0_v39 : TRef sig ⟨S2x4096x4096, .i32⟩) = rd W (.of R.main_call1_call0_v39 : TRef R.sig ⟨S2x4096x4096, .i32⟩) :=
  lock2 (Ta := ⟨S2x4096x4096, .i32⟩) (Tb := ⟨S2x4096x4096, .i32⟩) (Ty := ⟨S2x4096x4096, .i32⟩) addi (h.hostOps1_1 _ (at_ 76 rfl)) (h.ops2 _ (at_ 4 rfl)) (s_call0_call0_v37 h) (s_call0_call0_v38 h)

/-- The kernel program's `main_call0_call0_v40` is the reference's `main_call1_call0_v40`. -/
theorem s_call0_call0_v40 (h : Step V W) : rd V (.of main_call0_call0_v40 : TRef sig ⟨S2x4096x4096, .i32⟩) = rd W (.of R.main_call1_call0_v40 : TRef R.sig ⟨S2x4096x4096, .i32⟩) :=
  lock2 (Ta := ⟨S2x4096x4096, .i32⟩) (Tb := ⟨S2x4096x4096, .i32⟩) (Ty := ⟨S2x4096x4096, .i32⟩) addi (h.hostOps1_1 _ (at_ 77 rfl)) (h.ops2 _ (at_ 5 rfl)) (s_call0_call0_v35 h) (s_call0_call0_v39 h)

/-- The kernel program's `main_call0_call0_c_9` is the reference's `main_call1_call0_c_9`. -/
theorem s_call0_call0_c_9 (h : Step V W) : rd V (.of main_call0_call0_c_9 : TRef sig ⟨S_, .i32⟩) = rd W (.of R.main_call1_call0_c_9 : TRef R.sig ⟨S_, .i32⟩) :=
  lock0 (Ty := ⟨S_, .i32⟩) (Val := Elt F) (constantI S_ 32 17#32) (h.hostOps1_1 _ (at_ 78 rfl)) (h.ops2 _ (at_ 6 rfl))

/-- The kernel program's `main_call0_call0_v41` is the reference's `main_call1_call0_v41`. -/
theorem s_call0_call0_v41 (h : Step V W) : rd V (.of main_call0_call0_v41 : TRef sig ⟨S2x4096x4096, .i32⟩) = rd W (.of R.main_call1_call0_v41 : TRef R.sig ⟨S2x4096x4096, .i32⟩) :=
  lock1 (Ta := ⟨S_, .i32⟩) (Ty := ⟨S2x4096x4096, .i32⟩) (broadcastInDim S2x4096x4096 ![] bcast_S_S2x4096x4096) (h.hostOps1_1 _ (at_ 79 rfl)) (h.ops2 _ (at_ 7 rfl)) (s_call0_call0_c_9 h)

/-- The kernel program's `main_call0_call0_v42` is the reference's `main_call1_call0_v42`. -/
theorem s_call0_call0_v42 (h : Step V W) : rd V (.of main_call0_call0_v42 : TRef sig ⟨S2x4096x4096, .i32⟩) = rd W (.of R.main_call1_call0_v42 : TRef R.sig ⟨S2x4096x4096, .i32⟩) :=
  lock2 (Ta := ⟨S2x4096x4096, .i32⟩) (Tb := ⟨S2x4096x4096, .i32⟩) (Ty := ⟨S2x4096x4096, .i32⟩) Host.shli (h.hostOps1_1 _ (at_ 80 rfl)) (h.ops2 _ (at_ 8 rfl)) (s_call0_call0_v39 h) (s_call0_call0_v41 h)

/-- The kernel program's `main_call0_call0_c_10` is the reference's `main_call1_call0_c_10`. -/
theorem s_call0_call0_c_10 (h : Step V W) : rd V (.of main_call0_call0_c_10 : TRef sig ⟨S_, .i32⟩) = rd W (.of R.main_call1_call0_c_10 : TRef R.sig ⟨S_, .i32⟩) :=
  lock0 (Ty := ⟨S_, .i32⟩) (Val := Elt F) (constantI S_ 32 15#32) (h.hostOps1_1 _ (at_ 81 rfl)) (h.ops2 _ (at_ 9 rfl))

/-- The kernel program's `main_call0_call0_v43` is the reference's `main_call1_call0_v43`. -/
theorem s_call0_call0_v43 (h : Step V W) : rd V (.of main_call0_call0_v43 : TRef sig ⟨S2x4096x4096, .i32⟩) = rd W (.of R.main_call1_call0_v43 : TRef R.sig ⟨S2x4096x4096, .i32⟩) :=
  lock1 (Ta := ⟨S_, .i32⟩) (Ty := ⟨S2x4096x4096, .i32⟩) (broadcastInDim S2x4096x4096 ![] bcast_S_S2x4096x4096) (h.hostOps1_1 _ (at_ 82 rfl)) (h.ops2 _ (at_ 10 rfl)) (s_call0_call0_c_10 h)

/-- The kernel program's `main_call0_call0_v44` is the reference's `main_call1_call0_v44`. -/
theorem s_call0_call0_v44 (h : Step V W) : rd V (.of main_call0_call0_v44 : TRef sig ⟨S2x4096x4096, .i32⟩) = rd W (.of R.main_call1_call0_v44 : TRef R.sig ⟨S2x4096x4096, .i32⟩) :=
  lock2 (Ta := ⟨S2x4096x4096, .i32⟩) (Tb := ⟨S2x4096x4096, .i32⟩) (Ty := ⟨S2x4096x4096, .i32⟩) Host.shrui (h.hostOps1_1 _ (at_ 83 rfl)) (h.ops2 _ (at_ 11 rfl)) (s_call0_call0_v39 h) (s_call0_call0_v43 h)

/-- The kernel program's `main_call0_call0_v45` is the reference's `main_call1_call0_v45`. -/
theorem s_call0_call0_v45 (h : Step V W) : rd V (.of main_call0_call0_v45 : TRef sig ⟨S2x4096x4096, .i32⟩) = rd W (.of R.main_call1_call0_v45 : TRef R.sig ⟨S2x4096x4096, .i32⟩) :=
  lock2 (Ta := ⟨S2x4096x4096, .i32⟩) (Tb := ⟨S2x4096x4096, .i32⟩) (Ty := ⟨S2x4096x4096, .i32⟩) ori (h.hostOps1_1 _ (at_ 84 rfl)) (h.ops2 _ (at_ 12 rfl)) (s_call0_call0_v42 h) (s_call0_call0_v44 h)

/-- The kernel program's `main_call0_call0_v46` is the reference's `main_call1_call0_v46`. -/
theorem s_call0_call0_v46 (h : Step V W) : rd V (.of main_call0_call0_v46 : TRef sig ⟨S2x4096x4096, .i32⟩) = rd W (.of R.main_call1_call0_v46 : TRef R.sig ⟨S2x4096x4096, .i32⟩) :=
  lock2 (Ta := ⟨S2x4096x4096, .i32⟩) (Tb := ⟨S2x4096x4096, .i32⟩) (Ty := ⟨S2x4096x4096, .i32⟩) xori (h.hostOps1_1 _ (at_ 85 rfl)) (h.ops2 _ (at_ 13 rfl)) (s_call0_call0_v40 h) (s_call0_call0_v45 h)

/-- The kernel program's `main_call0_call0_v47` is the reference's `main_call1_call0_v47`. -/
theorem s_call0_call0_v47 (h : Step V W) : rd V (.of main_call0_call0_v47 : TRef sig ⟨S2x4096x4096, .i32⟩) = rd W (.of R.main_call1_call0_v47 : TRef R.sig ⟨S2x4096x4096, .i32⟩) :=
  lock2 (Ta := ⟨S2x4096x4096, .i32⟩) (Tb := ⟨S2x4096x4096, .i32⟩) (Ty := ⟨S2x4096x4096, .i32⟩) addi (h.hostOps1_1 _ (at_ 86 rfl)) (h.ops2 _ (at_ 14 rfl)) (s_call0_call0_v40 h) (s_call0_call0_v46 h)

/-- The kernel program's `main_call0_call0_c_11` is the reference's `main_call1_call0_c_11`. -/
theorem s_call0_call0_c_11 (h : Step V W) : rd V (.of main_call0_call0_c_11 : TRef sig ⟨S_, .i32⟩) = rd W (.of R.main_call1_call0_c_11 : TRef R.sig ⟨S_, .i32⟩) :=
  lock0 (Ty := ⟨S_, .i32⟩) (Val := Elt F) (constantI S_ 32 29#32) (h.hostOps1_1 _ (at_ 87 rfl)) (h.ops2 _ (at_ 15 rfl))

/-- The kernel program's `main_call0_call0_v48` is the reference's `main_call1_call0_v48`. -/
theorem s_call0_call0_v48 (h : Step V W) : rd V (.of main_call0_call0_v48 : TRef sig ⟨S2x4096x4096, .i32⟩) = rd W (.of R.main_call1_call0_v48 : TRef R.sig ⟨S2x4096x4096, .i32⟩) :=
  lock1 (Ta := ⟨S_, .i32⟩) (Ty := ⟨S2x4096x4096, .i32⟩) (broadcastInDim S2x4096x4096 ![] bcast_S_S2x4096x4096) (h.hostOps1_1 _ (at_ 88 rfl)) (h.ops2 _ (at_ 16 rfl)) (s_call0_call0_c_11 h)

/-- The kernel program's `main_call0_call0_v49` is the reference's `main_call1_call0_v49`. -/
theorem s_call0_call0_v49 (h : Step V W) : rd V (.of main_call0_call0_v49 : TRef sig ⟨S2x4096x4096, .i32⟩) = rd W (.of R.main_call1_call0_v49 : TRef R.sig ⟨S2x4096x4096, .i32⟩) :=
  lock2 (Ta := ⟨S2x4096x4096, .i32⟩) (Tb := ⟨S2x4096x4096, .i32⟩) (Ty := ⟨S2x4096x4096, .i32⟩) Host.shli (h.hostOps1_1 _ (at_ 89 rfl)) (h.ops2 _ (at_ 17 rfl)) (s_call0_call0_v46 h) (s_call0_call0_v48 h)

/-- The kernel program's `main_call0_call0_c_12` is the reference's `main_call1_call0_c_12`. -/
theorem s_call0_call0_c_12 (h : Step V W) : rd V (.of main_call0_call0_c_12 : TRef sig ⟨S_, .i32⟩) = rd W (.of R.main_call1_call0_c_12 : TRef R.sig ⟨S_, .i32⟩) :=
  lock0 (Ty := ⟨S_, .i32⟩) (Val := Elt F) (constantI S_ 32 3#32) (h.hostOps1_1 _ (at_ 90 rfl)) (h.ops2 _ (at_ 18 rfl))

/-- The kernel program's `main_call0_call0_v50` is the reference's `main_call1_call0_v50`. -/
theorem s_call0_call0_v50 (h : Step V W) : rd V (.of main_call0_call0_v50 : TRef sig ⟨S2x4096x4096, .i32⟩) = rd W (.of R.main_call1_call0_v50 : TRef R.sig ⟨S2x4096x4096, .i32⟩) :=
  lock1 (Ta := ⟨S_, .i32⟩) (Ty := ⟨S2x4096x4096, .i32⟩) (broadcastInDim S2x4096x4096 ![] bcast_S_S2x4096x4096) (h.hostOps1_1 _ (at_ 91 rfl)) (h.ops2 _ (at_ 19 rfl)) (s_call0_call0_c_12 h)

/-- The kernel program's `main_call0_call0_v51` is the reference's `main_call1_call0_v51`. -/
theorem s_call0_call0_v51 (h : Step V W) : rd V (.of main_call0_call0_v51 : TRef sig ⟨S2x4096x4096, .i32⟩) = rd W (.of R.main_call1_call0_v51 : TRef R.sig ⟨S2x4096x4096, .i32⟩) :=
  lock2 (Ta := ⟨S2x4096x4096, .i32⟩) (Tb := ⟨S2x4096x4096, .i32⟩) (Ty := ⟨S2x4096x4096, .i32⟩) Host.shrui (h.hostOps1_1 _ (at_ 92 rfl)) (h.ops2 _ (at_ 20 rfl)) (s_call0_call0_v46 h) (s_call0_call0_v50 h)

/-- The kernel program's `main_call0_call0_v52` is the reference's `main_call1_call0_v52`. -/
theorem s_call0_call0_v52 (h : Step V W) : rd V (.of main_call0_call0_v52 : TRef sig ⟨S2x4096x4096, .i32⟩) = rd W (.of R.main_call1_call0_v52 : TRef R.sig ⟨S2x4096x4096, .i32⟩) :=
  lock2 (Ta := ⟨S2x4096x4096, .i32⟩) (Tb := ⟨S2x4096x4096, .i32⟩) (Ty := ⟨S2x4096x4096, .i32⟩) ori (h.hostOps1_1 _ (at_ 93 rfl)) (h.ops2 _ (at_ 21 rfl)) (s_call0_call0_v49 h) (s_call0_call0_v51 h)

/-- The kernel program's `main_call0_call0_v53` is the reference's `main_call1_call0_v53`. -/
theorem s_call0_call0_v53 (h : Step V W) : rd V (.of main_call0_call0_v53 : TRef sig ⟨S2x4096x4096, .i32⟩) = rd W (.of R.main_call1_call0_v53 : TRef R.sig ⟨S2x4096x4096, .i32⟩) :=
  lock2 (Ta := ⟨S2x4096x4096, .i32⟩) (Tb := ⟨S2x4096x4096, .i32⟩) (Ty := ⟨S2x4096x4096, .i32⟩) xori (h.hostOps1_1 _ (at_ 94 rfl)) (h.ops2 _ (at_ 22 rfl)) (s_call0_call0_v47 h) (s_call0_call0_v52 h)

/-- The kernel program's `main_call0_call0_v54` is the reference's `main_call1_call0_v54`. -/
theorem s_call0_call0_v54 (h : Step V W) : rd V (.of main_call0_call0_v54 : TRef sig ⟨S2x4096x4096, .i32⟩) = rd W (.of R.main_call1_call0_v54 : TRef R.sig ⟨S2x4096x4096, .i32⟩) :=
  lock2 (Ta := ⟨S2x4096x4096, .i32⟩) (Tb := ⟨S2x4096x4096, .i32⟩) (Ty := ⟨S2x4096x4096, .i32⟩) addi (h.hostOps1_1 _ (at_ 95 rfl)) (h.ops2 _ (at_ 23 rfl)) (s_call0_call0_v47 h) (s_call0_call0_v53 h)

/-- The kernel program's `main_call0_call0_c_13` is the reference's `main_call1_call0_c_13`. -/
theorem s_call0_call0_c_13 (h : Step V W) : rd V (.of main_call0_call0_c_13 : TRef sig ⟨S_, .i32⟩) = rd W (.of R.main_call1_call0_c_13 : TRef R.sig ⟨S_, .i32⟩) :=
  lock0 (Ty := ⟨S_, .i32⟩) (Val := Elt F) (constantI S_ 32 16#32) (h.hostOps1_1 _ (at_ 96 rfl)) (h.ops2 _ (at_ 24 rfl))

/-- The kernel program's `main_call0_call0_v55` is the reference's `main_call1_call0_v55`. -/
theorem s_call0_call0_v55 (h : Step V W) : rd V (.of main_call0_call0_v55 : TRef sig ⟨S2x4096x4096, .i32⟩) = rd W (.of R.main_call1_call0_v55 : TRef R.sig ⟨S2x4096x4096, .i32⟩) :=
  lock1 (Ta := ⟨S_, .i32⟩) (Ty := ⟨S2x4096x4096, .i32⟩) (broadcastInDim S2x4096x4096 ![] bcast_S_S2x4096x4096) (h.hostOps1_1 _ (at_ 97 rfl)) (h.ops2 _ (at_ 25 rfl)) (s_call0_call0_c_13 h)

/-- The kernel program's `main_call0_call0_v56` is the reference's `main_call1_call0_v56`. -/
theorem s_call0_call0_v56 (h : Step V W) : rd V (.of main_call0_call0_v56 : TRef sig ⟨S2x4096x4096, .i32⟩) = rd W (.of R.main_call1_call0_v56 : TRef R.sig ⟨S2x4096x4096, .i32⟩) :=
  lock2 (Ta := ⟨S2x4096x4096, .i32⟩) (Tb := ⟨S2x4096x4096, .i32⟩) (Ty := ⟨S2x4096x4096, .i32⟩) Host.shli (h.hostOps1_1 _ (at_ 98 rfl)) (h.ops2 _ (at_ 26 rfl)) (s_call0_call0_v53 h) (s_call0_call0_v55 h)

/-- The kernel program's `main_call0_call0_c_14` is the reference's `main_call1_call0_c_14`. -/
theorem s_call0_call0_c_14 (h : Step V W) : rd V (.of main_call0_call0_c_14 : TRef sig ⟨S_, .i32⟩) = rd W (.of R.main_call1_call0_c_14 : TRef R.sig ⟨S_, .i32⟩) :=
  lock0 (Ty := ⟨S_, .i32⟩) (Val := Elt F) (constantI S_ 32 16#32) (h.hostOps1_1 _ (at_ 99 rfl)) (h.ops2 _ (at_ 27 rfl))

/-- The kernel program's `main_call0_call0_v57` is the reference's `main_call1_call0_v57`. -/
theorem s_call0_call0_v57 (h : Step V W) : rd V (.of main_call0_call0_v57 : TRef sig ⟨S2x4096x4096, .i32⟩) = rd W (.of R.main_call1_call0_v57 : TRef R.sig ⟨S2x4096x4096, .i32⟩) :=
  lock1 (Ta := ⟨S_, .i32⟩) (Ty := ⟨S2x4096x4096, .i32⟩) (broadcastInDim S2x4096x4096 ![] bcast_S_S2x4096x4096) (h.hostOps1_1 _ (at_ 100 rfl)) (h.ops2 _ (at_ 28 rfl)) (s_call0_call0_c_14 h)

/-- The kernel program's `main_call0_call0_v58` is the reference's `main_call1_call0_v58`. -/
theorem s_call0_call0_v58 (h : Step V W) : rd V (.of main_call0_call0_v58 : TRef sig ⟨S2x4096x4096, .i32⟩) = rd W (.of R.main_call1_call0_v58 : TRef R.sig ⟨S2x4096x4096, .i32⟩) :=
  lock2 (Ta := ⟨S2x4096x4096, .i32⟩) (Tb := ⟨S2x4096x4096, .i32⟩) (Ty := ⟨S2x4096x4096, .i32⟩) Host.shrui (h.hostOps1_1 _ (at_ 101 rfl)) (h.ops2 _ (at_ 29 rfl)) (s_call0_call0_v53 h) (s_call0_call0_v57 h)

/-- The kernel program's `main_call0_call0_v59` is the reference's `main_call1_call0_v59`. -/
theorem s_call0_call0_v59 (h : Step V W) : rd V (.of main_call0_call0_v59 : TRef sig ⟨S2x4096x4096, .i32⟩) = rd W (.of R.main_call1_call0_v59 : TRef R.sig ⟨S2x4096x4096, .i32⟩) :=
  lock2 (Ta := ⟨S2x4096x4096, .i32⟩) (Tb := ⟨S2x4096x4096, .i32⟩) (Ty := ⟨S2x4096x4096, .i32⟩) ori (h.hostOps1_1 _ (at_ 102 rfl)) (h.ops2 _ (at_ 30 rfl)) (s_call0_call0_v56 h) (s_call0_call0_v58 h)

/-- The kernel program's `main_call0_call0_v60` is the reference's `main_call1_call0_v60`. -/
theorem s_call0_call0_v60 (h : Step V W) : rd V (.of main_call0_call0_v60 : TRef sig ⟨S2x4096x4096, .i32⟩) = rd W (.of R.main_call1_call0_v60 : TRef R.sig ⟨S2x4096x4096, .i32⟩) :=
  lock2 (Ta := ⟨S2x4096x4096, .i32⟩) (Tb := ⟨S2x4096x4096, .i32⟩) (Ty := ⟨S2x4096x4096, .i32⟩) xori (h.hostOps1_1 _ (at_ 103 rfl)) (h.ops2 _ (at_ 31 rfl)) (s_call0_call0_v54 h) (s_call0_call0_v59 h)

/-- The kernel program's `main_call0_call0_v61` is the reference's `main_call1_call0_v61`. -/
theorem s_call0_call0_v61 (h : Step V W) : rd V (.of main_call0_call0_v61 : TRef sig ⟨S2x4096x4096, .i32⟩) = rd W (.of R.main_call1_call0_v61 : TRef R.sig ⟨S2x4096x4096, .i32⟩) :=
  lock2 (Ta := ⟨S2x4096x4096, .i32⟩) (Tb := ⟨S2x4096x4096, .i32⟩) (Ty := ⟨S2x4096x4096, .i32⟩) addi (h.hostOps1_1 _ (at_ 104 rfl)) (h.ops2 _ (at_ 32 rfl)) (s_call0_call0_v54 h) (s_call0_call0_v60 h)

/-- The kernel program's `main_call0_call0_c_15` is the reference's `main_call1_call0_c_15`. -/
theorem s_call0_call0_c_15 (h : Step V W) : rd V (.of main_call0_call0_c_15 : TRef sig ⟨S_, .i32⟩) = rd W (.of R.main_call1_call0_c_15 : TRef R.sig ⟨S_, .i32⟩) :=
  lock0 (Ty := ⟨S_, .i32⟩) (Val := Elt F) (constantI S_ 32 24#32) (h.hostOps1_1 _ (at_ 105 rfl)) (h.ops2 _ (at_ 33 rfl))

/-- The kernel program's `main_call0_call0_v62` is the reference's `main_call1_call0_v62`. -/
theorem s_call0_call0_v62 (h : Step V W) : rd V (.of main_call0_call0_v62 : TRef sig ⟨S2x4096x4096, .i32⟩) = rd W (.of R.main_call1_call0_v62 : TRef R.sig ⟨S2x4096x4096, .i32⟩) :=
  lock1 (Ta := ⟨S_, .i32⟩) (Ty := ⟨S2x4096x4096, .i32⟩) (broadcastInDim S2x4096x4096 ![] bcast_S_S2x4096x4096) (h.hostOps1_1 _ (at_ 106 rfl)) (h.ops2 _ (at_ 34 rfl)) (s_call0_call0_c_15 h)

/-- The kernel program's `main_call0_call0_v63` is the reference's `main_call1_call0_v63`. -/
theorem s_call0_call0_v63 (h : Step V W) : rd V (.of main_call0_call0_v63 : TRef sig ⟨S2x4096x4096, .i32⟩) = rd W (.of R.main_call1_call0_v63 : TRef R.sig ⟨S2x4096x4096, .i32⟩) :=
  lock2 (Ta := ⟨S2x4096x4096, .i32⟩) (Tb := ⟨S2x4096x4096, .i32⟩) (Ty := ⟨S2x4096x4096, .i32⟩) Host.shli (h.hostOps1_1 _ (at_ 107 rfl)) (h.ops2 _ (at_ 35 rfl)) (s_call0_call0_v60 h) (s_call0_call0_v62 h)

/-- The kernel program's `main_call0_call0_c_16` is the reference's `main_call1_call0_c_16`. -/
theorem s_call0_call0_c_16 (h : Step V W) : rd V (.of main_call0_call0_c_16 : TRef sig ⟨S_, .i32⟩) = rd W (.of R.main_call1_call0_c_16 : TRef R.sig ⟨S_, .i32⟩) :=
  lock0 (Ty := ⟨S_, .i32⟩) (Val := Elt F) (constantI S_ 32 8#32) (h.hostOps1_1 _ (at_ 108 rfl)) (h.ops2 _ (at_ 36 rfl))

/-- The kernel program's `main_call0_call0_v64` is the reference's `main_call1_call0_v64`. -/
theorem s_call0_call0_v64 (h : Step V W) : rd V (.of main_call0_call0_v64 : TRef sig ⟨S2x4096x4096, .i32⟩) = rd W (.of R.main_call1_call0_v64 : TRef R.sig ⟨S2x4096x4096, .i32⟩) :=
  lock1 (Ta := ⟨S_, .i32⟩) (Ty := ⟨S2x4096x4096, .i32⟩) (broadcastInDim S2x4096x4096 ![] bcast_S_S2x4096x4096) (h.hostOps1_1 _ (at_ 109 rfl)) (h.ops2 _ (at_ 37 rfl)) (s_call0_call0_c_16 h)

/-- The kernel program's `main_call0_call0_v65` is the reference's `main_call1_call0_v65`. -/
theorem s_call0_call0_v65 (h : Step V W) : rd V (.of main_call0_call0_v65 : TRef sig ⟨S2x4096x4096, .i32⟩) = rd W (.of R.main_call1_call0_v65 : TRef R.sig ⟨S2x4096x4096, .i32⟩) :=
  lock2 (Ta := ⟨S2x4096x4096, .i32⟩) (Tb := ⟨S2x4096x4096, .i32⟩) (Ty := ⟨S2x4096x4096, .i32⟩) Host.shrui (h.hostOps1_1 _ (at_ 110 rfl)) (h.ops2 _ (at_ 38 rfl)) (s_call0_call0_v60 h) (s_call0_call0_v64 h)

/-- The kernel program's `main_call0_call0_v66` is the reference's `main_call1_call0_v66`. -/
theorem s_call0_call0_v66 (h : Step V W) : rd V (.of main_call0_call0_v66 : TRef sig ⟨S2x4096x4096, .i32⟩) = rd W (.of R.main_call1_call0_v66 : TRef R.sig ⟨S2x4096x4096, .i32⟩) :=
  lock2 (Ta := ⟨S2x4096x4096, .i32⟩) (Tb := ⟨S2x4096x4096, .i32⟩) (Ty := ⟨S2x4096x4096, .i32⟩) ori (h.hostOps1_1 _ (at_ 111 rfl)) (h.ops2 _ (at_ 39 rfl)) (s_call0_call0_v63 h) (s_call0_call0_v65 h)

/-- The kernel program's `main_call0_call0_v67` is the reference's `main_call1_call0_v67`. -/
theorem s_call0_call0_v67 (h : Step V W) : rd V (.of main_call0_call0_v67 : TRef sig ⟨S2x4096x4096, .i32⟩) = rd W (.of R.main_call1_call0_v67 : TRef R.sig ⟨S2x4096x4096, .i32⟩) :=
  lock2 (Ta := ⟨S2x4096x4096, .i32⟩) (Tb := ⟨S2x4096x4096, .i32⟩) (Ty := ⟨S2x4096x4096, .i32⟩) xori (h.hostOps1_1 _ (at_ 112 rfl)) (h.ops2 _ (at_ 40 rfl)) (s_call0_call0_v61 h) (s_call0_call0_v66 h)

/-- The kernel program's `main_call0_call0_v68` is the reference's `main_call1_call0_v68`. -/
theorem s_call0_call0_v68 (h : Step V W) : rd V (.of main_call0_call0_v68 : TRef sig ⟨S2x4096x4096, .i32⟩) = rd W (.of R.main_call1_call0_v68 : TRef R.sig ⟨S2x4096x4096, .i32⟩) :=
  lock1 (Ta := ⟨S_, .i32⟩) (Ty := ⟨S2x4096x4096, .i32⟩) (broadcastInDim S2x4096x4096 ![] bcast_S_S2x4096x4096) (h.hostOps1_1 _ (at_ 113 rfl)) (h.ops2 _ (at_ 41 rfl)) (s_call0_call0_v1 h)

/-- The kernel program's `main_call0_call0_v69` is the reference's `main_call1_call0_v69`. -/
theorem s_call0_call0_v69 (h : Step V W) : rd V (.of main_call0_call0_v69 : TRef sig ⟨S2x4096x4096, .i32⟩) = rd W (.of R.main_call1_call0_v69 : TRef R.sig ⟨S2x4096x4096, .i32⟩) :=
  lock2 (Ta := ⟨S2x4096x4096, .i32⟩) (Tb := ⟨S2x4096x4096, .i32⟩) (Ty := ⟨S2x4096x4096, .i32⟩) addi (h.hostOps1_1 _ (at_ 114 rfl)) (h.ops2 _ (at_ 42 rfl)) (s_call0_call0_v61 h) (s_call0_call0_v68 h)

/-- The kernel program's `main_call0_call0_v70` is the reference's `main_call1_call0_v70`. -/
theorem s_call0_call0_v70 (h : Step V W) : rd V (.of main_call0_call0_v70 : TRef sig ⟨S2x4096x4096, .i32⟩) = rd W (.of R.main_call1_call0_v70 : TRef R.sig ⟨S2x4096x4096, .i32⟩) :=
  lock1 (Ta := ⟨S_, .i32⟩) (Ty := ⟨S2x4096x4096, .i32⟩) (broadcastInDim S2x4096x4096 ![] bcast_S_S2x4096x4096) (h.hostOps1_1 _ (at_ 115 rfl)) (h.ops2 _ (at_ 43 rfl)) (s_call0_v5 h)

/-- The kernel program's `main_call0_call0_v71` is the reference's `main_call1_call0_v71`. -/
theorem s_call0_call0_v71 (h : Step V W) : rd V (.of main_call0_call0_v71 : TRef sig ⟨S2x4096x4096, .i32⟩) = rd W (.of R.main_call1_call0_v71 : TRef R.sig ⟨S2x4096x4096, .i32⟩) :=
  lock2 (Ta := ⟨S2x4096x4096, .i32⟩) (Tb := ⟨S2x4096x4096, .i32⟩) (Ty := ⟨S2x4096x4096, .i32⟩) addi (h.hostOps1_1 _ (at_ 116 rfl)) (h.ops2 _ (at_ 44 rfl)) (s_call0_call0_v67 h) (s_call0_call0_v70 h)

/-- The kernel program's `main_call0_call0_c_17` is the reference's `main_call1_call0_c_17`. -/
theorem s_call0_call0_c_17 (h : Step V W) : rd V (.of main_call0_call0_c_17 : TRef sig ⟨S_, .i32⟩) = rd W (.of R.main_call1_call0_c_17 : TRef R.sig ⟨S_, .i32⟩) :=
  lock0 (Ty := ⟨S_, .i32⟩) (Val := Elt F) (constantI S_ 32 2#32) (h.hostOps1_1 _ (at_ 117 rfl)) (h.ops2 _ (at_ 45 rfl))

/-- The kernel program's `main_call0_call0_v72` is the reference's `main_call1_call0_v72`. -/
theorem s_call0_call0_v72 (h : Step V W) : rd V (.of main_call0_call0_v72 : TRef sig ⟨S2x4096x4096, .i32⟩) = rd W (.of R.main_call1_call0_v72 : TRef R.sig ⟨S2x4096x4096, .i32⟩) :=
  lock1 (Ta := ⟨S_, .i32⟩) (Ty := ⟨S2x4096x4096, .i32⟩) (broadcastInDim S2x4096x4096 ![] bcast_S_S2x4096x4096) (h.hostOps1_1 _ (at_ 118 rfl)) (h.ops2 _ (at_ 46 rfl)) (s_call0_call0_c_17 h)

/-- The kernel program's `main_call0_call0_v73` is the reference's `main_call1_call0_v73`. -/
theorem s_call0_call0_v73 (h : Step V W) : rd V (.of main_call0_call0_v73 : TRef sig ⟨S2x4096x4096, .i32⟩) = rd W (.of R.main_call1_call0_v73 : TRef R.sig ⟨S2x4096x4096, .i32⟩) :=
  lock2 (Ta := ⟨S2x4096x4096, .i32⟩) (Tb := ⟨S2x4096x4096, .i32⟩) (Ty := ⟨S2x4096x4096, .i32⟩) addi (h.hostOps1_1 _ (at_ 119 rfl)) (h.ops2 _ (at_ 47 rfl)) (s_call0_call0_v71 h) (s_call0_call0_v72 h)

/-- The kernel program's `main_call0_call0_v74` is the reference's `main_call1_call0_v74`. -/
theorem s_call0_call0_v74 (h : Step V W) : rd V (.of main_call0_call0_v74 : TRef sig ⟨S2x4096x4096, .i32⟩) = rd W (.of R.main_call1_call0_v74 : TRef R.sig ⟨S2x4096x4096, .i32⟩) :=
  lock2 (Ta := ⟨S2x4096x4096, .i32⟩) (Tb := ⟨S2x4096x4096, .i32⟩) (Ty := ⟨S2x4096x4096, .i32⟩) addi (h.hostOps1_1 _ (at_ 120 rfl)) (h.ops2 _ (at_ 48 rfl)) (s_call0_call0_v69 h) (s_call0_call0_v73 h)

/-- The kernel program's `main_call0_call0_c_18` is the reference's `main_call1_call0_c_18`. -/
theorem s_call0_call0_c_18 (h : Step V W) : rd V (.of main_call0_call0_c_18 : TRef sig ⟨S_, .i32⟩) = rd W (.of R.main_call1_call0_c_18 : TRef R.sig ⟨S_, .i32⟩) :=
  lock0 (Ty := ⟨S_, .i32⟩) (Val := Elt F) (constantI S_ 32 13#32) (h.hostOps1_1 _ (at_ 121 rfl)) (h.ops2 _ (at_ 49 rfl))

/-- The kernel program's `main_call0_call0_v75` is the reference's `main_call1_call0_v75`. -/
theorem s_call0_call0_v75 (h : Step V W) : rd V (.of main_call0_call0_v75 : TRef sig ⟨S2x4096x4096, .i32⟩) = rd W (.of R.main_call1_call0_v75 : TRef R.sig ⟨S2x4096x4096, .i32⟩) :=
  lock1 (Ta := ⟨S_, .i32⟩) (Ty := ⟨S2x4096x4096, .i32⟩) (broadcastInDim S2x4096x4096 ![] bcast_S_S2x4096x4096) (h.hostOps1_1 _ (at_ 122 rfl)) (h.ops2 _ (at_ 50 rfl)) (s_call0_call0_c_18 h)

/-- The kernel program's `main_call0_call0_v76` is the reference's `main_call1_call0_v76`. -/
theorem s_call0_call0_v76 (h : Step V W) : rd V (.of main_call0_call0_v76 : TRef sig ⟨S2x4096x4096, .i32⟩) = rd W (.of R.main_call1_call0_v76 : TRef R.sig ⟨S2x4096x4096, .i32⟩) :=
  lock2 (Ta := ⟨S2x4096x4096, .i32⟩) (Tb := ⟨S2x4096x4096, .i32⟩) (Ty := ⟨S2x4096x4096, .i32⟩) Host.shli (h.hostOps1_1 _ (at_ 123 rfl)) (h.ops2 _ (at_ 51 rfl)) (s_call0_call0_v73 h) (s_call0_call0_v75 h)

/-- The kernel program's `main_call0_call0_c_19` is the reference's `main_call1_call0_c_19`. -/
theorem s_call0_call0_c_19 (h : Step V W) : rd V (.of main_call0_call0_c_19 : TRef sig ⟨S_, .i32⟩) = rd W (.of R.main_call1_call0_c_19 : TRef R.sig ⟨S_, .i32⟩) :=
  lock0 (Ty := ⟨S_, .i32⟩) (Val := Elt F) (constantI S_ 32 19#32) (h.hostOps1_1 _ (at_ 124 rfl)) (h.ops2 _ (at_ 52 rfl))

/-- The kernel program's `main_call0_call0_v77` is the reference's `main_call1_call0_v77`. -/
theorem s_call0_call0_v77 (h : Step V W) : rd V (.of main_call0_call0_v77 : TRef sig ⟨S2x4096x4096, .i32⟩) = rd W (.of R.main_call1_call0_v77 : TRef R.sig ⟨S2x4096x4096, .i32⟩) :=
  lock1 (Ta := ⟨S_, .i32⟩) (Ty := ⟨S2x4096x4096, .i32⟩) (broadcastInDim S2x4096x4096 ![] bcast_S_S2x4096x4096) (h.hostOps1_1 _ (at_ 125 rfl)) (h.ops2 _ (at_ 53 rfl)) (s_call0_call0_c_19 h)

/-- The kernel program's `main_call0_call0_v78` is the reference's `main_call1_call0_v78`. -/
theorem s_call0_call0_v78 (h : Step V W) : rd V (.of main_call0_call0_v78 : TRef sig ⟨S2x4096x4096, .i32⟩) = rd W (.of R.main_call1_call0_v78 : TRef R.sig ⟨S2x4096x4096, .i32⟩) :=
  lock2 (Ta := ⟨S2x4096x4096, .i32⟩) (Tb := ⟨S2x4096x4096, .i32⟩) (Ty := ⟨S2x4096x4096, .i32⟩) Host.shrui (h.hostOps1_1 _ (at_ 126 rfl)) (h.ops2 _ (at_ 54 rfl)) (s_call0_call0_v73 h) (s_call0_call0_v77 h)

/-- The kernel program's `main_call0_call0_v79` is the reference's `main_call1_call0_v79`. -/
theorem s_call0_call0_v79 (h : Step V W) : rd V (.of main_call0_call0_v79 : TRef sig ⟨S2x4096x4096, .i32⟩) = rd W (.of R.main_call1_call0_v79 : TRef R.sig ⟨S2x4096x4096, .i32⟩) :=
  lock2 (Ta := ⟨S2x4096x4096, .i32⟩) (Tb := ⟨S2x4096x4096, .i32⟩) (Ty := ⟨S2x4096x4096, .i32⟩) ori (h.hostOps1_1 _ (at_ 127 rfl)) (h.ops2 _ (at_ 55 rfl)) (s_call0_call0_v76 h) (s_call0_call0_v78 h)

/-- The kernel program's `main_call0_call0_v80` is the reference's `main_call1_call0_v80`. -/
theorem s_call0_call0_v80 (h : Step V W) : rd V (.of main_call0_call0_v80 : TRef sig ⟨S2x4096x4096, .i32⟩) = rd W (.of R.main_call1_call0_v80 : TRef R.sig ⟨S2x4096x4096, .i32⟩) :=
  lock2 (Ta := ⟨S2x4096x4096, .i32⟩) (Tb := ⟨S2x4096x4096, .i32⟩) (Ty := ⟨S2x4096x4096, .i32⟩) xori (h.hostOps1_1 _ (at_ 128 rfl)) (h.ops3 _ (at_ 0 rfl)) (s_call0_call0_v74 h) (s_call0_call0_v79 h)

/-- The kernel program's `main_call0_call0_v81` is the reference's `main_call1_call0_v81`. -/
theorem s_call0_call0_v81 (h : Step V W) : rd V (.of main_call0_call0_v81 : TRef sig ⟨S2x4096x4096, .i32⟩) = rd W (.of R.main_call1_call0_v81 : TRef R.sig ⟨S2x4096x4096, .i32⟩) :=
  lock2 (Ta := ⟨S2x4096x4096, .i32⟩) (Tb := ⟨S2x4096x4096, .i32⟩) (Ty := ⟨S2x4096x4096, .i32⟩) addi (h.hostOps1_1 _ (at_ 129 rfl)) (h.ops3 _ (at_ 1 rfl)) (s_call0_call0_v74 h) (s_call0_call0_v80 h)

/-- The kernel program's `main_call0_call0_c_20` is the reference's `main_call1_call0_c_20`. -/
theorem s_call0_call0_c_20 (h : Step V W) : rd V (.of main_call0_call0_c_20 : TRef sig ⟨S_, .i32⟩) = rd W (.of R.main_call1_call0_c_20 : TRef R.sig ⟨S_, .i32⟩) :=
  lock0 (Ty := ⟨S_, .i32⟩) (Val := Elt F) (constantI S_ 32 15#32) (h.hostOps1_1 _ (at_ 130 rfl)) (h.ops3 _ (at_ 2 rfl))

/-- The kernel program's `main_call0_call0_v82` is the reference's `main_call1_call0_v82`. -/
theorem s_call0_call0_v82 (h : Step V W) : rd V (.of main_call0_call0_v82 : TRef sig ⟨S2x4096x4096, .i32⟩) = rd W (.of R.main_call1_call0_v82 : TRef R.sig ⟨S2x4096x4096, .i32⟩) :=
  lock1 (Ta := ⟨S_, .i32⟩) (Ty := ⟨S2x4096x4096, .i32⟩) (broadcastInDim S2x4096x4096 ![] bcast_S_S2x4096x4096) (h.hostOps1_1 _ (at_ 131 rfl)) (h.ops3 _ (at_ 3 rfl)) (s_call0_call0_c_20 h)

/-- The kernel program's `main_call0_call0_v83` is the reference's `main_call1_call0_v83`. -/
theorem s_call0_call0_v83 (h : Step V W) : rd V (.of main_call0_call0_v83 : TRef sig ⟨S2x4096x4096, .i32⟩) = rd W (.of R.main_call1_call0_v83 : TRef R.sig ⟨S2x4096x4096, .i32⟩) :=
  lock2 (Ta := ⟨S2x4096x4096, .i32⟩) (Tb := ⟨S2x4096x4096, .i32⟩) (Ty := ⟨S2x4096x4096, .i32⟩) Host.shli (h.hostOps1_1 _ (at_ 132 rfl)) (h.ops3 _ (at_ 4 rfl)) (s_call0_call0_v80 h) (s_call0_call0_v82 h)

/-- The kernel program's `main_call0_call0_c_21` is the reference's `main_call1_call0_c_21`. -/
theorem s_call0_call0_c_21 (h : Step V W) : rd V (.of main_call0_call0_c_21 : TRef sig ⟨S_, .i32⟩) = rd W (.of R.main_call1_call0_c_21 : TRef R.sig ⟨S_, .i32⟩) :=
  lock0 (Ty := ⟨S_, .i32⟩) (Val := Elt F) (constantI S_ 32 17#32) (h.hostOps1_1 _ (at_ 133 rfl)) (h.ops3 _ (at_ 5 rfl))

/-- The kernel program's `main_call0_call0_v84` is the reference's `main_call1_call0_v84`. -/
theorem s_call0_call0_v84 (h : Step V W) : rd V (.of main_call0_call0_v84 : TRef sig ⟨S2x4096x4096, .i32⟩) = rd W (.of R.main_call1_call0_v84 : TRef R.sig ⟨S2x4096x4096, .i32⟩) :=
  lock1 (Ta := ⟨S_, .i32⟩) (Ty := ⟨S2x4096x4096, .i32⟩) (broadcastInDim S2x4096x4096 ![] bcast_S_S2x4096x4096) (h.hostOps1_1 _ (at_ 134 rfl)) (h.ops3 _ (at_ 6 rfl)) (s_call0_call0_c_21 h)

/-- The kernel program's `main_call0_call0_v85` is the reference's `main_call1_call0_v85`. -/
theorem s_call0_call0_v85 (h : Step V W) : rd V (.of main_call0_call0_v85 : TRef sig ⟨S2x4096x4096, .i32⟩) = rd W (.of R.main_call1_call0_v85 : TRef R.sig ⟨S2x4096x4096, .i32⟩) :=
  lock2 (Ta := ⟨S2x4096x4096, .i32⟩) (Tb := ⟨S2x4096x4096, .i32⟩) (Ty := ⟨S2x4096x4096, .i32⟩) Host.shrui (h.hostOps1_1 _ (at_ 135 rfl)) (h.ops3 _ (at_ 7 rfl)) (s_call0_call0_v80 h) (s_call0_call0_v84 h)

/-- The kernel program's `main_call0_call0_v86` is the reference's `main_call1_call0_v86`. -/
theorem s_call0_call0_v86 (h : Step V W) : rd V (.of main_call0_call0_v86 : TRef sig ⟨S2x4096x4096, .i32⟩) = rd W (.of R.main_call1_call0_v86 : TRef R.sig ⟨S2x4096x4096, .i32⟩) :=
  lock2 (Ta := ⟨S2x4096x4096, .i32⟩) (Tb := ⟨S2x4096x4096, .i32⟩) (Ty := ⟨S2x4096x4096, .i32⟩) ori (h.hostOps1_1 _ (at_ 136 rfl)) (h.ops3 _ (at_ 8 rfl)) (s_call0_call0_v83 h) (s_call0_call0_v85 h)

/-- The kernel program's `main_call0_call0_v87` is the reference's `main_call1_call0_v87`. -/
theorem s_call0_call0_v87 (h : Step V W) : rd V (.of main_call0_call0_v87 : TRef sig ⟨S2x4096x4096, .i32⟩) = rd W (.of R.main_call1_call0_v87 : TRef R.sig ⟨S2x4096x4096, .i32⟩) :=
  lock2 (Ta := ⟨S2x4096x4096, .i32⟩) (Tb := ⟨S2x4096x4096, .i32⟩) (Ty := ⟨S2x4096x4096, .i32⟩) xori (h.hostOps1_1 _ (at_ 137 rfl)) (h.ops3 _ (at_ 9 rfl)) (s_call0_call0_v81 h) (s_call0_call0_v86 h)

/-- The kernel program's `main_call0_call0_v88` is the reference's `main_call1_call0_v88`. -/
theorem s_call0_call0_v88 (h : Step V W) : rd V (.of main_call0_call0_v88 : TRef sig ⟨S2x4096x4096, .i32⟩) = rd W (.of R.main_call1_call0_v88 : TRef R.sig ⟨S2x4096x4096, .i32⟩) :=
  lock2 (Ta := ⟨S2x4096x4096, .i32⟩) (Tb := ⟨S2x4096x4096, .i32⟩) (Ty := ⟨S2x4096x4096, .i32⟩) addi (h.hostOps1_1 _ (at_ 138 rfl)) (h.ops3 _ (at_ 10 rfl)) (s_call0_call0_v81 h) (s_call0_call0_v87 h)

/-- The kernel program's `main_call0_call0_c_22` is the reference's `main_call1_call0_c_22`. -/
theorem s_call0_call0_c_22 (h : Step V W) : rd V (.of main_call0_call0_c_22 : TRef sig ⟨S_, .i32⟩) = rd W (.of R.main_call1_call0_c_22 : TRef R.sig ⟨S_, .i32⟩) :=
  lock0 (Ty := ⟨S_, .i32⟩) (Val := Elt F) (constantI S_ 32 26#32) (h.hostOps1_1 _ (at_ 139 rfl)) (h.ops3 _ (at_ 11 rfl))

/-- The kernel program's `main_call0_call0_v89` is the reference's `main_call1_call0_v89`. -/
theorem s_call0_call0_v89 (h : Step V W) : rd V (.of main_call0_call0_v89 : TRef sig ⟨S2x4096x4096, .i32⟩) = rd W (.of R.main_call1_call0_v89 : TRef R.sig ⟨S2x4096x4096, .i32⟩) :=
  lock1 (Ta := ⟨S_, .i32⟩) (Ty := ⟨S2x4096x4096, .i32⟩) (broadcastInDim S2x4096x4096 ![] bcast_S_S2x4096x4096) (h.hostOps1_1 _ (at_ 140 rfl)) (h.ops3 _ (at_ 12 rfl)) (s_call0_call0_c_22 h)

/-- The kernel program's `main_call0_call0_v90` is the reference's `main_call1_call0_v90`. -/
theorem s_call0_call0_v90 (h : Step V W) : rd V (.of main_call0_call0_v90 : TRef sig ⟨S2x4096x4096, .i32⟩) = rd W (.of R.main_call1_call0_v90 : TRef R.sig ⟨S2x4096x4096, .i32⟩) :=
  lock2 (Ta := ⟨S2x4096x4096, .i32⟩) (Tb := ⟨S2x4096x4096, .i32⟩) (Ty := ⟨S2x4096x4096, .i32⟩) Host.shli (h.hostOps1_1 _ (at_ 141 rfl)) (h.ops3 _ (at_ 13 rfl)) (s_call0_call0_v87 h) (s_call0_call0_v89 h)

/-- The kernel program's `main_call0_call0_c_23` is the reference's `main_call1_call0_c_23`. -/
theorem s_call0_call0_c_23 (h : Step V W) : rd V (.of main_call0_call0_c_23 : TRef sig ⟨S_, .i32⟩) = rd W (.of R.main_call1_call0_c_23 : TRef R.sig ⟨S_, .i32⟩) :=
  lock0 (Ty := ⟨S_, .i32⟩) (Val := Elt F) (constantI S_ 32 6#32) (h.hostOps1_1 _ (at_ 142 rfl)) (h.ops3 _ (at_ 14 rfl))

/-- The kernel program's `main_call0_call0_v91` is the reference's `main_call1_call0_v91`. -/
theorem s_call0_call0_v91 (h : Step V W) : rd V (.of main_call0_call0_v91 : TRef sig ⟨S2x4096x4096, .i32⟩) = rd W (.of R.main_call1_call0_v91 : TRef R.sig ⟨S2x4096x4096, .i32⟩) :=
  lock1 (Ta := ⟨S_, .i32⟩) (Ty := ⟨S2x4096x4096, .i32⟩) (broadcastInDim S2x4096x4096 ![] bcast_S_S2x4096x4096) (h.hostOps1_1 _ (at_ 143 rfl)) (h.ops3 _ (at_ 15 rfl)) (s_call0_call0_c_23 h)

/-- The kernel program's `main_call0_call0_v92` is the reference's `main_call1_call0_v92`. -/
theorem s_call0_call0_v92 (h : Step V W) : rd V (.of main_call0_call0_v92 : TRef sig ⟨S2x4096x4096, .i32⟩) = rd W (.of R.main_call1_call0_v92 : TRef R.sig ⟨S2x4096x4096, .i32⟩) :=
  lock2 (Ta := ⟨S2x4096x4096, .i32⟩) (Tb := ⟨S2x4096x4096, .i32⟩) (Ty := ⟨S2x4096x4096, .i32⟩) Host.shrui (h.hostOps1_1 _ (at_ 144 rfl)) (h.ops3 _ (at_ 16 rfl)) (s_call0_call0_v87 h) (s_call0_call0_v91 h)

/-- The kernel program's `main_call0_call0_v93` is the reference's `main_call1_call0_v93`. -/
theorem s_call0_call0_v93 (h : Step V W) : rd V (.of main_call0_call0_v93 : TRef sig ⟨S2x4096x4096, .i32⟩) = rd W (.of R.main_call1_call0_v93 : TRef R.sig ⟨S2x4096x4096, .i32⟩) :=
  lock2 (Ta := ⟨S2x4096x4096, .i32⟩) (Tb := ⟨S2x4096x4096, .i32⟩) (Ty := ⟨S2x4096x4096, .i32⟩) ori (h.hostOps1_1 _ (at_ 145 rfl)) (h.ops3 _ (at_ 17 rfl)) (s_call0_call0_v90 h) (s_call0_call0_v92 h)

/-- The kernel program's `main_call0_call0_v94` is the reference's `main_call1_call0_v94`. -/
theorem s_call0_call0_v94 (h : Step V W) : rd V (.of main_call0_call0_v94 : TRef sig ⟨S2x4096x4096, .i32⟩) = rd W (.of R.main_call1_call0_v94 : TRef R.sig ⟨S2x4096x4096, .i32⟩) :=
  lock2 (Ta := ⟨S2x4096x4096, .i32⟩) (Tb := ⟨S2x4096x4096, .i32⟩) (Ty := ⟨S2x4096x4096, .i32⟩) xori (h.hostOps1_1 _ (at_ 146 rfl)) (h.ops3 _ (at_ 18 rfl)) (s_call0_call0_v88 h) (s_call0_call0_v93 h)

/-- The kernel program's `main_call0_call0_v95` is the reference's `main_call1_call0_v95`. -/
theorem s_call0_call0_v95 (h : Step V W) : rd V (.of main_call0_call0_v95 : TRef sig ⟨S2x4096x4096, .i32⟩) = rd W (.of R.main_call1_call0_v95 : TRef R.sig ⟨S2x4096x4096, .i32⟩) :=
  lock2 (Ta := ⟨S2x4096x4096, .i32⟩) (Tb := ⟨S2x4096x4096, .i32⟩) (Ty := ⟨S2x4096x4096, .i32⟩) addi (h.hostOps1_1 _ (at_ 147 rfl)) (h.ops3 _ (at_ 19 rfl)) (s_call0_call0_v88 h) (s_call0_call0_v94 h)

/-- The kernel program's `main_call0_call0_c_24` is the reference's `main_call1_call0_c_24`. -/
theorem s_call0_call0_c_24 (h : Step V W) : rd V (.of main_call0_call0_c_24 : TRef sig ⟨S_, .i32⟩) = rd W (.of R.main_call1_call0_c_24 : TRef R.sig ⟨S_, .i32⟩) :=
  lock0 (Ty := ⟨S_, .i32⟩) (Val := Elt F) (constantI S_ 32 6#32) (h.hostOps1_1 _ (at_ 148 rfl)) (h.ops3 _ (at_ 20 rfl))

/-- The kernel program's `main_call0_call0_v96` is the reference's `main_call1_call0_v96`. -/
theorem s_call0_call0_v96 (h : Step V W) : rd V (.of main_call0_call0_v96 : TRef sig ⟨S2x4096x4096, .i32⟩) = rd W (.of R.main_call1_call0_v96 : TRef R.sig ⟨S2x4096x4096, .i32⟩) :=
  lock1 (Ta := ⟨S_, .i32⟩) (Ty := ⟨S2x4096x4096, .i32⟩) (broadcastInDim S2x4096x4096 ![] bcast_S_S2x4096x4096) (h.hostOps1_1 _ (at_ 149 rfl)) (h.ops3 _ (at_ 21 rfl)) (s_call0_call0_c_24 h)

/-- The kernel program's `main_call0_call0_v97` is the reference's `main_call1_call0_v97`. -/
theorem s_call0_call0_v97 (h : Step V W) : rd V (.of main_call0_call0_v97 : TRef sig ⟨S2x4096x4096, .i32⟩) = rd W (.of R.main_call1_call0_v97 : TRef R.sig ⟨S2x4096x4096, .i32⟩) :=
  lock2 (Ta := ⟨S2x4096x4096, .i32⟩) (Tb := ⟨S2x4096x4096, .i32⟩) (Ty := ⟨S2x4096x4096, .i32⟩) Host.shli (h.hostOps1_1 _ (at_ 150 rfl)) (h.ops3 _ (at_ 22 rfl)) (s_call0_call0_v94 h) (s_call0_call0_v96 h)

/-- The kernel program's `main_call0_call0_c_25` is the reference's `main_call1_call0_c_25`. -/
theorem s_call0_call0_c_25 (h : Step V W) : rd V (.of main_call0_call0_c_25 : TRef sig ⟨S_, .i32⟩) = rd W (.of R.main_call1_call0_c_25 : TRef R.sig ⟨S_, .i32⟩) :=
  lock0 (Ty := ⟨S_, .i32⟩) (Val := Elt F) (constantI S_ 32 26#32) (h.hostOps1_1 _ (at_ 151 rfl)) (h.ops3 _ (at_ 23 rfl))

/-- The kernel program's `main_call0_call0_v98` is the reference's `main_call1_call0_v98`. -/
theorem s_call0_call0_v98 (h : Step V W) : rd V (.of main_call0_call0_v98 : TRef sig ⟨S2x4096x4096, .i32⟩) = rd W (.of R.main_call1_call0_v98 : TRef R.sig ⟨S2x4096x4096, .i32⟩) :=
  lock1 (Ta := ⟨S_, .i32⟩) (Ty := ⟨S2x4096x4096, .i32⟩) (broadcastInDim S2x4096x4096 ![] bcast_S_S2x4096x4096) (h.hostOps1_1 _ (at_ 152 rfl)) (h.ops3 _ (at_ 24 rfl)) (s_call0_call0_c_25 h)

/-- The kernel program's `main_call0_call0_v99` is the reference's `main_call1_call0_v99`. -/
theorem s_call0_call0_v99 (h : Step V W) : rd V (.of main_call0_call0_v99 : TRef sig ⟨S2x4096x4096, .i32⟩) = rd W (.of R.main_call1_call0_v99 : TRef R.sig ⟨S2x4096x4096, .i32⟩) :=
  lock2 (Ta := ⟨S2x4096x4096, .i32⟩) (Tb := ⟨S2x4096x4096, .i32⟩) (Ty := ⟨S2x4096x4096, .i32⟩) Host.shrui (h.hostOps1_1 _ (at_ 153 rfl)) (h.ops3 _ (at_ 25 rfl)) (s_call0_call0_v94 h) (s_call0_call0_v98 h)

/-- The kernel program's `main_call0_call0_v100` is the reference's `main_call1_call0_v100`. -/
theorem s_call0_call0_v100 (h : Step V W) : rd V (.of main_call0_call0_v100 : TRef sig ⟨S2x4096x4096, .i32⟩) = rd W (.of R.main_call1_call0_v100 : TRef R.sig ⟨S2x4096x4096, .i32⟩) :=
  lock2 (Ta := ⟨S2x4096x4096, .i32⟩) (Tb := ⟨S2x4096x4096, .i32⟩) (Ty := ⟨S2x4096x4096, .i32⟩) ori (h.hostOps1_1 _ (at_ 154 rfl)) (h.ops3 _ (at_ 26 rfl)) (s_call0_call0_v97 h) (s_call0_call0_v99 h)

/-- The kernel program's `main_call0_call0_v101` is the reference's `main_call1_call0_v101`. -/
theorem s_call0_call0_v101 (h : Step V W) : rd V (.of main_call0_call0_v101 : TRef sig ⟨S2x4096x4096, .i32⟩) = rd W (.of R.main_call1_call0_v101 : TRef R.sig ⟨S2x4096x4096, .i32⟩) :=
  lock2 (Ta := ⟨S2x4096x4096, .i32⟩) (Tb := ⟨S2x4096x4096, .i32⟩) (Ty := ⟨S2x4096x4096, .i32⟩) xori (h.hostOps1_1 _ (at_ 155 rfl)) (h.ops3 _ (at_ 27 rfl)) (s_call0_call0_v95 h) (s_call0_call0_v100 h)

/-- The kernel program's `main_call0_call0_v102` is the reference's `main_call1_call0_v102`. -/
theorem s_call0_call0_v102 (h : Step V W) : rd V (.of main_call0_call0_v102 : TRef sig ⟨S2x4096x4096, .i32⟩) = rd W (.of R.main_call1_call0_v102 : TRef R.sig ⟨S2x4096x4096, .i32⟩) :=
  lock1 (Ta := ⟨S_, .i32⟩) (Ty := ⟨S2x4096x4096, .i32⟩) (broadcastInDim S2x4096x4096 ![] bcast_S_S2x4096x4096) (h.hostOps1_1 _ (at_ 156 rfl)) (h.ops3 _ (at_ 28 rfl)) (s_call0_v5 h)

/-- The kernel program's `main_call0_call0_v103` is the reference's `main_call1_call0_v103`. -/
theorem s_call0_call0_v103 (h : Step V W) : rd V (.of main_call0_call0_v103 : TRef sig ⟨S2x4096x4096, .i32⟩) = rd W (.of R.main_call1_call0_v103 : TRef R.sig ⟨S2x4096x4096, .i32⟩) :=
  lock2 (Ta := ⟨S2x4096x4096, .i32⟩) (Tb := ⟨S2x4096x4096, .i32⟩) (Ty := ⟨S2x4096x4096, .i32⟩) addi (h.hostOps1_1 _ (at_ 157 rfl)) (h.ops3 _ (at_ 29 rfl)) (s_call0_call0_v95 h) (s_call0_call0_v102 h)

/-- The kernel program's `main_call0_call0_v104` is the reference's `main_call1_call0_v104`. -/
theorem s_call0_call0_v104 (h : Step V W) : rd V (.of main_call0_call0_v104 : TRef sig ⟨S2x4096x4096, .i32⟩) = rd W (.of R.main_call1_call0_v104 : TRef R.sig ⟨S2x4096x4096, .i32⟩) :=
  lock1 (Ta := ⟨S_, .i32⟩) (Ty := ⟨S2x4096x4096, .i32⟩) (broadcastInDim S2x4096x4096 ![] bcast_S_S2x4096x4096) (h.hostOps1_1 _ (at_ 158 rfl)) (h.ops3 _ (at_ 30 rfl)) (s_call0_v7 h)

/-- The kernel program's `main_call0_call0_v105` is the reference's `main_call1_call0_v105`. -/
theorem s_call0_call0_v105 (h : Step V W) : rd V (.of main_call0_call0_v105 : TRef sig ⟨S2x4096x4096, .i32⟩) = rd W (.of R.main_call1_call0_v105 : TRef R.sig ⟨S2x4096x4096, .i32⟩) :=
  lock2 (Ta := ⟨S2x4096x4096, .i32⟩) (Tb := ⟨S2x4096x4096, .i32⟩) (Ty := ⟨S2x4096x4096, .i32⟩) addi (h.hostOps1_1 _ (at_ 159 rfl)) (h.ops3 _ (at_ 31 rfl)) (s_call0_call0_v101 h) (s_call0_call0_v104 h)

/-- The kernel program's `main_call0_call0_c_26` is the reference's `main_call1_call0_c_26`. -/
theorem s_call0_call0_c_26 (h : Step V W) : rd V (.of main_call0_call0_c_26 : TRef sig ⟨S_, .i32⟩) = rd W (.of R.main_call1_call0_c_26 : TRef R.sig ⟨S_, .i32⟩) :=
  lock0 (Ty := ⟨S_, .i32⟩) (Val := Elt F) (constantI S_ 32 3#32) (h.hostOps1_1 _ (at_ 160 rfl)) (h.ops3 _ (at_ 32 rfl))

/-- The kernel program's `main_call0_call0_v106` is the reference's `main_call1_call0_v106`. -/
theorem s_call0_call0_v106 (h : Step V W) : rd V (.of main_call0_call0_v106 : TRef sig ⟨S2x4096x4096, .i32⟩) = rd W (.of R.main_call1_call0_v106 : TRef R.sig ⟨S2x4096x4096, .i32⟩) :=
  lock1 (Ta := ⟨S_, .i32⟩) (Ty := ⟨S2x4096x4096, .i32⟩) (broadcastInDim S2x4096x4096 ![] bcast_S_S2x4096x4096) (h.hostOps1_1 _ (at_ 161 rfl)) (h.ops3 _ (at_ 33 rfl)) (s_call0_call0_c_26 h)

/-- The kernel program's `main_call0_call0_v107` is the reference's `main_call1_call0_v107`. -/
theorem s_call0_call0_v107 (h : Step V W) : rd V (.of main_call0_call0_v107 : TRef sig ⟨S2x4096x4096, .i32⟩) = rd W (.of R.main_call1_call0_v107 : TRef R.sig ⟨S2x4096x4096, .i32⟩) :=
  lock2 (Ta := ⟨S2x4096x4096, .i32⟩) (Tb := ⟨S2x4096x4096, .i32⟩) (Ty := ⟨S2x4096x4096, .i32⟩) addi (h.hostOps1_1 _ (at_ 162 rfl)) (h.ops3 _ (at_ 34 rfl)) (s_call0_call0_v105 h) (s_call0_call0_v106 h)

/-- The kernel program's `main_call0_call0_v108` is the reference's `main_call1_call0_v108`. -/
theorem s_call0_call0_v108 (h : Step V W) : rd V (.of main_call0_call0_v108 : TRef sig ⟨S2x4096x4096, .i32⟩) = rd W (.of R.main_call1_call0_v108 : TRef R.sig ⟨S2x4096x4096, .i32⟩) :=
  lock2 (Ta := ⟨S2x4096x4096, .i32⟩) (Tb := ⟨S2x4096x4096, .i32⟩) (Ty := ⟨S2x4096x4096, .i32⟩) addi (h.hostOps1_1 _ (at_ 163 rfl)) (h.ops3 _ (at_ 35 rfl)) (s_call0_call0_v103 h) (s_call0_call0_v107 h)

/-- The kernel program's `main_call0_call0_c_27` is the reference's `main_call1_call0_c_27`. -/
theorem s_call0_call0_c_27 (h : Step V W) : rd V (.of main_call0_call0_c_27 : TRef sig ⟨S_, .i32⟩) = rd W (.of R.main_call1_call0_c_27 : TRef R.sig ⟨S_, .i32⟩) :=
  lock0 (Ty := ⟨S_, .i32⟩) (Val := Elt F) (constantI S_ 32 17#32) (h.hostOps1_1 _ (at_ 164 rfl)) (h.ops3 _ (at_ 36 rfl))

/-- The kernel program's `main_call0_call0_v109` is the reference's `main_call1_call0_v109`. -/
theorem s_call0_call0_v109 (h : Step V W) : rd V (.of main_call0_call0_v109 : TRef sig ⟨S2x4096x4096, .i32⟩) = rd W (.of R.main_call1_call0_v109 : TRef R.sig ⟨S2x4096x4096, .i32⟩) :=
  lock1 (Ta := ⟨S_, .i32⟩) (Ty := ⟨S2x4096x4096, .i32⟩) (broadcastInDim S2x4096x4096 ![] bcast_S_S2x4096x4096) (h.hostOps1_1 _ (at_ 165 rfl)) (h.ops3 _ (at_ 37 rfl)) (s_call0_call0_c_27 h)

/-- The kernel program's `main_call0_call0_v110` is the reference's `main_call1_call0_v110`. -/
theorem s_call0_call0_v110 (h : Step V W) : rd V (.of main_call0_call0_v110 : TRef sig ⟨S2x4096x4096, .i32⟩) = rd W (.of R.main_call1_call0_v110 : TRef R.sig ⟨S2x4096x4096, .i32⟩) :=
  lock2 (Ta := ⟨S2x4096x4096, .i32⟩) (Tb := ⟨S2x4096x4096, .i32⟩) (Ty := ⟨S2x4096x4096, .i32⟩) Host.shli (h.hostOps1_1 _ (at_ 166 rfl)) (h.ops3 _ (at_ 38 rfl)) (s_call0_call0_v107 h) (s_call0_call0_v109 h)

/-- The kernel program's `main_call0_call0_c_28` is the reference's `main_call1_call0_c_28`. -/
theorem s_call0_call0_c_28 (h : Step V W) : rd V (.of main_call0_call0_c_28 : TRef sig ⟨S_, .i32⟩) = rd W (.of R.main_call1_call0_c_28 : TRef R.sig ⟨S_, .i32⟩) :=
  lock0 (Ty := ⟨S_, .i32⟩) (Val := Elt F) (constantI S_ 32 15#32) (h.hostOps1_1 _ (at_ 167 rfl)) (h.ops3 _ (at_ 39 rfl))

/-- The kernel program's `main_call0_call0_v111` is the reference's `main_call1_call0_v111`. -/
theorem s_call0_call0_v111 (h : Step V W) : rd V (.of main_call0_call0_v111 : TRef sig ⟨S2x4096x4096, .i32⟩) = rd W (.of R.main_call1_call0_v111 : TRef R.sig ⟨S2x4096x4096, .i32⟩) :=
  lock1 (Ta := ⟨S_, .i32⟩) (Ty := ⟨S2x4096x4096, .i32⟩) (broadcastInDim S2x4096x4096 ![] bcast_S_S2x4096x4096) (h.hostOps1_1 _ (at_ 168 rfl)) (h.ops3 _ (at_ 40 rfl)) (s_call0_call0_c_28 h)

/-- The kernel program's `main_call0_call0_v112` is the reference's `main_call1_call0_v112`. -/
theorem s_call0_call0_v112 (h : Step V W) : rd V (.of main_call0_call0_v112 : TRef sig ⟨S2x4096x4096, .i32⟩) = rd W (.of R.main_call1_call0_v112 : TRef R.sig ⟨S2x4096x4096, .i32⟩) :=
  lock2 (Ta := ⟨S2x4096x4096, .i32⟩) (Tb := ⟨S2x4096x4096, .i32⟩) (Ty := ⟨S2x4096x4096, .i32⟩) Host.shrui (h.hostOps1_1 _ (at_ 169 rfl)) (h.ops3 _ (at_ 41 rfl)) (s_call0_call0_v107 h) (s_call0_call0_v111 h)

/-- The kernel program's `main_call0_call0_v113` is the reference's `main_call1_call0_v113`. -/
theorem s_call0_call0_v113 (h : Step V W) : rd V (.of main_call0_call0_v113 : TRef sig ⟨S2x4096x4096, .i32⟩) = rd W (.of R.main_call1_call0_v113 : TRef R.sig ⟨S2x4096x4096, .i32⟩) :=
  lock2 (Ta := ⟨S2x4096x4096, .i32⟩) (Tb := ⟨S2x4096x4096, .i32⟩) (Ty := ⟨S2x4096x4096, .i32⟩) ori (h.hostOps1_1 _ (at_ 170 rfl)) (h.ops3 _ (at_ 42 rfl)) (s_call0_call0_v110 h) (s_call0_call0_v112 h)

/-- The kernel program's `main_call0_call0_v114` is the reference's `main_call1_call0_v114`. -/
theorem s_call0_call0_v114 (h : Step V W) : rd V (.of main_call0_call0_v114 : TRef sig ⟨S2x4096x4096, .i32⟩) = rd W (.of R.main_call1_call0_v114 : TRef R.sig ⟨S2x4096x4096, .i32⟩) :=
  lock2 (Ta := ⟨S2x4096x4096, .i32⟩) (Tb := ⟨S2x4096x4096, .i32⟩) (Ty := ⟨S2x4096x4096, .i32⟩) xori (h.hostOps1_1 _ (at_ 171 rfl)) (h.ops3 _ (at_ 43 rfl)) (s_call0_call0_v108 h) (s_call0_call0_v113 h)

/-- The kernel program's `main_call0_call0_v115` is the reference's `main_call1_call0_v115`. -/
theorem s_call0_call0_v115 (h : Step V W) : rd V (.of main_call0_call0_v115 : TRef sig ⟨S2x4096x4096, .i32⟩) = rd W (.of R.main_call1_call0_v115 : TRef R.sig ⟨S2x4096x4096, .i32⟩) :=
  lock2 (Ta := ⟨S2x4096x4096, .i32⟩) (Tb := ⟨S2x4096x4096, .i32⟩) (Ty := ⟨S2x4096x4096, .i32⟩) addi (h.hostOps1_1 _ (at_ 172 rfl)) (h.ops3 _ (at_ 44 rfl)) (s_call0_call0_v108 h) (s_call0_call0_v114 h)

/-- The kernel program's `main_call0_call0_c_29` is the reference's `main_call1_call0_c_29`. -/
theorem s_call0_call0_c_29 (h : Step V W) : rd V (.of main_call0_call0_c_29 : TRef sig ⟨S_, .i32⟩) = rd W (.of R.main_call1_call0_c_29 : TRef R.sig ⟨S_, .i32⟩) :=
  lock0 (Ty := ⟨S_, .i32⟩) (Val := Elt F) (constantI S_ 32 29#32) (h.hostOps1_1 _ (at_ 173 rfl)) (h.ops3 _ (at_ 45 rfl))

/-- The kernel program's `main_call0_call0_v116` is the reference's `main_call1_call0_v116`. -/
theorem s_call0_call0_v116 (h : Step V W) : rd V (.of main_call0_call0_v116 : TRef sig ⟨S2x4096x4096, .i32⟩) = rd W (.of R.main_call1_call0_v116 : TRef R.sig ⟨S2x4096x4096, .i32⟩) :=
  lock1 (Ta := ⟨S_, .i32⟩) (Ty := ⟨S2x4096x4096, .i32⟩) (broadcastInDim S2x4096x4096 ![] bcast_S_S2x4096x4096) (h.hostOps1_1 _ (at_ 174 rfl)) (h.ops3 _ (at_ 46 rfl)) (s_call0_call0_c_29 h)

/-- The kernel program's `main_call0_call0_v117` is the reference's `main_call1_call0_v117`. -/
theorem s_call0_call0_v117 (h : Step V W) : rd V (.of main_call0_call0_v117 : TRef sig ⟨S2x4096x4096, .i32⟩) = rd W (.of R.main_call1_call0_v117 : TRef R.sig ⟨S2x4096x4096, .i32⟩) :=
  lock2 (Ta := ⟨S2x4096x4096, .i32⟩) (Tb := ⟨S2x4096x4096, .i32⟩) (Ty := ⟨S2x4096x4096, .i32⟩) Host.shli (h.hostOps1_1 _ (at_ 175 rfl)) (h.ops3 _ (at_ 47 rfl)) (s_call0_call0_v114 h) (s_call0_call0_v116 h)

/-- The kernel program's `main_call0_call0_c_30` is the reference's `main_call1_call0_c_30`. -/
theorem s_call0_call0_c_30 (h : Step V W) : rd V (.of main_call0_call0_c_30 : TRef sig ⟨S_, .i32⟩) = rd W (.of R.main_call1_call0_c_30 : TRef R.sig ⟨S_, .i32⟩) :=
  lock0 (Ty := ⟨S_, .i32⟩) (Val := Elt F) (constantI S_ 32 3#32) (h.hostOps1_1 _ (at_ 176 rfl)) (h.ops3 _ (at_ 48 rfl))

/-- The kernel program's `main_call0_call0_v118` is the reference's `main_call1_call0_v118`. -/
theorem s_call0_call0_v118 (h : Step V W) : rd V (.of main_call0_call0_v118 : TRef sig ⟨S2x4096x4096, .i32⟩) = rd W (.of R.main_call1_call0_v118 : TRef R.sig ⟨S2x4096x4096, .i32⟩) :=
  lock1 (Ta := ⟨S_, .i32⟩) (Ty := ⟨S2x4096x4096, .i32⟩) (broadcastInDim S2x4096x4096 ![] bcast_S_S2x4096x4096) (h.hostOps1_1 _ (at_ 177 rfl)) (h.ops3 _ (at_ 49 rfl)) (s_call0_call0_c_30 h)

/-- The kernel program's `main_call0_call0_v119` is the reference's `main_call1_call0_v119`. -/
theorem s_call0_call0_v119 (h : Step V W) : rd V (.of main_call0_call0_v119 : TRef sig ⟨S2x4096x4096, .i32⟩) = rd W (.of R.main_call1_call0_v119 : TRef R.sig ⟨S2x4096x4096, .i32⟩) :=
  lock2 (Ta := ⟨S2x4096x4096, .i32⟩) (Tb := ⟨S2x4096x4096, .i32⟩) (Ty := ⟨S2x4096x4096, .i32⟩) Host.shrui (h.hostOps1_1 _ (at_ 178 rfl)) (h.ops3 _ (at_ 50 rfl)) (s_call0_call0_v114 h) (s_call0_call0_v118 h)

/-- The kernel program's `main_call0_call0_v120` is the reference's `main_call1_call0_v120`. -/
theorem s_call0_call0_v120 (h : Step V W) : rd V (.of main_call0_call0_v120 : TRef sig ⟨S2x4096x4096, .i32⟩) = rd W (.of R.main_call1_call0_v120 : TRef R.sig ⟨S2x4096x4096, .i32⟩) :=
  lock2 (Ta := ⟨S2x4096x4096, .i32⟩) (Tb := ⟨S2x4096x4096, .i32⟩) (Ty := ⟨S2x4096x4096, .i32⟩) ori (h.hostOps1_1 _ (at_ 179 rfl)) (h.ops3 _ (at_ 51 rfl)) (s_call0_call0_v117 h) (s_call0_call0_v119 h)

/-- The kernel program's `main_call0_call0_v121` is the reference's `main_call1_call0_v121`. -/
theorem s_call0_call0_v121 (h : Step V W) : rd V (.of main_call0_call0_v121 : TRef sig ⟨S2x4096x4096, .i32⟩) = rd W (.of R.main_call1_call0_v121 : TRef R.sig ⟨S2x4096x4096, .i32⟩) :=
  lock2 (Ta := ⟨S2x4096x4096, .i32⟩) (Tb := ⟨S2x4096x4096, .i32⟩) (Ty := ⟨S2x4096x4096, .i32⟩) xori (h.hostOps1_1 _ (at_ 180 rfl)) (h.ops3 _ (at_ 52 rfl)) (s_call0_call0_v115 h) (s_call0_call0_v120 h)

/-- The kernel program's `main_call0_call0_v122` is the reference's `main_call1_call0_v122`. -/
theorem s_call0_call0_v122 (h : Step V W) : rd V (.of main_call0_call0_v122 : TRef sig ⟨S2x4096x4096, .i32⟩) = rd W (.of R.main_call1_call0_v122 : TRef R.sig ⟨S2x4096x4096, .i32⟩) :=
  lock2 (Ta := ⟨S2x4096x4096, .i32⟩) (Tb := ⟨S2x4096x4096, .i32⟩) (Ty := ⟨S2x4096x4096, .i32⟩) addi (h.hostOps1_1 _ (at_ 181 rfl)) (h.ops3 _ (at_ 53 rfl)) (s_call0_call0_v115 h) (s_call0_call0_v121 h)

/-- The kernel program's `main_call0_call0_c_31` is the reference's `main_call1_call0_c_31`. -/
theorem s_call0_call0_c_31 (h : Step V W) : rd V (.of main_call0_call0_c_31 : TRef sig ⟨S_, .i32⟩) = rd W (.of R.main_call1_call0_c_31 : TRef R.sig ⟨S_, .i32⟩) :=
  lock0 (Ty := ⟨S_, .i32⟩) (Val := Elt F) (constantI S_ 32 16#32) (h.hostOps1_1 _ (at_ 182 rfl)) (h.ops3 _ (at_ 54 rfl))

/-- The kernel program's `main_call0_call0_v123` is the reference's `main_call1_call0_v123`. -/
theorem s_call0_call0_v123 (h : Step V W) : rd V (.of main_call0_call0_v123 : TRef sig ⟨S2x4096x4096, .i32⟩) = rd W (.of R.main_call1_call0_v123 : TRef R.sig ⟨S2x4096x4096, .i32⟩) :=
  lock1 (Ta := ⟨S_, .i32⟩) (Ty := ⟨S2x4096x4096, .i32⟩) (broadcastInDim S2x4096x4096 ![] bcast_S_S2x4096x4096) (h.hostOps1_1 _ (at_ 183 rfl)) (h.ops3 _ (at_ 55 rfl)) (s_call0_call0_c_31 h)

/-- The kernel program's `main_call0_call0_v124` is the reference's `main_call1_call0_v124`. -/
theorem s_call0_call0_v124 (h : Step V W) : rd V (.of main_call0_call0_v124 : TRef sig ⟨S2x4096x4096, .i32⟩) = rd W (.of R.main_call1_call0_v124 : TRef R.sig ⟨S2x4096x4096, .i32⟩) :=
  lock2 (Ta := ⟨S2x4096x4096, .i32⟩) (Tb := ⟨S2x4096x4096, .i32⟩) (Ty := ⟨S2x4096x4096, .i32⟩) Host.shli (h.hostOps1_1 _ (at_ 184 rfl)) (h.ops4 _ (at_ 0 rfl)) (s_call0_call0_v121 h) (s_call0_call0_v123 h)

/-- The kernel program's `main_call0_call0_c_32` is the reference's `main_call1_call0_c_32`. -/
theorem s_call0_call0_c_32 (h : Step V W) : rd V (.of main_call0_call0_c_32 : TRef sig ⟨S_, .i32⟩) = rd W (.of R.main_call1_call0_c_32 : TRef R.sig ⟨S_, .i32⟩) :=
  lock0 (Ty := ⟨S_, .i32⟩) (Val := Elt F) (constantI S_ 32 16#32) (h.hostOps1_1 _ (at_ 185 rfl)) (h.ops4 _ (at_ 1 rfl))

/-- The kernel program's `main_call0_call0_v125` is the reference's `main_call1_call0_v125`. -/
theorem s_call0_call0_v125 (h : Step V W) : rd V (.of main_call0_call0_v125 : TRef sig ⟨S2x4096x4096, .i32⟩) = rd W (.of R.main_call1_call0_v125 : TRef R.sig ⟨S2x4096x4096, .i32⟩) :=
  lock1 (Ta := ⟨S_, .i32⟩) (Ty := ⟨S2x4096x4096, .i32⟩) (broadcastInDim S2x4096x4096 ![] bcast_S_S2x4096x4096) (h.hostOps1_1 _ (at_ 186 rfl)) (h.ops4 _ (at_ 2 rfl)) (s_call0_call0_c_32 h)

/-- The kernel program's `main_call0_call0_v126` is the reference's `main_call1_call0_v126`. -/
theorem s_call0_call0_v126 (h : Step V W) : rd V (.of main_call0_call0_v126 : TRef sig ⟨S2x4096x4096, .i32⟩) = rd W (.of R.main_call1_call0_v126 : TRef R.sig ⟨S2x4096x4096, .i32⟩) :=
  lock2 (Ta := ⟨S2x4096x4096, .i32⟩) (Tb := ⟨S2x4096x4096, .i32⟩) (Ty := ⟨S2x4096x4096, .i32⟩) Host.shrui (h.hostOps1_1 _ (at_ 187 rfl)) (h.ops4 _ (at_ 3 rfl)) (s_call0_call0_v121 h) (s_call0_call0_v125 h)

/-- The kernel program's `main_call0_call0_v127` is the reference's `main_call1_call0_v127`. -/
theorem s_call0_call0_v127 (h : Step V W) : rd V (.of main_call0_call0_v127 : TRef sig ⟨S2x4096x4096, .i32⟩) = rd W (.of R.main_call1_call0_v127 : TRef R.sig ⟨S2x4096x4096, .i32⟩) :=
  lock2 (Ta := ⟨S2x4096x4096, .i32⟩) (Tb := ⟨S2x4096x4096, .i32⟩) (Ty := ⟨S2x4096x4096, .i32⟩) ori (h.hostOps1_1 _ (at_ 188 rfl)) (h.ops4 _ (at_ 4 rfl)) (s_call0_call0_v124 h) (s_call0_call0_v126 h)

/-- The kernel program's `main_call0_call0_v128` is the reference's `main_call1_call0_v128`. -/
theorem s_call0_call0_v128 (h : Step V W) : rd V (.of main_call0_call0_v128 : TRef sig ⟨S2x4096x4096, .i32⟩) = rd W (.of R.main_call1_call0_v128 : TRef R.sig ⟨S2x4096x4096, .i32⟩) :=
  lock2 (Ta := ⟨S2x4096x4096, .i32⟩) (Tb := ⟨S2x4096x4096, .i32⟩) (Ty := ⟨S2x4096x4096, .i32⟩) xori (h.hostOps1_1 _ (at_ 189 rfl)) (h.ops4 _ (at_ 5 rfl)) (s_call0_call0_v122 h) (s_call0_call0_v127 h)

/-- The kernel program's `main_call0_call0_v129` is the reference's `main_call1_call0_v129`. -/
theorem s_call0_call0_v129 (h : Step V W) : rd V (.of main_call0_call0_v129 : TRef sig ⟨S2x4096x4096, .i32⟩) = rd W (.of R.main_call1_call0_v129 : TRef R.sig ⟨S2x4096x4096, .i32⟩) :=
  lock2 (Ta := ⟨S2x4096x4096, .i32⟩) (Tb := ⟨S2x4096x4096, .i32⟩) (Ty := ⟨S2x4096x4096, .i32⟩) addi (h.hostOps1_1 _ (at_ 190 rfl)) (h.ops4 _ (at_ 6 rfl)) (s_call0_call0_v122 h) (s_call0_call0_v128 h)

/-- The kernel program's `main_call0_call0_c_33` is the reference's `main_call1_call0_c_33`. -/
theorem s_call0_call0_c_33 (h : Step V W) : rd V (.of main_call0_call0_c_33 : TRef sig ⟨S_, .i32⟩) = rd W (.of R.main_call1_call0_c_33 : TRef R.sig ⟨S_, .i32⟩) :=
  lock0 (Ty := ⟨S_, .i32⟩) (Val := Elt F) (constantI S_ 32 24#32) (h.hostOps1_1 _ (at_ 191 rfl)) (h.ops4 _ (at_ 7 rfl))

/-- The kernel program's `main_call0_call0_v130` is the reference's `main_call1_call0_v130`. -/
theorem s_call0_call0_v130 (h : Step V W) : rd V (.of main_call0_call0_v130 : TRef sig ⟨S2x4096x4096, .i32⟩) = rd W (.of R.main_call1_call0_v130 : TRef R.sig ⟨S2x4096x4096, .i32⟩) :=
  lock1 (Ta := ⟨S_, .i32⟩) (Ty := ⟨S2x4096x4096, .i32⟩) (broadcastInDim S2x4096x4096 ![] bcast_S_S2x4096x4096) (h.hostOps1_1 _ (at_ 192 rfl)) (h.ops4 _ (at_ 8 rfl)) (s_call0_call0_c_33 h)

/-- The kernel program's `main_call0_call0_v131` is the reference's `main_call1_call0_v131`. -/
theorem s_call0_call0_v131 (h : Step V W) : rd V (.of main_call0_call0_v131 : TRef sig ⟨S2x4096x4096, .i32⟩) = rd W (.of R.main_call1_call0_v131 : TRef R.sig ⟨S2x4096x4096, .i32⟩) :=
  lock2 (Ta := ⟨S2x4096x4096, .i32⟩) (Tb := ⟨S2x4096x4096, .i32⟩) (Ty := ⟨S2x4096x4096, .i32⟩) Host.shli (h.hostOps1_1 _ (at_ 193 rfl)) (h.ops4 _ (at_ 9 rfl)) (s_call0_call0_v128 h) (s_call0_call0_v130 h)

/-- The kernel program's `main_call0_call0_c_34` is the reference's `main_call1_call0_c_34`. -/
theorem s_call0_call0_c_34 (h : Step V W) : rd V (.of main_call0_call0_c_34 : TRef sig ⟨S_, .i32⟩) = rd W (.of R.main_call1_call0_c_34 : TRef R.sig ⟨S_, .i32⟩) :=
  lock0 (Ty := ⟨S_, .i32⟩) (Val := Elt F) (constantI S_ 32 8#32) (h.hostOps1_1 _ (at_ 194 rfl)) (h.ops4 _ (at_ 10 rfl))

/-- The kernel program's `main_call0_call0_v132` is the reference's `main_call1_call0_v132`. -/
theorem s_call0_call0_v132 (h : Step V W) : rd V (.of main_call0_call0_v132 : TRef sig ⟨S2x4096x4096, .i32⟩) = rd W (.of R.main_call1_call0_v132 : TRef R.sig ⟨S2x4096x4096, .i32⟩) :=
  lock1 (Ta := ⟨S_, .i32⟩) (Ty := ⟨S2x4096x4096, .i32⟩) (broadcastInDim S2x4096x4096 ![] bcast_S_S2x4096x4096) (h.hostOps1_1 _ (at_ 195 rfl)) (h.ops4 _ (at_ 11 rfl)) (s_call0_call0_c_34 h)

/-- The kernel program's `main_call0_call0_v133` is the reference's `main_call1_call0_v133`. -/
theorem s_call0_call0_v133 (h : Step V W) : rd V (.of main_call0_call0_v133 : TRef sig ⟨S2x4096x4096, .i32⟩) = rd W (.of R.main_call1_call0_v133 : TRef R.sig ⟨S2x4096x4096, .i32⟩) :=
  lock2 (Ta := ⟨S2x4096x4096, .i32⟩) (Tb := ⟨S2x4096x4096, .i32⟩) (Ty := ⟨S2x4096x4096, .i32⟩) Host.shrui (h.hostOps1_1 _ (at_ 196 rfl)) (h.ops4 _ (at_ 12 rfl)) (s_call0_call0_v128 h) (s_call0_call0_v132 h)

/-- The kernel program's `main_call0_call0_v134` is the reference's `main_call1_call0_v134`. -/
theorem s_call0_call0_v134 (h : Step V W) : rd V (.of main_call0_call0_v134 : TRef sig ⟨S2x4096x4096, .i32⟩) = rd W (.of R.main_call1_call0_v134 : TRef R.sig ⟨S2x4096x4096, .i32⟩) :=
  lock2 (Ta := ⟨S2x4096x4096, .i32⟩) (Tb := ⟨S2x4096x4096, .i32⟩) (Ty := ⟨S2x4096x4096, .i32⟩) ori (h.hostOps1_1 _ (at_ 197 rfl)) (h.ops4 _ (at_ 13 rfl)) (s_call0_call0_v131 h) (s_call0_call0_v133 h)

/-- The kernel program's `main_call0_call0_v135` is the reference's `main_call1_call0_v135`. -/
theorem s_call0_call0_v135 (h : Step V W) : rd V (.of main_call0_call0_v135 : TRef sig ⟨S2x4096x4096, .i32⟩) = rd W (.of R.main_call1_call0_v135 : TRef R.sig ⟨S2x4096x4096, .i32⟩) :=
  lock2 (Ta := ⟨S2x4096x4096, .i32⟩) (Tb := ⟨S2x4096x4096, .i32⟩) (Ty := ⟨S2x4096x4096, .i32⟩) xori (h.hostOps1_1 _ (at_ 198 rfl)) (h.ops4 _ (at_ 14 rfl)) (s_call0_call0_v129 h) (s_call0_call0_v134 h)

/-- The kernel program's `main_call0_call0_v136` is the reference's `main_call1_call0_v136`. -/
theorem s_call0_call0_v136 (h : Step V W) : rd V (.of main_call0_call0_v136 : TRef sig ⟨S2x4096x4096, .i32⟩) = rd W (.of R.main_call1_call0_v136 : TRef R.sig ⟨S2x4096x4096, .i32⟩) :=
  lock1 (Ta := ⟨S_, .i32⟩) (Ty := ⟨S2x4096x4096, .i32⟩) (broadcastInDim S2x4096x4096 ![] bcast_S_S2x4096x4096) (h.hostOps1_1 _ (at_ 199 rfl)) (h.ops4 _ (at_ 15 rfl)) (s_call0_v7 h)

/-- The kernel program's `main_call0_call0_v137` is the reference's `main_call1_call0_v137`. -/
theorem s_call0_call0_v137 (h : Step V W) : rd V (.of main_call0_call0_v137 : TRef sig ⟨S2x4096x4096, .i32⟩) = rd W (.of R.main_call1_call0_v137 : TRef R.sig ⟨S2x4096x4096, .i32⟩) :=
  lock2 (Ta := ⟨S2x4096x4096, .i32⟩) (Tb := ⟨S2x4096x4096, .i32⟩) (Ty := ⟨S2x4096x4096, .i32⟩) addi (h.hostOps1_1 _ (at_ 200 rfl)) (h.ops4 _ (at_ 16 rfl)) (s_call0_call0_v129 h) (s_call0_call0_v136 h)

/-- The kernel program's `main_call0_call0_v138` is the reference's `main_call1_call0_v138`. -/
theorem s_call0_call0_v138 (h : Step V W) : rd V (.of main_call0_call0_v138 : TRef sig ⟨S2x4096x4096, .i32⟩) = rd W (.of R.main_call1_call0_v138 : TRef R.sig ⟨S2x4096x4096, .i32⟩) :=
  lock1 (Ta := ⟨S_, .i32⟩) (Ty := ⟨S2x4096x4096, .i32⟩) (broadcastInDim S2x4096x4096 ![] bcast_S_S2x4096x4096) (h.hostOps1_1 _ (at_ 201 rfl)) (h.ops4 _ (at_ 17 rfl)) (s_call0_call0_v1 h)

/-- The kernel program's `main_call0_call0_v139` is the reference's `main_call1_call0_v139`. -/
theorem s_call0_call0_v139 (h : Step V W) : rd V (.of main_call0_call0_v139 : TRef sig ⟨S2x4096x4096, .i32⟩) = rd W (.of R.main_call1_call0_v139 : TRef R.sig ⟨S2x4096x4096, .i32⟩) :=
  lock2 (Ta := ⟨S2x4096x4096, .i32⟩) (Tb := ⟨S2x4096x4096, .i32⟩) (Ty := ⟨S2x4096x4096, .i32⟩) addi (h.hostOps1_1 _ (at_ 202 rfl)) (h.ops4 _ (at_ 18 rfl)) (s_call0_call0_v135 h) (s_call0_call0_v138 h)

/-- The kernel program's `main_call0_call0_c_35` is the reference's `main_call1_call0_c_35`. -/
theorem s_call0_call0_c_35 (h : Step V W) : rd V (.of main_call0_call0_c_35 : TRef sig ⟨S_, .i32⟩) = rd W (.of R.main_call1_call0_c_35 : TRef R.sig ⟨S_, .i32⟩) :=
  lock0 (Ty := ⟨S_, .i32⟩) (Val := Elt F) (constantI S_ 32 4#32) (h.hostOps1_1 _ (at_ 203 rfl)) (h.ops4 _ (at_ 19 rfl))

/-- The kernel program's `main_call0_call0_v140` is the reference's `main_call1_call0_v140`. -/
theorem s_call0_call0_v140 (h : Step V W) : rd V (.of main_call0_call0_v140 : TRef sig ⟨S2x4096x4096, .i32⟩) = rd W (.of R.main_call1_call0_v140 : TRef R.sig ⟨S2x4096x4096, .i32⟩) :=
  lock1 (Ta := ⟨S_, .i32⟩) (Ty := ⟨S2x4096x4096, .i32⟩) (broadcastInDim S2x4096x4096 ![] bcast_S_S2x4096x4096) (h.hostOps1_1 _ (at_ 204 rfl)) (h.ops4 _ (at_ 20 rfl)) (s_call0_call0_c_35 h)

/-- The kernel program's `main_call0_call0_v141` is the reference's `main_call1_call0_v141`. -/
theorem s_call0_call0_v141 (h : Step V W) : rd V (.of main_call0_call0_v141 : TRef sig ⟨S2x4096x4096, .i32⟩) = rd W (.of R.main_call1_call0_v141 : TRef R.sig ⟨S2x4096x4096, .i32⟩) :=
  lock2 (Ta := ⟨S2x4096x4096, .i32⟩) (Tb := ⟨S2x4096x4096, .i32⟩) (Ty := ⟨S2x4096x4096, .i32⟩) addi (h.hostOps1_1 _ (at_ 205 rfl)) (h.ops4 _ (at_ 21 rfl)) (s_call0_call0_v139 h) (s_call0_call0_v140 h)

/-- The kernel program's `main_call0_call0_v142` is the reference's `main_call1_call0_v142`. -/
theorem s_call0_call0_v142 (h : Step V W) : rd V (.of main_call0_call0_v142 : TRef sig ⟨S2x4096x4096, .i32⟩) = rd W (.of R.main_call1_call0_v142 : TRef R.sig ⟨S2x4096x4096, .i32⟩) :=
  lock2 (Ta := ⟨S2x4096x4096, .i32⟩) (Tb := ⟨S2x4096x4096, .i32⟩) (Ty := ⟨S2x4096x4096, .i32⟩) addi (h.hostOps1_1 _ (at_ 206 rfl)) (h.ops4 _ (at_ 22 rfl)) (s_call0_call0_v137 h) (s_call0_call0_v141 h)

/-- The kernel program's `main_call0_call0_c_36` is the reference's `main_call1_call0_c_36`. -/
theorem s_call0_call0_c_36 (h : Step V W) : rd V (.of main_call0_call0_c_36 : TRef sig ⟨S_, .i32⟩) = rd W (.of R.main_call1_call0_c_36 : TRef R.sig ⟨S_, .i32⟩) :=
  lock0 (Ty := ⟨S_, .i32⟩) (Val := Elt F) (constantI S_ 32 13#32) (h.hostOps1_1 _ (at_ 207 rfl)) (h.ops4 _ (at_ 23 rfl))

/-- The kernel program's `main_call0_call0_v143` is the reference's `main_call1_call0_v143`. -/
theorem s_call0_call0_v143 (h : Step V W) : rd V (.of main_call0_call0_v143 : TRef sig ⟨S2x4096x4096, .i32⟩) = rd W (.of R.main_call1_call0_v143 : TRef R.sig ⟨S2x4096x4096, .i32⟩) :=
  lock1 (Ta := ⟨S_, .i32⟩) (Ty := ⟨S2x4096x4096, .i32⟩) (broadcastInDim S2x4096x4096 ![] bcast_S_S2x4096x4096) (h.hostOps1_1 _ (at_ 208 rfl)) (h.ops4 _ (at_ 24 rfl)) (s_call0_call0_c_36 h)

/-- The kernel program's `main_call0_call0_v144` is the reference's `main_call1_call0_v144`. -/
theorem s_call0_call0_v144 (h : Step V W) : rd V (.of main_call0_call0_v144 : TRef sig ⟨S2x4096x4096, .i32⟩) = rd W (.of R.main_call1_call0_v144 : TRef R.sig ⟨S2x4096x4096, .i32⟩) :=
  lock2 (Ta := ⟨S2x4096x4096, .i32⟩) (Tb := ⟨S2x4096x4096, .i32⟩) (Ty := ⟨S2x4096x4096, .i32⟩) Host.shli (h.hostOps1_1 _ (at_ 209 rfl)) (h.ops4 _ (at_ 25 rfl)) (s_call0_call0_v141 h) (s_call0_call0_v143 h)

/-- The kernel program's `main_call0_call0_c_37` is the reference's `main_call1_call0_c_37`. -/
theorem s_call0_call0_c_37 (h : Step V W) : rd V (.of main_call0_call0_c_37 : TRef sig ⟨S_, .i32⟩) = rd W (.of R.main_call1_call0_c_37 : TRef R.sig ⟨S_, .i32⟩) :=
  lock0 (Ty := ⟨S_, .i32⟩) (Val := Elt F) (constantI S_ 32 19#32) (h.hostOps1_1 _ (at_ 210 rfl)) (h.ops4 _ (at_ 26 rfl))

/-- The kernel program's `main_call0_call0_v145` is the reference's `main_call1_call0_v145`. -/
theorem s_call0_call0_v145 (h : Step V W) : rd V (.of main_call0_call0_v145 : TRef sig ⟨S2x4096x4096, .i32⟩) = rd W (.of R.main_call1_call0_v145 : TRef R.sig ⟨S2x4096x4096, .i32⟩) :=
  lock1 (Ta := ⟨S_, .i32⟩) (Ty := ⟨S2x4096x4096, .i32⟩) (broadcastInDim S2x4096x4096 ![] bcast_S_S2x4096x4096) (h.hostOps1_1 _ (at_ 211 rfl)) (h.ops4 _ (at_ 27 rfl)) (s_call0_call0_c_37 h)

/-- The kernel program's `main_call0_call0_v146` is the reference's `main_call1_call0_v146`. -/
theorem s_call0_call0_v146 (h : Step V W) : rd V (.of main_call0_call0_v146 : TRef sig ⟨S2x4096x4096, .i32⟩) = rd W (.of R.main_call1_call0_v146 : TRef R.sig ⟨S2x4096x4096, .i32⟩) :=
  lock2 (Ta := ⟨S2x4096x4096, .i32⟩) (Tb := ⟨S2x4096x4096, .i32⟩) (Ty := ⟨S2x4096x4096, .i32⟩) Host.shrui (h.hostOps1_1 _ (at_ 212 rfl)) (h.ops4 _ (at_ 28 rfl)) (s_call0_call0_v141 h) (s_call0_call0_v145 h)

/-- The kernel program's `main_call0_call0_v147` is the reference's `main_call1_call0_v147`. -/
theorem s_call0_call0_v147 (h : Step V W) : rd V (.of main_call0_call0_v147 : TRef sig ⟨S2x4096x4096, .i32⟩) = rd W (.of R.main_call1_call0_v147 : TRef R.sig ⟨S2x4096x4096, .i32⟩) :=
  lock2 (Ta := ⟨S2x4096x4096, .i32⟩) (Tb := ⟨S2x4096x4096, .i32⟩) (Ty := ⟨S2x4096x4096, .i32⟩) ori (h.hostOps1_1 _ (at_ 213 rfl)) (h.ops4 _ (at_ 29 rfl)) (s_call0_call0_v144 h) (s_call0_call0_v146 h)

/-- The kernel program's `main_call0_call0_v148` is the reference's `main_call1_call0_v148`. -/
theorem s_call0_call0_v148 (h : Step V W) : rd V (.of main_call0_call0_v148 : TRef sig ⟨S2x4096x4096, .i32⟩) = rd W (.of R.main_call1_call0_v148 : TRef R.sig ⟨S2x4096x4096, .i32⟩) :=
  lock2 (Ta := ⟨S2x4096x4096, .i32⟩) (Tb := ⟨S2x4096x4096, .i32⟩) (Ty := ⟨S2x4096x4096, .i32⟩) xori (h.hostOps1_1 _ (at_ 214 rfl)) (h.ops4 _ (at_ 30 rfl)) (s_call0_call0_v142 h) (s_call0_call0_v147 h)

/-- The kernel program's `main_call0_call0_v149` is the reference's `main_call1_call0_v149`. -/
theorem s_call0_call0_v149 (h : Step V W) : rd V (.of main_call0_call0_v149 : TRef sig ⟨S2x4096x4096, .i32⟩) = rd W (.of R.main_call1_call0_v149 : TRef R.sig ⟨S2x4096x4096, .i32⟩) :=
  lock2 (Ta := ⟨S2x4096x4096, .i32⟩) (Tb := ⟨S2x4096x4096, .i32⟩) (Ty := ⟨S2x4096x4096, .i32⟩) addi (h.hostOps1_1 _ (at_ 215 rfl)) (h.ops4 _ (at_ 31 rfl)) (s_call0_call0_v142 h) (s_call0_call0_v148 h)

/-- The kernel program's `main_call0_call0_c_38` is the reference's `main_call1_call0_c_38`. -/
theorem s_call0_call0_c_38 (h : Step V W) : rd V (.of main_call0_call0_c_38 : TRef sig ⟨S_, .i32⟩) = rd W (.of R.main_call1_call0_c_38 : TRef R.sig ⟨S_, .i32⟩) :=
  lock0 (Ty := ⟨S_, .i32⟩) (Val := Elt F) (constantI S_ 32 15#32) (h.hostOps1_1 _ (at_ 216 rfl)) (h.ops4 _ (at_ 32 rfl))

/-- The kernel program's `main_call0_call0_v150` is the reference's `main_call1_call0_v150`. -/
theorem s_call0_call0_v150 (h : Step V W) : rd V (.of main_call0_call0_v150 : TRef sig ⟨S2x4096x4096, .i32⟩) = rd W (.of R.main_call1_call0_v150 : TRef R.sig ⟨S2x4096x4096, .i32⟩) :=
  lock1 (Ta := ⟨S_, .i32⟩) (Ty := ⟨S2x4096x4096, .i32⟩) (broadcastInDim S2x4096x4096 ![] bcast_S_S2x4096x4096) (h.hostOps1_1 _ (at_ 217 rfl)) (h.ops4 _ (at_ 33 rfl)) (s_call0_call0_c_38 h)

/-- The kernel program's `main_call0_call0_v151` is the reference's `main_call1_call0_v151`. -/
theorem s_call0_call0_v151 (h : Step V W) : rd V (.of main_call0_call0_v151 : TRef sig ⟨S2x4096x4096, .i32⟩) = rd W (.of R.main_call1_call0_v151 : TRef R.sig ⟨S2x4096x4096, .i32⟩) :=
  lock2 (Ta := ⟨S2x4096x4096, .i32⟩) (Tb := ⟨S2x4096x4096, .i32⟩) (Ty := ⟨S2x4096x4096, .i32⟩) Host.shli (h.hostOps1_1 _ (at_ 218 rfl)) (h.ops4 _ (at_ 34 rfl)) (s_call0_call0_v148 h) (s_call0_call0_v150 h)

/-- The kernel program's `main_call0_call0_c_39` is the reference's `main_call1_call0_c_39`. -/
theorem s_call0_call0_c_39 (h : Step V W) : rd V (.of main_call0_call0_c_39 : TRef sig ⟨S_, .i32⟩) = rd W (.of R.main_call1_call0_c_39 : TRef R.sig ⟨S_, .i32⟩) :=
  lock0 (Ty := ⟨S_, .i32⟩) (Val := Elt F) (constantI S_ 32 17#32) (h.hostOps1_1 _ (at_ 219 rfl)) (h.ops4 _ (at_ 35 rfl))

/-- The kernel program's `main_call0_call0_v152` is the reference's `main_call1_call0_v152`. -/
theorem s_call0_call0_v152 (h : Step V W) : rd V (.of main_call0_call0_v152 : TRef sig ⟨S2x4096x4096, .i32⟩) = rd W (.of R.main_call1_call0_v152 : TRef R.sig ⟨S2x4096x4096, .i32⟩) :=
  lock1 (Ta := ⟨S_, .i32⟩) (Ty := ⟨S2x4096x4096, .i32⟩) (broadcastInDim S2x4096x4096 ![] bcast_S_S2x4096x4096) (h.hostOps1_1 _ (at_ 220 rfl)) (h.ops4 _ (at_ 36 rfl)) (s_call0_call0_c_39 h)

/-- The kernel program's `main_call0_call0_v153` is the reference's `main_call1_call0_v153`. -/
theorem s_call0_call0_v153 (h : Step V W) : rd V (.of main_call0_call0_v153 : TRef sig ⟨S2x4096x4096, .i32⟩) = rd W (.of R.main_call1_call0_v153 : TRef R.sig ⟨S2x4096x4096, .i32⟩) :=
  lock2 (Ta := ⟨S2x4096x4096, .i32⟩) (Tb := ⟨S2x4096x4096, .i32⟩) (Ty := ⟨S2x4096x4096, .i32⟩) Host.shrui (h.hostOps1_1 _ (at_ 221 rfl)) (h.ops4 _ (at_ 37 rfl)) (s_call0_call0_v148 h) (s_call0_call0_v152 h)

/-- The kernel program's `main_call0_call0_v154` is the reference's `main_call1_call0_v154`. -/
theorem s_call0_call0_v154 (h : Step V W) : rd V (.of main_call0_call0_v154 : TRef sig ⟨S2x4096x4096, .i32⟩) = rd W (.of R.main_call1_call0_v154 : TRef R.sig ⟨S2x4096x4096, .i32⟩) :=
  lock2 (Ta := ⟨S2x4096x4096, .i32⟩) (Tb := ⟨S2x4096x4096, .i32⟩) (Ty := ⟨S2x4096x4096, .i32⟩) ori (h.hostOps1_1 _ (at_ 222 rfl)) (h.ops4 _ (at_ 38 rfl)) (s_call0_call0_v151 h) (s_call0_call0_v153 h)

/-- The kernel program's `main_call0_call0_v155` is the reference's `main_call1_call0_v155`. -/
theorem s_call0_call0_v155 (h : Step V W) : rd V (.of main_call0_call0_v155 : TRef sig ⟨S2x4096x4096, .i32⟩) = rd W (.of R.main_call1_call0_v155 : TRef R.sig ⟨S2x4096x4096, .i32⟩) :=
  lock2 (Ta := ⟨S2x4096x4096, .i32⟩) (Tb := ⟨S2x4096x4096, .i32⟩) (Ty := ⟨S2x4096x4096, .i32⟩) xori (h.hostOps1_1 _ (at_ 223 rfl)) (h.ops4 _ (at_ 39 rfl)) (s_call0_call0_v149 h) (s_call0_call0_v154 h)

/-- The kernel program's `main_call0_call0_v156` is the reference's `main_call1_call0_v156`. -/
theorem s_call0_call0_v156 (h : Step V W) : rd V (.of main_call0_call0_v156 : TRef sig ⟨S2x4096x4096, .i32⟩) = rd W (.of R.main_call1_call0_v156 : TRef R.sig ⟨S2x4096x4096, .i32⟩) :=
  lock2 (Ta := ⟨S2x4096x4096, .i32⟩) (Tb := ⟨S2x4096x4096, .i32⟩) (Ty := ⟨S2x4096x4096, .i32⟩) addi (h.hostOps1_1 _ (at_ 224 rfl)) (h.ops4 _ (at_ 40 rfl)) (s_call0_call0_v149 h) (s_call0_call0_v155 h)

/-- The kernel program's `main_call0_call0_c_40` is the reference's `main_call1_call0_c_40`. -/
theorem s_call0_call0_c_40 (h : Step V W) : rd V (.of main_call0_call0_c_40 : TRef sig ⟨S_, .i32⟩) = rd W (.of R.main_call1_call0_c_40 : TRef R.sig ⟨S_, .i32⟩) :=
  lock0 (Ty := ⟨S_, .i32⟩) (Val := Elt F) (constantI S_ 32 26#32) (h.hostOps1_1 _ (at_ 225 rfl)) (h.ops4 _ (at_ 41 rfl))

/-- The kernel program's `main_call0_call0_v157` is the reference's `main_call1_call0_v157`. -/
theorem s_call0_call0_v157 (h : Step V W) : rd V (.of main_call0_call0_v157 : TRef sig ⟨S2x4096x4096, .i32⟩) = rd W (.of R.main_call1_call0_v157 : TRef R.sig ⟨S2x4096x4096, .i32⟩) :=
  lock1 (Ta := ⟨S_, .i32⟩) (Ty := ⟨S2x4096x4096, .i32⟩) (broadcastInDim S2x4096x4096 ![] bcast_S_S2x4096x4096) (h.hostOps1_1 _ (at_ 226 rfl)) (h.ops4 _ (at_ 42 rfl)) (s_call0_call0_c_40 h)

/-- The kernel program's `main_call0_call0_v158` is the reference's `main_call1_call0_v158`. -/
theorem s_call0_call0_v158 (h : Step V W) : rd V (.of main_call0_call0_v158 : TRef sig ⟨S2x4096x4096, .i32⟩) = rd W (.of R.main_call1_call0_v158 : TRef R.sig ⟨S2x4096x4096, .i32⟩) :=
  lock2 (Ta := ⟨S2x4096x4096, .i32⟩) (Tb := ⟨S2x4096x4096, .i32⟩) (Ty := ⟨S2x4096x4096, .i32⟩) Host.shli (h.hostOps1_1 _ (at_ 227 rfl)) (h.ops4 _ (at_ 43 rfl)) (s_call0_call0_v155 h) (s_call0_call0_v157 h)

/-- The kernel program's `main_call0_call0_c_41` is the reference's `main_call1_call0_c_41`. -/
theorem s_call0_call0_c_41 (h : Step V W) : rd V (.of main_call0_call0_c_41 : TRef sig ⟨S_, .i32⟩) = rd W (.of R.main_call1_call0_c_41 : TRef R.sig ⟨S_, .i32⟩) :=
  lock0 (Ty := ⟨S_, .i32⟩) (Val := Elt F) (constantI S_ 32 6#32) (h.hostOps1_1 _ (at_ 228 rfl)) (h.ops4 _ (at_ 44 rfl))

/-- The kernel program's `main_call0_call0_v159` is the reference's `main_call1_call0_v159`. -/
theorem s_call0_call0_v159 (h : Step V W) : rd V (.of main_call0_call0_v159 : TRef sig ⟨S2x4096x4096, .i32⟩) = rd W (.of R.main_call1_call0_v159 : TRef R.sig ⟨S2x4096x4096, .i32⟩) :=
  lock1 (Ta := ⟨S_, .i32⟩) (Ty := ⟨S2x4096x4096, .i32⟩) (broadcastInDim S2x4096x4096 ![] bcast_S_S2x4096x4096) (h.hostOps1_1 _ (at_ 229 rfl)) (h.ops4 _ (at_ 45 rfl)) (s_call0_call0_c_41 h)

/-- The kernel program's `main_call0_call0_v160` is the reference's `main_call1_call0_v160`. -/
theorem s_call0_call0_v160 (h : Step V W) : rd V (.of main_call0_call0_v160 : TRef sig ⟨S2x4096x4096, .i32⟩) = rd W (.of R.main_call1_call0_v160 : TRef R.sig ⟨S2x4096x4096, .i32⟩) :=
  lock2 (Ta := ⟨S2x4096x4096, .i32⟩) (Tb := ⟨S2x4096x4096, .i32⟩) (Ty := ⟨S2x4096x4096, .i32⟩) Host.shrui (h.hostOps1_1 _ (at_ 230 rfl)) (h.ops4 _ (at_ 46 rfl)) (s_call0_call0_v155 h) (s_call0_call0_v159 h)

/-- The kernel program's `main_call0_call0_v161` is the reference's `main_call1_call0_v161`. -/
theorem s_call0_call0_v161 (h : Step V W) : rd V (.of main_call0_call0_v161 : TRef sig ⟨S2x4096x4096, .i32⟩) = rd W (.of R.main_call1_call0_v161 : TRef R.sig ⟨S2x4096x4096, .i32⟩) :=
  lock2 (Ta := ⟨S2x4096x4096, .i32⟩) (Tb := ⟨S2x4096x4096, .i32⟩) (Ty := ⟨S2x4096x4096, .i32⟩) ori (h.hostOps1_1 _ (at_ 231 rfl)) (h.ops4 _ (at_ 47 rfl)) (s_call0_call0_v158 h) (s_call0_call0_v160 h)

/-- The kernel program's `main_call0_call0_v162` is the reference's `main_call1_call0_v162`. -/
theorem s_call0_call0_v162 (h : Step V W) : rd V (.of main_call0_call0_v162 : TRef sig ⟨S2x4096x4096, .i32⟩) = rd W (.of R.main_call1_call0_v162 : TRef R.sig ⟨S2x4096x4096, .i32⟩) :=
  lock2 (Ta := ⟨S2x4096x4096, .i32⟩) (Tb := ⟨S2x4096x4096, .i32⟩) (Ty := ⟨S2x4096x4096, .i32⟩) xori (h.hostOps1_1 _ (at_ 232 rfl)) (h.ops4 _ (at_ 48 rfl)) (s_call0_call0_v156 h) (s_call0_call0_v161 h)

/-- The kernel program's `main_call0_call0_v163` is the reference's `main_call1_call0_v163`. -/
theorem s_call0_call0_v163 (h : Step V W) : rd V (.of main_call0_call0_v163 : TRef sig ⟨S2x4096x4096, .i32⟩) = rd W (.of R.main_call1_call0_v163 : TRef R.sig ⟨S2x4096x4096, .i32⟩) :=
  lock2 (Ta := ⟨S2x4096x4096, .i32⟩) (Tb := ⟨S2x4096x4096, .i32⟩) (Ty := ⟨S2x4096x4096, .i32⟩) addi (h.hostOps1_1 _ (at_ 233 rfl)) (h.ops4 _ (at_ 49 rfl)) (s_call0_call0_v156 h) (s_call0_call0_v162 h)

/-- The kernel program's `main_call0_call0_c_42` is the reference's `main_call1_call0_c_42`. -/
theorem s_call0_call0_c_42 (h : Step V W) : rd V (.of main_call0_call0_c_42 : TRef sig ⟨S_, .i32⟩) = rd W (.of R.main_call1_call0_c_42 : TRef R.sig ⟨S_, .i32⟩) :=
  lock0 (Ty := ⟨S_, .i32⟩) (Val := Elt F) (constantI S_ 32 6#32) (h.hostOps1_1 _ (at_ 234 rfl)) (h.ops4 _ (at_ 50 rfl))

/-- The kernel program's `main_call0_call0_v164` is the reference's `main_call1_call0_v164`. -/
theorem s_call0_call0_v164 (h : Step V W) : rd V (.of main_call0_call0_v164 : TRef sig ⟨S2x4096x4096, .i32⟩) = rd W (.of R.main_call1_call0_v164 : TRef R.sig ⟨S2x4096x4096, .i32⟩) :=
  lock1 (Ta := ⟨S_, .i32⟩) (Ty := ⟨S2x4096x4096, .i32⟩) (broadcastInDim S2x4096x4096 ![] bcast_S_S2x4096x4096) (h.hostOps1_1 _ (at_ 235 rfl)) (h.ops4 _ (at_ 51 rfl)) (s_call0_call0_c_42 h)

/-- The kernel program's `main_call0_call0_v165` is the reference's `main_call1_call0_v165`. -/
theorem s_call0_call0_v165 (h : Step V W) : rd V (.of main_call0_call0_v165 : TRef sig ⟨S2x4096x4096, .i32⟩) = rd W (.of R.main_call1_call0_v165 : TRef R.sig ⟨S2x4096x4096, .i32⟩) :=
  lock2 (Ta := ⟨S2x4096x4096, .i32⟩) (Tb := ⟨S2x4096x4096, .i32⟩) (Ty := ⟨S2x4096x4096, .i32⟩) Host.shli (h.hostOps1_1 _ (at_ 236 rfl)) (h.ops4 _ (at_ 52 rfl)) (s_call0_call0_v162 h) (s_call0_call0_v164 h)

/-- The kernel program's `main_call0_call0_c_43` is the reference's `main_call1_call0_c_43`. -/
theorem s_call0_call0_c_43 (h : Step V W) : rd V (.of main_call0_call0_c_43 : TRef sig ⟨S_, .i32⟩) = rd W (.of R.main_call1_call0_c_43 : TRef R.sig ⟨S_, .i32⟩) :=
  lock0 (Ty := ⟨S_, .i32⟩) (Val := Elt F) (constantI S_ 32 26#32) (h.hostOps1_1 _ (at_ 237 rfl)) (h.ops4 _ (at_ 53 rfl))

/-- The kernel program's `main_call0_call0_v166` is the reference's `main_call1_call0_v166`. -/
theorem s_call0_call0_v166 (h : Step V W) : rd V (.of main_call0_call0_v166 : TRef sig ⟨S2x4096x4096, .i32⟩) = rd W (.of R.main_call1_call0_v166 : TRef R.sig ⟨S2x4096x4096, .i32⟩) :=
  lock1 (Ta := ⟨S_, .i32⟩) (Ty := ⟨S2x4096x4096, .i32⟩) (broadcastInDim S2x4096x4096 ![] bcast_S_S2x4096x4096) (h.hostOps1_1 _ (at_ 238 rfl)) (h.ops4 _ (at_ 54 rfl)) (s_call0_call0_c_43 h)

/-- The kernel program's `main_call0_call0_v167` is the reference's `main_call1_call0_v167`. -/
theorem s_call0_call0_v167 (h : Step V W) : rd V (.of main_call0_call0_v167 : TRef sig ⟨S2x4096x4096, .i32⟩) = rd W (.of R.main_call1_call0_v167 : TRef R.sig ⟨S2x4096x4096, .i32⟩) :=
  lock2 (Ta := ⟨S2x4096x4096, .i32⟩) (Tb := ⟨S2x4096x4096, .i32⟩) (Ty := ⟨S2x4096x4096, .i32⟩) Host.shrui (h.hostOps1_1 _ (at_ 239 rfl)) (h.ops4 _ (at_ 55 rfl)) (s_call0_call0_v162 h) (s_call0_call0_v166 h)

/-- The kernel program's `main_call0_call0_v168` is the reference's `main_call1_call0_v168`. -/
theorem s_call0_call0_v168 (h : Step V W) : rd V (.of main_call0_call0_v168 : TRef sig ⟨S2x4096x4096, .i32⟩) = rd W (.of R.main_call1_call0_v168 : TRef R.sig ⟨S2x4096x4096, .i32⟩) :=
  lock2 (Ta := ⟨S2x4096x4096, .i32⟩) (Tb := ⟨S2x4096x4096, .i32⟩) (Ty := ⟨S2x4096x4096, .i32⟩) ori (h.hostOps1_1 _ (at_ 240 rfl)) (h.ops5 _ (at_ 0 rfl)) (s_call0_call0_v165 h) (s_call0_call0_v167 h)

/-- The kernel program's `main_call0_call0_v169` is the reference's `main_call1_call0_v169`. -/
theorem s_call0_call0_v169 (h : Step V W) : rd V (.of main_call0_call0_v169 : TRef sig ⟨S2x4096x4096, .i32⟩) = rd W (.of R.main_call1_call0_v169 : TRef R.sig ⟨S2x4096x4096, .i32⟩) :=
  lock2 (Ta := ⟨S2x4096x4096, .i32⟩) (Tb := ⟨S2x4096x4096, .i32⟩) (Ty := ⟨S2x4096x4096, .i32⟩) xori (h.hostOps1_1 _ (at_ 241 rfl)) (h.ops5 _ (at_ 1 rfl)) (s_call0_call0_v163 h) (s_call0_call0_v168 h)

/-- The kernel program's `main_call0_call0_v170` is the reference's `main_call1_call0_v170`. -/
theorem s_call0_call0_v170 (h : Step V W) : rd V (.of main_call0_call0_v170 : TRef sig ⟨S2x4096x4096, .i32⟩) = rd W (.of R.main_call1_call0_v170 : TRef R.sig ⟨S2x4096x4096, .i32⟩) :=
  lock1 (Ta := ⟨S_, .i32⟩) (Ty := ⟨S2x4096x4096, .i32⟩) (broadcastInDim S2x4096x4096 ![] bcast_S_S2x4096x4096) (h.hostOps1_1 _ (at_ 242 rfl)) (h.ops5 _ (at_ 2 rfl)) (s_call0_call0_v1 h)

/-- The kernel program's `main_call0_v23_0` is the reference's `main_call1_v23_0`. -/
theorem s_call0_v23_0 (h : Step V W) : rd V (.of main_call0_v23_0 : TRef sig ⟨S2x4096x4096, .i32⟩) = rd W (.of R.main_call1_v23_0 : TRef R.sig ⟨S2x4096x4096, .i32⟩) :=
  lock2 (Ta := ⟨S2x4096x4096, .i32⟩) (Tb := ⟨S2x4096x4096, .i32⟩) (Ty := ⟨S2x4096x4096, .i32⟩) addi (h.hostOps1_1 _ (at_ 243 rfl)) (h.ops5 _ (at_ 3 rfl)) (s_call0_call0_v163 h) (s_call0_call0_v170 h)

/-- The kernel program's `main_call0_call0_v172` is the reference's `main_call1_call0_v172`. -/
theorem s_call0_call0_v172 (h : Step V W) : rd V (.of main_call0_call0_v172 : TRef sig ⟨S2x4096x4096, .i32⟩) = rd W (.of R.main_call1_call0_v172 : TRef R.sig ⟨S2x4096x4096, .i32⟩) :=
  lock1 (Ta := ⟨S_, .i32⟩) (Ty := ⟨S2x4096x4096, .i32⟩) (broadcastInDim S2x4096x4096 ![] bcast_S_S2x4096x4096) (h.hostOps1_1 _ (at_ 244 rfl)) (h.ops5 _ (at_ 4 rfl)) (s_call0_v5 h)

/-- The kernel program's `main_call0_call0_v173` is the reference's `main_call1_call0_v173`. -/
theorem s_call0_call0_v173 (h : Step V W) : rd V (.of main_call0_call0_v173 : TRef sig ⟨S2x4096x4096, .i32⟩) = rd W (.of R.main_call1_call0_v173 : TRef R.sig ⟨S2x4096x4096, .i32⟩) :=
  lock2 (Ta := ⟨S2x4096x4096, .i32⟩) (Tb := ⟨S2x4096x4096, .i32⟩) (Ty := ⟨S2x4096x4096, .i32⟩) addi (h.hostOps1_1 _ (at_ 245 rfl)) (h.ops5 _ (at_ 5 rfl)) (s_call0_call0_v169 h) (s_call0_call0_v172 h)

/-- The kernel program's `main_call0_call0_c_44` is the reference's `main_call1_call0_c_44`. -/
theorem s_call0_call0_c_44 (h : Step V W) : rd V (.of main_call0_call0_c_44 : TRef sig ⟨S_, .i32⟩) = rd W (.of R.main_call1_call0_c_44 : TRef R.sig ⟨S_, .i32⟩) :=
  lock0 (Ty := ⟨S_, .i32⟩) (Val := Elt F) (constantI S_ 32 5#32) (h.hostOps1_1 _ (at_ 246 rfl)) (h.ops5 _ (at_ 6 rfl))

/-- The kernel program's `main_call0_call0_v174` is the reference's `main_call1_call0_v174`. -/
theorem s_call0_call0_v174 (h : Step V W) : rd V (.of main_call0_call0_v174 : TRef sig ⟨S2x4096x4096, .i32⟩) = rd W (.of R.main_call1_call0_v174 : TRef R.sig ⟨S2x4096x4096, .i32⟩) :=
  lock1 (Ta := ⟨S_, .i32⟩) (Ty := ⟨S2x4096x4096, .i32⟩) (broadcastInDim S2x4096x4096 ![] bcast_S_S2x4096x4096) (h.hostOps1_1 _ (at_ 247 rfl)) (h.ops5 _ (at_ 7 rfl)) (s_call0_call0_c_44 h)

/-- The kernel program's `main_call0_v23_1` is the reference's `main_call1_v23_1`. -/
theorem s_call0_v23_1 (h : Step V W) : rd V (.of main_call0_v23_1 : TRef sig ⟨S2x4096x4096, .i32⟩) = rd W (.of R.main_call1_v23_1 : TRef R.sig ⟨S2x4096x4096, .i32⟩) :=
  lock2 (Ta := ⟨S2x4096x4096, .i32⟩) (Tb := ⟨S2x4096x4096, .i32⟩) (Ty := ⟨S2x4096x4096, .i32⟩) addi (h.hostOps1_1 _ (at_ 248 rfl)) (h.ops5 _ (at_ 8 rfl)) (s_call0_call0_v173 h) (s_call0_call0_v174 h)

/-- The kernel program's `main_call0_v24` is the reference's `main_call1_v24`. -/
theorem s_call0_v24 (h : Step V W) : rd V (.of main_call0_v24 : TRef sig ⟨S2x4096x4096, .i32⟩) = rd W (.of R.main_call1_v24 : TRef R.sig ⟨S2x4096x4096, .i32⟩) :=
  lock2 (Ta := ⟨S2x4096x4096, .i32⟩) (Tb := ⟨S2x4096x4096, .i32⟩) (Ty := ⟨S2x4096x4096, .i32⟩) xori (h.hostOps1_1 _ (at_ 249 rfl)) (h.ops5 _ (at_ 9 rfl)) (s_call0_v23_0 h) (s_call0_v23_1 h)

/-- The kernel program's `main_call0_c_3` is the reference's `main_call1_c_3`. -/
theorem s_call0_c_3 (h : Step V W) : rd V (.of main_call0_c_3 : TRef sig ⟨S_, .i32⟩) = rd W (.of R.main_call1_c_3 : TRef R.sig ⟨S_, .i32⟩) :=
  lock0 (Ty := ⟨S_, .i32⟩) (Val := Elt F) (constantI S_ 32 9#32) (h.hostOps1_1 _ (at_ 250 rfl)) (h.ops5 _ (at_ 10 rfl))

/-- The kernel program's `main_call0_v25` is the reference's `main_call1_v25`. -/
theorem s_call0_v25 (h : Step V W) : rd V (.of main_call0_v25 : TRef sig ⟨S2x4096x4096, .i32⟩) = rd W (.of R.main_call1_v25 : TRef R.sig ⟨S2x4096x4096, .i32⟩) :=
  lock1 (Ta := ⟨S_, .i32⟩) (Ty := ⟨S2x4096x4096, .i32⟩) (broadcastInDim S2x4096x4096 ![] bcast_S_S2x4096x4096) (h.hostOps1_1 _ (at_ 251 rfl)) (h.ops5 _ (at_ 11 rfl)) (s_call0_c_3 h)

/-- The kernel program's `main_call0_v26` is the reference's `main_call1_v26`. -/
theorem s_call0_v26 (h : Step V W) : rd V (.of main_call0_v26 : TRef sig ⟨S2x4096x4096, .i32⟩) = rd W (.of R.main_call1_v26 : TRef R.sig ⟨S2x4096x4096, .i32⟩) :=
  lock2 (Ta := ⟨S2x4096x4096, .i32⟩) (Tb := ⟨S2x4096x4096, .i32⟩) (Ty := ⟨S2x4096x4096, .i32⟩) Host.shrui (h.hostOps1_1 _ (at_ 252 rfl)) (h.ops5 _ (at_ 12 rfl)) (s_call0_v24 h) (s_call0_v25 h)

/-- The kernel program's `main_call0_c_4` is the reference's `main_call1_c_4`. -/
theorem s_call0_c_4 (h : Step V W) : rd V (.of main_call0_c_4 : TRef sig ⟨S_, .i32⟩) = rd W (.of R.main_call1_c_4 : TRef R.sig ⟨S_, .i32⟩) :=
  lock0 (Ty := ⟨S_, .i32⟩) (Val := Elt F) (constantI S_ 32 1065353216#32) (h.hostOps1_1 _ (at_ 253 rfl)) (h.ops5 _ (at_ 13 rfl))

/-- The kernel program's `main_call0_v27` is the reference's `main_call1_v27`. -/
theorem s_call0_v27 (h : Step V W) : rd V (.of main_call0_v27 : TRef sig ⟨S2x4096x4096, .i32⟩) = rd W (.of R.main_call1_v27 : TRef R.sig ⟨S2x4096x4096, .i32⟩) :=
  lock1 (Ta := ⟨S_, .i32⟩) (Ty := ⟨S2x4096x4096, .i32⟩) (broadcastInDim S2x4096x4096 ![] bcast_S_S2x4096x4096) (h.hostOps1_1 _ (at_ 254 rfl)) (h.ops5 _ (at_ 14 rfl)) (s_call0_c_4 h)

/-- The kernel program's `main_call0_v28` is the reference's `main_call1_v28`. -/
theorem s_call0_v28 (h : Step V W) : rd V (.of main_call0_v28 : TRef sig ⟨S2x4096x4096, .i32⟩) = rd W (.of R.main_call1_v28 : TRef R.sig ⟨S2x4096x4096, .i32⟩) :=
  lock2 (Ta := ⟨S2x4096x4096, .i32⟩) (Tb := ⟨S2x4096x4096, .i32⟩) (Ty := ⟨S2x4096x4096, .i32⟩) ori (h.hostOps1_1 _ (at_ 255 rfl)) (h.ops5 _ (at_ 15 rfl)) (s_call0_v26 h) (s_call0_v27 h)

/-- The kernel program's `main_call0_v29` is the reference's `main_call1_v29`. -/
theorem s_call0_v29 (h : Step V W) : rd V (.of main_call0_v29 : TRef sig ⟨S2x4096x4096, .f32⟩) = rd W (.of R.main_call1_v29 : TRef R.sig ⟨S2x4096x4096, .f32⟩) :=
  lock1 (Ta := ⟨S2x4096x4096, .i32⟩) (Ty := ⟨S2x4096x4096, .f32⟩) (bitcastToFloat .f32) (h.hostOps1_1 _ (at_ 256 rfl)) (h.ops5 _ (at_ 16 rfl)) (s_call0_v28 h)

/-- The kernel program's `main_call0_cst` is the reference's `main_call1_cst`. -/
theorem s_call0_cst (h : Step V W) : rd V (.of main_call0_cst : TRef sig ⟨S_, .f32⟩) = rd W (.of R.main_call1_cst : TRef R.sig ⟨S_, .f32⟩) :=
  lock0 (Ty := ⟨S_, .f32⟩) (Val := Elt F) (constant S_ .f32 0x3F800000#32) (h.hostOps1_1 _ (at_ 257 rfl)) (h.ops5 _ (at_ 17 rfl))

/-- The kernel program's `main_call0_v30` is the reference's `main_call1_v30`. -/
theorem s_call0_v30 (h : Step V W) : rd V (.of main_call0_v30 : TRef sig ⟨S2x4096x4096, .f32⟩) = rd W (.of R.main_call1_v30 : TRef R.sig ⟨S2x4096x4096, .f32⟩) :=
  lock1 (Ta := ⟨S_, .f32⟩) (Ty := ⟨S2x4096x4096, .f32⟩) (broadcastInDim S2x4096x4096 ![] bcast_S_S2x4096x4096) (h.hostOps1_1 _ (at_ 258 rfl)) (h.ops5 _ (at_ 18 rfl)) (s_call0_cst h)

/-- The kernel program's `main_call0_v31` is the reference's `main_call1_v31`. -/
theorem s_call0_v31 (h : Step V W) : rd V (.of main_call0_v31 : TRef sig ⟨S2x4096x4096, .f32⟩) = rd W (.of R.main_call1_v31 : TRef R.sig ⟨S2x4096x4096, .f32⟩) :=
  lock2 (Ta := ⟨S2x4096x4096, .f32⟩) (Tb := ⟨S2x4096x4096, .f32⟩) (Ty := ⟨S2x4096x4096, .f32⟩) subf (h.hostOps1_1 _ (at_ 259 rfl)) (h.ops5 _ (at_ 19 rfl)) (s_call0_v29 h) (s_call0_v30 h)

/-- The kernel program's `main_call0_v32` is the reference's `main_call1_v32`. -/
theorem s_call0_v32 (h : Step V W) : rd V (.of main_call0_v32 : TRef sig ⟨S1x1x1, .f32⟩) = rd W (.of R.main_call1_v32 : TRef R.sig ⟨S1x1x1, .f32⟩) :=
  lock2 (Ta := ⟨S1x1x1, .f32⟩) (Tb := ⟨S1x1x1, .f32⟩) (Ty := ⟨S1x1x1, .f32⟩) subf (h.hostOps1_1 _ (at_ 260 rfl)) (h.ops5 _ (at_ 20 rfl)) (s_call0_v3 h) (s_call0_v2 h)

/-- The kernel program's `main_call0_v33` is the reference's `main_call1_v33`. -/
theorem s_call0_v33 (h : Step V W) : rd V (.of main_call0_v33 : TRef sig ⟨S2x4096x4096, .f32⟩) = rd W (.of R.main_call1_v33 : TRef R.sig ⟨S2x4096x4096, .f32⟩) :=
  lock1 (Ta := ⟨S1x1x1, .f32⟩) (Ty := ⟨S2x4096x4096, .f32⟩) (broadcastInDim S2x4096x4096 ![0, 1, 2] bcast_S1x1x1_S2x4096x4096_0_1_2) (h.hostOps1_1 _ (at_ 261 rfl)) (h.ops5 _ (at_ 21 rfl)) (s_call0_v32 h)

/-- The kernel program's `main_call0_v34` is the reference's `main_call1_v34`. -/
theorem s_call0_v34 (h : Step V W) : rd V (.of main_call0_v34 : TRef sig ⟨S2x4096x4096, .f32⟩) = rd W (.of R.main_call1_v34 : TRef R.sig ⟨S2x4096x4096, .f32⟩) :=
  lock2 (Ta := ⟨S2x4096x4096, .f32⟩) (Tb := ⟨S2x4096x4096, .f32⟩) (Ty := ⟨S2x4096x4096, .f32⟩) mulf (h.hostOps1_1 _ (at_ 262 rfl)) (h.ops5 _ (at_ 22 rfl)) (s_call0_v31 h) (s_call0_v33 h)

/-- The kernel program's `main_call0_v35` is the reference's `main_call1_v35`. -/
theorem s_call0_v35 (h : Step V W) : rd V (.of main_call0_v35 : TRef sig ⟨S2x4096x4096, .f32⟩) = rd W (.of R.main_call1_v35 : TRef R.sig ⟨S2x4096x4096, .f32⟩) :=
  lock1 (Ta := ⟨S1x1x1, .f32⟩) (Ty := ⟨S2x4096x4096, .f32⟩) (broadcastInDim S2x4096x4096 ![0, 1, 2] bcast_S1x1x1_S2x4096x4096_0_1_2) (h.hostOps1_1 _ (at_ 263 rfl)) (h.ops5 _ (at_ 23 rfl)) (s_call0_v2 h)

/-- The kernel program's `main_call0_v36` is the reference's `main_call1_v36`. -/
theorem s_call0_v36 (h : Step V W) : rd V (.of main_call0_v36 : TRef sig ⟨S2x4096x4096, .f32⟩) = rd W (.of R.main_call1_v36 : TRef R.sig ⟨S2x4096x4096, .f32⟩) :=
  lock2 (Ta := ⟨S2x4096x4096, .f32⟩) (Tb := ⟨S2x4096x4096, .f32⟩) (Ty := ⟨S2x4096x4096, .f32⟩) addf (h.hostOps1_1 _ (at_ 264 rfl)) (h.ops5 _ (at_ 24 rfl)) (s_call0_v34 h) (s_call0_v35 h)

/-- The kernel program's `main_call0_v37` is the reference's `main_call1_v37`. -/
theorem s_call0_v37 (h : Step V W) : rd V (.of main_call0_v37 : TRef sig ⟨S2x4096x4096, .f32⟩) = rd W (.of R.main_call1_v37 : TRef R.sig ⟨S2x4096x4096, .f32⟩) :=
  lock1 (Ta := ⟨S1x1x1, .f32⟩) (Ty := ⟨S2x4096x4096, .f32⟩) (broadcastInDim S2x4096x4096 ![0, 1, 2] bcast_S1x1x1_S2x4096x4096_0_1_2) (h.hostOps1_1 _ (at_ 265 rfl)) (h.ops5 _ (at_ 25 rfl)) (s_call0_v2 h)

/-- The kernel program's `main_v10` is the reference's `main_v27`. -/
theorem s_v10 (h : Step V W) : rd V (.of main_v10 : TRef sig ⟨S2x4096x4096, .f32⟩) = rd W (.of R.main_v27 : TRef R.sig ⟨S2x4096x4096, .f32⟩) :=
  lock2 (Ta := ⟨S2x4096x4096, .f32⟩) (Tb := ⟨S2x4096x4096, .f32⟩) (Ty := ⟨S2x4096x4096, .f32⟩) maximumf (h.hostOps1_1 _ (at_ 266 rfl)) (h.ops5 _ (at_ 26 rfl)) (s_call0_v37 h) (s_call0_v36 h)

/-- The kernel program's `main_cst_3` is the reference's `main_cst_8`. -/
theorem s_cst_3 (h : Step V W) : rd V (.of main_cst_3 : TRef sig ⟨S_, .f32⟩) = rd W (.of R.main_cst_8 : TRef R.sig ⟨S_, .f32⟩) :=
  lock0 (Ty := ⟨S_, .f32⟩) (Val := Elt F) (constant S_ .f32 0x322BCC77#32) (h.hostOps1_2 _ (at_ 0 rfl)) (h.ops5 _ (at_ 27 rfl))

/-- The kernel program's `main_v11` is the reference's `main_v28`. -/
theorem s_v11 (h : Step V W) : rd V (.of main_v11 : TRef sig ⟨S2x4096x4096, .f32⟩) = rd W (.of R.main_v28 : TRef R.sig ⟨S2x4096x4096, .f32⟩) :=
  lock1 (Ta := ⟨S_, .f32⟩) (Ty := ⟨S2x4096x4096, .f32⟩) (broadcastInDim S2x4096x4096 ![] bcast_S_S2x4096x4096) (h.hostOps1_2 _ (at_ 1 rfl)) (h.ops5 _ (at_ 28 rfl)) (s_cst_3 h)

/-- The kernel program's `main_v12` is the reference's `main_v29`. -/
theorem s_v12 (h : Step V W) : rd V (.of main_v12 : TRef sig ⟨S2x4096x4096, .f32⟩) = rd W (.of R.main_v29 : TRef R.sig ⟨S2x4096x4096, .f32⟩) :=
  lock2 (Ta := ⟨S2x4096x4096, .f32⟩) (Tb := ⟨S2x4096x4096, .f32⟩) (Ty := ⟨S2x4096x4096, .f32⟩) addf (h.hostOps1_2 _ (at_ 2 rfl)) (h.ops5 _ (at_ 29 rfl)) (s_v10 h) (s_v11 h)

/-- The kernel program's `main_v13` is the reference's `main_v30`. -/
theorem s_v13 (h : Step V W) : rd V (.of main_v13 : TRef sig ⟨S2x4096x4096, .f32⟩) = rd W (.of R.main_v30 : TRef R.sig ⟨S2x4096x4096, .f32⟩) :=
  lock1 (Ta := ⟨S2x4096x4096, .f32⟩) (Ty := ⟨S2x4096x4096, .f32⟩) Host.log (h.hostOps1_2 _ (at_ 3 rfl)) (h.ops5 _ (at_ 30 rfl)) (s_v12 h)

/-- The kernel program's `main_v14` is the reference's `main_v31`. -/
theorem s_v14 (h : Step V W) : rd V (.of main_v14 : TRef sig ⟨S2x4096x4096, .f32⟩) = rd W (.of R.main_v31 : TRef R.sig ⟨S2x4096x4096, .f32⟩) :=
  lock1 (Ta := ⟨S2x4096x4096, .f32⟩) (Ty := ⟨S2x4096x4096, .f32⟩) Host.negf (h.hostOps1_2 _ (at_ 4 rfl)) (h.ops5 _ (at_ 31 rfl)) (s_v13 h)

/-- The kernel program's `main_v15` is the reference's `main_v32`. -/
theorem s_v15 (h : Step V W) : rd V (.of main_v15 : TRef sig ⟨S2x4096x4096, .f32⟩) = rd W (.of R.main_v32 : TRef R.sig ⟨S2x4096x4096, .f32⟩) :=
  lock1 (Ta := ⟨S2x4096x4096, .f32⟩) (Ty := ⟨S2x4096x4096, .f32⟩) Host.log (h.hostOps1_2 _ (at_ 5 rfl)) (h.ops5 _ (at_ 32 rfl)) (s_v14 h)

/-- The kernel program's `main_cst_4` is the reference's `main_cst_2`. -/
theorem s_cst_4 (h : Step V W) : rd V (.of main_cst_4 : TRef sig ⟨S_, .f32⟩) = rd W (.of R.main_cst_2 : TRef R.sig ⟨S_, .f32⟩) :=
  lock0 (Ty := ⟨S_, .f32⟩) (Val := Elt F) (constant S_ .f32 0xC0A00000#32) (h.hostOps1_2 _ (at_ 6 rfl)) (h.ops0 _ (at_ 19 rfl))

/-- The kernel program's `main_cst_5` is the reference's `main_cst_3`. -/
theorem s_cst_5 (h : Step V W) : rd V (.of main_cst_5 : TRef sig ⟨S_, .f32⟩) = rd W (.of R.main_cst_3 : TRef R.sig ⟨S_, .f32⟩) :=
  lock0 (Ty := ⟨S_, .f32⟩) (Val := Elt F) (constant S_ .f32 0x40A00000#32) (h.hostOps1_2 _ (at_ 7 rfl)) (h.ops0 _ (at_ 20 rfl))

/-- The kernel program's `main_call1_v0` is the reference's `main_call0_v0`. -/
theorem s_call1_v0 (h : Step V W) : rd V (.of main_call1_v0 : TRef sig ⟨S_, .f32⟩) = rd W (.of R.main_call0_v0 : TRef R.sig ⟨S_, .f32⟩) :=
  lock1 (Ta := ⟨S_, .f32⟩) (Ty := ⟨S_, .f32⟩) id (h.hostOps1_3 _ (at_ 0 rfl)) (h.ops0 _ (at_ 21 rfl)) (s_cst_4 h)

/-- The kernel program's `main_call1_v1` is the reference's `main_call0_v1`. -/
theorem s_call1_v1 (h : Step V W) : rd V (.of main_call1_v1 : TRef sig ⟨S_, .f32⟩) = rd W (.of R.main_call0_v1 : TRef R.sig ⟨S_, .f32⟩) :=
  lock2 (Ta := ⟨S_, .f32⟩) (Tb := ⟨S_, .f32⟩) (Ty := ⟨S_, .f32⟩) maximumf (h.hostOps1_3 _ (at_ 1 rfl)) (h.ops0 _ (at_ 22 rfl)) (s_call1_v0 h) h.arg3

/-- The kernel program's `main_call1_v2` is the reference's `main_call0_v2`. -/
theorem s_call1_v2 (h : Step V W) : rd V (.of main_call1_v2 : TRef sig ⟨S_, .f32⟩) = rd W (.of R.main_call0_v2 : TRef R.sig ⟨S_, .f32⟩) :=
  lock1 (Ta := ⟨S_, .f32⟩) (Ty := ⟨S_, .f32⟩) id (h.hostOps1_3 _ (at_ 2 rfl)) (h.ops0 _ (at_ 23 rfl)) (s_cst_5 h)

/-- The kernel program's `main_v16` is the reference's `main_v16`. -/
theorem s_v16 (h : Step V W) : rd V (.of main_v16 : TRef sig ⟨S_, .f32⟩) = rd W (.of R.main_v16 : TRef R.sig ⟨S_, .f32⟩) :=
  lock2 (Ta := ⟨S_, .f32⟩) (Tb := ⟨S_, .f32⟩) (Ty := ⟨S_, .f32⟩) minimumf (h.hostOps1_3 _ (at_ 3 rfl)) (h.ops0 _ (at_ 24 rfl)) (s_call1_v2 h) (s_call1_v1 h)

/-- The kernel program's `main_v17` is the reference's `main_v17`. -/
theorem s_v17 (h : Step V W) : rd V (.of main_v17 : TRef sig ⟨S_, .f32⟩) = rd W (.of R.main_v17 : TRef R.sig ⟨S_, .f32⟩) :=
  lock1 (Ta := ⟨S_, .f32⟩) (Ty := ⟨S_, .f32⟩) Host.exp (h.hostOps1_4 _ (at_ 0 rfl)) (h.ops0 _ (at_ 25 rfl)) (s_v16 h)

end Cert.Proof.Lock

end
-- ==== Proof.KerRun.lean ====
/- What the kernel program leaves: its buffers at the end are those of the last boundary, and the equations of its
   host operations between the regions and after them hold of the boundaries' contents. -/
module

public import proofs.«01_k».proof.Proof.KerOps
public import proofs.«01_k».proof.Proof.Lock
public import proofs.«01_k».proof.Proof.RefRun
public import proofs.«01_k».proof.Proof.Gen.KernelIdeal.Frame

@[expose] public section

set_option maxRecDepth 16384

noncomputable section

namespace Cert.Proof.Ker

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The kernel program runs, and every buffer of the host ends at the last boundary's contents. -/
theorem run : θ_run defs (onTc (τ := τ) (main (F := F))) ⟨m, fun _ => 0, ρ⟩ (fun r => ∀ (c : Dev nD) (b : Ref sig .tc),
      ¬ (Proc.devRef .tc b : DevRef τ sig).isScoped → r.2.mem ((c.tc : Thread nD τ).loc b) = W9 m ρ c (Proc.devRef .tc b)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h hz c b hb => h c _ (mem_uc b hb))

/-- The host operations between the two regions. -/
def mid : List (HloOp τ sig (Elt F)) := hostOps1 ++ (hostOps1_1 ++ (hostOps1_2 ++ (hostOps1_3 ++ hostOps1_4)))

/-- They are in single-assignment form. -/
theorem ssa_mid : Ssa 6 (mid (F := F)) 300 :=
  ssa_hostOps1.append (ssa_hostOps1_1.append (ssa_hostOps1_2.append (ssa_hostOps1_3.append ssa_hostOps1_4)))

/-- The second region's entry contents are what these operations leave of the first region's exit contents. -/
theorem W7_eq (c : Dev nD) : W7 m ρ c = StableHlo.after mid (W2 m ρ c) := by
  simp only [mid, StableHlo.after_append]

/-- The contents on entry to the second region satisfy the equations of the operations between the regions. -/
theorem mid_fix (c : Dev nD) : ∀ op ∈ mid (F := F), op.result (W7 m ρ c) = W7 m ρ c := by
  rw [W7_eq]; exact ssa_mid.fix _

/-- Those operations leave everything before them. -/
theorem mid_keeps (c : Dev nD) (q : Ref sig .tc) (hq : pos q < 6) :
    W7 m ρ c (Proc.devRef .tc q) = W2 m ρ c (Proc.devRef .tc q) := by
  rw [W7_eq]; exact ssa_mid.keeps _ q hq

/-- The contents at the end satisfy the equations of the operations after the regions. -/
theorem end_fix (c : Dev nD) : ∀ op ∈ hostOps2 (F := F), op.result (W9 m ρ c) = W9 m ρ c := ssa_hostOps2.fix _

/-- The kernel program's and the reference's valuations are in step. -/
theorem step {m : (ℓ : Loc nD τ sig) → Buf (Elt Ideal) ℓ} (ρ : Dev nD → PrngReg)
    {m' : (ℓ : Loc ReferenceIdeal.nD ReferenceIdeal.τ ReferenceIdeal.sig) → Buf (Elt Ideal) ℓ} (c : Dev nD)
    (h3 : m' ((c.tc : Thread ReferenceIdeal.nD ReferenceIdeal.τ).loc ReferenceIdeal.main_arg3)
      = m ((c.tc : Thread nD τ).loc main_arg3)) :
    Lock.Step (F := Ideal) (W7 m ρ c) (Ref.fin m' c) where
  hostOps1 op h := mid_fix m ρ c op (by simp only [mid, List.mem_append]; tauto)
  hostOps1_1 op h := mid_fix m ρ c op (by simp only [mid, List.mem_append]; tauto)
  hostOps1_2 op h := mid_fix m ρ c op (by simp only [mid, List.mem_append]; tauto)
  hostOps1_3 op h := mid_fix m ρ c op (by simp only [mid, List.mem_append]; tauto)
  hostOps1_4 op h := mid_fix m ρ c op (by simp only [mid, List.mem_append]; tauto)
  ops0 op h := Ref.fin_fix m' c op (by simp only [Ref.ops, List.mem_append]; tauto)
  ops1 op h := Ref.fin_fix m' c op (by simp only [Ref.ops, List.mem_append]; tauto)
  ops2 op h := Ref.fin_fix m' c op (by simp only [Ref.ops, List.mem_append]; tauto)
  ops3 op h := Ref.fin_fix m' c op (by simp only [Ref.ops, List.mem_append]; tauto)
  ops4 op h := Ref.fin_fix m' c op (by simp only [Ref.ops, List.mem_append]; tauto)
  ops5 op h := Ref.fin_fix m' c op (by simp only [Ref.ops, List.mem_append]; tauto)
  arg3 := (W7_args m ρ c main_arg3 (by simp)).trans (h3.symm.trans (Ref.fin_arg m' c ReferenceIdeal.main_arg3 (by decide)).symm)

end Cert.Proof.Ker

end
-- ==== Proof.KerVals.lean ====
/- What the kernel program's values outside its two regions are: each is its operation's function of the values it is
   computed from. -/
module

public import proofs.«01_k».proof.Proof.KerRun

@[expose] public section

set_option maxRecDepth 4000

noncomputable section

namespace Cert.Proof.Ker

open Idealize.ShloMosaic Idealize.ShloMosaic.TcCoe Idealize.SL.Sem
open Idealize.ShloMosaic.StableHlo (TRef)
open Cert.KernelIdeal Cert.KernelIdeal.Facts₀
open Cert.KernelIdeal.Gen (hostOps0 hostOps1 hostOps1_1 hostOps1_2 hostOps1_3 hostOps1_4 hostOps2 W0 W1 W2 W7 W8 W9)

variable {F : FTy → Type} [FloatOps F]

/-- The operation before the first region is in single-assignment form. -/
theorem ssa_hostOps0 : Ssa 4 (hostOps0 (F := F)) 5 := by
  refine .reshape _ _ _ _ _ _ (by decide) ?_
  exact .nil _

section
variable (m : (ℓ : Loc nD τ sig) → Buf (Elt F) ℓ) (ρ : Dev nD → PrngReg) (c : Dev nD)

/-- The first region's left operand is the first argument, reshaped. -/
theorem k_v0 : rd (W1 m ρ c) (.of main_v0 : TRef sig ⟨S8192x512, .f32⟩)
    = shapeCast S8192x512 (rd (W1 m ρ c) (.of main_arg0 : TRef sig ⟨S2x4096x512, .f32⟩)) shapeCasts_S2x4096x512_S8192x512 :=
  rd_reshape (hn := shapeCasts_S2x4096x512_S8192x512) (ssa_hostOps0.fix (W0 m ρ c) _ (Lock.at_ 0 rfl))

/-- The first result is what the first region leaves, reshaped. -/
theorem k_v2 : rd (W7 m ρ c) (.of main_v2 : TRef sig ⟨S2x4096x512, .f32⟩)
    = shapeCast S2x4096x512 (rd (W7 m ρ c) (.of main_v1 : TRef sig ⟨S8192x512, .f32⟩)) shapeCasts_S8192x512_S2x4096x512 :=
  rd_reshape (hn := shapeCasts_S8192x512_S2x4096x512)
    (mid_fix m ρ c _ (List.mem_append_left _ (Lock.at_ (l := hostOps1) 0 rfl)))

/-- The scale the second region takes is the exponential, as an array of one element. -/
theorem k_v18 : rd (W7 m ρ c) (.of main_v18 : TRef sig ⟨S1x1, .f32⟩)
    = shapeCast S1x1 (rd (W7 m ρ c) (.of main_v17 : TRef sig ⟨S_, .f32⟩)) shapeCasts_S_S1x1 :=
  rd_reshape (hn := shapeCasts_S_S1x1)
    (mid_fix m ρ c _ (List.mem_append_right _ (List.mem_append_right _ (List.mem_append_right _ (List.mem_append_right _
      (Lock.at_ (l := hostOps1_4) 1 rfl))))))

end

variable {V : Valuation τ sig (Elt F)}

/-- A valuation that satisfies the equations of the operations after the second region. -/
def Tail (V : Valuation τ sig (Elt F)) : Prop := ∀ op ∈ hostOps2 (F := F), op.result V = V

/-- What buffer `main_v20` holds. -/
theorem k_v20 (h : Tail V) : rd V (.of main_v20 : TRef sig ⟨S4096, .i32⟩) = iotaInDim S4096 32 0 :=
  rd_nullary (Ty := ⟨S4096, .i32⟩) (h _ (Lock.at_ 0 rfl))

/-- What buffer `main_v21` holds. -/
theorem k_v21 (h : Tail V) : rd V (.of main_v21 : TRef sig ⟨S1x4096x1, .i32⟩) = (broadcastInDim S1x4096x1 ![1] bcast_S4096_S1x4096x1_1) (rd V (.of main_v20 : TRef sig ⟨S4096, .i32⟩)) :=
  rd_unary (Ta := ⟨S4096, .i32⟩) (Ty := ⟨S1x4096x1, .i32⟩) (f := (broadcastInDim S1x4096x1 ![1] bcast_S4096_S1x4096x1_1)) (h _ (Lock.at_ 1 rfl))

/-- What buffer `main_v22` holds. -/
theorem k_v22 (h : Tail V) : rd V (.of main_v22 : TRef sig ⟨S2x4096x16, .i32⟩) = (broadcastInDim S2x4096x16 ![0, 1, 2] bcast_S1x4096x1_S2x4096x16_0_1_2) (rd V (.of main_v21 : TRef sig ⟨S1x4096x1, .i32⟩)) :=
  rd_unary (Ta := ⟨S1x4096x1, .i32⟩) (Ty := ⟨S2x4096x16, .i32⟩) (f := (broadcastInDim S2x4096x16 ![0, 1, 2] bcast_S1x4096x1_S2x4096x16_0_1_2)) (h _ (Lock.at_ 2 rfl))

/-- What buffer `main_v23` holds. -/
theorem k_v23 (h : Tail V) : rd V (.of main_v23 : TRef sig ⟨S2, .i32⟩) = iotaInDim S2 32 0 :=
  rd_nullary (Ty := ⟨S2, .i32⟩) (h _ (Lock.at_ 3 rfl))

/-- What buffer `main_c_6` holds. -/
theorem k_c_6 (h : Tail V) : rd V (.of main_c_6 : TRef sig ⟨S_, .i32⟩) = constantI S_ 32 4096#32 :=
  rd_nullary (Ty := ⟨S_, .i32⟩) (h _ (Lock.at_ 4 rfl))

/-- What buffer `main_v24` holds. -/
theorem k_v24 (h : Tail V) : rd V (.of main_v24 : TRef sig ⟨S2, .i32⟩) = (broadcastInDim S2 ![] bcast_S_S2) (rd V (.of main_c_6 : TRef sig ⟨S_, .i32⟩)) :=
  rd_unary (Ta := ⟨S_, .i32⟩) (Ty := ⟨S2, .i32⟩) (f := (broadcastInDim S2 ![] bcast_S_S2)) (h _ (Lock.at_ 5 rfl))

/-- What buffer `main_v25` holds. -/
theorem k_v25 (h : Tail V) : rd V (.of main_v25 : TRef sig ⟨S2, .i32⟩) = muli (rd V (.of main_v23 : TRef sig ⟨S2, .i32⟩)) (rd V (.of main_v24 : TRef sig ⟨S2, .i32⟩)) :=
  rd_binary (Ta := ⟨S2, .i32⟩) (Tb := ⟨S2, .i32⟩) (Ty := ⟨S2, .i32⟩) (f := muli) (h _ (Lock.at_ 6 rfl))

/-- What buffer `main_v26` holds. -/
theorem k_v26 (h : Tail V) : rd V (.of main_v26 : TRef sig ⟨S2x1x1, .i32⟩) = (broadcastInDim S2x1x1 ![0] bcast_S2_S2x1x1_0) (rd V (.of main_v25 : TRef sig ⟨S2, .i32⟩)) :=
  rd_unary (Ta := ⟨S2, .i32⟩) (Ty := ⟨S2x1x1, .i32⟩) (f := (broadcastInDim S2x1x1 ![0] bcast_S2_S2x1x1_0)) (h _ (Lock.at_ 7 rfl))

/-- What buffer `main_v27` holds. -/
theorem k_v27 (h : Tail V) : rd V (.of main_v27 : TRef sig ⟨S2x4096x16, .i32⟩) = (broadcastInDim S2x4096x16 ![0, 1, 2] bcast_S2x1x1_S2x4096x16_0_1_2) (rd V (.of main_v26 : TRef sig ⟨S2x1x1, .i32⟩)) :=
  rd_unary (Ta := ⟨S2x1x1, .i32⟩) (Ty := ⟨S2x4096x16, .i32⟩) (f := (broadcastInDim S2x4096x16 ![0, 1, 2] bcast_S2x1x1_S2x4096x16_0_1_2)) (h _ (Lock.at_ 8 rfl))

/-- What buffer `main_v28` holds. -/
theorem k_v28 (h : Tail V) : rd V (.of main_v28 : TRef sig ⟨S2x4096x16, .i32⟩) = addi (rd V (.of main_v22 : TRef sig ⟨S2x4096x16, .i32⟩)) (rd V (.of main_v27 : TRef sig ⟨S2x4096x16, .i32⟩)) :=
  rd_binary (Ta := ⟨S2x4096x16, .i32⟩) (Tb := ⟨S2x4096x16, .i32⟩) (Ty := ⟨S2x4096x16, .i32⟩) (f := addi) (h _ (Lock.at_ 9 rfl))

/-- What buffer `main_v29` holds. -/
theorem k_v29 (h : Tail V) : rd V (.of main_v29 : TRef sig ⟨S131072, .i32⟩) = shapeCast S131072 (rd V (.of main_v28 : TRef sig ⟨S2x4096x16, .i32⟩)) shapeCasts_S2x4096x16_S131072 :=
  rd_reshape (hn := shapeCasts_S2x4096x16_S131072) (h _ (Lock.at_ 10 rfl))

/-- What buffer `main_v30` holds. -/
theorem k_v30 (h : Tail V) : rd V (.of main_v30 : TRef sig ⟨S131072, .i32⟩) = shapeCast S131072 (rd V (.of main_v19_1 : TRef sig ⟨S2x4096x16, .i32⟩)) shapeCasts_S2x4096x16_S131072 :=
  rd_reshape (hn := shapeCasts_S2x4096x16_S131072) (h _ (Lock.at_ 11 rfl))

/-- What buffer `main_v31` holds. -/
theorem k_v31 (h : Tail V) : rd V (.of main_v31 : TRef sig ⟨S1x131072, .i32⟩) = (broadcastInDim S1x131072 ![1] bcast_S131072_S1x131072_1) (rd V (.of main_v29 : TRef sig ⟨S131072, .i32⟩)) :=
  rd_unary (Ta := ⟨S131072, .i32⟩) (Ty := ⟨S1x131072, .i32⟩) (f := (broadcastInDim S1x131072 ![1] bcast_S131072_S1x131072_1)) (h _ (Lock.at_ 12 rfl))

/-- What buffer `main_v32` holds. -/
theorem k_v32 (h : Tail V) : rd V (.of main_v32 : TRef sig ⟨S1x131072, .i32⟩) = (broadcastInDim S1x131072 ![1] bcast_S131072_S1x131072_1) (rd V (.of main_v30 : TRef sig ⟨S131072, .i32⟩)) :=
  rd_unary (Ta := ⟨S131072, .i32⟩) (Ty := ⟨S1x131072, .i32⟩) (f := (broadcastInDim S1x131072 ![1] bcast_S131072_S1x131072_1)) (h _ (Lock.at_ 13 rfl))

/-- What buffer `main_v33` holds. -/
theorem k_v33 (h : Tail V) : rd V (.of main_v33 : TRef sig ⟨S2x131072, .i32⟩) = (fun a b => concatenate S2x131072 0 [⟨S1x131072, a⟩, ⟨S1x131072, b⟩] concatenates_S1x131072_S1x131072_S2x131072_d0) (rd V (.of main_v31 : TRef sig ⟨S1x131072, .i32⟩)) (rd V (.of main_v32 : TRef sig ⟨S1x131072, .i32⟩)) :=
  rd_binary (Ta := ⟨S1x131072, .i32⟩) (Tb := ⟨S1x131072, .i32⟩) (Ty := ⟨S2x131072, .i32⟩) (f := (fun a b => concatenate S2x131072 0 [⟨S1x131072, a⟩, ⟨S1x131072, b⟩] concatenates_S1x131072_S1x131072_S2x131072_d0)) (h _ (Lock.at_ 14 rfl))

end Cert.Proof.Ker

end
-- ==== Proof.RefVals.lean ====
/- What the reference's values are, one by one: each is its operation's function of the values it is computed from. -/
module

public import proofs.«01_k».proof.Proof.RefOps

@[expose] public section

set_option maxRecDepth 4000

noncomputable section

namespace Cert.Proof.Ref

open Idealize.ShloMosaic Idealize.ShloMosaic.TcCoe Idealize.SL.Sem
open Idealize.ShloMosaic.StableHlo (TRef)
open Cert.ReferenceIdeal Cert.ReferenceIdeal.Facts₀

variable {F : FTy → Type} [FloatOps F]

/-- A valuation that satisfies the equations of the operations that are not the random bits'. -/
structure Eqs (W : Valuation τ sig (Elt F)) : Prop where
  ops0 : ∀ op ∈ Ref.ops0 (F := F), op.result W = W
  ops5 : ∀ op ∈ Ref.ops5 (F := F), op.result W = W

/-- A list's element by its place. -/
theorem at_ {α : Type*} {l : List α} {a : α} (i : ℕ) (h : l[i]? = some a) : a ∈ l := List.mem_of_getElem? h

variable {W : Valuation τ sig (Elt F)}

/-- What buffer `main_v0` holds. -/
theorem e_v0 (h : Eqs W) : rd W (.of main_v0 : TRef sig ⟨S8192x512, .f32⟩) = shapeCast S8192x512 (rd W (.of main_arg0 : TRef sig ⟨S2x4096x512, .f32⟩)) shapeCasts_S2x4096x512_S8192x512 :=
  rd_reshape (hn := shapeCasts_S2x4096x512_S8192x512) (h.ops0 _ (at_ 0 rfl))

/-- What buffer `main_v1` holds. -/
theorem e_v1 (h : Eqs W) : rd W (.of main_v1 : TRef sig ⟨S8192x512, .f32⟩) = (fun l r => Host.dotGeneral dot_S8192x512_S512x512_S8192x512_1_0_0_1_n_n none l r) (rd W (.of main_v0 : TRef sig ⟨S8192x512, .f32⟩)) (rd W (.of main_arg2 : TRef sig ⟨S512x512, .f32⟩)) :=
  rd_binary (Ta := ⟨S8192x512, .f32⟩) (Tb := ⟨S512x512, .f32⟩) (Ty := ⟨S8192x512, .f32⟩) (f := (fun l r => Host.dotGeneral dot_S8192x512_S512x512_S8192x512_1_0_0_1_n_n none l r)) (h.ops0 _ (at_ 1 rfl))

/-- What buffer `main_v2` holds. -/
theorem e_v2 (h : Eqs W) : rd W (.of main_v2 : TRef sig ⟨S2x4096x512, .f32⟩) = shapeCast S2x4096x512 (rd W (.of main_v1 : TRef sig ⟨S8192x512, .f32⟩)) shapeCasts_S8192x512_S2x4096x512 :=
  rd_reshape (hn := shapeCasts_S8192x512_S2x4096x512) (h.ops0 _ (at_ 2 rfl))

/-- What buffer `main_v3` holds. -/
theorem e_v3 (h : Eqs W) : rd W (.of main_v3 : TRef sig ⟨S2x4096x512, .f32⟩) = mulf (rd W (.of main_v2 : TRef sig ⟨S2x4096x512, .f32⟩)) (rd W (.of main_v2 : TRef sig ⟨S2x4096x512, .f32⟩)) :=
  rd_binary (Ta := ⟨S2x4096x512, .f32⟩) (Tb := ⟨S2x4096x512, .f32⟩) (Ty := ⟨S2x4096x512, .f32⟩) (f := mulf) (h.ops0 _ (at_ 3 rfl))

/-- What buffer `main_cst` holds. -/
theorem e_cst (h : Eqs W) : rd W (.of main_cst : TRef sig ⟨S_, .f32⟩) = (constant S_ .f32 0x00000000#32) :=
  rd_nullary (Ty := ⟨S_, .f32⟩) (h.ops0 _ (at_ 4 rfl))

/-- What buffer `main_v4` holds. -/
theorem e_v4 (h : Eqs W) : rd W (.of main_v4 : TRef sig ⟨S2x4096, .f32⟩) = (fun x v => Host.reduceAdd x v reducesTo_S2x4096x512_S2x4096_d2 h_S_) (rd W (.of main_v3 : TRef sig ⟨S2x4096x512, .f32⟩)) (rd W (.of main_cst : TRef sig ⟨S_, .f32⟩)) :=
  rd_binary (Ta := ⟨S2x4096x512, .f32⟩) (Tb := ⟨S_, .f32⟩) (Ty := ⟨S2x4096, .f32⟩) (f := (fun x v => Host.reduceAdd x v reducesTo_S2x4096x512_S2x4096_d2 h_S_)) (h.ops0 _ (at_ 5 rfl))

/-- What buffer `main_v5` holds. -/
theorem e_v5 (h : Eqs W) : rd W (.of main_v5 : TRef sig ⟨S2x4096x1, .f32⟩) = (broadcastInDim S2x4096x1 ![0, 1] bcast_S2x4096_S2x4096x1_0_1) (rd W (.of main_v4 : TRef sig ⟨S2x4096, .f32⟩)) :=
  rd_unary (Ta := ⟨S2x4096, .f32⟩) (Ty := ⟨S2x4096x1, .f32⟩) (f := (broadcastInDim S2x4096x1 ![0, 1] bcast_S2x4096_S2x4096x1_0_1)) (h.ops0 _ (at_ 6 rfl))

/-- What buffer `main_v6` holds. -/
theorem e_v6 (h : Eqs W) : rd W (.of main_v6 : TRef sig ⟨S2x1x4096, .f32⟩) = (broadcastInDim S2x1x4096 ![0, 2] bcast_S2x4096_S2x1x4096_0_2) (rd W (.of main_v4 : TRef sig ⟨S2x4096, .f32⟩)) :=
  rd_unary (Ta := ⟨S2x4096, .f32⟩) (Ty := ⟨S2x1x4096, .f32⟩) (f := (broadcastInDim S2x1x4096 ![0, 2] bcast_S2x4096_S2x1x4096_0_2)) (h.ops0 _ (at_ 7 rfl))

/-- What buffer `main_v7` holds. -/
theorem e_v7 (h : Eqs W) : rd W (.of main_v7 : TRef sig ⟨S2x4096x4096, .f32⟩) = (broadcastInDim S2x4096x4096 ![0, 1, 2] bcast_S2x4096x1_S2x4096x4096_0_1_2) (rd W (.of main_v5 : TRef sig ⟨S2x4096x1, .f32⟩)) :=
  rd_unary (Ta := ⟨S2x4096x1, .f32⟩) (Ty := ⟨S2x4096x4096, .f32⟩) (f := (broadcastInDim S2x4096x4096 ![0, 1, 2] bcast_S2x4096x1_S2x4096x4096_0_1_2)) (h.ops0 _ (at_ 8 rfl))

/-- What buffer `main_v8` holds. -/
theorem e_v8 (h : Eqs W) : rd W (.of main_v8 : TRef sig ⟨S2x4096x4096, .f32⟩) = (broadcastInDim S2x4096x4096 ![0, 1, 2] bcast_S2x1x4096_S2x4096x4096_0_1_2) (rd W (.of main_v6 : TRef sig ⟨S2x1x4096, .f32⟩)) :=
  rd_unary (Ta := ⟨S2x1x4096, .f32⟩) (Ty := ⟨S2x4096x4096, .f32⟩) (f := (broadcastInDim S2x4096x4096 ![0, 1, 2] bcast_S2x1x4096_S2x4096x4096_0_1_2)) (h.ops0 _ (at_ 9 rfl))

/-- What buffer `main_v9` holds. -/
theorem e_v9 (h : Eqs W) : rd W (.of main_v9 : TRef sig ⟨S2x4096x4096, .f32⟩) = addf (rd W (.of main_v7 : TRef sig ⟨S2x4096x4096, .f32⟩)) (rd W (.of main_v8 : TRef sig ⟨S2x4096x4096, .f32⟩)) :=
  rd_binary (Ta := ⟨S2x4096x4096, .f32⟩) (Tb := ⟨S2x4096x4096, .f32⟩) (Ty := ⟨S2x4096x4096, .f32⟩) (f := addf) (h.ops0 _ (at_ 10 rfl))

/-- What buffer `main_v10` holds. -/
theorem e_v10 (h : Eqs W) : rd W (.of main_v10 : TRef sig ⟨S2x4096x4096, .f32⟩) = (fun l r => Host.dotGeneral dot_S2x4096x512_S2x4096x512_S2x4096x4096_2_2_1_1_0_0 none l r) (rd W (.of main_v2 : TRef sig ⟨S2x4096x512, .f32⟩)) (rd W (.of main_v2 : TRef sig ⟨S2x4096x512, .f32⟩)) :=
  rd_binary (Ta := ⟨S2x4096x512, .f32⟩) (Tb := ⟨S2x4096x512, .f32⟩) (Ty := ⟨S2x4096x4096, .f32⟩) (f := (fun l r => Host.dotGeneral dot_S2x4096x512_S2x4096x512_S2x4096x4096_2_2_1_1_0_0 none l r)) (h.ops0 _ (at_ 11 rfl))

/-- What buffer `main_cst_0` holds. -/
theorem e_cst_0 (h : Eqs W) : rd W (.of main_cst_0 : TRef sig ⟨S_, .f32⟩) = (constant S_ .f32 0x40000000#32) :=
  rd_nullary (Ty := ⟨S_, .f32⟩) (h.ops0 _ (at_ 12 rfl))

/-- What buffer `main_v11` holds. -/
theorem e_v11 (h : Eqs W) : rd W (.of main_v11 : TRef sig ⟨S2x4096x4096, .f32⟩) = (broadcastInDim S2x4096x4096 ![] bcast_S_S2x4096x4096) (rd W (.of main_cst_0 : TRef sig ⟨S_, .f32⟩)) :=
  rd_unary (Ta := ⟨S_, .f32⟩) (Ty := ⟨S2x4096x4096, .f32⟩) (f := (broadcastInDim S2x4096x4096 ![] bcast_S_S2x4096x4096)) (h.ops0 _ (at_ 13 rfl))

/-- What buffer `main_v12` holds. -/
theorem e_v12 (h : Eqs W) : rd W (.of main_v12 : TRef sig ⟨S2x4096x4096, .f32⟩) = mulf (rd W (.of main_v11 : TRef sig ⟨S2x4096x4096, .f32⟩)) (rd W (.of main_v10 : TRef sig ⟨S2x4096x4096, .f32⟩)) :=
  rd_binary (Ta := ⟨S2x4096x4096, .f32⟩) (Tb := ⟨S2x4096x4096, .f32⟩) (Ty := ⟨S2x4096x4096, .f32⟩) (f := mulf) (h.ops0 _ (at_ 14 rfl))

/-- What buffer `main_v13` holds. -/
theorem e_v13 (h : Eqs W) : rd W (.of main_v13 : TRef sig ⟨S2x4096x4096, .f32⟩) = subf (rd W (.of main_v9 : TRef sig ⟨S2x4096x4096, .f32⟩)) (rd W (.of main_v12 : TRef sig ⟨S2x4096x4096, .f32⟩)) :=
  rd_binary (Ta := ⟨S2x4096x4096, .f32⟩) (Tb := ⟨S2x4096x4096, .f32⟩) (Ty := ⟨S2x4096x4096, .f32⟩) (f := subf) (h.ops0 _ (at_ 15 rfl))

/-- What buffer `main_cst_1` holds. -/
theorem e_cst_1 (h : Eqs W) : rd W (.of main_cst_1 : TRef sig ⟨S_, .f32⟩) = (constant S_ .f32 0x00000000#32) :=
  rd_nullary (Ty := ⟨S_, .f32⟩) (h.ops0 _ (at_ 16 rfl))

/-- What buffer `main_v14` holds. -/
theorem e_v14 (h : Eqs W) : rd W (.of main_v14 : TRef sig ⟨S2x4096x4096, .f32⟩) = (broadcastInDim S2x4096x4096 ![] bcast_S_S2x4096x4096) (rd W (.of main_cst_1 : TRef sig ⟨S_, .f32⟩)) :=
  rd_unary (Ta := ⟨S_, .f32⟩) (Ty := ⟨S2x4096x4096, .f32⟩) (f := (broadcastInDim S2x4096x4096 ![] bcast_S_S2x4096x4096)) (h.ops0 _ (at_ 17 rfl))

/-- What buffer `main_v15` holds. -/
theorem e_v15 (h : Eqs W) : rd W (.of main_v15 : TRef sig ⟨S2x4096x4096, .f32⟩) = maximumf (rd W (.of main_v13 : TRef sig ⟨S2x4096x4096, .f32⟩)) (rd W (.of main_v14 : TRef sig ⟨S2x4096x4096, .f32⟩)) :=
  rd_binary (Ta := ⟨S2x4096x4096, .f32⟩) (Tb := ⟨S2x4096x4096, .f32⟩) (Ty := ⟨S2x4096x4096, .f32⟩) (f := maximumf) (h.ops0 _ (at_ 18 rfl))

/-- What buffer `main_cst_2` holds. -/
theorem e_cst_2 (h : Eqs W) : rd W (.of main_cst_2 : TRef sig ⟨S_, .f32⟩) = (constant S_ .f32 0xC0A00000#32) :=
  rd_nullary (Ty := ⟨S_, .f32⟩) (h.ops0 _ (at_ 19 rfl))

/-- What buffer `main_cst_3` holds. -/
theorem e_cst_3 (h : Eqs W) : rd W (.of main_cst_3 : TRef sig ⟨S_, .f32⟩) = (constant S_ .f32 0x40A00000#32) :=
  rd_nullary (Ty := ⟨S_, .f32⟩) (h.ops0 _ (at_ 20 rfl))

/-- What buffer `main_call0_v0` holds. -/
theorem e_call0_v0 (h : Eqs W) : rd W (.of main_call0_v0 : TRef sig ⟨S_, .f32⟩) = id (rd W (.of main_cst_2 : TRef sig ⟨S_, .f32⟩)) :=
  rd_unary (Ta := ⟨S_, .f32⟩) (Ty := ⟨S_, .f32⟩) (f := id) (h.ops0 _ (at_ 21 rfl))

/-- What buffer `main_call0_v1` holds. -/
theorem e_call0_v1 (h : Eqs W) : rd W (.of main_call0_v1 : TRef sig ⟨S_, .f32⟩) = maximumf (rd W (.of main_call0_v0 : TRef sig ⟨S_, .f32⟩)) (rd W (.of main_arg3 : TRef sig ⟨S_, .f32⟩)) :=
  rd_binary (Ta := ⟨S_, .f32⟩) (Tb := ⟨S_, .f32⟩) (Ty := ⟨S_, .f32⟩) (f := maximumf) (h.ops0 _ (at_ 22 rfl))

/-- What buffer `main_call0_v2` holds. -/
theorem e_call0_v2 (h : Eqs W) : rd W (.of main_call0_v2 : TRef sig ⟨S_, .f32⟩) = id (rd W (.of main_cst_3 : TRef sig ⟨S_, .f32⟩)) :=
  rd_unary (Ta := ⟨S_, .f32⟩) (Ty := ⟨S_, .f32⟩) (f := id) (h.ops0 _ (at_ 23 rfl))

/-- What buffer `main_v16` holds. -/
theorem e_v16 (h : Eqs W) : rd W (.of main_v16 : TRef sig ⟨S_, .f32⟩) = minimumf (rd W (.of main_call0_v2 : TRef sig ⟨S_, .f32⟩)) (rd W (.of main_call0_v1 : TRef sig ⟨S_, .f32⟩)) :=
  rd_binary (Ta := ⟨S_, .f32⟩) (Tb := ⟨S_, .f32⟩) (Ty := ⟨S_, .f32⟩) (f := minimumf) (h.ops0 _ (at_ 24 rfl))

/-- What buffer `main_v17` holds. -/
theorem e_v17 (h : Eqs W) : rd W (.of main_v17 : TRef sig ⟨S_, .f32⟩) = Host.exp (rd W (.of main_v16 : TRef sig ⟨S_, .f32⟩)) :=
  rd_unary (Ta := ⟨S_, .f32⟩) (Ty := ⟨S_, .f32⟩) (f := Host.exp) (h.ops0 _ (at_ 25 rfl))

/-- What buffer `main_v18` holds. -/
theorem e_v18 (h : Eqs W) : rd W (.of main_v18 : TRef sig ⟨S2x4096x4096, .f32⟩) = (broadcastInDim S2x4096x4096 ![] bcast_S_S2x4096x4096) (rd W (.of main_v17 : TRef sig ⟨S_, .f32⟩)) :=
  rd_unary (Ta := ⟨S_, .f32⟩) (Ty := ⟨S2x4096x4096, .f32⟩) (f := (broadcastInDim S2x4096x4096 ![] bcast_S_S2x4096x4096)) (h.ops0 _ (at_ 26 rfl))

/-- What buffer `main_v19` holds. -/
theorem e_v19 (h : Eqs W) : rd W (.of main_v19 : TRef sig ⟨S2x4096x4096, .f32⟩) = mulf (rd W (.of main_v15 : TRef sig ⟨S2x4096x4096, .f32⟩)) (rd W (.of main_v18 : TRef sig ⟨S2x4096x4096, .f32⟩)) :=
  rd_binary (Ta := ⟨S2x4096x4096, .f32⟩) (Tb := ⟨S2x4096x4096, .f32⟩) (Ty := ⟨S2x4096x4096, .f32⟩) (f := mulf) (h.ops0 _ (at_ 27 rfl))

/-- What buffer `main_cst_6` holds. -/
theorem e_cst_6 (h : Eqs W) : rd W (.of main_cst_6 : TRef sig ⟨S_, .f32⟩) = (constant S_ .f32 0x00000000#32) :=
  rd_nullary (Ty := ⟨S_, .f32⟩) (h.ops0 _ (at_ 38 rfl))

/-- What buffer `main_cst_7` holds. -/
theorem e_cst_7 (h : Eqs W) : rd W (.of main_cst_7 : TRef sig ⟨S_, .f32⟩) = (constant S_ .f32 0x3F800000#32) :=
  rd_nullary (Ty := ⟨S_, .f32⟩) (h.ops0 _ (at_ 39 rfl))

/-- What buffer `main_call1_v0` holds. -/
theorem e_call1_v0 (h : Eqs W) : rd W (.of main_call1_v0 : TRef sig ⟨S_, .f32⟩) = id (rd W (.of main_cst_6 : TRef sig ⟨S_, .f32⟩)) :=
  rd_unary (Ta := ⟨S_, .f32⟩) (Ty := ⟨S_, .f32⟩) (f := id) (h.ops0 _ (at_ 40 rfl))

/-- What buffer `main_call1_v1` holds. -/
theorem e_call1_v1 (h : Eqs W) : rd W (.of main_call1_v1 : TRef sig ⟨S_, .f32⟩) = id (rd W (.of main_cst_7 : TRef sig ⟨S_, .f32⟩)) :=
  rd_unary (Ta := ⟨S_, .f32⟩) (Ty := ⟨S_, .f32⟩) (f := id) (h.ops0 _ (at_ 41 rfl))

/-- What buffer `main_call1_v2` holds. -/
theorem e_call1_v2 (h : Eqs W) : rd W (.of main_call1_v2 : TRef sig ⟨S1x1x1, .f32⟩) = (broadcastInDim S1x1x1 ![] bcast_S_S1x1x1) (rd W (.of main_call1_v0 : TRef sig ⟨S_, .f32⟩)) :=
  rd_unary (Ta := ⟨S_, .f32⟩) (Ty := ⟨S1x1x1, .f32⟩) (f := (broadcastInDim S1x1x1 ![] bcast_S_S1x1x1)) (h.ops0 _ (at_ 42 rfl))

/-- What buffer `main_call1_v3` holds. -/
theorem e_call1_v3 (h : Eqs W) : rd W (.of main_call1_v3 : TRef sig ⟨S1x1x1, .f32⟩) = (broadcastInDim S1x1x1 ![] bcast_S_S1x1x1) (rd W (.of main_call1_v1 : TRef sig ⟨S_, .f32⟩)) :=
  rd_unary (Ta := ⟨S_, .f32⟩) (Ty := ⟨S1x1x1, .f32⟩) (f := (broadcastInDim S1x1x1 ![] bcast_S_S1x1x1)) (h.ops0 _ (at_ 43 rfl))

/-- What buffer `main_call1_c_3` holds. -/
theorem e_call1_c_3 (h : Eqs W) : rd W (.of main_call1_c_3 : TRef sig ⟨S_, .i32⟩) = (constantI S_ 32 9#32) :=
  rd_nullary (Ty := ⟨S_, .i32⟩) (h.ops5 _ (at_ 10 rfl))

/-- What buffer `main_call1_v25` holds. -/
theorem e_call1_v25 (h : Eqs W) : rd W (.of main_call1_v25 : TRef sig ⟨S2x4096x4096, .i32⟩) = (broadcastInDim S2x4096x4096 ![] bcast_S_S2x4096x4096) (rd W (.of main_call1_c_3 : TRef sig ⟨S_, .i32⟩)) :=
  rd_unary (Ta := ⟨S_, .i32⟩) (Ty := ⟨S2x4096x4096, .i32⟩) (f := (broadcastInDim S2x4096x4096 ![] bcast_S_S2x4096x4096)) (h.ops5 _ (at_ 11 rfl))

/-- What buffer `main_call1_v26` holds. -/
theorem e_call1_v26 (h : Eqs W) : rd W (.of main_call1_v26 : TRef sig ⟨S2x4096x4096, .i32⟩) = Host.shrui (rd W (.of main_call1_v24 : TRef sig ⟨S2x4096x4096, .i32⟩)) (rd W (.of main_call1_v25 : TRef sig ⟨S2x4096x4096, .i32⟩)) :=
  rd_binary (Ta := ⟨S2x4096x4096, .i32⟩) (Tb := ⟨S2x4096x4096, .i32⟩) (Ty := ⟨S2x4096x4096, .i32⟩) (f := Host.shrui) (h.ops5 _ (at_ 12 rfl))

/-- What buffer `main_call1_c_4` holds. -/
theorem e_call1_c_4 (h : Eqs W) : rd W (.of main_call1_c_4 : TRef sig ⟨S_, .i32⟩) = (constantI S_ 32 1065353216#32) :=
  rd_nullary (Ty := ⟨S_, .i32⟩) (h.ops5 _ (at_ 13 rfl))

/-- What buffer `main_call1_v27` holds. -/
theorem e_call1_v27 (h : Eqs W) : rd W (.of main_call1_v27 : TRef sig ⟨S2x4096x4096, .i32⟩) = (broadcastInDim S2x4096x4096 ![] bcast_S_S2x4096x4096) (rd W (.of main_call1_c_4 : TRef sig ⟨S_, .i32⟩)) :=
  rd_unary (Ta := ⟨S_, .i32⟩) (Ty := ⟨S2x4096x4096, .i32⟩) (f := (broadcastInDim S2x4096x4096 ![] bcast_S_S2x4096x4096)) (h.ops5 _ (at_ 14 rfl))

/-- What buffer `main_call1_v28` holds. -/
theorem e_call1_v28 (h : Eqs W) : rd W (.of main_call1_v28 : TRef sig ⟨S2x4096x4096, .i32⟩) = ori (rd W (.of main_call1_v26 : TRef sig ⟨S2x4096x4096, .i32⟩)) (rd W (.of main_call1_v27 : TRef sig ⟨S2x4096x4096, .i32⟩)) :=
  rd_binary (Ta := ⟨S2x4096x4096, .i32⟩) (Tb := ⟨S2x4096x4096, .i32⟩) (Ty := ⟨S2x4096x4096, .i32⟩) (f := ori) (h.ops5 _ (at_ 15 rfl))

/-- What buffer `main_call1_v29` holds. -/
theorem e_call1_v29 (h : Eqs W) : rd W (.of main_call1_v29 : TRef sig ⟨S2x4096x4096, .f32⟩) = (bitcastToFloat .f32) (rd W (.of main_call1_v28 : TRef sig ⟨S2x4096x4096, .i32⟩)) :=
  rd_unary (Ta := ⟨S2x4096x4096, .i32⟩) (Ty := ⟨S2x4096x4096, .f32⟩) (f := (bitcastToFloat .f32)) (h.ops5 _ (at_ 16 rfl))

/-- What buffer `main_call1_cst` holds. -/
theorem e_call1_cst (h : Eqs W) : rd W (.of main_call1_cst : TRef sig ⟨S_, .f32⟩) = (constant S_ .f32 0x3F800000#32) :=
  rd_nullary (Ty := ⟨S_, .f32⟩) (h.ops5 _ (at_ 17 rfl))

/-- What buffer `main_call1_v30` holds. -/
theorem e_call1_v30 (h : Eqs W) : rd W (.of main_call1_v30 : TRef sig ⟨S2x4096x4096, .f32⟩) = (broadcastInDim S2x4096x4096 ![] bcast_S_S2x4096x4096) (rd W (.of main_call1_cst : TRef sig ⟨S_, .f32⟩)) :=
  rd_unary (Ta := ⟨S_, .f32⟩) (Ty := ⟨S2x4096x4096, .f32⟩) (f := (broadcastInDim S2x4096x4096 ![] bcast_S_S2x4096x4096)) (h.ops5 _ (at_ 18 rfl))

/-- What buffer `main_call1_v31` holds. -/
theorem e_call1_v31 (h : Eqs W) : rd W (.of main_call1_v31 : TRef sig ⟨S2x4096x4096, .f32⟩) = subf (rd W (.of main_call1_v29 : TRef sig ⟨S2x4096x4096, .f32⟩)) (rd W (.of main_call1_v30 : TRef sig ⟨S2x4096x4096, .f32⟩)) :=
  rd_binary (Ta := ⟨S2x4096x4096, .f32⟩) (Tb := ⟨S2x4096x4096, .f32⟩) (Ty := ⟨S2x4096x4096, .f32⟩) (f := subf) (h.ops5 _ (at_ 19 rfl))

/-- What buffer `main_call1_v32` holds. -/
theorem e_call1_v32 (h : Eqs W) : rd W (.of main_call1_v32 : TRef sig ⟨S1x1x1, .f32⟩) = subf (rd W (.of main_call1_v3 : TRef sig ⟨S1x1x1, .f32⟩)) (rd W (.of main_call1_v2 : TRef sig ⟨S1x1x1, .f32⟩)) :=
  rd_binary (Ta := ⟨S1x1x1, .f32⟩) (Tb := ⟨S1x1x1, .f32⟩) (Ty := ⟨S1x1x1, .f32⟩) (f := subf) (h.ops5 _ (at_ 20 rfl))

/-- What buffer `main_call1_v33` holds. -/
theorem e_call1_v33 (h : Eqs W) : rd W (.of main_call1_v33 : TRef sig ⟨S2x4096x4096, .f32⟩) = (broadcastInDim S2x4096x4096 ![0, 1, 2] bcast_S1x1x1_S2x4096x4096_0_1_2) (rd W (.of main_call1_v32 : TRef sig ⟨S1x1x1, .f32⟩)) :=
  rd_unary (Ta := ⟨S1x1x1, .f32⟩) (Ty := ⟨S2x4096x4096, .f32⟩) (f := (broadcastInDim S2x4096x4096 ![0, 1, 2] bcast_S1x1x1_S2x4096x4096_0_1_2)) (h.ops5 _ (at_ 21 rfl))

/-- What buffer `main_call1_v34` holds. -/
theorem e_call1_v34 (h : Eqs W) : rd W (.of main_call1_v34 : TRef sig ⟨S2x4096x4096, .f32⟩) = mulf (rd W (.of main_call1_v31 : TRef sig ⟨S2x4096x4096, .f32⟩)) (rd W (.of main_call1_v33 : TRef sig ⟨S2x4096x4096, .f32⟩)) :=
  rd_binary (Ta := ⟨S2x4096x4096, .f32⟩) (Tb := ⟨S2x4096x4096, .f32⟩) (Ty := ⟨S2x4096x4096, .f32⟩) (f := mulf) (h.ops5 _ (at_ 22 rfl))

/-- What buffer `main_call1_v35` holds. -/
theorem e_call1_v35 (h : Eqs W) : rd W (.of main_call1_v35 : TRef sig ⟨S2x4096x4096, .f32⟩) = (broadcastInDim S2x4096x4096 ![0, 1, 2] bcast_S1x1x1_S2x4096x4096_0_1_2) (rd W (.of main_call1_v2 : TRef sig ⟨S1x1x1, .f32⟩)) :=
  rd_unary (Ta := ⟨S1x1x1, .f32⟩) (Ty := ⟨S2x4096x4096, .f32⟩) (f := (broadcastInDim S2x4096x4096 ![0, 1, 2] bcast_S1x1x1_S2x4096x4096_0_1_2)) (h.ops5 _ (at_ 23 rfl))

/-- What buffer `main_call1_v36` holds. -/
theorem e_call1_v36 (h : Eqs W) : rd W (.of main_call1_v36 : TRef sig ⟨S2x4096x4096, .f32⟩) = addf (rd W (.of main_call1_v34 : TRef sig ⟨S2x4096x4096, .f32⟩)) (rd W (.of main_call1_v35 : TRef sig ⟨S2x4096x4096, .f32⟩)) :=
  rd_binary (Ta := ⟨S2x4096x4096, .f32⟩) (Tb := ⟨S2x4096x4096, .f32⟩) (Ty := ⟨S2x4096x4096, .f32⟩) (f := addf) (h.ops5 _ (at_ 24 rfl))

/-- What buffer `main_call1_v37` holds. -/
theorem e_call1_v37 (h : Eqs W) : rd W (.of main_call1_v37 : TRef sig ⟨S2x4096x4096, .f32⟩) = (broadcastInDim S2x4096x4096 ![0, 1, 2] bcast_S1x1x1_S2x4096x4096_0_1_2) (rd W (.of main_call1_v2 : TRef sig ⟨S1x1x1, .f32⟩)) :=
  rd_unary (Ta := ⟨S1x1x1, .f32⟩) (Ty := ⟨S2x4096x4096, .f32⟩) (f := (broadcastInDim S2x4096x4096 ![0, 1, 2] bcast_S1x1x1_S2x4096x4096_0_1_2)) (h.ops5 _ (at_ 25 rfl))

/-- What buffer `main_v27` holds. -/
theorem e_v27 (h : Eqs W) : rd W (.of main_v27 : TRef sig ⟨S2x4096x4096, .f32⟩) = maximumf (rd W (.of main_call1_v37 : TRef sig ⟨S2x4096x4096, .f32⟩)) (rd W (.of main_call1_v36 : TRef sig ⟨S2x4096x4096, .f32⟩)) :=
  rd_binary (Ta := ⟨S2x4096x4096, .f32⟩) (Tb := ⟨S2x4096x4096, .f32⟩) (Ty := ⟨S2x4096x4096, .f32⟩) (f := maximumf) (h.ops5 _ (at_ 26 rfl))

/-- What buffer `main_cst_8` holds. -/
theorem e_cst_8 (h : Eqs W) : rd W (.of main_cst_8 : TRef sig ⟨S_, .f32⟩) = (constant S_ .f32 0x322BCC77#32) :=
  rd_nullary (Ty := ⟨S_, .f32⟩) (h.ops5 _ (at_ 27 rfl))

/-- What buffer `main_v28` holds. -/
theorem e_v28 (h : Eqs W) : rd W (.of main_v28 : TRef sig ⟨S2x4096x4096, .f32⟩) = (broadcastInDim S2x4096x4096 ![] bcast_S_S2x4096x4096) (rd W (.of main_cst_8 : TRef sig ⟨S_, .f32⟩)) :=
  rd_unary (Ta := ⟨S_, .f32⟩) (Ty := ⟨S2x4096x4096, .f32⟩) (f := (broadcastInDim S2x4096x4096 ![] bcast_S_S2x4096x4096)) (h.ops5 _ (at_ 28 rfl))

/-- What buffer `main_v29` holds. -/
theorem e_v29 (h : Eqs W) : rd W (.of main_v29 : TRef sig ⟨S2x4096x4096, .f32⟩) = addf (rd W (.of main_v27 : TRef sig ⟨S2x4096x4096, .f32⟩)) (rd W (.of main_v28 : TRef sig ⟨S2x4096x4096, .f32⟩)) :=
  rd_binary (Ta := ⟨S2x4096x4096, .f32⟩) (Tb := ⟨S2x4096x4096, .f32⟩) (Ty := ⟨S2x4096x4096, .f32⟩) (f := addf) (h.ops5 _ (at_ 29 rfl))

/-- What buffer `main_v30` holds. -/
theorem e_v30 (h : Eqs W) : rd W (.of main_v30 : TRef sig ⟨S2x4096x4096, .f32⟩) = Host.log (rd W (.of main_v29 : TRef sig ⟨S2x4096x4096, .f32⟩)) :=
  rd_unary (Ta := ⟨S2x4096x4096, .f32⟩) (Ty := ⟨S2x4096x4096, .f32⟩) (f := Host.log) (h.ops5 _ (at_ 30 rfl))

/-- What buffer `main_v31` holds. -/
theorem e_v31 (h : Eqs W) : rd W (.of main_v31 : TRef sig ⟨S2x4096x4096, .f32⟩) = Host.negf (rd W (.of main_v30 : TRef sig ⟨S2x4096x4096, .f32⟩)) :=
  rd_unary (Ta := ⟨S2x4096x4096, .f32⟩) (Ty := ⟨S2x4096x4096, .f32⟩) (f := Host.negf) (h.ops5 _ (at_ 31 rfl))

/-- What buffer `main_v32` holds. -/
theorem e_v32 (h : Eqs W) : rd W (.of main_v32 : TRef sig ⟨S2x4096x4096, .f32⟩) = Host.log (rd W (.of main_v31 : TRef sig ⟨S2x4096x4096, .f32⟩)) :=
  rd_unary (Ta := ⟨S2x4096x4096, .f32⟩) (Ty := ⟨S2x4096x4096, .f32⟩) (f := Host.log) (h.ops5 _ (at_ 32 rfl))

/-- What buffer `main_v33` holds. -/
theorem e_v33 (h : Eqs W) : rd W (.of main_v33 : TRef sig ⟨S2x4096x4096, .f32⟩) = subf (rd W (.of main_v19 : TRef sig ⟨S2x4096x4096, .f32⟩)) (rd W (.of main_v32 : TRef sig ⟨S2x4096x4096, .f32⟩)) :=
  rd_binary (Ta := ⟨S2x4096x4096, .f32⟩) (Tb := ⟨S2x4096x4096, .f32⟩) (Ty := ⟨S2x4096x4096, .f32⟩) (f := subf) (h.ops5 _ (at_ 33 rfl))

/-- What buffer `main_v34` holds. -/
theorem e_v34 (h : Eqs W) : rd W (.of main_v34 : TRef sig ⟨S2x4096x4096, .f32⟩) = Host.negf (rd W (.of main_v33 : TRef sig ⟨S2x4096x4096, .f32⟩)) :=
  rd_unary (Ta := ⟨S2x4096x4096, .f32⟩) (Ty := ⟨S2x4096x4096, .f32⟩) (f := Host.negf) (h.ops5 _ (at_ 34 rfl))

/-- What buffer `main_values` holds. -/
theorem e_values (h : Eqs W) : rd W (.of main_values : TRef sig ⟨S2x4096x16, .f32⟩) = (fun x => (Host.topK S2x4096x16 2 (FloatOps.cmpfTotal .gt) x sliceFits_S2x4096x4096_S2x4096x16).1) (rd W (.of main_v34 : TRef sig ⟨S2x4096x4096, .f32⟩)) :=
  rd_unary (Ta := ⟨S2x4096x4096, .f32⟩) (Ty := ⟨S2x4096x16, .f32⟩) (f := (fun x => (Host.topK S2x4096x16 2 (FloatOps.cmpfTotal .gt) x sliceFits_S2x4096x4096_S2x4096x16).1)) (h.ops5 _ (at_ 35 rfl))

/-- What buffer `main_indices` holds. -/
theorem e_indices (h : Eqs W) : rd W (.of main_indices : TRef sig ⟨S2x4096x16, .i32⟩) = (fun x => (Host.topK S2x4096x16 2 (FloatOps.cmpfTotal .gt) x sliceFits_S2x4096x4096_S2x4096x16).2) (rd W (.of main_v34 : TRef sig ⟨S2x4096x4096, .f32⟩)) :=
  rd_unary (Ta := ⟨S2x4096x4096, .f32⟩) (Ty := ⟨S2x4096x16, .i32⟩) (f := (fun x => (Host.topK S2x4096x16 2 (FloatOps.cmpfTotal .gt) x sliceFits_S2x4096x4096_S2x4096x16).2)) (h.ops5 _ (at_ 36 rfl))

/-- What buffer `main_v35` holds. -/
theorem e_v35 (h : Eqs W) : rd W (.of main_v35 : TRef sig ⟨S4096, .i32⟩) = (iotaInDim S4096 32 0) :=
  rd_nullary (Ty := ⟨S4096, .i32⟩) (h.ops5 _ (at_ 37 rfl))

/-- What buffer `main_v36` holds. -/
theorem e_v36 (h : Eqs W) : rd W (.of main_v36 : TRef sig ⟨S1x4096x1, .i32⟩) = (broadcastInDim S1x4096x1 ![1] bcast_S4096_S1x4096x1_1) (rd W (.of main_v35 : TRef sig ⟨S4096, .i32⟩)) :=
  rd_unary (Ta := ⟨S4096, .i32⟩) (Ty := ⟨S1x4096x1, .i32⟩) (f := (broadcastInDim S1x4096x1 ![1] bcast_S4096_S1x4096x1_1)) (h.ops5 _ (at_ 38 rfl))

/-- What buffer `main_v37` holds. -/
theorem e_v37 (h : Eqs W) : rd W (.of main_v37 : TRef sig ⟨S2x4096x16, .i32⟩) = (broadcastInDim S2x4096x16 ![0, 1, 2] bcast_S1x4096x1_S2x4096x16_0_1_2) (rd W (.of main_v36 : TRef sig ⟨S1x4096x1, .i32⟩)) :=
  rd_unary (Ta := ⟨S1x4096x1, .i32⟩) (Ty := ⟨S2x4096x16, .i32⟩) (f := (broadcastInDim S2x4096x16 ![0, 1, 2] bcast_S1x4096x1_S2x4096x16_0_1_2)) (h.ops5 _ (at_ 39 rfl))

/-- What buffer `main_v38` holds. -/
theorem e_v38 (h : Eqs W) : rd W (.of main_v38 : TRef sig ⟨S2, .i32⟩) = (iotaInDim S2 32 0) :=
  rd_nullary (Ty := ⟨S2, .i32⟩) (h.ops5 _ (at_ 40 rfl))

/-- What buffer `main_c_9` holds. -/
theorem e_c_9 (h : Eqs W) : rd W (.of main_c_9 : TRef sig ⟨S_, .i32⟩) = (constantI S_ 32 4096#32) :=
  rd_nullary (Ty := ⟨S_, .i32⟩) (h.ops5 _ (at_ 41 rfl))

/-- What buffer `main_v39` holds. -/
theorem e_v39 (h : Eqs W) : rd W (.of main_v39 : TRef sig ⟨S2, .i32⟩) = (broadcastInDim S2 ![] bcast_S_S2) (rd W (.of main_c_9 : TRef sig ⟨S_, .i32⟩)) :=
  rd_unary (Ta := ⟨S_, .i32⟩) (Ty := ⟨S2, .i32⟩) (f := (broadcastInDim S2 ![] bcast_S_S2)) (h.ops5 _ (at_ 42 rfl))

/-- What buffer `main_v40` holds. -/
theorem e_v40 (h : Eqs W) : rd W (.of main_v40 : TRef sig ⟨S2, .i32⟩) = muli (rd W (.of main_v38 : TRef sig ⟨S2, .i32⟩)) (rd W (.of main_v39 : TRef sig ⟨S2, .i32⟩)) :=
  rd_binary (Ta := ⟨S2, .i32⟩) (Tb := ⟨S2, .i32⟩) (Ty := ⟨S2, .i32⟩) (f := muli) (h.ops5 _ (at_ 43 rfl))

/-- What buffer `main_v41` holds. -/
theorem e_v41 (h : Eqs W) : rd W (.of main_v41 : TRef sig ⟨S2x1x1, .i32⟩) = (broadcastInDim S2x1x1 ![0] bcast_S2_S2x1x1_0) (rd W (.of main_v40 : TRef sig ⟨S2, .i32⟩)) :=
  rd_unary (Ta := ⟨S2, .i32⟩) (Ty := ⟨S2x1x1, .i32⟩) (f := (broadcastInDim S2x1x1 ![0] bcast_S2_S2x1x1_0)) (h.ops5 _ (at_ 44 rfl))

/-- What buffer `main_v42` holds. -/
theorem e_v42 (h : Eqs W) : rd W (.of main_v42 : TRef sig ⟨S2x4096x16, .i32⟩) = (broadcastInDim S2x4096x16 ![0, 1, 2] bcast_S2x1x1_S2x4096x16_0_1_2) (rd W (.of main_v41 : TRef sig ⟨S2x1x1, .i32⟩)) :=
  rd_unary (Ta := ⟨S2x1x1, .i32⟩) (Ty := ⟨S2x4096x16, .i32⟩) (f := (broadcastInDim S2x4096x16 ![0, 1, 2] bcast_S2x1x1_S2x4096x16_0_1_2)) (h.ops5 _ (at_ 45 rfl))

/-- What buffer `main_v43` holds. -/
theorem e_v43 (h : Eqs W) : rd W (.of main_v43 : TRef sig ⟨S2x4096x16, .i32⟩) = addi (rd W (.of main_v37 : TRef sig ⟨S2x4096x16, .i32⟩)) (rd W (.of main_v42 : TRef sig ⟨S2x4096x16, .i32⟩)) :=
  rd_binary (Ta := ⟨S2x4096x16, .i32⟩) (Tb := ⟨S2x4096x16, .i32⟩) (Ty := ⟨S2x4096x16, .i32⟩) (f := addi) (h.ops5 _ (at_ 46 rfl))

/-- What buffer `main_v44` holds. -/
theorem e_v44 (h : Eqs W) : rd W (.of main_v44 : TRef sig ⟨S131072, .i32⟩) = shapeCast S131072 (rd W (.of main_v43 : TRef sig ⟨S2x4096x16, .i32⟩)) shapeCasts_S2x4096x16_S131072 :=
  rd_reshape (hn := shapeCasts_S2x4096x16_S131072) (h.ops5 _ (at_ 47 rfl))

/-- What buffer `main_v45` holds. -/
theorem e_v45 (h : Eqs W) : rd W (.of main_v45 : TRef sig ⟨S2x4096x16, .i32⟩) = (broadcastInDim S2x4096x16 ![0, 1, 2] bcast_S2x1x1_S2x4096x16_0_1_2) (rd W (.of main_v41 : TRef sig ⟨S2x1x1, .i32⟩)) :=
  rd_unary (Ta := ⟨S2x1x1, .i32⟩) (Ty := ⟨S2x4096x16, .i32⟩) (f := (broadcastInDim S2x4096x16 ![0, 1, 2] bcast_S2x1x1_S2x4096x16_0_1_2)) (h.ops5 _ (at_ 48 rfl))

/-- What buffer `main_v46` holds. -/
theorem e_v46 (h : Eqs W) : rd W (.of main_v46 : TRef sig ⟨S2x4096x16, .i32⟩) = addi (rd W (.of main_indices : TRef sig ⟨S2x4096x16, .i32⟩)) (rd W (.of main_v45 : TRef sig ⟨S2x4096x16, .i32⟩)) :=
  rd_binary (Ta := ⟨S2x4096x16, .i32⟩) (Tb := ⟨S2x4096x16, .i32⟩) (Ty := ⟨S2x4096x16, .i32⟩) (f := addi) (h.ops5 _ (at_ 49 rfl))

/-- What buffer `main_v47` holds. -/
theorem e_v47 (h : Eqs W) : rd W (.of main_v47 : TRef sig ⟨S131072, .i32⟩) = shapeCast S131072 (rd W (.of main_v46 : TRef sig ⟨S2x4096x16, .i32⟩)) shapeCasts_S2x4096x16_S131072 :=
  rd_reshape (hn := shapeCasts_S2x4096x16_S131072) (h.ops5 _ (at_ 50 rfl))

/-- What buffer `main_v48` holds. -/
theorem e_v48 (h : Eqs W) : rd W (.of main_v48 : TRef sig ⟨S1x131072, .i32⟩) = (broadcastInDim S1x131072 ![1] bcast_S131072_S1x131072_1) (rd W (.of main_v44 : TRef sig ⟨S131072, .i32⟩)) :=
  rd_unary (Ta := ⟨S131072, .i32⟩) (Ty := ⟨S1x131072, .i32⟩) (f := (broadcastInDim S1x131072 ![1] bcast_S131072_S1x131072_1)) (h.ops5 _ (at_ 51 rfl))

/-- What buffer `main_v49` holds. -/
theorem e_v49 (h : Eqs W) : rd W (.of main_v49 : TRef sig ⟨S1x131072, .i32⟩) = (broadcastInDim S1x131072 ![1] bcast_S131072_S1x131072_1) (rd W (.of main_v47 : TRef sig ⟨S131072, .i32⟩)) :=
  rd_unary (Ta := ⟨S131072, .i32⟩) (Ty := ⟨S1x131072, .i32⟩) (f := (broadcastInDim S1x131072 ![1] bcast_S131072_S1x131072_1)) (h.ops5 _ (at_ 52 rfl))

/-- What buffer `main_v50` holds. -/
theorem e_v50 (h : Eqs W) : rd W (.of main_v50 : TRef sig ⟨S2x131072, .i32⟩) = (fun a b => concatenate S2x131072 0 [⟨S1x131072, a⟩, ⟨S1x131072, b⟩] concatenates_S1x131072_S1x131072_S2x131072_d0) (rd W (.of main_v48 : TRef sig ⟨S1x131072, .i32⟩)) (rd W (.of main_v49 : TRef sig ⟨S1x131072, .i32⟩)) :=
  rd_binary (Ta := ⟨S1x131072, .i32⟩) (Tb := ⟨S1x131072, .i32⟩) (Ty := ⟨S2x131072, .i32⟩) (f := (fun a b => concatenate S2x131072 0 [⟨S1x131072, a⟩, ⟨S1x131072, b⟩] concatenates_S1x131072_S1x131072_S2x131072_d0)) (h.ops5 _ (at_ 53 rfl))

end Cert.Proof.Ref

end
-- ==== Proof.Rounds.lean ====
/- The sixteen rounds of the second kernel: each takes every row's maximum, the first column that holds
   it, and the row with that column overwritten by −∞. -/
module

public import proofs.«01_k».proof.Proof.Gen.KernelIdeal.Frame

@[expose] public section

noncomputable section

namespace Cert.Proof.Rounds

open Idealize.ShloMosaic Idealize.SL.Sem Cert.KernelIdeal
open Cert.KernelIdeal.Facts₀

variable {F : FTy → Type} [FloatOps F]

/-- The column number of every entry. -/
def cols : IVec S256x4096 32 := iota .tc S256x4096 32 [1] Gen.iota_S256x4096_d1_w32

/-- The maximum of every row. -/
def mx (s : FVec F S256x4096 .f32) : FVec F S256 .f32 :=
  multiReduction .maximumf [1] S256 s 0xFF800000#32 Gen.reduces_S256x4096_S256 (.inl rfl) rfl

/-- The first column of every row that holds the row's maximum. -/
def ix (s : FVec F S256x4096 .f32) : IVec S256 32 :=
  multiReductionI .minsi [1] S256
    (select (cmpf .oeq s (broadcastTo S256x4096 (shapeCast S256x1 (mx s) Gen.shapeCasts_S256_S256x1)
        Gen.broadcasts_S256x1_S256x4096)) cols (broadcast S256x4096 4096#32))
    2147483647#32 Gen.reduces_S256x4096_S256 rfl

/-- The rows with that column overwritten by −∞. -/
def nx (s : FVec F S256x4096 .f32) : FVec F S256x4096 .f32 :=
  select (cmpi .eq cols (broadcastTo S256x4096 (shapeCast S256x1 (ix s) Gen.shapeCasts_S256_S256x1)
      Gen.broadcasts_S256x1_S256x4096)) (broadcast S256x4096 (Scalar.ofBits .f32 0xFF800000#32)) s

/-- The rows after `k` rounds. -/
def st (s : FVec F S256x4096 .f32) : ℕ → FVec F S256x4096 .f32
  | 0 => s
  | k + 1 => nx (st s k)

/-- The sixteen maxima of every row, side by side. -/
def vals (s : FVec F S256x4096 .f32) : FVec F S1x256x16 .f32 :=
  shapeCast S1x256x16 (concatenate S256x16 1
    (List.ofFn fun k : Fin 16 => (⟨S256x1, shapeCast S256x1 (mx (st s k.val)) Gen.shapeCasts_S256_S256x1⟩ : (t : Shape) × (t.Idx → F .f32)))
    Gen.concatenates_S256x1_S256x1_S256x1_S256x1_S256x1_S256x1_S256x1_S256x1_S256x1_S256x1_S256x1_S256x1_S256x1_S256x1_S256x1_S256x1_S256x16_d1)
    Gen.shapeCasts_S256x16_S1x256x16

/-- The sixteen columns of every row, side by side, each moved up by `o`. -/
def poss (s : FVec F S256x4096 .f32) (o : BitVec 32) : IVec S1x256x16 32 :=
  shapeCast S1x256x16 (addi (concatenate S256x16 1
    (List.ofFn fun k : Fin 16 => (⟨S256x1, shapeCast S256x1 (ix (st s k.val)) Gen.shapeCasts_S256_S256x1⟩ : (t : Shape) × (t.Idx → BitVec 32)))
    Gen.concatenates_S256x1_S256x1_S256x1_S256x1_S256x1_S256x1_S256x1_S256x1_S256x1_S256x1_S256x1_S256x1_S256x1_S256x1_S256x1_S256x1_S256x16_d1) (broadcast S256x16 o))
    Gen.shapeCasts_S256x16_S1x256x16

end Cert.Proof.Rounds

end
-- ==== Proof.Pieces.lean ====
/- What the body of the second kernel stores: the sixteen maxima and the sixteen columns of the block's scores. -/
module

public import proofs.«01_k».proof.Proof.Rounds
public import Idealize.ShloMosaic.Lib.Pipeline.ValueKit

@[expose] public section

noncomputable section

namespace Cert.Proof.Rounds

open Idealize.ShloMosaic Idealize.SL.Sem Idealize.ShloMosaic.Tactic Cert.KernelIdeal
open Cert.KernelIdeal.Facts₀

variable {F : FTy → Type} [FloatOps F]

/-- The block's scores, from the four input blocks. -/
def sc (x0 : Vec F S1x1 .f32) (x1 : Vec F S1x256x512 .f32) (x2 : Vec F S1x4096x512 .f32) (x3 : Vec F S1x256x4096 .f32) :
    FVec F S256x4096 .f32 :=
  Gen.k1_pay4 x1 x2 (x0 (Shape.Idx.first (by decide))) x3

variable (c : Dev nD) (i : grid1.Coords) (arg2 : Memref sig .tc .smem S1x1 .f32) (harg2 : arg2.IsWhole) (arg3 : Memref sig .tc .vmem S1x256x512 .f32) (harg3 : arg3.IsWhole) (arg4 : Memref sig .tc .vmem S1x4096x512 .f32) (harg4 : arg4.IsWhole) (arg5 : Memref sig .tc .vmem S1x256x4096 .f32) (harg5 : arg5.IsWhole) (arg6 : Memref sig .tc .vmem S1x256x16 .f32) (harg6 : arg6.IsWhole) (arg7 : Memref sig .tc .vmem S1x256x16 .i32) (harg7 : arg7.IsWhole)
    (x0 : Vec F S1x1 .f32) (x1 : Vec F S1x256x512 .f32) (x2 : Vec F S1x4096x512 .f32) (x3 : Vec F S1x256x4096 .f32)

/-- The scores as the body reads them: each block loaded whole from its buffer. -/
def scRead : FVec F S256x4096 .f32 :=
  Gen.k1_pay4
    (View.readAt (Elt F) arg3.view (Rect.unit ![0, 0, 0] S1x256x512.size Gen.inb_S1x256x512_S1x256x512_0_0_0).toLoadRect
      (harg3.unread x1))
    (View.readAt (Elt F) arg4.view (Rect.unit ![0, 0, 0] S1x4096x512.size Gen.inb_S1x4096x512_S1x4096x512_0_0_0).toLoadRect
      (harg4.unread x2))
    (View.readAt (Elt F) arg2.view (Rect.unit ![0, 0] S1x1.size Gen.inb_S1x1_S1x1_0_0).toLoadRect (harg2.unread x0)
      (Shape.Idx.first (by decide)))
    (View.readAt (Elt F) arg5.view (Rect.unit ![0, 0, 0] S1x256x4096.size Gen.inb_S1x256x4096_S1x256x4096_0_0_0).toLoadRect
      (harg5.unread x3))

/-- What the body reads is what the blocks hold. -/
theorem scRead_eq : scRead arg2 harg2 arg3 harg3 arg4 harg4 arg5 harg5 x0 x1 x2 x3 = sc x0 x1 x2 x3 := by
  have z3 : (![0, 0, 0] : Fin 3 → ℕ) = fun _ => 0 := by funext a; fin_cases a <;> rfl
  have z2 : (![0, 0] : Fin 2 → ℕ) = fun _ => 0 := by funext a; fin_cases a <;> rfl
  unfold scRead sc
  simp only [View.readAt_eq_ld, Memref.IsWhole.read_unread]
  rw [View.ld_unit_zero (S := S1x256x512) z3, View.ld_unit_zero (S := S1x4096x512) z3, View.ld_unit_zero (S := S1x1) z2,
    View.ld_unit_zero (S := S1x256x4096) z3]

/-- The body stores the sixteen maxima into its first output block, in one store. -/
theorem pieces4 :
    (Gen.kernelRun1_A c i arg2 harg2 arg3 harg3 arg4 harg4 arg5 harg5 arg6 harg6 arg7 harg7 x0 x1 x2 x3).1
      = [⟨Rect.unit (s := S1x256x16) ![0, 0, 0] S1x256x16.size Gen.inb_S1x256x16_S1x256x16_0_0_0,
        vals (scRead arg2 harg2 arg3 harg3 arg4 harg4 arg5 harg5 x0 x1 x2 x3)⟩] := by
  sl_kernel_rfl

/-- The body stores the sixteen columns, moved up by 4096 for the second batch entry, into its second output block. -/
theorem pieces5 :
    (Gen.kernelRun1_A c i arg2 harg2 arg3 harg3 arg4 harg4 arg5 harg5 arg6 harg6 arg7 harg7 x0 x1 x2 x3).2.1
      = [⟨Rect.unit (s := S1x256x16) ![0, 0, 0] S1x256x16.size Gen.inb_S1x256x16_S1x256x16_0_0_0,
        poss (scRead arg2 harg2 arg3 harg3 arg4 harg4 arg5 harg5 x0 x1 x2 x3)
          (Scalar.muli (BitVec.ofNat 32 (i 0).val) 4096#32)⟩] := by
  sl_kernel_rfl

/-- The body leaves the sixteen maxima of the block's scores in its first output block. -/
theorem out4 : Gen.out1_A_4 c i arg2 harg2 arg3 harg3 arg4 harg4 arg5 harg5 arg6 harg6 arg7 harg7 x0 x1 x2 x3
    = vals (sc x0 x1 x2 x3) := by
  have z3 : (![0, 0, 0] : Fin 3 → ℕ) = fun _ => 0 := by funext a; fin_cases a <;> rfl
  unfold Gen.out1_A_4
  rw [pieces4, View.read_writes_junk_eq_canon, View.canon_unit_zero (S := S1x256x16) z3, scRead_eq]

/-- The body leaves the sixteen columns, moved up by 4096 for the second batch entry, in its second output block. -/
theorem out5 : Gen.out1_A_5 c i arg2 harg2 arg3 harg3 arg4 harg4 arg5 harg5 arg6 harg6 arg7 harg7 x0 x1 x2 x3
    = poss (sc x0 x1 x2 x3) (Scalar.muli (BitVec.ofNat 32 (i 0).val) 4096#32) := by
  have z3 : (![0, 0, 0] : Fin 3 → ℕ) = fun _ => 0 := by funext a; fin_cases a <;> rfl
  unfold Gen.out1_A_5
  rw [pieces5, View.read_writes_junk_eq_canon, View.canon_unit_zero (S := S1x256x16) z3, scRead_eq]

end Cert.Proof.Rounds

end
-- ==== Proof.Pick.lean ====
/- Taking the greatest entries of a row one by one: the first position that holds the row's greatest entry, the row with
   that entry overwritten by the least value, and so on. As long as every entry is above the least value, the positions
   taken are the first positions of the row's stable sort in descending order. -/
module

public import Idealize.ShloMosaic.Lib.SortPrefix
public import Mathlib.Data.EReal.Basic

@[expose] public section

noncomputable section

namespace Cert.Proof.Pick

open Idealize.ShloMosaic

variable {n : ℕ}

/-- `i` is the first position of the row's greatest entry. -/
def IsFirst (f : Fin n → EReal) (i : Fin n) : Prop := (∀ c, f c ≤ f i) ∧ ∀ c, f c = f i → i ≤ c

/-- There is one first position of the greatest entry. -/
theorem IsFirst.unique {f : Fin n → EReal} {i j : Fin n} (hi : IsFirst f i) (hj : IsFirst f j) : i = j :=
  le_antisymm (hi.2 j (le_antisymm (hi.1 j) (hj.1 i))) (hj.2 i (le_antisymm (hj.1 i) (hi.1 j)))

/-- A row that is not empty has such a position. -/
theorem exists_isFirst [NeZero n] (f : Fin n → EReal) : ∃ i, IsFirst f i := by
  classical
  obtain ⟨m, -, hm⟩ := Finset.exists_max_image Finset.univ f ⟨0, Finset.mem_univ _⟩
  have hne : (Finset.univ.filter fun c => f c = f m).Nonempty := ⟨m, by simp⟩
  have h := Finset.min'_mem _ hne
  rw [Finset.mem_filter] at h
  refine ⟨(Finset.univ.filter fun c => f c = f m).min' hne, fun c => (hm c (Finset.mem_univ c)).trans h.2.ge, fun c hc => ?_⟩
  exact Finset.min'_le _ _ (by rw [Finset.mem_filter]; exact ⟨Finset.mem_univ c, hc.trans h.2⟩)

/-- The first position of the greatest entry. -/
def sel [NeZero n] (f : Fin n → EReal) : Fin n := (exists_isFirst f).choose

/-- The position selected is the first of the greatest entry. -/
theorem sel_isFirst [NeZero n] (f : Fin n → EReal) : IsFirst f (sel f) := (exists_isFirst f).choose_spec

/-- The row with that position overwritten. -/
def del [NeZero n] (f : Fin n → EReal) : Fin n → EReal := fun c => if c = sel f then ⊥ else f c

/-- The row after `k` such steps. -/
def rows [NeZero n] (f : Fin n → EReal) : ℕ → Fin n → EReal
  | 0 => f
  | k + 1 => del (rows f k)

variable [NeZero n] (f : Fin n → EReal)

/-- A position not taken in the first `k` steps still holds its entry. -/
theorem rows_of_ne (k : ℕ) (c : Fin n) (h : ∀ j < k, sel (rows f j) ≠ c) : rows f k c = f c := by
  induction k with
  | zero => rfl
  | succ k ih =>
    show del (rows f k) c = f c
    rw [del, if_neg fun e => h k (Nat.lt_succ_self k) e.symm]
    exact ih fun j hj => h j (Nat.lt_succ_of_lt hj)

/-- A position taken before step `k` is overwritten. -/
theorem rows_of_eq (k j : ℕ) (h : j < k) : rows f k (sel (rows f j)) = ⊥ := by
  induction k with
  | zero => omega
  | succ k ih =>
    show del (rows f k) _ = ⊥
    by_cases e : sel (rows f j) = sel (rows f k)
    · rw [del, if_pos e]
    · rw [del, if_neg e]
      exact ih (lt_of_le_of_ne (Nat.lt_succ_iff.mp h) fun e' => e (by rw [e']))

variable (hf : ∀ c, ⊥ < f c)
include hf

/-- As long as positions are left, the greatest entry is above the least value. -/
theorem lt_sel (k : ℕ) (hk : k < n) : ⊥ < rows f k (sel (rows f k)) := by
  classical
  have : ∃ c, c ∉ (Finset.range k).image fun j => sel (rows f j) := by
    by_contra h
    push Not at h
    have h1 : (Finset.univ : Finset (Fin n)) ⊆ (Finset.range k).image fun j => sel (rows f j) := fun c _ => h c
    have h2 := (Finset.card_le_card h1).trans Finset.card_image_le
    simp at h2
    omega
  obtain ⟨c, hc⟩ := this
  have e := rows_of_ne f k c fun j hj e => hc (Finset.mem_image.mpr ⟨j, Finset.mem_range.mpr hj, e⟩)
  exact lt_of_lt_of_le (e ▸ hf c) ((sel_isFirst _).1 c)

/-- A position taken holds its own entry when it is taken. -/
theorem rows_sel (k : ℕ) (hk : k < n) : rows f k (sel (rows f k)) = f (sel (rows f k)) := by
  refine rows_of_ne f k _ fun j hj e => ?_
  have h1 := lt_sel f hf k hk
  have h2 := rows_of_eq f k j hj
  rw [e] at h2
  rw [h2] at h1
  exact lt_irrefl _ h1

/-- Positions taken at different steps are different. -/
theorem sel_ne (j k : ℕ) (hj : j < k) (hk : k < n) : sel (rows f j) ≠ sel (rows f k) := by
  intro e
  have h1 := lt_sel f hf k hk
  have h2 := rows_of_eq f k j hj
  rw [e] at h2
  rw [h2] at h1
  exact lt_irrefl _ h1

omit hf in
/-- The entry at `k` comes before the entry at `k'` in descending order. -/
def before (k k' : Fin n) : Bool := decide (f k' < f k)

omit hf in
/-- The same, and of equal entries the one at the lower position first. -/
def beforePos (k k' : Fin n) : Bool :=
  (fun a b : EReal => decide (b < a)) (f k) (f k') || (decide (f k = f k') && decide (k < k'))

omit hf [NeZero n] in
/-- The order that breaks ties by position is total. -/
theorem beforePos_total : StrictTotalBefore (beforePos f) :=
  StrictTotalBefore.of_key_then_position (fun a b : EReal => decide (b < a)) f (by simp)
    (by simp only [decide_eq_true_eq]; exact fun a b c h1 h2 => h2.trans h1)
    (by simp only [decide_eq_true_eq]; exact fun a b => (lt_trichotomy b a).imp id (Or.imp Eq.symm id))

omit hf [NeZero n] in
/-- Stably sorting positions that stand in increasing order is sorting them by the order that breaks ties by position. -/
theorem stableSort_before : ∀ l : List (Fin n), l.Pairwise (· < ·) →
    stableSort (before f) l = stableSort (beforePos f) l
  | [], _ => rfl
  | a :: l, h => by
    rw [List.pairwise_cons] at h
    unfold stableSort
    rw [stableSort_before l h.2]
    refine insertBefore_congr _ _ a _ fun b hb => ?_
    have hab := h.1 b ((perm_stableSort _ l).mem_iff.mp hb)
    simp [before, beforePos, not_lt.mpr hab.le]

omit hf [NeZero n] in
/-- A stable sort breaks ties by position. -/
theorem sortedFrom_before : sortedFrom (before f) = sortedFrom (beforePos f) := by
  have e : sortPositions n (before f) = sortPositions n (beforePos f) :=
    stableSort_before f _ (List.pairwise_lt_finRange n)
  funext k
  unfold sortedFrom
  rw [List.get_of_eq e]
  rfl

/-- A position not taken before step `k` does not come before the one taken at step `k`. -/
theorem not_before (k : ℕ) (hk : k < n) (c : Fin n) (h : ∀ j < k, sel (rows f j) ≠ c) :
    beforePos f c (sel (rows f k)) = false := by
  have e := rows_of_ne f k c h
  have e' := rows_sel f hf k hk
  have h1 := (sel_isFirst (rows f k)).1 c
  have h2 := (sel_isFirst (rows f k)).2 c
  rw [e, e'] at h1 h2
  simp only [beforePos, Bool.or_eq_false_iff, decide_eq_false_iff_not, Bool.and_eq_false_iff, not_lt]
  exact ⟨h1, (em (f c = f (sel (rows f k)))).symm.imp id h2⟩

/-- The positions taken are the first positions of the stable sort. -/
theorem sortedFrom_eq_sel (k : ℕ) (hk : k ≤ n) (i : Fin k) :
    sortedFrom (before f) (i.castLE hk) = sel (rows f i.val) := by
  rw [sortedFrom_before]
  have hlt : ∀ i : Fin k, i.val < n := fun i => lt_of_lt_of_le i.isLt hk
  refine (beforePos_total f).sortedFrom_eq_of_prefix hk (fun i => sel (rows f i.val)) (fun i j e => ?_)
    (fun i j hij => not_before f hf _ (hlt i) _ fun l hl => sel_ne f hf l j.val (hl.trans hij) (hlt j))
    (fun i p hp => not_before f hf _ (hlt i) p fun l hl => hp ⟨l, hl.trans i.isLt⟩) i
  rcases lt_trichotomy i j with h | h | h
  · exact absurd e (sel_ne f hf _ _ h (hlt j))
  · exact h
  · exact absurd e.symm (sel_ne f hf _ _ h (hlt i))

end Cert.Proof.Pick

end
-- ==== Proof.RoundRows.lean ====
/- One round of the second kernel read row by row: the maximum of a row is its greatest entry, the column is the first
   that holds it, and the row after the round is the row with that column overwritten by the least value. Sixteen rounds
   therefore take the row's greatest entries one by one. -/
module

public import proofs.«01_k».proof.Proof.Rounds
public import proofs.«01_k».proof.Proof.Pick
public import Idealize.ShloMosaic.Lib.Pipeline.ValueKit
public import Idealize.ShloMosaic.Lib.SortNet.Extract
public import Idealize.ShloMosaic.PureOps.Ideal.Laws

@[expose] public section

set_option maxRecDepth 16384

noncomputable section

namespace Cert.Proof.Rounds

open Idealize.ShloMosaic Idealize.SL.Sem Cert.KernelIdeal
open Cert.KernelIdeal.Facts₀

/-- Row `r` of a block of scores. -/
def row (s : FVec Ideal S256x4096 .f32) (r : Fin 256) : Fin 4096 → EReal := fun c => s (ix2 r c)

/-- A vector with one entry per row, spread over the columns. -/
theorem spread {α : Type} (m : S256.Idx → α) (r : Fin 256) (c : Fin 4096) :
    broadcastTo S256x4096 (shapeCast S256x1 m Gen.shapeCasts_S256_S256x1) Gen.broadcasts_S256x1_S256x4096 (ix2 r c) = m (ix1 r) := by
  pointwise

/-- The entry of row `r` that column `c` brings to the reduction. -/
theorem lift_eq (h : S256x4096.Reduces [1] S256) (r : Fin 256) (c : Fin 4096) : h.lift (ix1 r) c = ix2 r c := by
  funext a
  match a with
  | ⟨0, _⟩ => rfl
  | ⟨1, _⟩ => rfl

/-- The column numbers' entry at column `c` is `c`. -/
theorem cols_apply (r : Fin 256) (c : Fin 4096) : cols (ix2 r c) = BitVec.ofNat 32 c.val := iota_single_apply ..

/-- The greatest entry of a row, as a fold. -/
theorem fold_max (f : Fin 4096 → EReal) : Finset.univ.fold max ⊥ f = f (Pick.sel f) := by
  have hs := Pick.sel_isFirst f
  apply le_antisymm
  · rw [Finset.fold_max_le]; exact ⟨bot_le, fun c _ => hs.1 c⟩
  · rw [Finset.le_fold_max]; exact Or.inr ⟨_, Finset.mem_univ _, le_refl _⟩

/-- A word below 2³¹ read as an integer. -/
theorem toInt_small (c : ℕ) (h : c ≤ 4096) : (BitVec.ofNat 32 c).toInt = (c : ℤ) := by
  rw [BitVec.toInt_eq_toNat_cond, BitVec.toNat_ofNat, Nat.mod_eq_of_lt (by omega), if_pos (by omega)]

/-- The first position of the greatest entry, as a fold of minima over the positions that hold it. -/
theorem fold_min (f : Fin 4096 → EReal) :
    (Finset.univ : Finset (Fin 4096)).fold IntOp.minsi 2147483647#32
      (fun c => if f c = f (Pick.sel f) then BitVec.ofNat 32 c.val else 4096#32) = BitVec.ofNat 32 (Pick.sel f).val := by
  have hs := Pick.sel_isFirst f
  have hlt := (Pick.sel f).isLt
  generalize Pick.sel f = p at hs hlt ⊢
  apply BitVec.eq_of_toInt_eq
  have hf := Finset.fold_hom (op := IntOp.minsi) (op' := (min : ℤ → ℤ → ℤ)) (m := BitVec.toInt (n := 32)) (b := 2147483647#32)
    (s := (Finset.univ : Finset (Fin 4096)))
    (f := fun c : Fin 4096 => if f c = f p then BitVec.ofNat 32 c.val else 4096#32)
    (fun x y => SortNet.toInt_minsi x y)
  refine hf.symm.trans ?_
  rw [toInt_small _ hlt.le]
  apply le_antisymm
  · rw [Finset.fold_min_le]
    refine Or.inr ⟨p, Finset.mem_univ _, ?_⟩
    rw [if_pos rfl, toInt_small _ hlt.le]
  · rw [Finset.le_fold_min]
    refine ⟨?_, fun c _ => ?_⟩
    · have : (2147483647#32 : BitVec 32).toInt = 2147483647 := by decide
      omega
    · by_cases h : f c = f p
      · rw [if_pos h, toInt_small _ c.isLt.le]; exact_mod_cast hs.2 c h
      · rw [if_neg h]
        have : (4096#32 : BitVec 32).toInt = 4096 := by decide
        omega

/-- The maximum of a row is the entry at the first position of its greatest entry. -/
theorem mx_apply (s : FVec Ideal S256x4096 .f32) (r : Fin 256) : mx s (ix1 r) = row s r (Pick.sel (row s r)) := by
  unfold mx
  refine (Ideal.multiReduction_maximumf_single _ _ _ _ _ _).trans ?_
  have e : (s ∘ Gen.reduces_S256x4096_S256.lift (ix1 r)) = row s r := by
    funext c; exact congrArg s (lift_eq _ r c)
  rw [e]
  have hb : (FloatOps.ofBits (F := Ideal) .f32 0xFF800000#32) = (⊥ : EReal) := by
    show Ideal.ofBits .f32 0xFF800000#32 = _
    simp [Ideal.ofBits, Ideal.ieee]
  rw [hb]
  exact fold_max (row s r)

/-- The column of a row is the first position of its greatest entry. -/
theorem ix_apply (s : FVec Ideal S256x4096 .f32) (r : Fin 256) :
    ix s (ix1 r) = BitVec.ofNat 32 (Pick.sel (row s r)).val := by
  have e : ∀ c : Fin 4096, (select (cmpf .oeq s (broadcastTo S256x4096 (shapeCast S256x1 (mx s) Gen.shapeCasts_S256_S256x1)
        Gen.broadcasts_S256x1_S256x4096)) cols (broadcast S256x4096 4096#32)) (ix2 r c)
      = if row s r c = row s r (Pick.sel (row s r)) then BitVec.ofNat 32 c.val else 4096#32 := fun c => by
    show Scalar.select (Ideal.cmp .oeq (s (ix2 r c)) (broadcastTo S256x4096 (shapeCast S256x1 (mx s) Gen.shapeCasts_S256_S256x1)
        Gen.broadcasts_S256x1_S256x4096 (ix2 r c))) (cols (ix2 r c)) 4096#32 = _
    rw [spread, mx_apply, cols_apply]
    show Scalar.select (BitVec.ofBool (decide (row s r c = _))) _ _ = _
    by_cases h : row s r c = row s r (Pick.sel (row s r)) <;> simp [h, Scalar.select]
  unfold ix
  refine (multiReductionI_eq_fold _ _ _ _ _ _).trans ((Shape.Reduces.fold_filter_drop_single _ _ _ _ _).trans ?_)
  have e' : ((select (cmpf .oeq s (broadcastTo S256x4096 (shapeCast S256x1 (mx s) Gen.shapeCasts_S256_S256x1)
        Gen.broadcasts_S256x1_S256x4096)) cols (broadcast S256x4096 4096#32)) ∘ Gen.reduces_S256x4096_S256.lift (ix1 r))
      = fun c : Fin 4096 => if row s r c = row s r (Pick.sel (row s r)) then BitVec.ofNat 32 c.val else 4096#32 := by
    funext c
    exact (congrArg _ (lift_eq _ r c)).trans (e c)
  rw [e']
  exact fold_min (row s r)

/-- The row after the round. -/
theorem row_nx (s : FVec Ideal S256x4096 .f32) (r : Fin 256) : row (nx s) r = Pick.del (row s r) := by
  funext c
  show Scalar.select (IntOp.cmpi .eq (cols (ix2 r c)) (broadcastTo S256x4096 (shapeCast S256x1 (ix s) Gen.shapeCasts_S256_S256x1)
        Gen.broadcasts_S256x1_S256x4096 (ix2 r c))) (Ideal.ofBits .f32 0xFF800000#32) (s (ix2 r c)) = _
  have hb : Ideal.ofBits .f32 0xFF800000#32 = (⊥ : EReal) := by simp [Ideal.ofBits, Ideal.ieee]
  rw [spread, ix_apply, cols_apply, hb]
  unfold Pick.del
  have hlt := (Pick.sel (row s r)).isLt
  have hc := c.isLt
  by_cases h : c = Pick.sel (row s r)
  · rw [if_pos h, ← h]; simp [Scalar.select, IntOp.cmpi]
  · rw [if_neg h]
    have hne : BitVec.ofNat 32 c.val ≠ BitVec.ofNat 32 (Pick.sel (row s r)).val := fun e => h (Fin.ext (by
      have := congrArg BitVec.toNat e
      rw [BitVec.toNat_ofNat, BitVec.toNat_ofNat, Nat.mod_eq_of_lt (by omega), Nat.mod_eq_of_lt (by omega)] at this
      exact this))
    show Scalar.select (BitVec.ofBool (_ == _)) _ _ = _
    rw [beq_eq_false_iff_ne.mpr hne]; rfl

/-- The rows after `k` rounds. -/
theorem row_st (s : FVec Ideal S256x4096 .f32) (r : Fin 256) (k : ℕ) : row (st s k) r = Pick.rows (row s r) k := by
  induction k with
  | zero => rfl
  | succ k ih => show row (nx (st s k)) r = Pick.del _; rw [row_nx, ih]

/-- The `k`-th value of a row is the `k`-th greatest entry taken. -/
theorem vals_apply (s : FVec Ideal S256x4096 .f32) (b : Fin 1) (r : Fin 256) (k : Fin 16) :
    vals s (ix3 b r k) = Pick.rows (row s r) k.val (Pick.sel (Pick.rows (row s r) k.val)) := by
  rw [← row_st, ← mx_apply]
  unfold vals
  have e : ∀ x : S256x16.Idx → EReal, shapeCast S1x256x16 x Gen.shapeCasts_S256x16_S1x256x16 (ix3 b r k) = x (ix2 r k) :=
    fun x => by pointwise
  refine (e _).trans ?_
  refine (concatenate_ofFn_unit_apply (t := S256x16) (s₁ := S256x1) 1
    (fun k : Fin 16 => shapeCast S256x1 (mx (st s k.val)) Gen.shapeCasts_S256_S256x1) _ rfl rfl (ix2 r k) k rfl (ix2 r 0) ?_).trans ?_
  · intro b hb
    match b with
    | ⟨0, _⟩ => rfl
    | ⟨1, _⟩ => exact absurd rfl hb
  · pointwise

/-- The `k`-th column of a row is the position it is taken at, moved up by `o`. -/
theorem poss_apply (s : FVec Ideal S256x4096 .f32) (o : BitVec 32) (b : Fin 1) (r : Fin 256) (k : Fin 16) :
    poss s o (ix3 b r k) = IntOp.addi (BitVec.ofNat 32 (Pick.sel (Pick.rows (row s r) k.val)).val) o := by
  rw [← row_st, ← ix_apply]
  unfold poss
  have e : ∀ x : S256x16.Idx → BitVec 32, shapeCast S1x256x16 x Gen.shapeCasts_S256x16_S1x256x16 (ix3 b r k) = x (ix2 r k) :=
    fun x => by pointwise
  refine (e _).trans ?_
  refine congrArg (IntOp.addi · o) ?_
  refine (concatenate_ofFn_unit_apply (t := S256x16) (s₁ := S256x1) 1
    (fun k : Fin 16 => shapeCast S256x1 (ix (st s k.val)) Gen.shapeCasts_S256_S256x1) _ rfl rfl (ix2 r k) k rfl (ix2 r 0) ?_).trans ?_
  · intro b hb
    match b with
    | ⟨0, _⟩ => rfl
    | ⟨1, _⟩ => exact absurd rfl hb
  · pointwise

end Cert.Proof.Rounds

end
-- ==== Proof.Scores.lean ====
/- The scores the second region computes, block by block, are the reference's scores at the places the blocks sit: the
   scaled squared distance taken from the noise. -/
module

public import proofs.«01_k».proof.Proof.Pieces
public import proofs.«01_k».proof.Proof.RoundRows
public import proofs.«01_k».proof.Proof.Gen.ReferenceIdeal

@[expose] public section

set_option maxRecDepth 16384

noncomputable section

namespace Cert.Proof.Scores

open Idealize.ShloMosaic Idealize.ShloMosaic.TcCoe Idealize.SL.Sem
open Idealize.ShloMosaic.Pipeline (Dat)

section
open Cert.ReferenceIdeal Cert.ReferenceIdeal.Gen

/-- The reference's clamped squared distances of the rows of `x`. -/
def dist (x : FVec Ideal S2x4096x512 .f32) : FVec Ideal S2x4096x4096 .f32 :=
  maximumf (subf
    (addf
      (broadcastInDim S2x4096x4096 ![0, 1, 2] bcast_S2x4096x1_S2x4096x4096_0_1_2 (broadcastInDim S2x4096x1 ![0, 1] bcast_S2x4096_S2x4096x1_0_1
        (Host.reduceAdd (mulf x x) (constant S_ .f32 0x00000000#32) reducesTo_S2x4096x512_S2x4096_d2 h_S_)))
      (broadcastInDim S2x4096x4096 ![0, 1, 2] bcast_S2x1x4096_S2x4096x4096_0_1_2 (broadcastInDim S2x1x4096 ![0, 2] bcast_S2x4096_S2x1x4096_0_2
        (Host.reduceAdd (mulf x x) (constant S_ .f32 0x00000000#32) reducesTo_S2x4096x512_S2x4096_d2 h_S_))))
    (mulf (broadcastInDim S2x4096x4096 ![] bcast_S_S2x4096x4096 (constant S_ .f32 0x40000000#32))
      (Host.dotGeneral dot_S2x4096x512_S2x4096x512_S2x4096x4096_2_2_1_1_0_0 none x x)))
    (broadcastInDim S2x4096x4096 ![] bcast_S_S2x4096x4096 (constant S_ .f32 0x00000000#32))

/-- The scores: the noise less the scaled distances. -/
def scores (x : FVec Ideal S2x4096x512 .f32) (e : FVec Ideal KernelIdeal.S1x1 .f32) (g : FVec Ideal S2x4096x4096 .f32) :
    FVec Ideal S2x4096x4096 .f32 :=
  fun j => FloatOps.subf (g j) (FloatOps.mulf (e (ix2 0 0)) (dist x j))

end

open Cert.KernelIdeal

variable (V : (c : Dev nD) → (b : Ref sig .tc) → Buf (Elt Ideal) ((c : Thread nD τ).loc b))

open Cert.KernelIdeal.Gen (iblk1 dat1)

/-- Where the windows' blocks sit. -/
theorem idx : ∀ t : Fin cfg1.N, win1_0.index t = ![0, 0] ∧ win1_1.index t = ![t.val / 16, t.val % 16, 0]
    ∧ win1_2.index t = ![t.val / 16, 0, 0] ∧ win1_3.index t = ![t.val / 16, t.val % 16, 0]
    ∧ win1_4.index t = ![t.val / 16, t.val % 16, 0] ∧ win1_5.index t = ![t.val / 16, t.val % 16, 0] :=
  (by decide +kernel : ∀ t : Fin grid1.N, _)

/-- A point works on one of the two batch entries, the one its first coordinate names. -/
theorem bounds : ∀ t : Fin cfg1.N, t.val / 16 < 2 ∧ (grid1.coords t 0).val = t.val / 16 :=
  (by decide +kernel : ∀ t : Fin grid1.N, _)

/-- The batch entry a point works on. -/
def bt (t : Fin cfg1.N) : Fin 2 := ⟨t.val / 16, (bounds t).1⟩
/-- The row of the whole array that a point's row is. -/
def rw_ (t : Fin cfg1.N) (r : Fin 256) : Fin 4096 := ⟨t.val % 16 * 256 + r.val, by have := r.isLt; omega⟩

/-- The scores of a point are the whole array's scores. -/
theorem point (c : Dev nD) (t : Fin cfg1.N) (r : Fin 256) (k : Fin 4096) :
    Rounds.sc (F := Ideal) (iblk1 V c 0 t) (iblk1 V c 1 t) (iblk1 V c 2 t) (iblk1 V c 3 t) (ix2 r k)
      = scores (V c main_v2) (V c main_v18) (V c main_v15) (ix3 (bt t) (rw_ t r) k) := by
  pointwise [Rounds.sc, Gen.k1_pay4, scores, dist]
  blk_point [iblk1, idx t, bt, rw_]

end Cert.Proof.Scores

end
-- ==== Proof.Reals.lean ====
/- Values that are real numbers: sums, products and the other operations of real numbers are real. And the noise:
   the logarithm of the negated logarithm of a uniform draw is a real number, whatever the draw's random bits are. -/
module

public import Idealize.ShloMosaic.PureOps
public import Idealize.ShloMosaic.PureOps.Ideal
public import Idealize.ShloMosaic.PureOps.Contract
public import Idealize.ShloMosaic.Lib.IdealHost
public import Idealize.ShloMosaic.Lib.Pointwise.Tactic

@[expose] public section

noncomputable section

namespace Cert.Proof.Reals

open Idealize.ShloMosaic
open scoped BigOperators

/-- The value is a real number. -/
def IsReal (x : EReal) : Prop := ∃ r : ℝ, x = r

/-- A real number is real. -/
theorem IsReal.coe (r : ℝ) : IsReal (r : EReal) := ⟨r, rfl⟩
/-- Zero is real. -/
theorem IsReal.zero : IsReal 0 := ⟨0, EReal.coe_zero.symm⟩
/-- A sum of two reals is real. -/
theorem IsReal.add {x y : EReal} : IsReal x → IsReal y → IsReal (x + y) := by
  rintro ⟨a, rfl⟩ ⟨b, rfl⟩; exact ⟨a + b, (EReal.coe_add a b).symm⟩
/-- A difference of two reals is real. -/
theorem IsReal.sub {x y : EReal} : IsReal x → IsReal y → IsReal (x - y) := by
  rintro ⟨a, rfl⟩ ⟨b, rfl⟩; exact ⟨a - b, (EReal.coe_sub a b).symm⟩
/-- A product of two reals is real. -/
theorem IsReal.mul {x y : EReal} : IsReal x → IsReal y → IsReal (x * y) := by
  rintro ⟨a, rfl⟩ ⟨b, rfl⟩; exact ⟨a * b, (EReal.coe_mul a b).symm⟩
/-- The greater of two reals is real. -/
theorem IsReal.maximum {x y : EReal} (hx : IsReal x) (hy : IsReal y) : IsReal (max x y) := by
  rcases max_choice x y with h | h <;> rw [h] <;> assumption
/-- A finite sum of reals is real. -/
theorem IsReal.sum {ι : Type*} (s : Finset ι) (f : ι → EReal) (h : ∀ i, IsReal (f i)) : IsReal (∑ i ∈ s, f i) := by
  classical
  induction s using Finset.induction_on with
  | empty => exact .zero
  | insert a s ha ih => rw [Finset.sum_insert ha]; exact (h a).add ih
/-- A real is above the least value. -/
theorem IsReal.bot_lt {x : EReal} : IsReal x → ⊥ < x := by rintro ⟨a, rfl⟩; exact EReal.bot_lt_coe a

/-- A product of two arrays of real numbers is an array of real numbers. -/
theorem IsReal.dotGeneral {sl sr so : Shape} (d : DotDims sl sr so) (l : FVec Ideal sl .f32) (r : FVec Ideal sr .f32)
    (hl : ∀ i, IsReal (l i)) (hr : ∀ i, IsReal (r i)) (j : so.Idx) : IsReal (Host.dotGeneral d none l r j) :=
  IsReal.zero.add (.sum _ _ fun k => (hl _).mul (hr _))

/-- A sum of an array of real numbers along some of its axes is an array of real numbers. -/
theorem IsReal.reduceAdd {s t u : Shape} {axes : List (Fin s.rank)} (x : FVec Ideal s .f32) (init : FVec Ideal u .f32)
    (h : s.ReducesTo axes t) (hu : 0 < u.numel) (hx : ∀ i, IsReal (x i)) (hi : ∀ i, IsReal (init i)) (j : t.Idx) :
    IsReal (Host.reduceAdd x init h hu j) :=
  (hi _).add (.sum _ _ fun k => hx k)

/-- A number below infinity in absolute value is real. -/
theorem IsReal.of_abs_lt (x : EReal) (h : Ideal.cmp .olt (max x (-x)) (Ideal.ofBits .f32 0x7F800000#32) = 1#1) : IsReal x := by
  have ht : Ideal.ofBits .f32 0x7F800000#32 = ⊤ := by simp [Ideal.ofBits, Ideal.ieee]
  rw [ht] at h
  have hlt : max x (-x) < ⊤ := by
    by_contra hc
    simp [Ideal.cmp, hc] at h
  induction x with
  | bot => simp at hlt
  | top => simp at hlt
  | coe r => exact ⟨r, rfl⟩

/-- The exponential of a number clipped to an interval is real. -/
theorem IsReal.exp_clip (t : EReal) :
    IsReal (Ideal.exp (min (Ideal.ofBits .f32 0x40A00000#32) (max (Ideal.ofBits .f32 0xC0A00000#32) t))) := by
  have h5 : Ideal.ofBits .f32 0x40A00000#32 = ((5 : ℝ) : EReal) := by
    simp [Ideal.ofBits, Ideal.ieee, -EReal.coe_mul]; norm_num
  have hm : Ideal.ofBits .f32 0xC0A00000#32 = ((-5 : ℝ) : EReal) := by
    simp [Ideal.ofBits, Ideal.ieee, -EReal.coe_mul, -EReal.coe_neg]; norm_num
  rw [h5, hm]
  induction t with
  | bot => rw [max_eq_left bot_le, min_eq_right (by norm_cast)]; exact ⟨_, Ideal.exp_coe _⟩
  | top => rw [max_eq_right le_top, min_eq_left le_top]; exact ⟨_, Ideal.exp_coe _⟩
  | coe r =>
    rw [← EReal.coe_strictMono.monotone.map_max, ← EReal.coe_strictMono.monotone.map_min]
    exact ⟨_, Ideal.exp_coe _⟩

/-! ## The noise -/

/-- The word a uniform draw is made of: the exponent of one, and the upper bits of a random word as its fraction. -/
abbrev word (b : BitVec 32) : BitVec 32 := IntOp.ori (IntOp.shrui .host b 9#32) 1065353216#32

/-- It denotes a number from one to below two. -/
theorem word_real (b : BitVec 32) :
    ∃ r : ℝ, Ideal.ofBits .f32 (word b) = (r : EReal) ∧ 1 ≤ r ∧ r ≤ 2 - 1 / 2 ^ 23 := by
  have hw : word b = (b >>> 9) ||| 1065353216#32 := rfl
  have h1 : (word b).extractLsb' 31 1 = 0#1 := by
    rw [hw]; ext i hi; simp; interval_cases i; simp
  have h2 : (word b).extractLsb' 23 8 = 127#8 := by
    rw [hw]; ext i hi; simp; interval_cases i <;> simp
  have h3 := ((word b).extractLsb' 0 23).isLt
  generalize hfr : ((word b).extractLsb' 0 23).toNat = n at h3
  refine ⟨(2 ^ 23 + n : ℕ) * (2 : ℝ) ^ (-23 : ℤ), ?_, ?_, ?_⟩
  · simp only [Ideal.ofBits, Ideal.ieee]
    rw [h1, h2, hfr]
    norm_num
  · rw [zpow_neg, ← div_eq_mul_inv, le_div_iff₀ (by positivity)]
    push_cast
    have : (0 : ℝ) ≤ n := by positivity
    norm_num
  · rw [zpow_neg, ← div_eq_mul_inv, div_le_iff₀ (by positivity)]
    have : (n : ℝ) + 1 ≤ 2 ^ 23 := by exact_mod_cast h3
    push_cast
    norm_num at this ⊢; linarith

/-- The noise drawn from a random word. -/
def noise (b : BitVec 32) : EReal :=
  Ideal.log (-(Ideal.log (max (Ideal.ofBits .f32 0x00000000#32)
    ((Ideal.ofBits .f32 (word b) - Ideal.ofBits .f32 0x3F800000#32)
        * (Ideal.ofBits .f32 0x3F800000#32 - Ideal.ofBits .f32 0x00000000#32) + Ideal.ofBits .f32 0x00000000#32)
    + Ideal.ofBits .f32 0x322BCC77#32)))

/-- It is a real number. -/
theorem noise_real (b : BitVec 32) : IsReal (noise b) := by
  obtain ⟨r, hr, h1, h2⟩ := word_real b
  have hq : Ideal.ofBits .f32 0x322BCC77#32 = ((11258999 / 2 ^ 50 : ℝ) : EReal) := by
    simp [Ideal.ofBits, Ideal.ieee, -EReal.coe_mul]; norm_num
  have ho : Ideal.ofBits .f32 0x3F800000#32 = ((1 : ℝ) : EReal) := by rw [Ideal.ofBits_one_f32]; rfl
  have hz : Ideal.ofBits .f32 0x00000000#32 = ((0 : ℝ) : EReal) := by rw [Ideal.ofBits_zero_f32]; rfl
  have hu : max (0 : ℝ) ((r - 1) * (1 - 0) + 0) = r - 1 := by rw [max_eq_right] <;> linarith
  unfold noise
  rw [hr, hq, ho, hz, ← EReal.coe_sub, ← EReal.coe_sub, ← EReal.coe_mul, ← EReal.coe_add,
    ← EReal.coe_strictMono.monotone.map_max, hu, ← EReal.coe_add]
  have hp : (0 : ℝ) < r - 1 + 11258999 / 2 ^ 50 := by
    have : (0 : ℝ) < 11258999 / 2 ^ 50 := by positivity
    linarith
  have hl : r - 1 + 11258999 / 2 ^ 50 < (1 : ℝ) := by norm_num at h2 ⊢; linarith
  have hn := Real.log_neg hp hl
  rw [Ideal.log_coe, if_neg (not_le.mpr hp), ← EReal.coe_neg, Ideal.log_coe, if_neg (by linarith)]
  exact ⟨_, rfl⟩

/-- Taking a product from a real number is negating the difference the other way round. -/
theorem sub_eq_neg_sub (g a : EReal) (hg : IsReal g) : g - a = -(a - g) := by
  obtain ⟨r, rfl⟩ := hg
  rw [EReal.neg_sub (Or.inr (EReal.coe_ne_bot r)) (Or.inr (EReal.coe_ne_top r)), add_comm, sub_eq_add_neg]

end Cert.Proof.Reals

end
-- ==== Proof.RefScores.lean ====
/- The reference's scores: the noise less the scaled distances, and a real number everywhere once the two arguments
   they come from are. -/
module

public import proofs.«01_k».proof.Proof.RefVals
public import proofs.«01_k».proof.Proof.Scores
public import proofs.«01_k».proof.Proof.Reals

@[expose] public section

set_option maxRecDepth 4000

noncomputable section

namespace Cert.Proof.Ref

open Idealize.ShloMosaic Idealize.ShloMosaic.TcCoe Idealize.SL.Sem
open Idealize.ShloMosaic.StableHlo (TRef)
open Cert.ReferenceIdeal Cert.Proof.Reals

variable {W : Valuation τ sig (Elt Ideal)}

/-- The product of the reshaped first argument and the weights, reshaped back. -/
theorem x2_eq (h : Eqs (F := Ideal) W) : rd W (.of main_v2 : TRef sig ⟨S2x4096x512, .f32⟩)
    = shapeCast S2x4096x512 (Host.dotGeneral (F := Ideal) (φ₁ := .f32) (φ₂ := .f32) dot_S8192x512_S512x512_S8192x512_1_0_0_1_n_n none
        (shapeCast S8192x512 (rd W (.of main_arg0 : TRef sig ⟨S2x4096x512, .f32⟩)) Facts₀.shapeCasts_S2x4096x512_S8192x512)
        (rd W (.of main_arg2 : TRef sig ⟨S512x512, .f32⟩))) Facts₀.shapeCasts_S8192x512_S2x4096x512 := by
  rw [e_v2 h, e_v1 h, e_v0 h]

/-- The distances are those of the product's rows. -/
theorem dist_eq (h : Eqs (F := Ideal) W) : rd W (.of main_v15 : TRef sig ⟨S2x4096x4096, .f32⟩)
    = Scores.dist (rd W (.of main_v2 : TRef sig ⟨S2x4096x512, .f32⟩)) := by
  rw [e_v15 h, e_v14 h, e_cst_1 h, e_v13 h, e_v12 h, e_v11 h, e_cst_0 h, e_v10 h, e_v9 h, e_v8 h, e_v7 h, e_v6 h, e_v5 h,
    e_v4 h, e_cst h, e_v3 h]
  rfl

/-- The noise at an index is that of the random word there. -/
theorem noise_eq (h : Eqs (F := Ideal) W) (j : S2x4096x4096.Idx) : rd W (.of main_v32 : TRef sig ⟨S2x4096x4096, .f32⟩) j
    = noise (rd W (.of main_call1_v24 : TRef sig ⟨S2x4096x4096, .i32⟩) j) := by
  rw [e_v32 h, e_v31 h, e_v30 h, e_v29 h, e_v28 h, e_cst_8 h, e_v27 h, e_call1_v37 h, e_call1_v36 h, e_call1_v35 h,
    e_call1_v34 h, e_call1_v33 h, e_call1_v32 h, e_call1_v31 h, e_call1_v30 h, e_call1_cst h, e_call1_v29 h, e_call1_v28 h,
    e_call1_v27 h, e_call1_c_4 h, e_call1_v26 h, e_call1_v25 h, e_call1_c_3 h, e_call1_v3 h, e_call1_v2 h, e_call1_v1 h,
    e_call1_v0 h, e_cst_7 h, e_cst_6 h]
  rfl

/-- The noise is real everywhere. -/
theorem noise_isReal (h : Eqs (F := Ideal) W) (j : S2x4096x4096.Idx) :
    IsReal (rd W (.of main_v32 : TRef sig ⟨S2x4096x4096, .f32⟩) j) := by
  rw [noise_eq h]; exact noise_real _

/-- The scale is real. -/
theorem scale_isReal (h : Eqs (F := Ideal) W) (j : S_.Idx) : IsReal (rd W (.of main_v17 : TRef sig ⟨S_, .f32⟩) j) := by
  rw [e_v17 h, e_v16 h, e_call0_v2 h, e_call0_v1 h, e_call0_v0 h, e_cst_3 h, e_cst_2 h]
  exact IsReal.exp_clip _

/-- The product is real everywhere once its operands are. -/
theorem x2_isReal (h : Eqs (F := Ideal) W) (h0 : ∀ i, IsReal (rd W (.of main_arg0 : TRef sig ⟨S2x4096x512, .f32⟩) i))
    (h2 : ∀ i, IsReal (rd W (.of main_arg2 : TRef sig ⟨S512x512, .f32⟩) i)) (j : S2x4096x512.Idx) :
    IsReal (rd W (.of main_v2 : TRef sig ⟨S2x4096x512, .f32⟩) j) := by
  rw [x2_eq h]
  exact IsReal.dotGeneral _ _ _ (fun i => h0 _) h2 _

/-- The distances of real rows are real. -/
theorem dist_isReal (x : FVec Ideal S2x4096x512 .f32) (hx : ∀ i, IsReal (x i)) (j : S2x4096x4096.Idx) :
    IsReal (Scores.dist x j) := by
  have hz : IsReal (Ideal.ofBits .f32 0x00000000#32) := by rw [Ideal.ofBits_zero_f32]; exact .zero
  have h2 : IsReal (Ideal.ofBits .f32 0x40000000#32) :=
    ⟨2, by simp [Ideal.ofBits, Ideal.ieee, -EReal.coe_mul]; norm_num⟩
  have hs := IsReal.reduceAdd (mulf x x) (constant S_ .f32 0x00000000#32) Gen.reducesTo_S2x4096x512_S2x4096_d2 Gen.h_S_
    (fun i => (hx i).mul (hx i)) (fun _ => hz)
  exact (((hs _).add (hs _)).sub (h2.mul (IsReal.dotGeneral _ _ _ hx hx _))).maximum hz

/-- The scores the reference sorts are those the kernel computes, for the same scale. -/
theorem scores_eq (h : Eqs (F := Ideal) W) (e : FVec Ideal KernelIdeal.S1x1 .f32)
    (he : e (ix2 0 0) = rd W (.of main_v17 : TRef sig ⟨S_, .f32⟩) (Shape.Idx.first (by decide))) :
    Scores.scores (rd W (.of main_v2 : TRef sig ⟨S2x4096x512, .f32⟩)) e (rd W (.of main_v32 : TRef sig ⟨S2x4096x4096, .f32⟩))
      = rd W (.of main_v34 : TRef sig ⟨S2x4096x4096, .f32⟩) := by
  funext j
  have hb : rd W (.of main_v18 : TRef sig ⟨S2x4096x4096, .f32⟩) j = e (ix2 0 0) := by
    rw [he, e_v18 h]; exact (ValueIdx.broadcastInDim_scalar_apply _ _ j).trans
      (congrArg (rd W (.of main_v17 : TRef sig ⟨S_, .f32⟩)) (funext fun a => Fin.elim0 a))
  rw [e_v34 h, e_v33 h, e_v19 h, dist_eq h]
  refine (sub_eq_neg_sub _ _ (noise_isReal h j)).trans ?_
  show -(e (ix2 0 0) * _ - _) = -(_ * rd W (.of main_v18 : TRef sig ⟨S2x4096x4096, .f32⟩) j - _)
  rw [hb, mul_comm]

/-- They are above the least value everywhere once the two arguments are real. -/
theorem scores_bot_lt (h : Eqs (F := Ideal) W) (h0 : ∀ i, IsReal (rd W (.of main_arg0 : TRef sig ⟨S2x4096x512, .f32⟩) i))
    (h2 : ∀ i, IsReal (rd W (.of main_arg2 : TRef sig ⟨S512x512, .f32⟩) i)) (j : S2x4096x4096.Idx) :
    (⊥ : EReal) < rd W (.of main_v34 : TRef sig ⟨S2x4096x4096, .f32⟩) j := by
  rw [← scores_eq h (fun _ => rd W (.of main_v17 : TRef sig ⟨S_, .f32⟩) (Shape.Idx.first (by decide))) rfl]
  exact ((noise_isReal h j).sub ((scale_isReal h _).mul (dist_isReal _ (x2_isReal h h0 h2) j))).bot_lt

end Cert.Proof.Ref

end
-- ==== Proof.Region0.lean ====
/- The first region computes the whole product: its sixteen row blocks cover the output array, and each is the product
   of the matching rows of the input with the weights. -/
module

public import proofs.«01_k».proof.Proof.Gen.KernelIdeal.Frame
public import proofs.«01_k».proof.Proof.Gen.ReferenceIdeal
public import Idealize.ShloMosaic.Lib.Pipeline.ValueKit

@[expose] public section

set_option maxRecDepth 16384

noncomputable section

namespace Cert.Proof.Region0

open Idealize.ShloMosaic Idealize.ShloMosaic.TcCoe Idealize.SL.Sem
open Idealize.ShloMosaic.Pipeline (Dat)
open Cert.KernelIdeal Cert.KernelIdeal.Gen

/-- The product the reference takes. -/
abbrev prod (x : FVec Ideal S8192x512 .f32) (w : FVec Ideal S512x512 .f32) : FVec Ideal S8192x512 .f32 :=
  Host.dotGeneral ReferenceIdeal.dot_S8192x512_S512x512_S8192x512_1_0_0_1_n_n none x w

variable (V : (c : Dev nD) → (b : Ref sig .tc) → Buf (Elt Ideal) ((c : Thread nD τ).loc b))

/-- Where the three windows' blocks sit. -/
theorem idx : ∀ t : Fin cfg0.N, win0_0.index t = ![t.val, 0] ∧ win0_1.index t = ![0, 0] ∧ win0_2.index t = ![t.val, 0] :=
  (by decide +kernel : ∀ t : Fin grid0.N, _)

/-- What the body stores at a place of its block is the whole product at the place the block puts it. -/
theorem point (c : Dev nD) (t : Fin cfg0.N) (y : S512x512.Idx) :
    k0_pay1 (iblk0 V c 0 t) (iblk0 V c 1 t) y
      = prod (V c main_v0) (V c main_arg2) (((cfg0.win 2).blk t).view.emb y) := by
  pointwise [k0_pay1, prod]
  blk_point [iblk0, idx t]

/-- The output array after the region is the product of its two input arrays. -/
theorem final (c : Dev nD) : (dat0 V c).arrAt 2 cfg0.N = prod (V c main_v0) (V c main_arg2) := by
  refine (dat0 V c).arrAt_eq_of_covers 2 _ (by decide +kernel) fun t hf y => ?_
  blk_simp
  rw [after0_2]; frame_out
  exact point V c t y

end Cert.Proof.Region0

end
-- ==== Proof.Region1.lean ====
/- What the second region leaves in its two output arrays: for every row of scores, the sixteen greatest entries taken one
   by one, and their positions, moved up by 4096 for the second batch entry. -/
module

public import proofs.«01_k».proof.Proof.Scores

@[expose] public section

set_option maxRecDepth 16384

noncomputable section

namespace Cert.Proof.Region1

open Idealize.ShloMosaic Idealize.ShloMosaic.TcCoe Idealize.SL.Sem
open Idealize.ShloMosaic.Pipeline (Dat)
open Cert.KernelIdeal Cert.Proof.Scores
open Cert.KernelIdeal.Gen (iblk1 dat1)

/-- Row `i` of batch entry `b`. -/
def row (x : FVec Ideal S2x4096x4096 .f32) (b : Fin 2) (i : Fin 4096) : Fin 4096 → EReal := fun c => x (ix3 b i c)

/-- The position taken `k`-th in a row. -/
def pick (x : FVec Ideal S2x4096x4096 .f32) (b : Fin 2) (i : Fin 4096) (k : ℕ) : Fin 4096 := Pick.sel (Pick.rows (row x b i) k)

/-- The entries taken. -/
def topVals (x : FVec Ideal S2x4096x4096 .f32) : FVec Ideal S2x4096x16 .f32 :=
  fun j => Pick.rows (row x (j 0) (j 1)) (j 2).val (pick x (j 0) (j 1) (j 2).val)

/-- The positions they are taken at, moved up by 4096 for each batch entry before. -/
def topPoss (x : FVec Ideal S2x4096x4096 .f32) : IVec S2x4096x16 32 :=
  fun j => IntOp.addi (BitVec.ofNat 32 (pick x (j 0) (j 1) (j 2).val).val)
    (Scalar.muli (BitVec.ofNat 32 (j 0).val) 4096#32)

variable (V : (c : Dev nD) → (b : Ref sig .tc) → Buf (Elt Ideal) ((c : Thread nD τ).loc b))

/-- The whole array of scores the region works on. -/
abbrev all (c : Dev nD) : FVec Ideal S2x4096x4096 .f32 := scores (V c main_v2) (V c main_v18) (V c main_v15)

/-- A point's rows are rows of the whole array. -/
theorem row_sc (c : Dev nD) (t : Fin cfg1.N) (r : Fin 256) :
    Rounds.row (Rounds.sc (F := Ideal) (iblk1 V c 0 t) (iblk1 V c 1 t) (iblk1 V c 2 t) (iblk1 V c 3 t)) r
      = row (all V c) (bt t) (rw_ t r) := by
  funext k; exact point V c t r k

/-- An index is its three coordinates. -/
theorem eq_ix (y : S1x256x16.Idx) : y = ix3 (y 0) (y 1) (y 2) := by
  funext a
  match a with
  | ⟨0, _⟩ => rfl
  | ⟨1, _⟩ => rfl
  | ⟨2, _⟩ => rfl

/-- Where a place of the first output block sits in its array. -/
theorem emb4 (t : Fin cfg1.N) (y : S1x256x16.Idx) :
    ((cfg1.win 4).blk t).view.emb y = ix3 (bt t) (rw_ t (y 1)) (y 2) := by
  blk_ext [idx t, bt, rw_]

/-- Where a place of the second output block sits in its array. -/
theorem emb5 (t : Fin cfg1.N) (y : S1x256x16.Idx) :
    ((cfg1.win 5).blk t).view.emb y = ix3 (bt t) (rw_ t (y 1)) (y 2) := by
  blk_ext [idx t, bt, rw_]

/-- The scores of a point's rows. -/
abbrev scs (c : Dev nD) (t : Fin cfg1.N) : FVec Ideal S256x4096 .f32 :=
  Rounds.sc (F := Ideal) (iblk1 V c 0 t) (iblk1 V c 1 t) (iblk1 V c 2 t) (iblk1 V c 3 t)

/-- Where a block's row is a row of the whole array, the entries taken are the whole array's. -/
theorem vals_sc (s : FVec Ideal S256x4096 .f32) (x : FVec Ideal S2x4096x4096 .f32) (b : Fin 2) (i : Fin 4096) (r : Fin 256)
    (h : Rounds.row s r = row x b i) (a : Fin 1) (k : Fin 16) :
    Rounds.vals s (ix3 a r k) = topVals x (ix3 b i k) := by
  rw [Rounds.vals_apply, h]; rfl

/-- Where a block's row is a row of the whole array, the positions are the whole array's. -/
theorem poss_sc (s : FVec Ideal S256x4096 .f32) (x : FVec Ideal S2x4096x4096 .f32) (b : Fin 2) (i : Fin 4096) (r : Fin 256)
    (h : Rounds.row s r = row x b i) (n : ℕ) (hn : n = b.val) (a : Fin 1) (k : Fin 16) :
    Rounds.poss s (Scalar.muli (BitVec.ofNat 32 n) 4096#32) (ix3 a r k) = topPoss x (ix3 b i k) := by
  rw [Rounds.poss_apply, h, hn]; rfl

/-- A point leaves the entries taken from its block's scores in its first output block. -/
theorem outs4 (c : Dev nD) (t : Fin cfg1.N) : (Gen.outsAt1 V c t).1 = Rounds.vals (scs V c t) := by
  unfold Gen.outsAt1
  dsimp only
  exact Rounds.out4 (F := Ideal) c (grid1.coords t) (Gen.ms1_0 t) (Gen.hs1_0 t) (Gen.ms1_1 t) (Gen.hs1_1 t) (Gen.ms1_2 t) (Gen.hs1_2 t) (Gen.ms1_3 t) (Gen.hs1_3 t) (Gen.ms1_4 t) (Gen.hs1_4 t) (Gen.ms1_5 t) (Gen.hs1_5 t)
    (iblk1 V c 0 t) (iblk1 V c 1 t) (iblk1 V c 2 t) (iblk1 V c 3 t)

/-- A point leaves the positions in its second output block. -/
theorem outs5 (c : Dev nD) (t : Fin cfg1.N) : (Gen.outsAt1 V c t).2
    = Rounds.poss (scs V c t) (Scalar.muli (BitVec.ofNat 32 (grid1.coords t 0).val) 4096#32) := by
  unfold Gen.outsAt1
  dsimp only
  exact Rounds.out5 (F := Ideal) c (grid1.coords t) (Gen.ms1_0 t) (Gen.hs1_0 t) (Gen.ms1_1 t) (Gen.hs1_1 t) (Gen.ms1_2 t) (Gen.hs1_2 t) (Gen.ms1_3 t) (Gen.hs1_3 t) (Gen.ms1_4 t) (Gen.hs1_4 t) (Gen.ms1_5 t) (Gen.hs1_5 t)
    (iblk1 V c 0 t) (iblk1 V c 1 t) (iblk1 V c 2 t) (iblk1 V c 3 t)

/-- What a point leaves at a place of its first output block. -/
theorem leaves4 (c : Dev nD) (t : Fin cfg1.N) (y : S1x256x16.Idx) :
    (Gen.outsAt1 V c t).1 y = topVals (all V c) (ix3 (bt t) (rw_ t (y 1)) (y 2)) :=
  (congrFun (outs4 V c t) y).trans ((congrArg (Rounds.vals (scs V c t)) (eq_ix y)).trans
    (vals_sc _ _ _ _ _ (row_sc V c t (y 1)) (y 0) (y 2)))

/-- What a point leaves at a place of its second output block. -/
theorem leaves5 (c : Dev nD) (t : Fin cfg1.N) (y : S1x256x16.Idx) :
    (Gen.outsAt1 V c t).2 y = topPoss (all V c) (ix3 (bt t) (rw_ t (y 1)) (y 2)) :=
  (congrFun (outs5 V c t) y).trans ((congrArg (Rounds.poss (scs V c t) _) (eq_ix y)).trans
    (poss_sc _ _ _ _ _ (row_sc V c t (y 1)) _ (bounds t).2 (y 0) (y 2)))

/-- The first output array: the entries taken. -/
theorem final4 (c : Dev nD) : (dat1 V c).arrAt 4 cfg1.N = topVals (all V c) := by
  refine (dat1 V c).arrAt_eq_of_covers 4 _ (by decide +kernel) fun t hf y => ?_
  blk_simp
  rw [Gen.after1_4]
  exact (leaves4 V c t y).trans (congrArg (topVals (all V c)) (emb4 t y)).symm

/-- The second output array: the positions. -/
theorem final5 (c : Dev nD) : (dat1 V c).arrAt 5 cfg1.N = topPoss (all V c) := by
  refine (dat1 V c).arrAt_eq_of_covers 5 _ (by decide +kernel) fun t hf y => ?_
  blk_simp
  rw [Gen.after1_5]
  exact (leaves5 V c t y).trans (congrArg (topPoss (all V c)) (emb5 t y)).symm

end Cert.Proof.Region1

end
-- ==== Proof.TopKRows.lean ====
/- The reference's top-k read row by row: its values and indices are the entries and positions taken one by one. -/
module

public import proofs.«01_k».proof.Proof.Pick
public import proofs.«01_k».proof.Proof.Gen.ReferenceIdeal
public import Idealize.ShloMosaic.Lib.Pipeline.ValueKit
public import Idealize.ShloMosaic.PureOps.Ideal.Laws

@[expose] public section

set_option maxRecDepth 16384

noncomputable section

namespace Cert.Proof.TopKRows

open Idealize.ShloMosaic Idealize.SL.Sem Cert.ReferenceIdeal

/-- Row `i` of batch entry `b`. -/
def row (x : FVec Ideal S2x4096x4096 .f32) (b : Fin 2) (i : Fin 4096) : Fin 4096 → EReal := fun c => x (ix3 b i c)

/-- The axis the top-k runs along. -/
abbrev ax : Fin S2x4096x4096.rank := ⟨2, by decide⟩

/-- The positions along the sorted axis through an index. -/
theorem along_eq (b : Fin 2) (i c : Fin 4096) (k : Fin 4096) :
    Shape.Idx.along (s := S2x4096x4096) (ix3 b i c) ax k = ix3 b i k := by
  funext a
  match a with
  | ⟨0, _⟩ => rfl
  | ⟨1, _⟩ => rfl
  | ⟨2, _⟩ => rfl

variable (x : FVec Ideal S2x4096x4096 .f32) (h : S2x4096x4096.Slices (fun _ => 0) S2x4096x16)

/-- The place of the operand a result's place reads. -/
theorem slice_apply {α : Type} (y : S2x4096x4096.Idx → α) (b : Fin 2) (i : Fin 4096) (k : Fin 16) :
    extractStridedSlice S2x4096x16 (fun _ => 0) y h (ix3 b i k) = y (ix3 b i (k.castLE (by decide))) := by
  unfold extractStridedSlice
  congr 1
  funext a
  apply Fin.ext
  match a with
  | ⟨0, _⟩ => exact Nat.zero_add _
  | ⟨1, _⟩ => exact Nat.zero_add _
  | ⟨2, _⟩ => exact Nat.zero_add _

/-- The comparison's key at an index. -/
theorem cmp_eq (b : Fin 2) (i c : Fin 4096) :
    (fun k k' : Fin 4096 => (FloatOps.cmpfTotal (F := Ideal) (φ := .f32) .gt (x (Shape.Idx.along (s := S2x4096x4096) (ix3 b i c) ax k))
        (x (Shape.Idx.along (s := S2x4096x4096) (ix3 b i c) ax k')) == 1#1)) = Pick.before (row x b i) := by
  funext k k'
  rw [along_eq, along_eq]
  show (BitVec.ofBool (decide (x (ix3 b i k') < x (ix3 b i k))) == 1#1) = decide (x (ix3 b i k') < x (ix3 b i k))
  by_cases e : x (ix3 b i k') < x (ix3 b i k) <;> simp [e]

/-- The stable sort of the operand with its column numbers. -/
theorem sort_eq (y : IVec S2x4096x4096 32) :
    Host.sort2 S2x4096x4096 2 (fun l r => FloatOps.cmpfTotal (F := Ideal) (φ := .f32) .gt l.1 r.1) x y
      = (fun j => x (j.along ax (sortedFrom (fun k k' => FloatOps.cmpfTotal (F := Ideal) (φ := .f32) .gt (x (j.along ax k)) (x (j.along ax k')) == 1#1) (j ax))),
        fun j => y (j.along ax (sortedFrom (fun k k' => FloatOps.cmpfTotal (F := Ideal) (φ := .f32) .gt (x (j.along ax k)) (x (j.along ax k')) == 1#1) (j ax)))) :=
  dif_pos (by decide)

/-- Every entry's column number. -/
def cidx : IVec S2x4096x4096 32 := fun i => if hd : 2 < S2x4096x4096.rank then iotaInDim S2x4096x4096 32 ⟨2, hd⟩ i else 0#32

/-- The position numbers' entry at position `c` is `c`. -/
theorem cidx_apply (b : Fin 2) (i c : Fin 4096) : cidx (ix3 b i c) = BitVec.ofNat 32 c.val :=
  dif_pos (by decide)

/-- A value of the top-k is the entry at the stable sort's position. -/
theorem topK_fst (b : Fin 2) (i : Fin 4096) (k : Fin 16) :
    (Host.topK S2x4096x16 2 (FloatOps.cmpfTotal (F := Ideal) (φ := .f32) .gt) x h).1 (ix3 b i k)
      = row x b i (sortedFrom (Pick.before (row x b i)) (k.castLE (by decide))) := by
  rw [← cmp_eq x b i (k.castLE (by decide))]
  show extractStridedSlice S2x4096x16 (fun _ => 0)
    (Host.sort2 S2x4096x4096 2 (fun l r => FloatOps.cmpfTotal (F := Ideal) (φ := .f32) .gt l.1 r.1) x cidx).1 h (ix3 b i k) = _
  refine (slice_apply h _ b i k).trans ?_
  refine (congrFun (congrArg Prod.fst (sort_eq x _)) _).trans ?_
  exact congrArg x (along_eq b i _ _)

/-- An index of the top-k is that position. -/
theorem topK_snd (b : Fin 2) (i : Fin 4096) (k : Fin 16) :
    (Host.topK S2x4096x16 2 (FloatOps.cmpfTotal (F := Ideal) (φ := .f32) .gt) x h).2 (ix3 b i k)
      = BitVec.ofNat 32 (sortedFrom (Pick.before (row x b i)) (k.castLE (by decide))).val := by
  rw [← cmp_eq x b i (k.castLE (by decide))]
  show extractStridedSlice S2x4096x16 (fun _ => 0)
    (Host.sort2 S2x4096x4096 2 (fun l r => FloatOps.cmpfTotal (F := Ideal) (φ := .f32) .gt l.1 r.1) x cidx).2 h (ix3 b i k) = _
  refine (slice_apply h _ b i k).trans ?_
  refine (congrFun (congrArg Prod.snd (sort_eq x _)) _).trans ?_
  exact (congrArg cidx (along_eq b i _ _)).trans (cidx_apply b i _)

variable (b : Fin 2) (i : Fin 4096) (hf : ∀ c, ⊥ < row x b i c)
include hf

/-- A value of the top-k is the entry the step takes. -/
theorem values (k : Fin 16) :
    (Host.topK S2x4096x16 2 (FloatOps.cmpfTotal (F := Ideal) (φ := .f32) .gt) x h).1 (ix3 b i k)
      = Pick.rows (row x b i) k.val (Pick.sel (Pick.rows (row x b i) k.val)) := by
  rw [topK_fst, Pick.sortedFrom_eq_sel (row x b i) hf 16 (by decide) k,
    Pick.rows_sel (row x b i) hf k.val (by have := k.isLt; omega)]

/-- An index of the top-k is the position the step takes it at. -/
theorem indices (k : Fin 16) :
    (Host.topK S2x4096x16 2 (FloatOps.cmpfTotal (F := Ideal) (φ := .f32) .gt) x h).2 (ix3 b i k)
      = BitVec.ofNat 32 (Pick.sel (Pick.rows (row x b i) k.val)).val := by
  rw [topK_snd, Pick.sortedFrom_eq_sel (row x b i) hf 16 (by decide) k]

end Cert.Proof.TopKRows

end
-- ==== Proof.Agree.lean ====
/- The kernel program's three results are the reference's, from arguments that agree and, for the last two, are real. -/
module

public import proofs.«01_k».proof.Proof.KerVals
public import proofs.«01_k».proof.Proof.RefScores
public import proofs.«01_k».proof.Proof.Region0
public import proofs.«01_k».proof.Proof.Region1
public import proofs.«01_k».proof.Proof.TopKRows

@[expose] public section

set_option maxRecDepth 4000

noncomputable section

namespace Cert.Proof.Agree

open Idealize.ShloMosaic Idealize.ShloMosaic.TcCoe Idealize.SL.Sem
open Idealize.ShloMosaic.StableHlo (TRef)
open Cert.KernelIdeal Cert.Proof.Reals Cert.Proof.Ker
open Cert.KernelIdeal.Gen (W0 W1 W2 W7 W8 W9 V1 V7)

namespace R
export Cert.ReferenceIdeal (sig τ nD main_arg0 main_arg2 main_arg3 main_v2 main_v17 main_v34 main_v46 main_v50 main_values main_indices)
end R

variable (m : (ℓ : Loc nD τ sig) → Buf (Elt Ideal) ℓ) (ρ : Dev nD → PrngReg)
  (m' : (ℓ : Loc R.nD R.τ R.sig) → Buf (Elt Ideal) ℓ) (c : Dev nD)

/-- The reference's contents satisfy its equations. -/
theorem eqs : Ref.Eqs (F := Ideal) (Ref.fin m' c) where
  ops0 op h := Ref.fin_fix m' c op (by simp only [Ref.ops, List.mem_append]; tauto)
  ops5 op h := Ref.fin_fix m' c op (by simp only [Ref.ops, List.mem_append]; tauto)

variable (h0 : m' ((c.tc : Thread R.nD R.τ).loc R.main_arg0) = m ((c.tc : Thread nD τ).loc main_arg0))
  (h2 : m' ((c.tc : Thread R.nD R.τ).loc R.main_arg2) = m ((c.tc : Thread nD τ).loc main_arg2))
  (h3 : m' ((c.tc : Thread R.nD R.τ).loc R.main_arg3) = m ((c.tc : Thread nD τ).loc main_arg3))

/-- What the first region leaves is the product of the reshaped first argument and the weights. -/
theorem v1_eq : rd (W7 m ρ c) (.of main_v1 : TRef sig ⟨S8192x512, .f32⟩)
    = Region0.prod (rd (W1 m ρ c) (.of main_v0 : TRef sig ⟨S8192x512, .f32⟩))
        (rd (W1 m ρ c) (.of main_arg2 : TRef sig ⟨S512x512, .f32⟩)) :=
  (mid_keeps m ρ c main_v1 (by decide)).trans ((Gen.hF0 m ρ c 2).symm.trans (Region0.final (V1 m ρ) c))

include h0 h2 in
/-- The product entering the second region is the reference's. -/
theorem v2_eq : rd (W7 m ρ c) (.of main_v2 : TRef sig ⟨S2x4096x512, .f32⟩)
    = rd (Ref.fin m' c) (.of R.main_v2 : TRef R.sig ⟨S2x4096x512, .f32⟩) := by
  have e0 : rd (W1 m ρ c) (.of main_arg0 : TRef sig ⟨S2x4096x512, .f32⟩)
      = rd (Ref.fin m' c) (.of R.main_arg0 : TRef R.sig ⟨S2x4096x512, .f32⟩) :=
    (Gen.W1_args m ρ c main_arg0 (by decide)).trans (h0.symm.trans (Ref.fin_arg m' c R.main_arg0 (by decide)).symm)
  have e2 : rd (W1 m ρ c) (.of main_arg2 : TRef sig ⟨S512x512, .f32⟩)
      = rd (Ref.fin m' c) (.of R.main_arg2 : TRef R.sig ⟨S512x512, .f32⟩) :=
    (Gen.W1_args m ρ c main_arg2 (by decide)).trans (h2.symm.trans (Ref.fin_arg m' c R.main_arg2 (by decide)).symm)
  rw [k_v2, v1_eq, k_v0, e0, e2, Ref.x2_eq (eqs m' c)]

include h0 h2 in
/-- The first result is the reference's. -/
theorem first : rd (W9 m ρ c) (.of main_v2 : TRef sig ⟨S2x4096x512, .f32⟩)
    = rd (Ref.fin m' c) (.of R.main_v2 : TRef R.sig ⟨S2x4096x512, .f32⟩) :=
  (Gen.W9_of m ρ c main_v2 (by decide)).trans
    ((Gen.W8_of m ρ c main_v2 (by decide)).trans (v2_eq m ρ m' c h0 h2))

include h0 h2 h3 in
/-- The scores the second region works on are the reference's. -/
theorem scores : Region1.all (V7 m ρ) c
    = rd (Ref.fin m' c) (.of ReferenceIdeal.main_v34 : TRef R.sig ⟨S2x4096x4096, .f32⟩) := by
  have st := Ker.step ρ c h3
  have hx : V7 m ρ c main_v2 = rd (Ref.fin m' c) (.of R.main_v2 : TRef R.sig ⟨S2x4096x512, .f32⟩) := v2_eq m ρ m' c h0 h2
  have hg : V7 m ρ c main_v15 = rd (Ref.fin m' c) (.of ReferenceIdeal.main_v32 : TRef R.sig ⟨S2x4096x4096, .f32⟩) :=
    Lock.s_v15 st
  have he : V7 m ρ c main_v18 = shapeCast S1x1 (rd (Ref.fin m' c) (.of ReferenceIdeal.main_v17 : TRef R.sig ⟨S_, .f32⟩))
      Facts₀.shapeCasts_S_S1x1 := (k_v18 m ρ c).trans (congrArg (shapeCast S1x1 · Facts₀.shapeCasts_S_S1x1) (Lock.s_v17 st))
  refine (congrArg₂ (fun x p => Scores.scores x p.1 p.2) hx (Prod.ext (by exact he) (by exact hg) :
    ((V7 m ρ c main_v18, V7 m ρ c main_v15) : FVec Ideal S1x1 .f32 × FVec Ideal S2x4096x4096 .f32) = (_, _))).trans ?_
  refine Ref.scores_eq (eqs m' c) _ ?_
  exact congrArg (rd (Ref.fin m' c) (.of ReferenceIdeal.main_v17 : TRef R.sig ⟨S_, .f32⟩)) (funext fun a => Fin.elim0 a)

/-- An index is its three coordinates. -/
theorem eq_ix (j : S2x4096x16.Idx) : j = ix3 (j 0) (j 1) (j 2) := by
  funext a
  match a with
  | ⟨0, _⟩ => rfl
  | ⟨1, _⟩ => rfl
  | ⟨2, _⟩ => rfl

/-- The entries taken one by one from every row are the sorted rows' first. -/
theorem topVals_eq (x : FVec Ideal S2x4096x4096 .f32) (hx : ∀ j, (⊥ : EReal) < x j) (h) :
    Region1.topVals x = (Host.topK S2x4096x16 2 (FloatOps.cmpfTotal (F := Ideal) (φ := .f32) .gt) x h).1 := by
  funext j
  refine Eq.trans ?_ (congrArg _ (eq_ix j)).symm
  exact (TopKRows.values x h (j 0) (j 1) (fun k => hx _) (j 2)).symm

/-- The positions they are taken at are the sorted rows' first, moved up by 4096 for each batch entry before. -/
theorem topPoss_eq (x : FVec Ideal S2x4096x4096 .f32) (hx : ∀ j, (⊥ : EReal) < x j) (h) (j : S2x4096x16.Idx) :
    Region1.topPoss x j
      = IntOp.addi ((Host.topK S2x4096x16 2 (FloatOps.cmpfTotal (F := Ideal) (φ := .f32) .gt) x h).2 j)
          (IntOp.muli (BitVec.ofNat 32 (j 0).val) 4096#32) := by
  refine Eq.trans ?_ (congrArg (fun v => IntOp.addi v (IntOp.muli (BitVec.ofNat 32 (j 0).val) 4096#32))
    (congrArg _ (eq_ix j)).symm)
  exact congrArg (fun v => IntOp.addi v (IntOp.muli (BitVec.ofNat 32 (j 0).val) 4096#32))
    (TopKRows.indices x h (j 0) (j 1) (fun k => hx _) (j 2)).symm

variable (r0 : ∀ i, IsReal (rd (Ref.fin m' c) (.of R.main_arg0 : TRef R.sig ⟨S2x4096x512, .f32⟩) i))
  (r2 : ∀ i, IsReal (rd (Ref.fin m' c) (.of R.main_arg2 : TRef R.sig ⟨S512x512, .f32⟩) i))

include h0 h2 h3 r0 r2 in
/-- The third result is the reference's. -/
theorem third : rd (W9 m ρ c) (.of main_v19_0 : TRef sig ⟨S2x4096x16, .f32⟩)
    = rd (Ref.fin m' c) (.of R.main_values : TRef R.sig ⟨S2x4096x16, .f32⟩) := by
  have e : rd (W9 m ρ c) (.of main_v19_0 : TRef sig ⟨S2x4096x16, .f32⟩) = Region1.topVals (Region1.all (V7 m ρ) c) :=
    (Gen.W9_of m ρ c main_v19_0 (by decide)).trans ((Gen.hF1 m ρ c 4).symm.trans (Region1.final4 (V7 m ρ) c))
  rw [e, scores m ρ m' c h0 h2 h3, Ref.e_values (eqs m' c)]
  exact topVals_eq _ (Ref.scores_bot_lt (eqs m' c) r0 r2) _

include h0 h2 h3 r0 r2 in
/-- The positions the second region leaves are the reference's targets. -/
theorem targets : rd (W9 m ρ c) (.of main_v19_1 : TRef sig ⟨S2x4096x16, .i32⟩)
    = rd (Ref.fin m' c) (.of R.main_v46 : TRef R.sig ⟨S2x4096x16, .i32⟩) := by
  have e : rd (W9 m ρ c) (.of main_v19_1 : TRef sig ⟨S2x4096x16, .i32⟩) = Region1.topPoss (Region1.all (V7 m ρ) c) :=
    (Gen.W9_of m ρ c main_v19_1 (by decide)).trans ((Gen.hF1 m ρ c 5).symm.trans (Region1.final5 (V7 m ρ) c))
  have q := eqs m' c
  rw [e, scores m ρ m' c h0 h2 h3, Ref.e_v46 q, Ref.e_indices q, Ref.e_v45 q, Ref.e_v41 q, Ref.e_v40 q, Ref.e_v39 q,
    Ref.e_c_9 q, Ref.e_v38 q]
  funext j
  exact topPoss_eq _ (Ref.scores_bot_lt q r0 r2) _ j

include h0 h2 h3 r0 r2 in
/-- The second result is the reference's. -/
theorem second : rd (W9 m ρ c) (.of main_v33 : TRef sig ⟨S2x131072, .i32⟩)
    = rd (Ref.fin m' c) (.of R.main_v50 : TRef R.sig ⟨S2x131072, .i32⟩) := by
  have q := eqs m' c
  have t : Tail (F := Ideal) (W9 m ρ c) := end_fix m ρ c
  rw [k_v33 t, k_v32 t, k_v31 t, k_v30 t, k_v29 t, k_v28 t, k_v27 t, k_v26 t, k_v25 t, k_v24 t, k_c_6 t, k_v23 t, k_v22 t,
    k_v21 t, k_v20 t, targets m ρ m' c h0 h2 h3 r0 r2,
    Ref.e_v50 q, Ref.e_v49 q, Ref.e_v48 q, Ref.e_v47 q, Ref.e_v44 q, Ref.e_v43 q, Ref.e_v42 q, Ref.e_v41 q, Ref.e_v40 q,
    Ref.e_v39 q, Ref.e_c_9 q, Ref.e_v38 q, Ref.e_v37 q, Ref.e_v36 q, Ref.e_v35 q]

end Cert.Proof.Agree

end
-- ==== Proof.Algebraic.lean ====
/- The kernel program and the reference, from the same finite arguments, end with equal results. -/
module

public import proofs.«01_k».proof.Proof.Agree
public import proofs.«01_k».proof.Proof.Gen.Pre_finite_inputs
public import Idealize.ShloMosaic.Lib.ReduceAll

@[expose] public section

set_option maxRecDepth 4000

noncomputable section

namespace Cert.Proof.Algebraic

open Idealize.ShloMosaic Idealize.ShloMosaic.TcCoe Idealize.SL.Sem
open Cert.Proof.Reals

/-- Where the precondition holds, the first and third arguments are real everywhere. -/
theorem real_of_pre (a0 : FVec Ideal Pre_finite_inputs.S2x4096x512 .f32) (a1 : IVec Pre_finite_inputs.S2x8192 32)
    (a2 : FVec Ideal Pre_finite_inputs.S512x512 .f32) (a3 : FVec Ideal Pre_finite_inputs.S_ .f32)
    (h : Pre_finite_inputs.fn (F := Ideal) a0 a1 a2 a3 = fun _ => 1#1) : (∀ i, IsReal (a0 i)) ∧ ∀ i, IsReal (a2 i) := by
  haveI : Subsingleton Pre_finite_inputs.S_.Idx := ⟨fun a b => funext fun d => Fin.elim0 d⟩
  have e := congrFun h (Shape.Idx.first (by decide))
  obtain ⟨e0, e2⟩ := IntOp.andi_eq_one.1 e
  exact ⟨fun i => IsReal.of_abs_lt _ (Host.reduce_andi_all _ _ _ _ _ e0 i),
    fun i => IsReal.of_abs_lt _ (Host.reduce_andi_all _ _ _ _ _ e2 i)⟩

/-- Both programs run from the same finite arguments and end with equal results and their arguments unchanged. -/
theorem algebraic : algebraic_KernelIdeal_ReferenceIdeal_pre_finite_inputs := by
  intro m g m' g' hpre hag
  have hr0 : ∀ c : Dev KernelIdeal.nD, ∀ i, IsReal (rd (Ref.fin m' c)
      (.of ReferenceIdeal.main_arg0 : StableHlo.TRef ReferenceIdeal.sig ⟨ReferenceIdeal.S2x4096x512, .f32⟩) i) := fun c i => by
    have e := (Ref.fin_arg m' c ReferenceIdeal.main_arg0 (by decide)).trans (hag c).1
    exact (congrArg IsReal (congrFun e i)).mpr ((real_of_pre _ _ _ _ (hpre c)).1 i)
  have hr2 : ∀ c : Dev KernelIdeal.nD, ∀ i, IsReal (rd (Ref.fin m' c)
      (.of ReferenceIdeal.main_arg2 : StableHlo.TRef ReferenceIdeal.sig ⟨ReferenceIdeal.S512x512, .f32⟩) i) := fun c i => by
    have e := (Ref.fin_arg m' c ReferenceIdeal.main_arg2 (by decide)).trans (hag c).2.2.1
    exact (congrArg IsReal (congrFun e i)).mpr ((real_of_pre _ _ _ _ (hpre c)).2 i)
  refine ⟨fun c => Ref.fin m' c (Proc.devRef .tc ReferenceIdeal.main_v2),
    fun c => Ref.fin m' c (Proc.devRef .tc ReferenceIdeal.main_v50),
    fun c => Ref.fin m' c (Proc.devRef .tc ReferenceIdeal.main_values), ?_, ?_⟩
  · refine (θ_run _ _ _).mono (fun r h c => ?_) (Ker.run m g)
    obtain ⟨h0, h1, h2, h3⟩ := hag c
    exact ⟨(h c KernelIdeal.main_v2 (by decide)).trans (Agree.first m g m' c h0 h2),
      (h c KernelIdeal.main_v33 (by decide)).trans (Agree.second m g m' c h0 h2 h3 (hr0 c) (hr2 c)),
      (h c KernelIdeal.main_v19_0 (by decide)).trans (Agree.third m g m' c h0 h2 h3 (hr0 c) (hr2 c)),
      (h c KernelIdeal.main_arg0 (by decide)).trans (KernelIdeal.Gen.W9_main_arg0 m g c),
      (h c KernelIdeal.main_arg1 (by decide)).trans (KernelIdeal.Gen.W9_main_arg1 m g c),
      (h c KernelIdeal.main_arg2 (by decide)).trans (KernelIdeal.Gen.W9_main_arg2 m g c),
      (h c KernelIdeal.main_arg3 (by decide)).trans (KernelIdeal.Gen.W9_main_arg3 m g c)⟩
  · refine (θ_run _ _ _).mono (fun r h c => ?_) (Ref.run m' g')
    exact ⟨h c _, h c _, h c _, (h c _).trans (Ref.fin_arg m' c _ (by decide)), (h c _).trans (Ref.fin_arg m' c _ (by decide)),
      (h c _).trans (Ref.fin_arg m' c _ (by decide)), (h c _).trans (Ref.fin_arg m' c _ (by decide))⟩

end Cert.Proof.Algebraic

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.RefRun
public import proofs.«01_k».proof.Proof.Algebraic
public import proofs.«01_k».proof.Proof.Gen.Pre_finite_inputs
public import Idealize.ShloMosaic.Adequacy
public import Idealize.ShloMosaic.Init

@[expose] public section

noncomputable section

namespace Cert.Proof

open Idealize.ShloMosaic Idealize.SL.Sem Cert.Kernel

/-- Every claim of this certificate. -/
theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ, fun m ρ _ => Cert.KernelIdeal.Gen.frame m ρ, fun m ρ _ => Cert.KernelIdeal.Gen.frame m ρ,
    fun m ρ _ => Ref.frame m ρ, fun m ρ _ => Ref.frame m ρ, trivial, Algebraic.algebraic⟩

end Cert.Proof

end
